-- ==== Defs.lean ====
def Pre_Dff2 (m : (ℓ : Loc Cert.Dff2.nD Cert.Dff2.τ Cert.Dff2.sig) → Buf (Elt Bits) ℓ) : Prop :=
  True

def Pre_Dff2Ideal (m : (ℓ : Loc Cert.Dff2Ideal.nD Cert.Dff2Ideal.τ Cert.Dff2Ideal.sig) → Buf (Elt Ideal) ℓ) : Prop :=
  True

def Pre_RefDff2Ideal (m : (ℓ : Loc Cert.RefDff2Ideal.nD Cert.RefDff2Ideal.τ Cert.RefDff2Ideal.sig) → Buf (Elt Ideal) ℓ) : Prop :=
  True

def Pre_Gff2 (m : (ℓ : Loc Cert.Gff2.nD Cert.Gff2.τ Cert.Gff2.sig) → Buf (Elt Bits) ℓ) : Prop :=
  True

def Pre_Gff2Ideal (m : (ℓ : Loc Cert.Gff2Ideal.nD Cert.Gff2Ideal.τ Cert.Gff2Ideal.sig) → Buf (Elt Ideal) ℓ) : Prop :=
  True

def Pre_RefGff2Ideal (m : (ℓ : Loc Cert.RefGff2Ideal.nD Cert.RefGff2Ideal.τ Cert.RefGff2Ideal.sig) → Buf (Elt Ideal) ℓ) : Prop :=
  True

def Pre_Gff1 (m : (ℓ : Loc Cert.Gff1.nD Cert.Gff1.τ Cert.Gff1.sig) → Buf (Elt Bits) ℓ) : Prop :=
  True

def Pre_Gff1Ideal (m : (ℓ : Loc Cert.Gff1Ideal.nD Cert.Gff1Ideal.τ Cert.Gff1Ideal.sig) → Buf (Elt Ideal) ℓ) : Prop :=
  True

def Pre_RefGff1Ideal (m : (ℓ : Loc Cert.RefGff1Ideal.nD Cert.RefGff1Ideal.τ Cert.RefGff1Ideal.sig) → Buf (Elt Ideal) ℓ) : Prop :=
  True

def Pre_Dff1 (m : (ℓ : Loc Cert.Dff1.nD Cert.Dff1.τ Cert.Dff1.sig) → Buf (Elt Bits) ℓ) : Prop :=
  True

def Pre_Dff1Ideal (m : (ℓ : Loc Cert.Dff1Ideal.nD Cert.Dff1Ideal.τ Cert.Dff1Ideal.sig) → Buf (Elt Ideal) ℓ) : Prop :=
  True

def Pre_RefDff1Ideal (m : (ℓ : Loc Cert.RefDff1Ideal.nD Cert.RefDff1Ideal.τ Cert.RefDff1Ideal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_Gin (m : (ℓ : Loc Cert.Gin.nD Cert.Gin.τ Cert.Gin.sig) → Buf (Elt Bits) ℓ) : Prop :=
  True

def Pre_GinIdeal (m : (ℓ : Loc Cert.GinIdeal.nD Cert.GinIdeal.τ Cert.GinIdeal.sig) → Buf (Elt Ideal) ℓ) : Prop :=
  True

def Pre_RefGinIdeal (m : (ℓ : Loc Cert.RefGinIdeal.nD Cert.RefGinIdeal.τ Cert.RefGinIdeal.sig) → Buf (Elt Ideal) ℓ) : Prop :=
  True

def Pre_Dproj (m : (ℓ : Loc Cert.Dproj.nD Cert.Dproj.τ Cert.Dproj.sig) → Buf (Elt Bits) ℓ) : Prop :=
  True

def Pre_DprojIdeal (m : (ℓ : Loc Cert.DprojIdeal.nD Cert.DprojIdeal.τ Cert.DprojIdeal.sig) → Buf (Elt Ideal) ℓ) : Prop :=
  True

def Pre_RefDprojIdeal (m : (ℓ : Loc Cert.RefDprojIdeal.nD Cert.RefDprojIdeal.τ Cert.RefDprojIdeal.sig) → Buf (Elt Ideal) ℓ) : Prop :=
  True

def Pre_Gout (m : (ℓ : Loc Cert.Gout.nD Cert.Gout.τ Cert.Gout.sig) → Buf (Elt Bits) ℓ) : Prop :=
  True

def Pre_GoutIdeal (m : (ℓ : Loc Cert.GoutIdeal.nD Cert.GoutIdeal.τ Cert.GoutIdeal.sig) → Buf (Elt Ideal) ℓ) : Prop :=
  True

def Pre_RefGoutIdeal (m : (ℓ : Loc Cert.RefGoutIdeal.nD Cert.RefGoutIdeal.τ Cert.RefGoutIdeal.sig) → Buf (Elt Ideal) ℓ) : Prop :=
  True

def Pre_Dmix (m : (ℓ : Loc Cert.Dmix.nD Cert.Dmix.τ Cert.Dmix.sig) → Buf (Elt Bits) ℓ) : Prop :=
  True

def Pre_DmixIdeal (m : (ℓ : Loc Cert.DmixIdeal.nD Cert.DmixIdeal.τ Cert.DmixIdeal.sig) → Buf (Elt Ideal) ℓ) : Prop :=
  True

def Pre_RefDmixIdeal (m : (ℓ : Loc Cert.RefDmixIdeal.nD Cert.RefDmixIdeal.τ Cert.RefDmixIdeal.sig) → Buf (Elt Ideal) ℓ) : Prop :=
  True

def Pre_Gglu (m : (ℓ : Loc Cert.Gglu.nD Cert.Gglu.τ Cert.Gglu.sig) → Buf (Elt Bits) ℓ) : Prop :=
  True

def Pre_GgluIdeal (m : (ℓ : Loc Cert.GgluIdeal.nD Cert.GgluIdeal.τ Cert.GgluIdeal.sig) → Buf (Elt Ideal) ℓ) : Prop :=
  True

def Pre_RefGgluIdeal (m : (ℓ : Loc Cert.RefGgluIdeal.nD Cert.RefGgluIdeal.τ Cert.RefGgluIdeal.sig) → Buf (Elt Ideal) ℓ) : Prop :=
  True

def Pre_Dglu (m : (ℓ : Loc Cert.Dglu.nD Cert.Dglu.τ Cert.Dglu.sig) → Buf (Elt Bits) ℓ) : Prop :=
  True

def Pre_DgluIdeal (m : (ℓ : Loc Cert.DgluIdeal.nD Cert.DgluIdeal.τ Cert.DgluIdeal.sig) → Buf (Elt Ideal) ℓ) : Prop :=
  True

def Pre_RefDgluIdeal (m : (ℓ : Loc Cert.RefDgluIdeal.nD Cert.RefDgluIdeal.τ Cert.RefDgluIdeal.sig) → Buf (Elt Ideal) ℓ) : Prop :=
  True

def Pre_Gpo (m : (ℓ : Loc Cert.Gpo.nD Cert.Gpo.τ Cert.Gpo.sig) → Buf (Elt Bits) ℓ) : Prop :=
  True

def Pre_GpoIdeal (m : (ℓ : Loc Cert.GpoIdeal.nD Cert.GpoIdeal.τ Cert.GpoIdeal.sig) → Buf (Elt Ideal) ℓ) : Prop :=
  True

def Pre_RefGpoIdeal (m : (ℓ : Loc Cert.RefGpoIdeal.nD Cert.RefGpoIdeal.τ Cert.RefGpoIdeal.sig) → Buf (Elt Ideal) ℓ) : Prop :=
  True

def Pre_Dpo (m : (ℓ : Loc Cert.Dpo.nD Cert.Dpo.τ Cert.Dpo.sig) → Buf (Elt Bits) ℓ) : Prop :=
  True

def Pre_DpoIdeal (m : (ℓ : Loc Cert.DpoIdeal.nD Cert.DpoIdeal.τ Cert.DpoIdeal.sig) → Buf (Elt Ideal) ℓ) : Prop :=
  True

def Pre_RefDpoIdeal (m : (ℓ : Loc Cert.RefDpoIdeal.nD Cert.RefDpoIdeal.τ Cert.RefDpoIdeal.sig) → Buf (Elt Ideal) ℓ) : Prop :=
  True

def Pre_Dpm (m : (ℓ : Loc Cert.Dpm.nD Cert.Dpm.τ Cert.Dpm.sig) → Buf (Elt Bits) ℓ) : Prop :=
  True

def Pre_DpmIdeal (m : (ℓ : Loc Cert.DpmIdeal.nD Cert.DpmIdeal.τ Cert.DpmIdeal.sig) → Buf (Elt Ideal) ℓ) : Prop :=
  True

def Pre_RefDpmIdeal (m : (ℓ : Loc Cert.RefDpmIdeal.nD Cert.RefDpmIdeal.τ Cert.RefDpmIdeal.sig) → Buf (Elt Ideal) ℓ) : Prop :=
  True

def Pre_Gpool (m : (ℓ : Loc Cert.Gpool.nD Cert.Gpool.τ Cert.Gpool.sig) → Buf (Elt Bits) ℓ) : Prop :=
  True

def Pre_GpoolIdeal (m : (ℓ : Loc Cert.GpoolIdeal.nD Cert.GpoolIdeal.τ Cert.GpoolIdeal.sig) → Buf (Elt Ideal) ℓ) : Prop :=
  True

def Pre_RefGpoolIdeal (m : (ℓ : Loc Cert.RefGpoolIdeal.nD Cert.RefGpoolIdeal.τ Cert.RefGpoolIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_RefGluIdeal (m : (ℓ : Loc Cert.RefGluIdeal.nD Cert.RefGluIdeal.τ Cert.RefGluIdeal.sig) → Buf (Elt Ideal) ℓ) : Prop :=
  True

def Pre_Pmix (m : (ℓ : Loc Cert.Pmix.nD Cert.Pmix.τ Cert.Pmix.sig) → Buf (Elt Bits) ℓ) : Prop :=
  True

def Pre_PmixIdeal (m : (ℓ : Loc Cert.PmixIdeal.nD Cert.PmixIdeal.τ Cert.PmixIdeal.sig) → Buf (Elt Ideal) ℓ) : Prop :=
  True

def Pre_RefPmixIdeal (m : (ℓ : Loc Cert.RefPmixIdeal.nD Cert.RefPmixIdeal.τ Cert.RefPmixIdeal.sig) → Buf (Elt Ideal) ℓ) : Prop :=
  True

def Pre_Po (m : (ℓ : Loc Cert.Po.nD Cert.Po.τ Cert.Po.sig) → Buf (Elt Bits) ℓ) : Prop :=
  True

def Pre_PoIdeal (m : (ℓ : Loc Cert.PoIdeal.nD Cert.PoIdeal.τ Cert.PoIdeal.sig) → Buf (Elt Ideal) ℓ) : Prop :=
  True

def Pre_RefPoIdeal (m : (ℓ : Loc Cert.RefPoIdeal.nD Cert.RefPoIdeal.τ Cert.RefPoIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_RefMixIdeal (m : (ℓ : Loc Cert.RefMixIdeal.nD Cert.RefMixIdeal.τ Cert.RefMixIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_RefFf1Ideal (m : (ℓ : Loc Cert.RefFf1Ideal.nD Cert.RefFf1Ideal.τ Cert.RefFf1Ideal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_RefFf2Ideal (m : (ℓ : Loc Cert.RefFf2Ideal.nD Cert.RefFf2Ideal.τ Cert.RefFf2Ideal.sig) → Buf (Elt Ideal) ℓ) : Prop :=
  True

def Pre_Pscale (m : (ℓ : Loc Cert.Pscale.nD Cert.Pscale.τ Cert.Pscale.sig) → Buf (Elt Bits) ℓ) : Prop :=
  True

def Pre_PscaleIdeal (m : (ℓ : Loc Cert.PscaleIdeal.nD Cert.PscaleIdeal.τ Cert.PscaleIdeal.sig) → Buf (Elt Ideal) ℓ) : Prop :=
  True

def Pre_RefPscaleIdeal (m : (ℓ : Loc Cert.RefPscaleIdeal.nD Cert.RefPscaleIdeal.τ Cert.RefPscaleIdeal.sig) → Buf (Elt Ideal) ℓ) : Prop :=
  True

def Pre_S5bIdeal (m : (ℓ : Loc Cert.S5bIdeal.nD Cert.S5bIdeal.τ Cert.S5bIdeal.sig) → Buf (Elt Ideal) ℓ) : Prop :=
  True

def Pre_RefS5bIdeal (m : (ℓ : Loc Cert.RefS5bIdeal.nD Cert.RefS5bIdeal.τ Cert.RefS5bIdeal.sig) → Buf (Elt Ideal) ℓ) : Prop :=
  True

def quiescent_Dff2 [hDff2 : Cert.Dff2.Facts] : Prop :=
  ∀ (m : (ℓ : Loc Cert.Dff2.nD Cert.Dff2.τ Cert.Dff2.sig) → Buf (Elt Bits) ℓ) (g : Dev Cert.Dff2.nD → PrngReg), Pre_Dff2 m →
    θ_run (Cert.Dff2.defs (F := Bits)) (onTc (τ := Cert.Dff2.τ) (Cert.Dff2.main (F := Bits))) ⟨m, fun _ => 0, g⟩ (fun r => (∀ c : Dev Cert.Dff2.nD,
      r.2.mem ((c.tc : Thread Cert.Dff2.nD Cert.Dff2.τ).loc Cert.Dff2.main_arg0) = m ((c.tc : Thread Cert.Dff2.nD Cert.Dff2.τ).loc Cert.Dff2.main_arg0)
      ∧ r.2.mem ((c.tc : Thread Cert.Dff2.nD Cert.Dff2.τ).loc Cert.Dff2.main_arg1) = m ((c.tc : Thread Cert.Dff2.nD Cert.Dff2.τ).loc Cert.Dff2.main_arg1)
      ∧ r.2.mem ((c.tc : Thread Cert.Dff2.nD Cert.Dff2.τ).loc Cert.Dff2.main_arg2) = m ((c.tc : Thread Cert.Dff2.nD Cert.Dff2.τ).loc Cert.Dff2.main_arg2))
      ∧ r.2.sem = fun _ => 0)

def quiescent_Dff2Ideal [hDff2Ideal : Cert.Dff2Ideal.Facts] : Prop :=
  ∀ (m : (ℓ : Loc Cert.Dff2Ideal.nD Cert.Dff2Ideal.τ Cert.Dff2Ideal.sig) → Buf (Elt Ideal) ℓ) (g : Dev Cert.Dff2Ideal.nD → PrngReg), Pre_Dff2Ideal m →
    θ_run (Cert.Dff2Ideal.defs (F := Ideal)) (onTc (τ := Cert.Dff2Ideal.τ) (Cert.Dff2Ideal.main (F := Ideal))) ⟨m, fun _ => 0, g⟩ (fun r => (∀ c : Dev Cert.Dff2Ideal.nD,
      r.2.mem ((c.tc : Thread Cert.Dff2Ideal.nD Cert.Dff2Ideal.τ).loc Cert.Dff2Ideal.main_arg0) = m ((c.tc : Thread Cert.Dff2Ideal.nD Cert.Dff2Ideal.τ).loc Cert.Dff2Ideal.main_arg0)
      ∧ r.2.mem ((c.tc : Thread Cert.Dff2Ideal.nD Cert.Dff2Ideal.τ).loc Cert.Dff2Ideal.main_arg1) = m ((c.tc : Thread Cert.Dff2Ideal.nD Cert.Dff2Ideal.τ).loc Cert.Dff2Ideal.main_arg1)
      ∧ r.2.mem ((c.tc : Thread Cert.Dff2Ideal.nD Cert.Dff2Ideal.τ).loc Cert.Dff2Ideal.main_arg2) = m ((c.tc : Thread Cert.Dff2Ideal.nD Cert.Dff2Ideal.τ).loc Cert.Dff2Ideal.main_arg2))
      ∧ r.2.sem = fun _ => 0)

def quiescent_RefDff2Ideal [hRefDff2Ideal : Cert.RefDff2Ideal.Facts] : Prop :=
  ∀ (m : (ℓ : Loc Cert.RefDff2Ideal.nD Cert.RefDff2Ideal.τ Cert.RefDff2Ideal.sig) → Buf (Elt Ideal) ℓ) (g : Dev Cert.RefDff2Ideal.nD → PrngReg), Pre_RefDff2Ideal m →
    θ_run (Cert.RefDff2Ideal.defs (F := Ideal)) (onTc (τ := Cert.RefDff2Ideal.τ) (Cert.RefDff2Ideal.main (F := Ideal))) ⟨m, fun _ => 0, g⟩ (fun r => (∀ c : Dev Cert.RefDff2Ideal.nD,
      r.2.mem ((c.tc : Thread Cert.RefDff2Ideal.nD Cert.RefDff2Ideal.τ).loc Cert.RefDff2Ideal.main_arg0) = m ((c.tc : Thread Cert.RefDff2Ideal.nD Cert.RefDff2Ideal.τ).loc Cert.RefDff2Ideal.main_arg0)
      ∧ r.2.mem ((c.tc : Thread Cert.RefDff2Ideal.nD Cert.RefDff2Ideal.τ).loc Cert.RefDff2Ideal.main_arg1) = m ((c.tc : Thread Cert.RefDff2Ideal.nD Cert.RefDff2Ideal.τ).loc Cert.RefDff2Ideal.main_arg1)
      ∧ r.2.mem ((c.tc : Thread Cert.RefDff2Ideal.nD Cert.RefDff2Ideal.τ).loc Cert.RefDff2Ideal.main_arg2) = m ((c.tc : Thread Cert.RefDff2Ideal.nD Cert.RefDff2Ideal.τ).loc Cert.RefDff2Ideal.main_arg2))
      ∧ r.2.sem = fun _ => 0)

def quiescent_Gff2 [hGff2 : Cert.Gff2.Facts] : Prop :=
  ∀ (m : (ℓ : Loc Cert.Gff2.nD Cert.Gff2.τ Cert.Gff2.sig) → Buf (Elt Bits) ℓ) (g : Dev Cert.Gff2.nD → PrngReg), Pre_Gff2 m →
    θ_run (Cert.Gff2.defs (F := Bits)) (onTc (τ := Cert.Gff2.τ) (Cert.Gff2.main (F := Bits))) ⟨m, fun _ => 0, g⟩ (fun r => (∀ c : Dev Cert.Gff2.nD,
      r.2.mem ((c.tc : Thread Cert.Gff2.nD Cert.Gff2.τ).loc Cert.Gff2.main_arg0) = m ((c.tc : Thread Cert.Gff2.nD Cert.Gff2.τ).loc Cert.Gff2.main_arg0)
      ∧ r.2.mem ((c.tc : Thread Cert.Gff2.nD Cert.Gff2.τ).loc Cert.Gff2.main_arg1) = m ((c.tc : Thread Cert.Gff2.nD Cert.Gff2.τ).loc Cert.Gff2.main_arg1)
      ∧ r.2.mem ((c.tc : Thread Cert.Gff2.nD Cert.Gff2.τ).loc Cert.Gff2.main_arg2) = m ((c.tc : Thread Cert.Gff2.nD Cert.Gff2.τ).loc Cert.Gff2.main_arg2))
      ∧ r.2.sem = fun _ => 0)

def quiescent_Gff2Ideal [hGff2Ideal : Cert.Gff2Ideal.Facts] : Prop :=
  ∀ (m : (ℓ : Loc Cert.Gff2Ideal.nD Cert.Gff2Ideal.τ Cert.Gff2Ideal.sig) → Buf (Elt Ideal) ℓ) (g : Dev Cert.Gff2Ideal.nD → PrngReg), Pre_Gff2Ideal m →
    θ_run (Cert.Gff2Ideal.defs (F := Ideal)) (onTc (τ := Cert.Gff2Ideal.τ) (Cert.Gff2Ideal.main (F := Ideal))) ⟨m, fun _ => 0, g⟩ (fun r => (∀ c : Dev Cert.Gff2Ideal.nD,
      r.2.mem ((c.tc : Thread Cert.Gff2Ideal.nD Cert.Gff2Ideal.τ).loc Cert.Gff2Ideal.main_arg0) = m ((c.tc : Thread Cert.Gff2Ideal.nD Cert.Gff2Ideal.τ).loc Cert.Gff2Ideal.main_arg0)
      ∧ r.2.mem ((c.tc : Thread Cert.Gff2Ideal.nD Cert.Gff2Ideal.τ).loc Cert.Gff2Ideal.main_arg1) = m ((c.tc : Thread Cert.Gff2Ideal.nD Cert.Gff2Ideal.τ).loc Cert.Gff2Ideal.main_arg1)
      ∧ r.2.mem ((c.tc : Thread Cert.Gff2Ideal.nD Cert.Gff2Ideal.τ).loc Cert.Gff2Ideal.main_arg2) = m ((c.tc : Thread Cert.Gff2Ideal.nD Cert.Gff2Ideal.τ).loc Cert.Gff2Ideal.main_arg2))
      ∧ r.2.sem = fun _ => 0)

def quiescent_RefGff2Ideal [hRefGff2Ideal : Cert.RefGff2Ideal.Facts] : Prop :=
  ∀ (m : (ℓ : Loc Cert.RefGff2Ideal.nD Cert.RefGff2Ideal.τ Cert.RefGff2Ideal.sig) → Buf (Elt Ideal) ℓ) (g : Dev Cert.RefGff2Ideal.nD → PrngReg), Pre_RefGff2Ideal m →
    θ_run (Cert.RefGff2Ideal.defs (F := Ideal)) (onTc (τ := Cert.RefGff2Ideal.τ) (Cert.RefGff2Ideal.main (F := Ideal))) ⟨m, fun _ => 0, g⟩ (fun r => (∀ c : Dev Cert.RefGff2Ideal.nD,
      r.2.mem ((c.tc : Thread Cert.RefGff2Ideal.nD Cert.RefGff2Ideal.τ).loc Cert.RefGff2Ideal.main_arg0) = m ((c.tc : Thread Cert.RefGff2Ideal.nD Cert.RefGff2Ideal.τ).loc Cert.RefGff2Ideal.main_arg0)
      ∧ r.2.mem ((c.tc : Thread Cert.RefGff2Ideal.nD Cert.RefGff2Ideal.τ).loc Cert.RefGff2Ideal.main_arg1) = m ((c.tc : Thread Cert.RefGff2Ideal.nD Cert.RefGff2Ideal.τ).loc Cert.RefGff2Ideal.main_arg1)
      ∧ r.2.mem ((c.tc : Thread Cert.RefGff2Ideal.nD Cert.RefGff2Ideal.τ).loc Cert.RefGff2Ideal.main_arg2) = m ((c.tc : Thread Cert.RefGff2Ideal.nD Cert.RefGff2Ideal.τ).loc Cert.RefGff2Ideal.main_arg2))
      ∧ r.2.sem = fun _ => 0)

def quiescent_Gff1 [hGff1 : Cert.Gff1.Facts] : Prop :=
  ∀ (m : (ℓ : Loc Cert.Gff1.nD Cert.Gff1.τ Cert.Gff1.sig) → Buf (Elt Bits) ℓ) (g : Dev Cert.Gff1.nD → PrngReg), Pre_Gff1 m →
    θ_run (Cert.Gff1.defs (F := Bits)) (onTc (τ := Cert.Gff1.τ) (Cert.Gff1.main (F := Bits))) ⟨m, fun _ => 0, g⟩ (fun r => (∀ c : Dev Cert.Gff1.nD,
      r.2.mem ((c.tc : Thread Cert.Gff1.nD Cert.Gff1.τ).loc Cert.Gff1.main_arg0) = m ((c.tc : Thread Cert.Gff1.nD Cert.Gff1.τ).loc Cert.Gff1.main_arg0)
      ∧ r.2.mem ((c.tc : Thread Cert.Gff1.nD Cert.Gff1.τ).loc Cert.Gff1.main_arg1) = m ((c.tc : Thread Cert.Gff1.nD Cert.Gff1.τ).loc Cert.Gff1.main_arg1)
      ∧ r.2.mem ((c.tc : Thread Cert.Gff1.nD Cert.Gff1.τ).loc Cert.Gff1.main_arg2) = m ((c.tc : Thread Cert.Gff1.nD Cert.Gff1.τ).loc Cert.Gff1.main_arg2))
      ∧ r.2.sem = fun _ => 0)

def quiescent_Gff1Ideal [hGff1Ideal : Cert.Gff1Ideal.Facts] : Prop :=
  ∀ (m : (ℓ : Loc Cert.Gff1Ideal.nD Cert.Gff1Ideal.τ Cert.Gff1Ideal.sig) → Buf (Elt Ideal) ℓ) (g : Dev Cert.Gff1Ideal.nD → PrngReg), Pre_Gff1Ideal m →
    θ_run (Cert.Gff1Ideal.defs (F := Ideal)) (onTc (τ := Cert.Gff1Ideal.τ) (Cert.Gff1Ideal.main (F := Ideal))) ⟨m, fun _ => 0, g⟩ (fun r => (∀ c : Dev Cert.Gff1Ideal.nD,
      r.2.mem ((c.tc : Thread Cert.Gff1Ideal.nD Cert.Gff1Ideal.τ).loc Cert.Gff1Ideal.main_arg0) = m ((c.tc : Thread Cert.Gff1Ideal.nD Cert.Gff1Ideal.τ).loc Cert.Gff1Ideal.main_arg0)
      ∧ r.2.mem ((c.tc : Thread Cert.Gff1Ideal.nD Cert.Gff1Ideal.τ).loc Cert.Gff1Ideal.main_arg1) = m ((c.tc : Thread Cert.Gff1Ideal.nD Cert.Gff1Ideal.τ).loc Cert.Gff1Ideal.main_arg1)
      ∧ r.2.mem ((c.tc : Thread Cert.Gff1Ideal.nD Cert.Gff1Ideal.τ).loc Cert.Gff1Ideal.main_arg2) = m ((c.tc : Thread Cert.Gff1Ideal.nD Cert.Gff1Ideal.τ).loc Cert.Gff1Ideal.main_arg2))
      ∧ r.2.sem = fun _ => 0)

def quiescent_RefGff1Ideal [hRefGff1Ideal : Cert.RefGff1Ideal.Facts] : Prop :=
  ∀ (m : (ℓ : Loc Cert.RefGff1Ideal.nD Cert.RefGff1Ideal.τ Cert.RefGff1Ideal.sig) → Buf (Elt Ideal) ℓ) (g : Dev Cert.RefGff1Ideal.nD → PrngReg), Pre_RefGff1Ideal m →
    θ_run (Cert.RefGff1Ideal.defs (F := Ideal)) (onTc (τ := Cert.RefGff1Ideal.τ) (Cert.RefGff1Ideal.main (F := Ideal))) ⟨m, fun _ => 0, g⟩ (fun r => (∀ c : Dev Cert.RefGff1Ideal.nD,
      r.2.mem ((c.tc : Thread Cert.RefGff1Ideal.nD Cert.RefGff1Ideal.τ).loc Cert.RefGff1Ideal.main_arg0) = m ((c.tc : Thread Cert.RefGff1Ideal.nD Cert.RefGff1Ideal.τ).loc Cert.RefGff1Ideal.main_arg0)
      ∧ r.2.mem ((c.tc : Thread Cert.RefGff1Ideal.nD Cert.RefGff1Ideal.τ).loc Cert.RefGff1Ideal.main_arg1) = m ((c.tc : Thread Cert.RefGff1Ideal.nD Cert.RefGff1Ideal.τ).loc Cert.RefGff1Ideal.main_arg1)
      ∧ r.2.mem ((c.tc : Thread Cert.RefGff1Ideal.nD Cert.RefGff1Ideal.τ).loc Cert.RefGff1Ideal.main_arg2) = m ((c.tc : Thread Cert.RefGff1Ideal.nD Cert.RefGff1Ideal.τ).loc Cert.RefGff1Ideal.main_arg2))
      ∧ r.2.sem = fun _ => 0)

def quiescent_Dff1 [hDff1 : Cert.Dff1.Facts] : Prop :=
  ∀ (m : (ℓ : Loc Cert.Dff1.nD Cert.Dff1.τ Cert.Dff1.sig) → Buf (Elt Bits) ℓ) (g : Dev Cert.Dff1.nD → PrngReg), Pre_Dff1 m →
    θ_run (Cert.Dff1.defs (F := Bits)) (onTc (τ := Cert.Dff1.τ) (Cert.Dff1.main (F := Bits))) ⟨m, fun _ => 0, g⟩ (fun r => (∀ c : Dev Cert.Dff1.nD,
      r.2.mem ((c.tc : Thread Cert.Dff1.nD Cert.Dff1.τ).loc Cert.Dff1.main_arg0) = m ((c.tc : Thread Cert.Dff1.nD Cert.Dff1.τ).loc Cert.Dff1.main_arg0)
      ∧ r.2.mem ((c.tc : Thread Cert.Dff1.nD Cert.Dff1.τ).loc Cert.Dff1.main_arg1) = m ((c.tc : Thread Cert.Dff1.nD Cert.Dff1.τ).loc Cert.Dff1.main_arg1)
      ∧ r.2.mem ((c.tc : Thread Cert.Dff1.nD Cert.Dff1.τ).loc Cert.Dff1.main_arg2) = m ((c.tc : Thread Cert.Dff1.nD Cert.Dff1.τ).loc Cert.Dff1.main_arg2))
      ∧ r.2.sem = fun _ => 0)

def quiescent_Dff1Ideal [hDff1Ideal : Cert.Dff1Ideal.Facts] : Prop :=
  ∀ (m : (ℓ : Loc Cert.Dff1Ideal.nD Cert.Dff1Ideal.τ Cert.Dff1Ideal.sig) → Buf (Elt Ideal) ℓ) (g : Dev Cert.Dff1Ideal.nD → PrngReg), Pre_Dff1Ideal m →
    θ_run (Cert.Dff1Ideal.defs (F := Ideal)) (onTc (τ := Cert.Dff1Ideal.τ) (Cert.Dff1Ideal.main (F := Ideal))) ⟨m, fun _ => 0, g⟩ (fun r => (∀ c : Dev Cert.Dff1Ideal.nD,
      r.2.mem ((c.tc : Thread Cert.Dff1Ideal.nD Cert.Dff1Ideal.τ).loc Cert.Dff1Ideal.main_arg0) = m ((c.tc : Thread Cert.Dff1Ideal.nD Cert.Dff1Ideal.τ).loc Cert.Dff1Ideal.main_arg0)
      ∧ r.2.mem ((c.tc : Thread Cert.Dff1Ideal.nD Cert.Dff1Ideal.τ).loc Cert.Dff1Ideal.main_arg1) = m ((c.tc : Thread Cert.Dff1Ideal.nD Cert.Dff1Ideal.τ).loc Cert.Dff1Ideal.main_arg1)
      ∧ r.2.mem ((c.tc : Thread Cert.Dff1Ideal.nD Cert.Dff1Ideal.τ).loc Cert.Dff1Ideal.main_arg2) = m ((c.tc : Thread Cert.Dff1Ideal.nD Cert.Dff1Ideal.τ).loc Cert.Dff1Ideal.main_arg2))
      ∧ r.2.sem = fun _ => 0)

def quiescent_RefDff1Ideal [hRefDff1Ideal : Cert.RefDff1Ideal.Facts] : Prop :=
  ∀ (m : (ℓ : Loc Cert.RefDff1Ideal.nD Cert.RefDff1Ideal.τ Cert.RefDff1Ideal.sig) → Buf (Elt Ideal) ℓ) (g : Dev Cert.RefDff1Ideal.nD → PrngReg), Pre_RefDff1Ideal m →
    θ_run (Cert.RefDff1Ideal.defs (F := Ideal)) (onTc (τ := Cert.RefDff1Ideal.τ) (Cert.RefDff1Ideal.main (F := Ideal))) ⟨m, fun _ => 0, g⟩ (fun r => (∀ c : Dev Cert.RefDff1Ideal.nD,
      r.2.mem ((c.tc : Thread Cert.RefDff1Ideal.nD Cert.RefDff1Ideal.τ).loc Cert.RefDff1Ideal.main_arg0) = m ((c.tc : Thread Cert.RefDff1Ideal.nD Cert.RefDff1Ideal.τ).loc Cert.RefDff1Ideal.main_arg0)
      ∧ r.2.mem ((c.tc : Thread Cert.RefDff1Ideal.nD Cert.RefDff1Ideal.τ).loc Cert.RefDff1Ideal.main_arg1) = m ((c.tc : Thread Cert.RefDff1Ideal.nD Cert.RefDff1Ideal.τ).loc Cert.RefDff1Ideal.main_arg1)
      ∧ r.2.mem ((c.tc : Thread Cert.RefDff1Ideal.nD Cert.RefDff1Ideal.τ).loc Cert.RefDff1Ideal.main_arg2) = m ((c.tc : Thread Cert.RefDff1Ideal.nD Cert.RefDff1Ideal.τ).loc Cert.RefDff1Ideal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4))
      ∧ r.2.sem = fun _ => 0)

def quiescent_Gin [hGin : Cert.Gin.Facts] : Prop :=
  ∀ (m : (ℓ : Loc Cert.Gin.nD Cert.Gin.τ Cert.Gin.sig) → Buf (Elt Bits) ℓ) (g : Dev Cert.Gin.nD → PrngReg), Pre_Gin m →
    θ_run (Cert.Gin.defs (F := Bits)) (onTc (τ := Cert.Gin.τ) (Cert.Gin.main (F := Bits))) ⟨m, fun _ => 0, g⟩ (fun r => (∀ c : Dev Cert.Gin.nD,
      r.2.mem ((c.tc : Thread Cert.Gin.nD Cert.Gin.τ).loc Cert.Gin.main_arg0) = m ((c.tc : Thread Cert.Gin.nD Cert.Gin.τ).loc Cert.Gin.main_arg0)
      ∧ r.2.mem ((c.tc : Thread Cert.Gin.nD Cert.Gin.τ).loc Cert.Gin.main_arg1) = m ((c.tc : Thread Cert.Gin.nD Cert.Gin.τ).loc Cert.Gin.main_arg1)
      ∧ r.2.mem ((c.tc : Thread Cert.Gin.nD Cert.Gin.τ).loc Cert.Gin.main_arg2) = m ((c.tc : Thread Cert.Gin.nD Cert.Gin.τ).loc Cert.Gin.main_arg2))
      ∧ r.2.sem = fun _ => 0)

def quiescent_GinIdeal [hGinIdeal : Cert.GinIdeal.Facts] : Prop :=
  ∀ (m : (ℓ : Loc Cert.GinIdeal.nD Cert.GinIdeal.τ Cert.GinIdeal.sig) → Buf (Elt Ideal) ℓ) (g : Dev Cert.GinIdeal.nD → PrngReg), Pre_GinIdeal m →
    θ_run (Cert.GinIdeal.defs (F := Ideal)) (onTc (τ := Cert.GinIdeal.τ) (Cert.GinIdeal.main (F := Ideal))) ⟨m, fun _ => 0, g⟩ (fun r => (∀ c : Dev Cert.GinIdeal.nD,
      r.2.mem ((c.tc : Thread Cert.GinIdeal.nD Cert.GinIdeal.τ).loc Cert.GinIdeal.main_arg0) = m ((c.tc : Thread Cert.GinIdeal.nD Cert.GinIdeal.τ).loc Cert.GinIdeal.main_arg0)
      ∧ r.2.mem ((c.tc : Thread Cert.GinIdeal.nD Cert.GinIdeal.τ).loc Cert.GinIdeal.main_arg1) = m ((c.tc : Thread Cert.GinIdeal.nD Cert.GinIdeal.τ).loc Cert.GinIdeal.main_arg1)
      ∧ r.2.mem ((c.tc : Thread Cert.GinIdeal.nD Cert.GinIdeal.τ).loc Cert.GinIdeal.main_arg2) = m ((c.tc : Thread Cert.GinIdeal.nD Cert.GinIdeal.τ).loc Cert.GinIdeal.main_arg2))
      ∧ r.2.sem = fun _ => 0)

def quiescent_RefGinIdeal [hRefGinIdeal : Cert.RefGinIdeal.Facts] : Prop :=
  ∀ (m : (ℓ : Loc Cert.RefGinIdeal.nD Cert.RefGinIdeal.τ Cert.RefGinIdeal.sig) → Buf (Elt Ideal) ℓ) (g : Dev Cert.RefGinIdeal.nD → PrngReg), Pre_RefGinIdeal m →
    θ_run (Cert.RefGinIdeal.defs (F := Ideal)) (onTc (τ := Cert.RefGinIdeal.τ) (Cert.RefGinIdeal.main (F := Ideal))) ⟨m, fun _ => 0, g⟩ (fun r => (∀ c : Dev Cert.RefGinIdeal.nD,
      r.2.mem ((c.tc : Thread Cert.RefGinIdeal.nD Cert.RefGinIdeal.τ).loc Cert.RefGinIdeal.main_arg0) = m ((c.tc : Thread Cert.RefGinIdeal.nD Cert.RefGinIdeal.τ).loc Cert.RefGinIdeal.main_arg0)
      ∧ r.2.mem ((c.tc : Thread Cert.RefGinIdeal.nD Cert.RefGinIdeal.τ).loc Cert.RefGinIdeal.main_arg1) = m ((c.tc : Thread Cert.RefGinIdeal.nD Cert.RefGinIdeal.τ).loc Cert.RefGinIdeal.main_arg1)
      ∧ r.2.mem ((c.tc : Thread Cert.RefGinIdeal.nD Cert.RefGinIdeal.τ).loc Cert.RefGinIdeal.main_arg2) = m ((c.tc : Thread Cert.RefGinIdeal.nD Cert.RefGinIdeal.τ).loc Cert.RefGinIdeal.main_arg2))
      ∧ r.2.sem = fun _ => 0)

def quiescent_Dproj [hDproj : Cert.Dproj.Facts] : Prop :=
  ∀ (m : (ℓ : Loc Cert.Dproj.nD Cert.Dproj.τ Cert.Dproj.sig) → Buf (Elt Bits) ℓ) (g : Dev Cert.Dproj.nD → PrngReg), Pre_Dproj m →
    θ_run (Cert.Dproj.defs (F := Bits)) (onTc (τ := Cert.Dproj.τ) (Cert.Dproj.main (F := Bits))) ⟨m, fun _ => 0, g⟩ (fun r => (∀ c : Dev Cert.Dproj.nD,
      r.2.mem ((c.tc : Thread Cert.Dproj.nD Cert.Dproj.τ).loc Cert.Dproj.main_arg0) = m ((c.tc : Thread Cert.Dproj.nD Cert.Dproj.τ).loc Cert.Dproj.main_arg0)
      ∧ r.2.mem ((c.tc : Thread Cert.Dproj.nD Cert.Dproj.τ).loc Cert.Dproj.main_arg1) = m ((c.tc : Thread Cert.Dproj.nD Cert.Dproj.τ).loc Cert.Dproj.main_arg1)
      ∧ r.2.mem ((c.tc : Thread Cert.Dproj.nD Cert.Dproj.τ).loc Cert.Dproj.main_arg2) = m ((c.tc : Thread Cert.Dproj.nD Cert.Dproj.τ).loc Cert.Dproj.main_arg2))
      ∧ r.2.sem = fun _ => 0)

def quiescent_DprojIdeal [hDprojIdeal : Cert.DprojIdeal.Facts] : Prop :=
  ∀ (m : (ℓ : Loc Cert.DprojIdeal.nD Cert.DprojIdeal.τ Cert.DprojIdeal.sig) → Buf (Elt Ideal) ℓ) (g : Dev Cert.DprojIdeal.nD → PrngReg), Pre_DprojIdeal m →
    θ_run (Cert.DprojIdeal.defs (F := Ideal)) (onTc (τ := Cert.DprojIdeal.τ) (Cert.DprojIdeal.main (F := Ideal))) ⟨m, fun _ => 0, g⟩ (fun r => (∀ c : Dev Cert.DprojIdeal.nD,
      r.2.mem ((c.tc : Thread Cert.DprojIdeal.nD Cert.DprojIdeal.τ).loc Cert.DprojIdeal.main_arg0) = m ((c.tc : Thread Cert.DprojIdeal.nD Cert.DprojIdeal.τ).loc Cert.DprojIdeal.main_arg0)
      ∧ r.2.mem ((c.tc : Thread Cert.DprojIdeal.nD Cert.DprojIdeal.τ).loc Cert.DprojIdeal.main_arg1) = m ((c.tc : Thread Cert.DprojIdeal.nD Cert.DprojIdeal.τ).loc Cert.DprojIdeal.main_arg1)
      ∧ r.2.mem ((c.tc : Thread Cert.DprojIdeal.nD Cert.DprojIdeal.τ).loc Cert.DprojIdeal.main_arg2) = m ((c.tc : Thread Cert.DprojIdeal.nD Cert.DprojIdeal.τ).loc Cert.DprojIdeal.main_arg2))
      ∧ r.2.sem = fun _ => 0)

def quiescent_RefDprojIdeal [hRefDprojIdeal : Cert.RefDprojIdeal.Facts] : Prop :=
  ∀ (m : (ℓ : Loc Cert.RefDprojIdeal.nD Cert.RefDprojIdeal.τ Cert.RefDprojIdeal.sig) → Buf (Elt Ideal) ℓ) (g : Dev Cert.RefDprojIdeal.nD → PrngReg), Pre_RefDprojIdeal m →
    θ_run (Cert.RefDprojIdeal.defs (F := Ideal)) (onTc (τ := Cert.RefDprojIdeal.τ) (Cert.RefDprojIdeal.main (F := Ideal))) ⟨m, fun _ => 0, g⟩ (fun r => (∀ c : Dev Cert.RefDprojIdeal.nD,
      r.2.mem ((c.tc : Thread Cert.RefDprojIdeal.nD Cert.RefDprojIdeal.τ).loc Cert.RefDprojIdeal.main_arg0) = m ((c.tc : Thread Cert.RefDprojIdeal.nD Cert.RefDprojIdeal.τ).loc Cert.RefDprojIdeal.main_arg0)
      ∧ r.2.mem ((c.tc : Thread Cert.RefDprojIdeal.nD Cert.RefDprojIdeal.τ).loc Cert.RefDprojIdeal.main_arg1) = m ((c.tc : Thread Cert.RefDprojIdeal.nD Cert.RefDprojIdeal.τ).loc Cert.RefDprojIdeal.main_arg1)
      ∧ r.2.mem ((c.tc : Thread Cert.RefDprojIdeal.nD Cert.RefDprojIdeal.τ).loc Cert.RefDprojIdeal.main_arg2) = m ((c.tc : Thread Cert.RefDprojIdeal.nD Cert.RefDprojIdeal.τ).loc Cert.RefDprojIdeal.main_arg2))
      ∧ r.2.sem = fun _ => 0)

def quiescent_Gout [hGout : Cert.Gout.Facts] : Prop :=
  ∀ (m : (ℓ : Loc Cert.Gout.nD Cert.Gout.τ Cert.Gout.sig) → Buf (Elt Bits) ℓ) (g : Dev Cert.Gout.nD → PrngReg), Pre_Gout m →
    θ_run (Cert.Gout.defs (F := Bits)) (onTc (τ := Cert.Gout.τ) (Cert.Gout.main (F := Bits))) ⟨m, fun _ => 0, g⟩ (fun r => (∀ c : Dev Cert.Gout.nD,
      r.2.mem ((c.tc : Thread Cert.Gout.nD Cert.Gout.τ).loc Cert.Gout.main_arg0) = m ((c.tc : Thread Cert.Gout.nD Cert.Gout.τ).loc Cert.Gout.main_arg0)
      ∧ r.2.mem ((c.tc : Thread Cert.Gout.nD Cert.Gout.τ).loc Cert.Gout.main_arg1) = m ((c.tc : Thread Cert.Gout.nD Cert.Gout.τ).loc Cert.Gout.main_arg1)
      ∧ r.2.mem ((c.tc : Thread Cert.Gout.nD Cert.Gout.τ).loc Cert.Gout.main_arg2) = m ((c.tc : Thread Cert.Gout.nD Cert.Gout.τ).loc Cert.Gout.main_arg2))
      ∧ r.2.sem = fun _ => 0)

def quiescent_GoutIdeal [hGoutIdeal : Cert.GoutIdeal.Facts] : Prop :=
  ∀ (m : (ℓ : Loc Cert.GoutIdeal.nD Cert.GoutIdeal.τ Cert.GoutIdeal.sig) → Buf (Elt Ideal) ℓ) (g : Dev Cert.GoutIdeal.nD → PrngReg), Pre_GoutIdeal m →
    θ_run (Cert.GoutIdeal.defs (F := Ideal)) (onTc (τ := Cert.GoutIdeal.τ) (Cert.GoutIdeal.main (F := Ideal))) ⟨m, fun _ => 0, g⟩ (fun r => (∀ c : Dev Cert.GoutIdeal.nD,
      r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
      ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1)
      ∧ r.2.mem ((c.tc : Thread Cert.GoutIdeal.nD Cert.GoutIdeal.τ).loc Cert.GoutIdeal.main_arg2) = m ((c.tc : Thread Cert.GoutIdeal.nD Cert.GoutIdeal.τ).loc Cert.GoutIdeal.main_arg2))
      ∧ r.2.sem = fun _ => 0)

def quiescent_RefGoutIdeal [hRefGoutIdeal : Cert.RefGoutIdeal.Facts] : Prop :=
  ∀ (m : (ℓ : Loc Cert.RefGoutIdeal.nD Cert.RefGoutIdeal.τ Cert.RefGoutIdeal.sig) → Buf (Elt Ideal) ℓ) (g : Dev Cert.RefGoutIdeal.nD → PrngReg), Pre_RefGoutIdeal m →
    θ_run (Cert.RefGoutIdeal.defs (F := Ideal)) (onTc (τ := Cert.RefGoutIdeal.τ) (Cert.RefGoutIdeal.main (F := Ideal))) ⟨m, fun _ => 0, g⟩ (fun r => (∀ c : Dev Cert.RefGoutIdeal.nD,
      r.2.mem ((c.tc : Thread Cert.RefGoutIdeal.nD Cert.RefGoutIdeal.τ).loc Cert.RefGoutIdeal.main_arg0) = m ((c.tc : Thread Cert.RefGoutIdeal.nD Cert.RefGoutIdeal.τ).loc Cert.RefGoutIdeal.main_arg0)
      ∧ r.2.mem ((c.tc : Thread Cert.RefGoutIdeal.nD Cert.RefGoutIdeal.τ).loc Cert.RefGoutIdeal.main_arg1) = m ((c.tc : Thread Cert.RefGoutIdeal.nD Cert.RefGoutIdeal.τ).loc Cert.RefGoutIdeal.main_arg1)
      ∧ r.2.mem ((c.tc : Thread Cert.RefGoutIdeal.nD Cert.RefGoutIdeal.τ).loc Cert.RefGoutIdeal.main_arg2) = m ((c.tc : Thread Cert.RefGoutIdeal.nD Cert.RefGoutIdeal.τ).loc Cert.RefGoutIdeal.main_arg2))
      ∧ r.2.sem = fun _ => 0)

def quiescent_Dmix [hDmix : Cert.Dmix.Facts] : Prop :=
  ∀ (m : (ℓ : Loc Cert.Dmix.nD Cert.Dmix.τ Cert.Dmix.sig) → Buf (Elt Bits) ℓ) (g : Dev Cert.Dmix.nD → PrngReg), Pre_Dmix m →
    θ_run (Cert.Dmix.defs (F := Bits)) (onTc (τ := Cert.Dmix.τ) (Cert.Dmix.main (F := Bits))) ⟨m, fun _ => 0, g⟩ (fun r => (∀ c : Dev Cert.Dmix.nD,
      r.2.mem ((c.tc : Thread Cert.Dmix.nD Cert.Dmix.τ).loc Cert.Dmix.main_arg0) = m ((c.tc : Thread Cert.Dmix.nD Cert.Dmix.τ).loc Cert.Dmix.main_arg0)
      ∧ r.2.mem ((c.tc : Thread Cert.Dmix.nD Cert.Dmix.τ).loc Cert.Dmix.main_arg1) = m ((c.tc : Thread Cert.Dmix.nD Cert.Dmix.τ).loc Cert.Dmix.main_arg1)
      ∧ r.2.mem ((c.tc : Thread Cert.Dmix.nD Cert.Dmix.τ).loc Cert.Dmix.main_arg2) = m ((c.tc : Thread Cert.Dmix.nD Cert.Dmix.τ).loc Cert.Dmix.main_arg2))
      ∧ r.2.sem = fun _ => 0)

def quiescent_DmixIdeal [hDmixIdeal : Cert.DmixIdeal.Facts] : Prop :=
  ∀ (m : (ℓ : Loc Cert.DmixIdeal.nD Cert.DmixIdeal.τ Cert.DmixIdeal.sig) → Buf (Elt Ideal) ℓ) (g : Dev Cert.DmixIdeal.nD → PrngReg), Pre_DmixIdeal m →
    θ_run (Cert.DmixIdeal.defs (F := Ideal)) (onTc (τ := Cert.DmixIdeal.τ) (Cert.DmixIdeal.main (F := Ideal))) ⟨m, fun _ => 0, g⟩ (fun r => (∀ c : Dev Cert.DmixIdeal.nD,
      r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
      ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1)
      ∧ r.2.mem ((c.tc : Thread Cert.DmixIdeal.nD Cert.DmixIdeal.τ).loc Cert.DmixIdeal.main_arg2) = m ((c.tc : Thread Cert.DmixIdeal.nD Cert.DmixIdeal.τ).loc Cert.DmixIdeal.main_arg2))
      ∧ r.2.sem = fun _ => 0)

def quiescent_RefDmixIdeal [hRefDmixIdeal : Cert.RefDmixIdeal.Facts] : Prop :=
  ∀ (m : (ℓ : Loc Cert.RefDmixIdeal.nD Cert.RefDmixIdeal.τ Cert.RefDmixIdeal.sig) → Buf (Elt Ideal) ℓ) (g : Dev Cert.RefDmixIdeal.nD → PrngReg), Pre_RefDmixIdeal m →
    θ_run (Cert.RefDmixIdeal.defs (F := Ideal)) (onTc (τ := Cert.RefDmixIdeal.τ) (Cert.RefDmixIdeal.main (F := Ideal))) ⟨m, fun _ => 0, g⟩ (fun r => (∀ c : Dev Cert.RefDmixIdeal.nD,
      r.2.mem ((c.tc : Thread Cert.RefDmixIdeal.nD Cert.RefDmixIdeal.τ).loc Cert.RefDmixIdeal.main_arg0) = m ((c.tc : Thread Cert.RefDmixIdeal.nD Cert.RefDmixIdeal.τ).loc Cert.RefDmixIdeal.main_arg0)
      ∧ r.2.mem ((c.tc : Thread Cert.RefDmixIdeal.nD Cert.RefDmixIdeal.τ).loc Cert.RefDmixIdeal.main_arg1) = m ((c.tc : Thread Cert.RefDmixIdeal.nD Cert.RefDmixIdeal.τ).loc Cert.RefDmixIdeal.main_arg1)
      ∧ r.2.mem ((c.tc : Thread Cert.RefDmixIdeal.nD Cert.RefDmixIdeal.τ).loc Cert.RefDmixIdeal.main_arg2) = m ((c.tc : Thread Cert.RefDmixIdeal.nD Cert.RefDmixIdeal.τ).loc Cert.RefDmixIdeal.main_arg2))
      ∧ r.2.sem = fun _ => 0)

def quiescent_Gglu [hGglu : Cert.Gglu.Facts] : Prop :=
  ∀ (m : (ℓ : Loc Cert.Gglu.nD Cert.Gglu.τ Cert.Gglu.sig) → Buf (Elt Bits) ℓ) (g : Dev Cert.Gglu.nD → PrngReg), Pre_Gglu m →
    θ_run (Cert.Gglu.defs (F := Bits)) (onTc (τ := Cert.Gglu.τ) (Cert.Gglu.main (F := Bits))) ⟨m, fun _ => 0, g⟩ (fun r => (∀ c : Dev Cert.Gglu.nD,
      r.2.mem ((c.tc : Thread Cert.Gglu.nD Cert.Gglu.τ).loc Cert.Gglu.main_arg0) = m ((c.tc : Thread Cert.Gglu.nD Cert.Gglu.τ).loc Cert.Gglu.main_arg0)
      ∧ r.2.mem ((c.tc : Thread Cert.Gglu.nD Cert.Gglu.τ).loc Cert.Gglu.main_arg1) = m ((c.tc : Thread Cert.Gglu.nD Cert.Gglu.τ).loc Cert.Gglu.main_arg1)
      ∧ r.2.mem ((c.tc : Thread Cert.Gglu.nD Cert.Gglu.τ).loc Cert.Gglu.main_arg2) = m ((c.tc : Thread Cert.Gglu.nD Cert.Gglu.τ).loc Cert.Gglu.main_arg2)
      ∧ r.2.mem ((c.tc : Thread Cert.Gglu.nD Cert.Gglu.τ).loc Cert.Gglu.main_arg3) = m ((c.tc : Thread Cert.Gglu.nD Cert.Gglu.τ).loc Cert.Gglu.main_arg3)
      ∧ r.2.mem ((c.tc : Thread Cert.Gglu.nD Cert.Gglu.τ).loc Cert.Gglu.main_arg4) = m ((c.tc : Thread Cert.Gglu.nD Cert.Gglu.τ).loc Cert.Gglu.main_arg4))
      ∧ r.2.sem = fun _ => 0)

def quiescent_GgluIdeal [hGgluIdeal : Cert.GgluIdeal.Facts] : Prop :=
  ∀ (m : (ℓ : Loc Cert.GgluIdeal.nD Cert.GgluIdeal.τ Cert.GgluIdeal.sig) → Buf (Elt Ideal) ℓ) (g : Dev Cert.GgluIdeal.nD → PrngReg), Pre_GgluIdeal m →
    θ_run (Cert.GgluIdeal.defs (F := Ideal)) (onTc (τ := Cert.GgluIdeal.τ) (Cert.GgluIdeal.main (F := Ideal))) ⟨m, fun _ => 0, g⟩ (fun r => (∀ c : Dev Cert.GgluIdeal.nD,
      r.2.mem ((c.tc : Thread Cert.GgluIdeal.nD Cert.GgluIdeal.τ).loc Cert.GgluIdeal.main_arg0) = m ((c.tc : Thread Cert.GgluIdeal.nD Cert.GgluIdeal.τ).loc Cert.GgluIdeal.main_arg0)
      ∧ r.2.mem ((c.tc : Thread Cert.GgluIdeal.nD Cert.GgluIdeal.τ).loc Cert.GgluIdeal.main_arg1) = m ((c.tc : Thread Cert.GgluIdeal.nD Cert.GgluIdeal.τ).loc Cert.GgluIdeal.main_arg1)
      ∧ r.2.mem ((c.tc : Thread Cert.GgluIdeal.nD Cert.GgluIdeal.τ).loc Cert.GgluIdeal.main_arg2) = m ((c.tc : Thread Cert.GgluIdeal.nD Cert.GgluIdeal.τ).loc Cert.GgluIdeal.main_arg2)
      ∧ r.2.mem ((c.tc : Thread Cert.GgluIdeal.nD Cert.GgluIdeal.τ).loc Cert.GgluIdeal.main_arg3) = m ((c.tc : Thread Cert.GgluIdeal.nD Cert.GgluIdeal.τ).loc Cert.GgluIdeal.main_arg3)
      ∧ r.2.mem ((c.tc : Thread Cert.GgluIdeal.nD Cert.GgluIdeal.τ).loc Cert.GgluIdeal.main_arg4) = m ((c.tc : Thread Cert.GgluIdeal.nD Cert.GgluIdeal.τ).loc Cert.GgluIdeal.main_arg4))
      ∧ r.2.sem = fun _ => 0)

def quiescent_RefGgluIdeal [hRefGgluIdeal : Cert.RefGgluIdeal.Facts] : Prop :=
  ∀ (m : (ℓ : Loc Cert.RefGgluIdeal.nD Cert.RefGgluIdeal.τ Cert.RefGgluIdeal.sig) → Buf (Elt Ideal) ℓ) (g : Dev Cert.RefGgluIdeal.nD → PrngReg), Pre_RefGgluIdeal m →
    θ_run (Cert.RefGgluIdeal.defs (F := Ideal)) (onTc (τ := Cert.RefGgluIdeal.τ) (Cert.RefGgluIdeal.main (F := Ideal))) ⟨m, fun _ => 0, g⟩ (fun r => (∀ c : Dev Cert.RefGgluIdeal.nD,
      r.2.mem ((c.tc : Thread Cert.RefGgluIdeal.nD Cert.RefGgluIdeal.τ).loc Cert.RefGgluIdeal.main_arg0) = m ((c.tc : Thread Cert.RefGgluIdeal.nD Cert.RefGgluIdeal.τ).loc Cert.RefGgluIdeal.main_arg0)
      ∧ r.2.mem ((c.tc : Thread Cert.RefGgluIdeal.nD Cert.RefGgluIdeal.τ).loc Cert.RefGgluIdeal.main_arg1) = m ((c.tc : Thread Cert.RefGgluIdeal.nD Cert.RefGgluIdeal.τ).loc Cert.RefGgluIdeal.main_arg1)
      ∧ r.2.mem ((c.tc : Thread Cert.RefGgluIdeal.nD Cert.RefGgluIdeal.τ).loc Cert.RefGgluIdeal.main_arg2) = m ((c.tc : Thread Cert.RefGgluIdeal.nD Cert.RefGgluIdeal.τ).loc Cert.RefGgluIdeal.main_arg2)
      ∧ r.2.mem ((c.tc : Thread Cert.RefGgluIdeal.nD Cert.RefGgluIdeal.τ).loc Cert.RefGgluIdeal.main_arg3) = m ((c.tc : Thread Cert.RefGgluIdeal.nD Cert.RefGgluIdeal.τ).loc Cert.RefGgluIdeal.main_arg3)
      ∧ r.2.mem ((c.tc : Thread Cert.RefGgluIdeal.nD Cert.RefGgluIdeal.τ).loc Cert.RefGgluIdeal.main_arg4) = m ((c.tc : Thread Cert.RefGgluIdeal.nD Cert.RefGgluIdeal.τ).loc Cert.RefGgluIdeal.main_arg4))
      ∧ r.2.sem = fun _ => 0)

def quiescent_Dglu [hDglu : Cert.Dglu.Facts] : Prop :=
  ∀ (m : (ℓ : Loc Cert.Dglu.nD Cert.Dglu.τ Cert.Dglu.sig) → Buf (Elt Bits) ℓ) (g : Dev Cert.Dglu.nD → PrngReg), Pre_Dglu m →
    θ_run (Cert.Dglu.defs (F := Bits)) (onTc (τ := Cert.Dglu.τ) (Cert.Dglu.main (F := Bits))) ⟨m, fun _ => 0, g⟩ (fun r => (∀ c : Dev Cert.Dglu.nD,
      r.2.mem ((c.tc : Thread Cert.Dglu.nD Cert.Dglu.τ).loc Cert.Dglu.main_arg0) = m ((c.tc : Thread Cert.Dglu.nD Cert.Dglu.τ).loc Cert.Dglu.main_arg0)
      ∧ r.2.mem ((c.tc : Thread Cert.Dglu.nD Cert.Dglu.τ).loc Cert.Dglu.main_arg1) = m ((c.tc : Thread Cert.Dglu.nD Cert.Dglu.τ).loc Cert.Dglu.main_arg1)
      ∧ r.2.mem ((c.tc : Thread Cert.Dglu.nD Cert.Dglu.τ).loc Cert.Dglu.main_arg2) = m ((c.tc : Thread Cert.Dglu.nD Cert.Dglu.τ).loc Cert.Dglu.main_arg2)
      ∧ r.2.mem ((c.tc : Thread Cert.Dglu.nD Cert.Dglu.τ).loc Cert.Dglu.main_arg3) = m ((c.tc : Thread Cert.Dglu.nD Cert.Dglu.τ).loc Cert.Dglu.main_arg3)
      ∧ r.2.mem ((c.tc : Thread Cert.Dglu.nD Cert.Dglu.τ).loc Cert.Dglu.main_arg4) = m ((c.tc : Thread Cert.Dglu.nD Cert.Dglu.τ).loc Cert.Dglu.main_arg4))
      ∧ r.2.sem = fun _ => 0)

def quiescent_DgluIdeal [hDgluIdeal : Cert.DgluIdeal.Facts] : Prop :=
  ∀ (m : (ℓ : Loc Cert.DgluIdeal.nD Cert.DgluIdeal.τ Cert.DgluIdeal.sig) → Buf (Elt Ideal) ℓ) (g : Dev Cert.DgluIdeal.nD → PrngReg), Pre_DgluIdeal m →
    θ_run (Cert.DgluIdeal.defs (F := Ideal)) (onTc (τ := Cert.DgluIdeal.τ) (Cert.DgluIdeal.main (F := Ideal))) ⟨m, fun _ => 0, g⟩ (fun r => (∀ c : Dev Cert.DgluIdeal.nD,
      r.2.mem ((c.tc : Thread Cert.DgluIdeal.nD Cert.DgluIdeal.τ).loc Cert.DgluIdeal.main_arg0) = m ((c.tc : Thread Cert.DgluIdeal.nD Cert.DgluIdeal.τ).loc Cert.DgluIdeal.main_arg0)
      ∧ r.2.mem ((c.tc : Thread Cert.DgluIdeal.nD Cert.DgluIdeal.τ).loc Cert.DgluIdeal.main_arg1) = m ((c.tc : Thread Cert.DgluIdeal.nD Cert.DgluIdeal.τ).loc Cert.DgluIdeal.main_arg1)
      ∧ r.2.mem ((c.tc : Thread Cert.DgluIdeal.nD Cert.DgluIdeal.τ).loc Cert.DgluIdeal.main_arg2) = m ((c.tc : Thread Cert.DgluIdeal.nD Cert.DgluIdeal.τ).loc Cert.DgluIdeal.main_arg2)
      ∧ r.2.mem ((c.tc : Thread Cert.DgluIdeal.nD Cert.DgluIdeal.τ).loc Cert.DgluIdeal.main_arg3) = m ((c.tc : Thread Cert.DgluIdeal.nD Cert.DgluIdeal.τ).loc Cert.DgluIdeal.main_arg3)
      ∧ r.2.mem ((c.tc : Thread Cert.DgluIdeal.nD Cert.DgluIdeal.τ).loc Cert.DgluIdeal.main_arg4) = m ((c.tc : Thread Cert.DgluIdeal.nD Cert.DgluIdeal.τ).loc Cert.DgluIdeal.main_arg4))
      ∧ r.2.sem = fun _ => 0)

def quiescent_RefDgluIdeal [hRefDgluIdeal : Cert.RefDgluIdeal.Facts] : Prop :=
  ∀ (m : (ℓ : Loc Cert.RefDgluIdeal.nD Cert.RefDgluIdeal.τ Cert.RefDgluIdeal.sig) → Buf (Elt Ideal) ℓ) (g : Dev Cert.RefDgluIdeal.nD → PrngReg), Pre_RefDgluIdeal m →
    θ_run (Cert.RefDgluIdeal.defs (F := Ideal)) (onTc (τ := Cert.RefDgluIdeal.τ) (Cert.RefDgluIdeal.main (F := Ideal))) ⟨m, fun _ => 0, g⟩ (fun r => (∀ c : Dev Cert.RefDgluIdeal.nD,
      r.2.mem ((c.tc : Thread Cert.RefDgluIdeal.nD Cert.RefDgluIdeal.τ).loc Cert.RefDgluIdeal.main_arg0) = m ((c.tc : Thread Cert.RefDgluIdeal.nD Cert.RefDgluIdeal.τ).loc Cert.RefDgluIdeal.main_arg0)
      ∧ r.2.mem ((c.tc : Thread Cert.RefDgluIdeal.nD Cert.RefDgluIdeal.τ).loc Cert.RefDgluIdeal.main_arg1) = m ((c.tc : Thread Cert.RefDgluIdeal.nD Cert.RefDgluIdeal.τ).loc Cert.RefDgluIdeal.main_arg1)
      ∧ r.2.mem ((c.tc : Thread Cert.RefDgluIdeal.nD Cert.RefDgluIdeal.τ).loc Cert.RefDgluIdeal.main_arg2) = m ((c.tc : Thread Cert.RefDgluIdeal.nD Cert.RefDgluIdeal.τ).loc Cert.RefDgluIdeal.main_arg2)
      ∧ r.2.mem ((c.tc : Thread Cert.RefDgluIdeal.nD Cert.RefDgluIdeal.τ).loc Cert.RefDgluIdeal.main_arg3) = m ((c.tc : Thread Cert.RefDgluIdeal.nD Cert.RefDgluIdeal.τ).loc Cert.RefDgluIdeal.main_arg3)
      ∧ r.2.mem ((c.tc : Thread Cert.RefDgluIdeal.nD Cert.RefDgluIdeal.τ).loc Cert.RefDgluIdeal.main_arg4) = m ((c.tc : Thread Cert.RefDgluIdeal.nD Cert.RefDgluIdeal.τ).loc Cert.RefDgluIdeal.main_arg4))
      ∧ r.2.sem = fun _ => 0)

def quiescent_Gpo [hGpo : Cert.Gpo.Facts] : Prop :=
  ∀ (m : (ℓ : Loc Cert.Gpo.nD Cert.Gpo.τ Cert.Gpo.sig) → Buf (Elt Bits) ℓ) (g : Dev Cert.Gpo.nD → PrngReg), Pre_Gpo m →
    θ_run (Cert.Gpo.defs (F := Bits)) (onTc (τ := Cert.Gpo.τ) (Cert.Gpo.main (F := Bits))) ⟨m, fun _ => 0, g⟩ (fun r => (∀ c : Dev Cert.Gpo.nD,
      r.2.mem ((c.tc : Thread Cert.Gpo.nD Cert.Gpo.τ).loc Cert.Gpo.main_arg0) = m ((c.tc : Thread Cert.Gpo.nD Cert.Gpo.τ).loc Cert.Gpo.main_arg0)
      ∧ r.2.mem ((c.tc : Thread Cert.Gpo.nD Cert.Gpo.τ).loc Cert.Gpo.main_arg1) = m ((c.tc : Thread Cert.Gpo.nD Cert.Gpo.τ).loc Cert.Gpo.main_arg1)
      ∧ r.2.mem ((c.tc : Thread Cert.Gpo.nD Cert.Gpo.τ).loc Cert.Gpo.main_arg2) = m ((c.tc : Thread Cert.Gpo.nD Cert.Gpo.τ).loc Cert.Gpo.main_arg2))
      ∧ r.2.sem = fun _ => 0)

def quiescent_GpoIdeal [hGpoIdeal : Cert.GpoIdeal.Facts] : Prop :=
  ∀ (m : (ℓ : Loc Cert.GpoIdeal.nD Cert.GpoIdeal.τ Cert.GpoIdeal.sig) → Buf (Elt Ideal) ℓ) (g : Dev Cert.GpoIdeal.nD → PrngReg), Pre_GpoIdeal m →
    θ_run (Cert.GpoIdeal.defs (F := Ideal)) (onTc (τ := Cert.GpoIdeal.τ) (Cert.GpoIdeal.main (F := Ideal))) ⟨m, fun _ => 0, g⟩ (fun r => (∀ c : Dev Cert.GpoIdeal.nD,
      r.2.mem ((c.tc : Thread Cert.GpoIdeal.nD Cert.GpoIdeal.τ).loc Cert.GpoIdeal.main_arg0) = m ((c.tc : Thread Cert.GpoIdeal.nD Cert.GpoIdeal.τ).loc Cert.GpoIdeal.main_arg0)
      ∧ r.2.mem ((c.tc : Thread Cert.GpoIdeal.nD Cert.GpoIdeal.τ).loc Cert.GpoIdeal.main_arg1) = m ((c.tc : Thread Cert.GpoIdeal.nD Cert.GpoIdeal.τ).loc Cert.GpoIdeal.main_arg1)
      ∧ r.2.mem ((c.tc : Thread Cert.GpoIdeal.nD Cert.GpoIdeal.τ).loc Cert.GpoIdeal.main_arg2) = m ((c.tc : Thread Cert.GpoIdeal.nD Cert.GpoIdeal.τ).loc Cert.GpoIdeal.main_arg2))
      ∧ r.2.sem = fun _ => 0)

def quiescent_RefGpoIdeal [hRefGpoIdeal : Cert.RefGpoIdeal.Facts] : Prop :=
  ∀ (m : (ℓ : Loc Cert.RefGpoIdeal.nD Cert.RefGpoIdeal.τ Cert.RefGpoIdeal.sig) → Buf (Elt Ideal) ℓ) (g : Dev Cert.RefGpoIdeal.nD → PrngReg), Pre_RefGpoIdeal m →
    θ_run (Cert.RefGpoIdeal.defs (F := Ideal)) (onTc (τ := Cert.RefGpoIdeal.τ) (Cert.RefGpoIdeal.main (F := Ideal))) ⟨m, fun _ => 0, g⟩ (fun r => (∀ c : Dev Cert.RefGpoIdeal.nD,
      r.2.mem ((c.tc : Thread Cert.RefGpoIdeal.nD Cert.RefGpoIdeal.τ).loc Cert.RefGpoIdeal.main_arg0) = m ((c.tc : Thread Cert.RefGpoIdeal.nD Cert.RefGpoIdeal.τ).loc Cert.RefGpoIdeal.main_arg0)
      ∧ r.2.mem ((c.tc : Thread Cert.RefGpoIdeal.nD Cert.RefGpoIdeal.τ).loc Cert.RefGpoIdeal.main_arg1) = m ((c.tc : Thread Cert.RefGpoIdeal.nD Cert.RefGpoIdeal.τ).loc Cert.RefGpoIdeal.main_arg1)
      ∧ r.2.mem ((c.tc : Thread Cert.RefGpoIdeal.nD Cert.RefGpoIdeal.τ).loc Cert.RefGpoIdeal.main_arg2) = m ((c.tc : Thread Cert.RefGpoIdeal.nD Cert.RefGpoIdeal.τ).loc Cert.RefGpoIdeal.main_arg2))
      ∧ r.2.sem = fun _ => 0)

def quiescent_Dpo [hDpo : Cert.Dpo.Facts] : Prop :=
  ∀ (m : (ℓ : Loc Cert.Dpo.nD Cert.Dpo.τ Cert.Dpo.sig) → Buf (Elt Bits) ℓ) (g : Dev Cert.Dpo.nD → PrngReg), Pre_Dpo m →
    θ_run (Cert.Dpo.defs (F := Bits)) (onTc (τ := Cert.Dpo.τ) (Cert.Dpo.main (F := Bits))) ⟨m, fun _ => 0, g⟩ (fun r => (∀ c : Dev Cert.Dpo.nD,
      r.2.mem ((c.tc : Thread Cert.Dpo.nD Cert.Dpo.τ).loc Cert.Dpo.main_arg0) = m ((c.tc : Thread Cert.Dpo.nD Cert.Dpo.τ).loc Cert.Dpo.main_arg0)
      ∧ r.2.mem ((c.tc : Thread Cert.Dpo.nD Cert.Dpo.τ).loc Cert.Dpo.main_arg1) = m ((c.tc : Thread Cert.Dpo.nD Cert.Dpo.τ).loc Cert.Dpo.main_arg1)
      ∧ r.2.mem ((c.tc : Thread Cert.Dpo.nD Cert.Dpo.τ).loc Cert.Dpo.main_arg2) = m ((c.tc : Thread Cert.Dpo.nD Cert.Dpo.τ).loc Cert.Dpo.main_arg2))
      ∧ r.2.sem = fun _ => 0)

def quiescent_DpoIdeal [hDpoIdeal : Cert.DpoIdeal.Facts] : Prop :=
  ∀ (m : (ℓ : Loc Cert.DpoIdeal.nD Cert.DpoIdeal.τ Cert.DpoIdeal.sig) → Buf (Elt Ideal) ℓ) (g : Dev Cert.DpoIdeal.nD → PrngReg), Pre_DpoIdeal m →
    θ_run (Cert.DpoIdeal.defs (F := Ideal)) (onTc (τ := Cert.DpoIdeal.τ) (Cert.DpoIdeal.main (F := Ideal))) ⟨m, fun _ => 0, g⟩ (fun r => (∀ c : Dev Cert.DpoIdeal.nD,
      r.2.mem ((c.tc : Thread Cert.DpoIdeal.nD Cert.DpoIdeal.τ).loc Cert.DpoIdeal.main_arg0) = m ((c.tc : Thread Cert.DpoIdeal.nD Cert.DpoIdeal.τ).loc Cert.DpoIdeal.main_arg0)
      ∧ r.2.mem ((c.tc : Thread Cert.DpoIdeal.nD Cert.DpoIdeal.τ).loc Cert.DpoIdeal.main_arg1) = m ((c.tc : Thread Cert.DpoIdeal.nD Cert.DpoIdeal.τ).loc Cert.DpoIdeal.main_arg1)
      ∧ r.2.mem ((c.tc : Thread Cert.DpoIdeal.nD Cert.DpoIdeal.τ).loc Cert.DpoIdeal.main_arg2) = m ((c.tc : Thread Cert.DpoIdeal.nD Cert.DpoIdeal.τ).loc Cert.DpoIdeal.main_arg2))
      ∧ r.2.sem = fun _ => 0)

def quiescent_RefDpoIdeal [hRefDpoIdeal : Cert.RefDpoIdeal.Facts] : Prop :=
  ∀ (m : (ℓ : Loc Cert.RefDpoIdeal.nD Cert.RefDpoIdeal.τ Cert.RefDpoIdeal.sig) → Buf (Elt Ideal) ℓ) (g : Dev Cert.RefDpoIdeal.nD → PrngReg), Pre_RefDpoIdeal m →
    θ_run (Cert.RefDpoIdeal.defs (F := Ideal)) (onTc (τ := Cert.RefDpoIdeal.τ) (Cert.RefDpoIdeal.main (F := Ideal))) ⟨m, fun _ => 0, g⟩ (fun r => (∀ c : Dev Cert.RefDpoIdeal.nD,
      r.2.mem ((c.tc : Thread Cert.RefDpoIdeal.nD Cert.RefDpoIdeal.τ).loc Cert.RefDpoIdeal.main_arg0) = m ((c.tc : Thread Cert.RefDpoIdeal.nD Cert.RefDpoIdeal.τ).loc Cert.RefDpoIdeal.main_arg0)
      ∧ r.2.mem ((c.tc : Thread Cert.RefDpoIdeal.nD Cert.RefDpoIdeal.τ).loc Cert.RefDpoIdeal.main_arg1) = m ((c.tc : Thread Cert.RefDpoIdeal.nD Cert.RefDpoIdeal.τ).loc Cert.RefDpoIdeal.main_arg1)
      ∧ r.2.mem ((c.tc : Thread Cert.RefDpoIdeal.nD Cert.RefDpoIdeal.τ).loc Cert.RefDpoIdeal.main_arg2) = m ((c.tc : Thread Cert.RefDpoIdeal.nD Cert.RefDpoIdeal.τ).loc Cert.RefDpoIdeal.main_arg2))
      ∧ r.2.sem = fun _ => 0)

def quiescent_Dpm [hDpm : Cert.Dpm.Facts] : Prop :=
  ∀ (m : (ℓ : Loc Cert.Dpm.nD Cert.Dpm.τ Cert.Dpm.sig) → Buf (Elt Bits) ℓ) (g : Dev Cert.Dpm.nD → PrngReg), Pre_Dpm m →
    θ_run (Cert.Dpm.defs (F := Bits)) (onTc (τ := Cert.Dpm.τ) (Cert.Dpm.main (F := Bits))) ⟨m, fun _ => 0, g⟩ (fun r => (∀ c : Dev Cert.Dpm.nD,
      r.2.mem ((c.tc : Thread Cert.Dpm.nD Cert.Dpm.τ).loc Cert.Dpm.main_arg0) = m ((c.tc : Thread Cert.Dpm.nD Cert.Dpm.τ).loc Cert.Dpm.main_arg0)
      ∧ r.2.mem ((c.tc : Thread Cert.Dpm.nD Cert.Dpm.τ).loc Cert.Dpm.main_arg1) = m ((c.tc : Thread Cert.Dpm.nD Cert.Dpm.τ).loc Cert.Dpm.main_arg1)
      ∧ r.2.mem ((c.tc : Thread Cert.Dpm.nD Cert.Dpm.τ).loc Cert.Dpm.main_arg2) = m ((c.tc : Thread Cert.Dpm.nD Cert.Dpm.τ).loc Cert.Dpm.main_arg2))
      ∧ r.2.sem = fun _ => 0)

def quiescent_DpmIdeal [hDpmIdeal : Cert.DpmIdeal.Facts] : Prop :=
  ∀ (m : (ℓ : Loc Cert.DpmIdeal.nD Cert.DpmIdeal.τ Cert.DpmIdeal.sig) → Buf (Elt Ideal) ℓ) (g : Dev Cert.DpmIdeal.nD → PrngReg), Pre_DpmIdeal m →
    θ_run (Cert.DpmIdeal.defs (F := Ideal)) (onTc (τ := Cert.DpmIdeal.τ) (Cert.DpmIdeal.main (F := Ideal))) ⟨m, fun _ => 0, g⟩ (fun r => (∀ c : Dev Cert.DpmIdeal.nD,
      r.2.mem ((c.tc : Thread Cert.DpmIdeal.nD Cert.DpmIdeal.τ).loc Cert.DpmIdeal.main_arg0) = m ((c.tc : Thread Cert.DpmIdeal.nD Cert.DpmIdeal.τ).loc Cert.DpmIdeal.main_arg0)
      ∧ r.2.mem ((c.tc : Thread Cert.DpmIdeal.nD Cert.DpmIdeal.τ).loc Cert.DpmIdeal.main_arg1) = m ((c.tc : Thread Cert.DpmIdeal.nD Cert.DpmIdeal.τ).loc Cert.DpmIdeal.main_arg1)
      ∧ r.2.mem ((c.tc : Thread Cert.DpmIdeal.nD Cert.DpmIdeal.τ).loc Cert.DpmIdeal.main_arg2) = m ((c.tc : Thread Cert.DpmIdeal.nD Cert.DpmIdeal.τ).loc Cert.DpmIdeal.main_arg2))
      ∧ r.2.sem = fun _ => 0)

def quiescent_RefDpmIdeal [hRefDpmIdeal : Cert.RefDpmIdeal.Facts] : Prop :=
  ∀ (m : (ℓ : Loc Cert.RefDpmIdeal.nD Cert.RefDpmIdeal.τ Cert.RefDpmIdeal.sig) → Buf (Elt Ideal) ℓ) (g : Dev Cert.RefDpmIdeal.nD → PrngReg), Pre_RefDpmIdeal m →
    θ_run (Cert.RefDpmIdeal.defs (F := Ideal)) (onTc (τ := Cert.RefDpmIdeal.τ) (Cert.RefDpmIdeal.main (F := Ideal))) ⟨m, fun _ => 0, g⟩ (fun r => (∀ c : Dev Cert.RefDpmIdeal.nD,
      r.2.mem ((c.tc : Thread Cert.RefDpmIdeal.nD Cert.RefDpmIdeal.τ).loc Cert.RefDpmIdeal.main_arg0) = m ((c.tc : Thread Cert.RefDpmIdeal.nD Cert.RefDpmIdeal.τ).loc Cert.RefDpmIdeal.main_arg0)
      ∧ r.2.mem ((c.tc : Thread Cert.RefDpmIdeal.nD Cert.RefDpmIdeal.τ).loc Cert.RefDpmIdeal.main_arg1) = m ((c.tc : Thread Cert.RefDpmIdeal.nD Cert.RefDpmIdeal.τ).loc Cert.RefDpmIdeal.main_arg1)
      ∧ r.2.mem ((c.tc : Thread Cert.RefDpmIdeal.nD Cert.RefDpmIdeal.τ).loc Cert.RefDpmIdeal.main_arg2) = m ((c.tc : Thread Cert.RefDpmIdeal.nD Cert.RefDpmIdeal.τ).loc Cert.RefDpmIdeal.main_arg2))
      ∧ r.2.sem = fun _ => 0)

def quiescent_Gpool [hGpool : Cert.Gpool.Facts] : Prop :=
  ∀ (m : (ℓ : Loc Cert.Gpool.nD Cert.Gpool.τ Cert.Gpool.sig) → Buf (Elt Bits) ℓ) (g : Dev Cert.Gpool.nD → PrngReg), Pre_Gpool m →
    θ_run (Cert.Gpool.defs (F := Bits)) (onTc (τ := Cert.Gpool.τ) (Cert.Gpool.main (F := Bits))) ⟨m, fun _ => 0, g⟩ (fun r => (∀ c : Dev Cert.Gpool.nD,
      r.2.mem ((c.tc : Thread Cert.Gpool.nD Cert.Gpool.τ).loc Cert.Gpool.main_arg0) = m ((c.tc : Thread Cert.Gpool.nD Cert.Gpool.τ).loc Cert.Gpool.main_arg0)
      ∧ r.2.mem ((c.tc : Thread Cert.Gpool.nD Cert.Gpool.τ).loc Cert.Gpool.main_arg1) = m ((c.tc : Thread Cert.Gpool.nD Cert.Gpool.τ).loc Cert.Gpool.main_arg1)
      ∧ r.2.mem ((c.tc : Thread Cert.Gpool.nD Cert.Gpool.τ).loc Cert.Gpool.main_arg2) = m ((c.tc : Thread Cert.Gpool.nD Cert.Gpool.τ).loc Cert.Gpool.main_arg2))
      ∧ r.2.sem = fun _ => 0)

def quiescent_GpoolIdeal [hGpoolIdeal : Cert.GpoolIdeal.Facts] : Prop :=
  ∀ (m : (ℓ : Loc Cert.GpoolIdeal.nD Cert.GpoolIdeal.τ Cert.GpoolIdeal.sig) → Buf (Elt Ideal) ℓ) (g : Dev Cert.GpoolIdeal.nD → PrngReg), Pre_GpoolIdeal m →
    θ_run (Cert.GpoolIdeal.defs (F := Ideal)) (onTc (τ := Cert.GpoolIdeal.τ) (Cert.GpoolIdeal.main (F := Ideal))) ⟨m, fun _ => 0, g⟩ (fun r => (∀ c : Dev Cert.GpoolIdeal.nD,
      r.2.mem ((c.tc : Thread Cert.GpoolIdeal.nD Cert.GpoolIdeal.τ).loc Cert.GpoolIdeal.main_arg0) = m ((c.tc : Thread Cert.GpoolIdeal.nD Cert.GpoolIdeal.τ).loc Cert.GpoolIdeal.main_arg0)
      ∧ r.2.mem ((c.tc : Thread Cert.GpoolIdeal.nD Cert.GpoolIdeal.τ).loc Cert.GpoolIdeal.main_arg1) = m ((c.tc : Thread Cert.GpoolIdeal.nD Cert.GpoolIdeal.τ).loc Cert.GpoolIdeal.main_arg1)
      ∧ r.2.mem ((c.tc : Thread Cert.GpoolIdeal.nD Cert.GpoolIdeal.τ).loc Cert.GpoolIdeal.main_arg2) = m ((c.tc : Thread Cert.GpoolIdeal.nD Cert.GpoolIdeal.τ).loc Cert.GpoolIdeal.main_arg2))
      ∧ r.2.sem = fun _ => 0)

def quiescent_RefGpoolIdeal [hRefGpoolIdeal : Cert.RefGpoolIdeal.Facts] : Prop :=
  ∀ (m : (ℓ : Loc Cert.RefGpoolIdeal.nD Cert.RefGpoolIdeal.τ Cert.RefGpoolIdeal.sig) → Buf (Elt Ideal) ℓ) (g : Dev Cert.RefGpoolIdeal.nD → PrngReg), Pre_RefGpoolIdeal m →
    θ_run (Cert.RefGpoolIdeal.defs (F := Ideal)) (onTc (τ := Cert.RefGpoolIdeal.τ) (Cert.RefGpoolIdeal.main (F := Ideal))) ⟨m, fun _ => 0, g⟩ (fun r => (∀ c : Dev Cert.RefGpoolIdeal.nD,
      r.2.mem ((c.tc : Thread Cert.RefGpoolIdeal.nD Cert.RefGpoolIdeal.τ).loc Cert.RefGpoolIdeal.main_arg0) = m ((c.tc : Thread Cert.RefGpoolIdeal.nD Cert.RefGpoolIdeal.τ).loc Cert.RefGpoolIdeal.main_arg0)
      ∧ r.2.mem ((c.tc : Thread Cert.RefGpoolIdeal.nD Cert.RefGpoolIdeal.τ).loc Cert.RefGpoolIdeal.main_arg1) = m ((c.tc : Thread Cert.RefGpoolIdeal.nD Cert.RefGpoolIdeal.τ).loc Cert.RefGpoolIdeal.main_arg1)
      ∧ r.2.mem ((c.tc : Thread Cert.RefGpoolIdeal.nD Cert.RefGpoolIdeal.τ).loc Cert.RefGpoolIdeal.main_arg2) = m ((c.tc : Thread Cert.RefGpoolIdeal.nD Cert.RefGpoolIdeal.τ).loc Cert.RefGpoolIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_RefGluIdeal [hRefGluIdeal : Cert.RefGluIdeal.Facts] : Prop :=
  ∀ (m : (ℓ : Loc Cert.RefGluIdeal.nD Cert.RefGluIdeal.τ Cert.RefGluIdeal.sig) → Buf (Elt Ideal) ℓ) (g : Dev Cert.RefGluIdeal.nD → PrngReg), Pre_RefGluIdeal m →
    θ_run (Cert.RefGluIdeal.defs (F := Ideal)) (onTc (τ := Cert.RefGluIdeal.τ) (Cert.RefGluIdeal.main (F := Ideal))) ⟨m, fun _ => 0, g⟩ (fun r => (∀ c : Dev Cert.RefGluIdeal.nD,
      r.2.mem ((c.tc : Thread Cert.RefGluIdeal.nD Cert.RefGluIdeal.τ).loc Cert.RefGluIdeal.main_arg0) = m ((c.tc : Thread Cert.RefGluIdeal.nD Cert.RefGluIdeal.τ).loc Cert.RefGluIdeal.main_arg0)
      ∧ r.2.mem ((c.tc : Thread Cert.RefGluIdeal.nD Cert.RefGluIdeal.τ).loc Cert.RefGluIdeal.main_arg1) = m ((c.tc : Thread Cert.RefGluIdeal.nD Cert.RefGluIdeal.τ).loc Cert.RefGluIdeal.main_arg1)
      ∧ r.2.mem ((c.tc : Thread Cert.RefGluIdeal.nD Cert.RefGluIdeal.τ).loc Cert.RefGluIdeal.main_arg2) = m ((c.tc : Thread Cert.RefGluIdeal.nD Cert.RefGluIdeal.τ).loc Cert.RefGluIdeal.main_arg2))
      ∧ r.2.sem = fun _ => 0)

def quiescent_Pmix [hPmix : Cert.Pmix.Facts] : Prop :=
  ∀ (m : (ℓ : Loc Cert.Pmix.nD Cert.Pmix.τ Cert.Pmix.sig) → Buf (Elt Bits) ℓ) (g : Dev Cert.Pmix.nD → PrngReg), Pre_Pmix m →
    θ_run (Cert.Pmix.defs (F := Bits)) (onTc (τ := Cert.Pmix.τ) (Cert.Pmix.main (F := Bits))) ⟨m, fun _ => 0, g⟩ (fun r => (∀ c : Dev Cert.Pmix.nD,
      r.2.mem ((c.tc : Thread Cert.Pmix.nD Cert.Pmix.τ).loc Cert.Pmix.main_arg0) = m ((c.tc : Thread Cert.Pmix.nD Cert.Pmix.τ).loc Cert.Pmix.main_arg0)
      ∧ r.2.mem ((c.tc : Thread Cert.Pmix.nD Cert.Pmix.τ).loc Cert.Pmix.main_arg1) = m ((c.tc : Thread Cert.Pmix.nD Cert.Pmix.τ).loc Cert.Pmix.main_arg1)
      ∧ r.2.mem ((c.tc : Thread Cert.Pmix.nD Cert.Pmix.τ).loc Cert.Pmix.main_arg2) = m ((c.tc : Thread Cert.Pmix.nD Cert.Pmix.τ).loc Cert.Pmix.main_arg2))
      ∧ r.2.sem = fun _ => 0)

def quiescent_PmixIdeal [hPmixIdeal : Cert.PmixIdeal.Facts] : Prop :=
  ∀ (m : (ℓ : Loc Cert.PmixIdeal.nD Cert.PmixIdeal.τ Cert.PmixIdeal.sig) → Buf (Elt Ideal) ℓ) (g : Dev Cert.PmixIdeal.nD → PrngReg), Pre_PmixIdeal m →
    θ_run (Cert.PmixIdeal.defs (F := Ideal)) (onTc (τ := Cert.PmixIdeal.τ) (Cert.PmixIdeal.main (F := Ideal))) ⟨m, fun _ => 0, g⟩ (fun r => (∀ c : Dev Cert.PmixIdeal.nD,
      r.2.mem ((c.tc : Thread Cert.PmixIdeal.nD Cert.PmixIdeal.τ).loc Cert.PmixIdeal.main_arg0) = m ((c.tc : Thread Cert.PmixIdeal.nD Cert.PmixIdeal.τ).loc Cert.PmixIdeal.main_arg0)
      ∧ r.2.mem ((c.tc : Thread Cert.PmixIdeal.nD Cert.PmixIdeal.τ).loc Cert.PmixIdeal.main_arg1) = m ((c.tc : Thread Cert.PmixIdeal.nD Cert.PmixIdeal.τ).loc Cert.PmixIdeal.main_arg1)
      ∧ r.2.mem ((c.tc : Thread Cert.PmixIdeal.nD Cert.PmixIdeal.τ).loc Cert.PmixIdeal.main_arg2) = m ((c.tc : Thread Cert.PmixIdeal.nD Cert.PmixIdeal.τ).loc Cert.PmixIdeal.main_arg2))
      ∧ r.2.sem = fun _ => 0)

def quiescent_RefPmixIdeal [hRefPmixIdeal : Cert.RefPmixIdeal.Facts] : Prop :=
  ∀ (m : (ℓ : Loc Cert.RefPmixIdeal.nD Cert.RefPmixIdeal.τ Cert.RefPmixIdeal.sig) → Buf (Elt Ideal) ℓ) (g : Dev Cert.RefPmixIdeal.nD → PrngReg), Pre_RefPmixIdeal m →
    θ_run (Cert.RefPmixIdeal.defs (F := Ideal)) (onTc (τ := Cert.RefPmixIdeal.τ) (Cert.RefPmixIdeal.main (F := Ideal))) ⟨m, fun _ => 0, g⟩ (fun r => (∀ c : Dev Cert.RefPmixIdeal.nD,
      r.2.mem ((c.tc : Thread Cert.RefPmixIdeal.nD Cert.RefPmixIdeal.τ).loc Cert.RefPmixIdeal.main_arg0) = m ((c.tc : Thread Cert.RefPmixIdeal.nD Cert.RefPmixIdeal.τ).loc Cert.RefPmixIdeal.main_arg0)
      ∧ r.2.mem ((c.tc : Thread Cert.RefPmixIdeal.nD Cert.RefPmixIdeal.τ).loc Cert.RefPmixIdeal.main_arg1) = m ((c.tc : Thread Cert.RefPmixIdeal.nD Cert.RefPmixIdeal.τ).loc Cert.RefPmixIdeal.main_arg1)
      ∧ r.2.mem ((c.tc : Thread Cert.RefPmixIdeal.nD Cert.RefPmixIdeal.τ).loc Cert.RefPmixIdeal.main_arg2) = m ((c.tc : Thread Cert.RefPmixIdeal.nD Cert.RefPmixIdeal.τ).loc Cert.RefPmixIdeal.main_arg2))
      ∧ r.2.sem = fun _ => 0)

def quiescent_Po [hPo : Cert.Po.Facts] : Prop :=
  ∀ (m : (ℓ : Loc Cert.Po.nD Cert.Po.τ Cert.Po.sig) → Buf (Elt Bits) ℓ) (g : Dev Cert.Po.nD → PrngReg), Pre_Po m →
    θ_run (Cert.Po.defs (F := Bits)) (onTc (τ := Cert.Po.τ) (Cert.Po.main (F := Bits))) ⟨m, fun _ => 0, g⟩ (fun r => (∀ c : Dev Cert.Po.nD,
      r.2.mem ((c.tc : Thread Cert.Po.nD Cert.Po.τ).loc Cert.Po.main_arg0) = m ((c.tc : Thread Cert.Po.nD Cert.Po.τ).loc Cert.Po.main_arg0)
      ∧ r.2.mem ((c.tc : Thread Cert.Po.nD Cert.Po.τ).loc Cert.Po.main_arg1) = m ((c.tc : Thread Cert.Po.nD Cert.Po.τ).loc Cert.Po.main_arg1))
      ∧ r.2.sem = fun _ => 0)

def quiescent_PoIdeal [hPoIdeal : Cert.PoIdeal.Facts] : Prop :=
  ∀ (m : (ℓ : Loc Cert.PoIdeal.nD Cert.PoIdeal.τ Cert.PoIdeal.sig) → Buf (Elt Ideal) ℓ) (g : Dev Cert.PoIdeal.nD → PrngReg), Pre_PoIdeal m →
    θ_run (Cert.PoIdeal.defs (F := Ideal)) (onTc (τ := Cert.PoIdeal.τ) (Cert.PoIdeal.main (F := Ideal))) ⟨m, fun _ => 0, g⟩ (fun r => (∀ c : Dev Cert.PoIdeal.nD,
      r.2.mem ((c.tc : Thread Cert.PoIdeal.nD Cert.PoIdeal.τ).loc Cert.PoIdeal.main_arg0) = m ((c.tc : Thread Cert.PoIdeal.nD Cert.PoIdeal.τ).loc Cert.PoIdeal.main_arg0)
      ∧ r.2.mem ((c.tc : Thread Cert.PoIdeal.nD Cert.PoIdeal.τ).loc Cert.PoIdeal.main_arg1) = m ((c.tc : Thread Cert.PoIdeal.nD Cert.PoIdeal.τ).loc Cert.PoIdeal.main_arg1))
      ∧ r.2.sem = fun _ => 0)

def quiescent_RefPoIdeal [hRefPoIdeal : Cert.RefPoIdeal.Facts] : Prop :=
  ∀ (m : (ℓ : Loc Cert.RefPoIdeal.nD Cert.RefPoIdeal.τ Cert.RefPoIdeal.sig) → Buf (Elt Ideal) ℓ) (g : Dev Cert.RefPoIdeal.nD → PrngReg), Pre_RefPoIdeal m →
    θ_run (Cert.RefPoIdeal.defs (F := Ideal)) (onTc (τ := Cert.RefPoIdeal.τ) (Cert.RefPoIdeal.main (F := Ideal))) ⟨m, fun _ => 0, g⟩ (fun r => (∀ c : Dev Cert.RefPoIdeal.nD,
      r.2.mem ((c.tc : Thread Cert.RefPoIdeal.nD Cert.RefPoIdeal.τ).loc Cert.RefPoIdeal.main_arg0) = m ((c.tc : Thread Cert.RefPoIdeal.nD Cert.RefPoIdeal.τ).loc Cert.RefPoIdeal.main_arg0)
      ∧ r.2.mem ((c.tc : Thread Cert.RefPoIdeal.nD Cert.RefPoIdeal.τ).loc Cert.RefPoIdeal.main_arg1) = m ((c.tc : Thread Cert.RefPoIdeal.nD Cert.RefPoIdeal.τ).loc Cert.RefPoIdeal.main_arg1))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ r.2.sem = fun _ => 0)

def quiescent_RefMixIdeal [hRefMixIdeal : Cert.RefMixIdeal.Facts] : Prop :=
  ∀ (m : (ℓ : Loc Cert.RefMixIdeal.nD Cert.RefMixIdeal.τ Cert.RefMixIdeal.sig) → Buf (Elt Ideal) ℓ) (g : Dev Cert.RefMixIdeal.nD → PrngReg), Pre_RefMixIdeal m →
    θ_run (Cert.RefMixIdeal.defs (F := Ideal)) (onTc (τ := Cert.RefMixIdeal.τ) (Cert.RefMixIdeal.main (F := Ideal))) ⟨m, fun _ => 0, g⟩ (fun r => (∀ c : Dev Cert.RefMixIdeal.nD,
      r.2.mem ((c.tc : Thread Cert.RefMixIdeal.nD Cert.RefMixIdeal.τ).loc Cert.RefMixIdeal.main_arg0) = m ((c.tc : Thread Cert.RefMixIdeal.nD Cert.RefMixIdeal.τ).loc Cert.RefMixIdeal.main_arg0)
      ∧ r.2.mem ((c.tc : Thread Cert.RefMixIdeal.nD Cert.RefMixIdeal.τ).loc Cert.RefMixIdeal.main_arg1) = m ((c.tc : Thread Cert.RefMixIdeal.nD Cert.RefMixIdeal.τ).loc Cert.RefMixIdeal.main_arg1))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_RefFf1Ideal [hRefFf1Ideal : Cert.RefFf1Ideal.Facts] : Prop :=
  ∀ (m : (ℓ : Loc Cert.RefFf1Ideal.nD Cert.RefFf1Ideal.τ Cert.RefFf1Ideal.sig) → Buf (Elt Ideal) ℓ) (g : Dev Cert.RefFf1Ideal.nD → PrngReg), Pre_RefFf1Ideal m →
    θ_run (Cert.RefFf1Ideal.defs (F := Ideal)) (onTc (τ := Cert.RefFf1Ideal.τ) (Cert.RefFf1Ideal.main (F := Ideal))) ⟨m, fun _ => 0, g⟩ (fun r => (∀ c : Dev Cert.RefFf1Ideal.nD,
      r.2.mem ((c.tc : Thread Cert.RefFf1Ideal.nD Cert.RefFf1Ideal.τ).loc Cert.RefFf1Ideal.main_arg0) = m ((c.tc : Thread Cert.RefFf1Ideal.nD Cert.RefFf1Ideal.τ).loc Cert.RefFf1Ideal.main_arg0)
      ∧ r.2.mem ((c.tc : Thread Cert.RefFf1Ideal.nD Cert.RefFf1Ideal.τ).loc Cert.RefFf1Ideal.main_arg1) = m ((c.tc : Thread Cert.RefFf1Ideal.nD Cert.RefFf1Ideal.τ).loc Cert.RefFf1Ideal.main_arg1))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ r.2.sem = fun _ => 0)

def quiescent_RefFf2Ideal [hRefFf2Ideal : Cert.RefFf2Ideal.Facts] : Prop :=
  ∀ (m : (ℓ : Loc Cert.RefFf2Ideal.nD Cert.RefFf2Ideal.τ Cert.RefFf2Ideal.sig) → Buf (Elt Ideal) ℓ) (g : Dev Cert.RefFf2Ideal.nD → PrngReg), Pre_RefFf2Ideal m →
    θ_run (Cert.RefFf2Ideal.defs (F := Ideal)) (onTc (τ := Cert.RefFf2Ideal.τ) (Cert.RefFf2Ideal.main (F := Ideal))) ⟨m, fun _ => 0, g⟩ (fun r => (∀ c : Dev Cert.RefFf2Ideal.nD,
      r.2.mem ((c.tc : Thread Cert.RefFf2Ideal.nD Cert.RefFf2Ideal.τ).loc Cert.RefFf2Ideal.main_arg0) = m ((c.tc : Thread Cert.RefFf2Ideal.nD Cert.RefFf2Ideal.τ).loc Cert.RefFf2Ideal.main_arg0)
      ∧ r.2.mem ((c.tc : Thread Cert.RefFf2Ideal.nD Cert.RefFf2Ideal.τ).loc Cert.RefFf2Ideal.main_arg1) = m ((c.tc : Thread Cert.RefFf2Ideal.nD Cert.RefFf2Ideal.τ).loc Cert.RefFf2Ideal.main_arg1))
      ∧ r.2.sem = fun _ => 0)

def quiescent_Pscale [hPscale : Cert.Pscale.Facts] : Prop :=
  ∀ (m : (ℓ : Loc Cert.Pscale.nD Cert.Pscale.τ Cert.Pscale.sig) → Buf (Elt Bits) ℓ) (g : Dev Cert.Pscale.nD → PrngReg), Pre_Pscale m →
    θ_run (Cert.Pscale.defs (F := Bits)) (onTc (τ := Cert.Pscale.τ) (Cert.Pscale.main (F := Bits))) ⟨m, fun _ => 0, g⟩ (fun r => (∀ c : Dev Cert.Pscale.nD,
      r.2.mem ((c.tc : Thread Cert.Pscale.nD Cert.Pscale.τ).loc Cert.Pscale.main_arg0) = m ((c.tc : Thread Cert.Pscale.nD Cert.Pscale.τ).loc Cert.Pscale.main_arg0)
      ∧ r.2.mem ((c.tc : Thread Cert.Pscale.nD Cert.Pscale.τ).loc Cert.Pscale.main_arg1) = m ((c.tc : Thread Cert.Pscale.nD Cert.Pscale.τ).loc Cert.Pscale.main_arg1)
      ∧ r.2.mem ((c.tc : Thread Cert.Pscale.nD Cert.Pscale.τ).loc Cert.Pscale.main_arg2) = m ((c.tc : Thread Cert.Pscale.nD Cert.Pscale.τ).loc Cert.Pscale.main_arg2))
      ∧ r.2.sem = fun _ => 0)

def quiescent_PscaleIdeal [hPscaleIdeal : Cert.PscaleIdeal.Facts] : Prop :=
  ∀ (m : (ℓ : Loc Cert.PscaleIdeal.nD Cert.PscaleIdeal.τ Cert.PscaleIdeal.sig) → Buf (Elt Ideal) ℓ) (g : Dev Cert.PscaleIdeal.nD → PrngReg), Pre_PscaleIdeal m →
    θ_run (Cert.PscaleIdeal.defs (F := Ideal)) (onTc (τ := Cert.PscaleIdeal.τ) (Cert.PscaleIdeal.main (F := Ideal))) ⟨m, fun _ => 0, g⟩ (fun r => (∀ c : Dev Cert.PscaleIdeal.nD,
      r.2.mem ((c.tc : Thread Cert.PscaleIdeal.nD Cert.PscaleIdeal.τ).loc Cert.PscaleIdeal.main_arg0) = m ((c.tc : Thread Cert.PscaleIdeal.nD Cert.PscaleIdeal.τ).loc Cert.PscaleIdeal.main_arg0)
      ∧ r.2.mem ((c.tc : Thread Cert.PscaleIdeal.nD Cert.PscaleIdeal.τ).loc Cert.PscaleIdeal.main_arg1) = m ((c.tc : Thread Cert.PscaleIdeal.nD Cert.PscaleIdeal.τ).loc Cert.PscaleIdeal.main_arg1)
      ∧ r.2.mem ((c.tc : Thread Cert.PscaleIdeal.nD Cert.PscaleIdeal.τ).loc Cert.PscaleIdeal.main_arg2) = m ((c.tc : Thread Cert.PscaleIdeal.nD Cert.PscaleIdeal.τ).loc Cert.PscaleIdeal.main_arg2))
      ∧ r.2.sem = fun _ => 0)

def quiescent_RefPscaleIdeal [hRefPscaleIdeal : Cert.RefPscaleIdeal.Facts] : Prop :=
  ∀ (m : (ℓ : Loc Cert.RefPscaleIdeal.nD Cert.RefPscaleIdeal.τ Cert.RefPscaleIdeal.sig) → Buf (Elt Ideal) ℓ) (g : Dev Cert.RefPscaleIdeal.nD → PrngReg), Pre_RefPscaleIdeal m →
    θ_run (Cert.RefPscaleIdeal.defs (F := Ideal)) (onTc (τ := Cert.RefPscaleIdeal.τ) (Cert.RefPscaleIdeal.main (F := Ideal))) ⟨m, fun _ => 0, g⟩ (fun r => (∀ c : Dev Cert.RefPscaleIdeal.nD,
      r.2.mem ((c.tc : Thread Cert.RefPscaleIdeal.nD Cert.RefPscaleIdeal.τ).loc Cert.RefPscaleIdeal.main_arg0) = m ((c.tc : Thread Cert.RefPscaleIdeal.nD Cert.RefPscaleIdeal.τ).loc Cert.RefPscaleIdeal.main_arg0)
      ∧ r.2.mem ((c.tc : Thread Cert.RefPscaleIdeal.nD Cert.RefPscaleIdeal.τ).loc Cert.RefPscaleIdeal.main_arg1) = m ((c.tc : Thread Cert.RefPscaleIdeal.nD Cert.RefPscaleIdeal.τ).loc Cert.RefPscaleIdeal.main_arg1)
      ∧ r.2.mem ((c.tc : Thread Cert.RefPscaleIdeal.nD Cert.RefPscaleIdeal.τ).loc Cert.RefPscaleIdeal.main_arg2) = m ((c.tc : Thread Cert.RefPscaleIdeal.nD Cert.RefPscaleIdeal.τ).loc Cert.RefPscaleIdeal.main_arg2))
      ∧ r.2.sem = fun _ => 0)

def quiescent_S5bIdeal [hS5bIdeal : Cert.S5bIdeal.Facts] : Prop :=
  ∀ (m : (ℓ : Loc Cert.S5bIdeal.nD Cert.S5bIdeal.τ Cert.S5bIdeal.sig) → Buf (Elt Ideal) ℓ) (g : Dev Cert.S5bIdeal.nD → PrngReg), Pre_S5bIdeal m →
    θ_run (Cert.S5bIdeal.defs (F := Ideal)) (onTc (τ := Cert.S5bIdeal.τ) (Cert.S5bIdeal.main (F := Ideal))) ⟨m, fun _ => 0, g⟩ (fun r => (∀ c : Dev Cert.S5bIdeal.nD,
      r.2.mem ((c.tc : Thread Cert.S5bIdeal.nD Cert.S5bIdeal.τ).loc Cert.S5bIdeal.main_arg0) = m ((c.tc : Thread Cert.S5bIdeal.nD Cert.S5bIdeal.τ).loc Cert.S5bIdeal.main_arg0)
      ∧ r.2.mem ((c.tc : Thread Cert.S5bIdeal.nD Cert.S5bIdeal.τ).loc Cert.S5bIdeal.main_arg1) = m ((c.tc : Thread Cert.S5bIdeal.nD Cert.S5bIdeal.τ).loc Cert.S5bIdeal.main_arg1)
      ∧ r.2.mem ((c.tc : Thread Cert.S5bIdeal.nD Cert.S5bIdeal.τ).loc Cert.S5bIdeal.main_arg2) = m ((c.tc : Thread Cert.S5bIdeal.nD Cert.S5bIdeal.τ).loc Cert.S5bIdeal.main_arg2)
      ∧ r.2.mem ((c.tc : Thread Cert.S5bIdeal.nD Cert.S5bIdeal.τ).loc Cert.S5bIdeal.main_arg3) = m ((c.tc : Thread Cert.S5bIdeal.nD Cert.S5bIdeal.τ).loc Cert.S5bIdeal.main_arg3)
      ∧ r.2.mem ((c.tc : Thread Cert.S5bIdeal.nD Cert.S5bIdeal.τ).loc Cert.S5bIdeal.main_arg4) = m ((c.tc : Thread Cert.S5bIdeal.nD Cert.S5bIdeal.τ).loc Cert.S5bIdeal.main_arg4)
      ∧ r.2.mem ((c.tc : Thread Cert.S5bIdeal.nD Cert.S5bIdeal.τ).loc Cert.S5bIdeal.main_arg5) = m ((c.tc : Thread Cert.S5bIdeal.nD Cert.S5bIdeal.τ).loc Cert.S5bIdeal.main_arg5)
      ∧ r.2.mem ((c.tc : Thread Cert.S5bIdeal.nD Cert.S5bIdeal.τ).loc Cert.S5bIdeal.main_arg6) = m ((c.tc : Thread Cert.S5bIdeal.nD Cert.S5bIdeal.τ).loc Cert.S5bIdeal.main_arg6)
      ∧ r.2.mem ((c.tc : Thread Cert.S5bIdeal.nD Cert.S5bIdeal.τ).loc Cert.S5bIdeal.main_arg7) = m ((c.tc : Thread Cert.S5bIdeal.nD Cert.S5bIdeal.τ).loc Cert.S5bIdeal.main_arg7)
      ∧ r.2.mem ((c.tc : Thread Cert.S5bIdeal.nD Cert.S5bIdeal.τ).loc Cert.S5bIdeal.main_arg8) = m ((c.tc : Thread Cert.S5bIdeal.nD Cert.S5bIdeal.τ).loc Cert.S5bIdeal.main_arg8)
      ∧ r.2.mem ((c.tc : Thread Cert.S5bIdeal.nD Cert.S5bIdeal.τ).loc Cert.S5bIdeal.main_arg9) = m ((c.tc : Thread Cert.S5bIdeal.nD Cert.S5bIdeal.τ).loc Cert.S5bIdeal.main_arg9)
      ∧ r.2.mem ((c.tc : Thread Cert.S5bIdeal.nD Cert.S5bIdeal.τ).loc Cert.S5bIdeal.main_arg10) = m ((c.tc : Thread Cert.S5bIdeal.nD Cert.S5bIdeal.τ).loc Cert.S5bIdeal.main_arg10)
      ∧ r.2.mem ((c.tc : Thread Cert.S5bIdeal.nD Cert.S5bIdeal.τ).loc Cert.S5bIdeal.main_arg11) = m ((c.tc : Thread Cert.S5bIdeal.nD Cert.S5bIdeal.τ).loc Cert.S5bIdeal.main_arg11)
      ∧ r.2.mem ((c.tc : Thread Cert.S5bIdeal.nD Cert.S5bIdeal.τ).loc Cert.S5bIdeal.main_arg12) = m ((c.tc : Thread Cert.S5bIdeal.nD Cert.S5bIdeal.τ).loc Cert.S5bIdeal.main_arg12))
      ∧ r.2.sem = fun _ => 0)

def quiescent_RefS5bIdeal [hRefS5bIdeal : Cert.RefS5bIdeal.Facts] : Prop :=
  ∀ (m : (ℓ : Loc Cert.RefS5bIdeal.nD Cert.RefS5bIdeal.τ Cert.RefS5bIdeal.sig) → Buf (Elt Ideal) ℓ) (g : Dev Cert.RefS5bIdeal.nD → PrngReg), Pre_RefS5bIdeal m →
    θ_run (Cert.RefS5bIdeal.defs (F := Ideal)) (onTc (τ := Cert.RefS5bIdeal.τ) (Cert.RefS5bIdeal.main (F := Ideal))) ⟨m, fun _ => 0, g⟩ (fun r => (∀ c : Dev Cert.RefS5bIdeal.nD,
      r.2.mem ((c.tc : Thread Cert.RefS5bIdeal.nD Cert.RefS5bIdeal.τ).loc Cert.RefS5bIdeal.main_arg0) = m ((c.tc : Thread Cert.RefS5bIdeal.nD Cert.RefS5bIdeal.τ).loc Cert.RefS5bIdeal.main_arg0)
      ∧ r.2.mem ((c.tc : Thread Cert.RefS5bIdeal.nD Cert.RefS5bIdeal.τ).loc Cert.RefS5bIdeal.main_arg1) = m ((c.tc : Thread Cert.RefS5bIdeal.nD Cert.RefS5bIdeal.τ).loc Cert.RefS5bIdeal.main_arg1)
      ∧ r.2.mem ((c.tc : Thread Cert.RefS5bIdeal.nD Cert.RefS5bIdeal.τ).loc Cert.RefS5bIdeal.main_arg2) = m ((c.tc : Thread Cert.RefS5bIdeal.nD Cert.RefS5bIdeal.τ).loc Cert.RefS5bIdeal.main_arg2)
      ∧ r.2.mem ((c.tc : Thread Cert.RefS5bIdeal.nD Cert.RefS5bIdeal.τ).loc Cert.RefS5bIdeal.main_arg3) = m ((c.tc : Thread Cert.RefS5bIdeal.nD Cert.RefS5bIdeal.τ).loc Cert.RefS5bIdeal.main_arg3)
      ∧ r.2.mem ((c.tc : Thread Cert.RefS5bIdeal.nD Cert.RefS5bIdeal.τ).loc Cert.RefS5bIdeal.main_arg4) = m ((c.tc : Thread Cert.RefS5bIdeal.nD Cert.RefS5bIdeal.τ).loc Cert.RefS5bIdeal.main_arg4)
      ∧ r.2.mem ((c.tc : Thread Cert.RefS5bIdeal.nD Cert.RefS5bIdeal.τ).loc Cert.RefS5bIdeal.main_arg5) = m ((c.tc : Thread Cert.RefS5bIdeal.nD Cert.RefS5bIdeal.τ).loc Cert.RefS5bIdeal.main_arg5)
      ∧ r.2.mem ((c.tc : Thread Cert.RefS5bIdeal.nD Cert.RefS5bIdeal.τ).loc Cert.RefS5bIdeal.main_arg6) = m ((c.tc : Thread Cert.RefS5bIdeal.nD Cert.RefS5bIdeal.τ).loc Cert.RefS5bIdeal.main_arg6)
      ∧ r.2.mem ((c.tc : Thread Cert.RefS5bIdeal.nD Cert.RefS5bIdeal.τ).loc Cert.RefS5bIdeal.main_arg7) = m ((c.tc : Thread Cert.RefS5bIdeal.nD Cert.RefS5bIdeal.τ).loc Cert.RefS5bIdeal.main_arg7)
      ∧ r.2.mem ((c.tc : Thread Cert.RefS5bIdeal.nD Cert.RefS5bIdeal.τ).loc Cert.RefS5bIdeal.main_arg8) = m ((c.tc : Thread Cert.RefS5bIdeal.nD Cert.RefS5bIdeal.τ).loc Cert.RefS5bIdeal.main_arg8)
      ∧ r.2.mem ((c.tc : Thread Cert.RefS5bIdeal.nD Cert.RefS5bIdeal.τ).loc Cert.RefS5bIdeal.main_arg9) = m ((c.tc : Thread Cert.RefS5bIdeal.nD Cert.RefS5bIdeal.τ).loc Cert.RefS5bIdeal.main_arg9)
      ∧ r.2.mem ((c.tc : Thread Cert.RefS5bIdeal.nD Cert.RefS5bIdeal.τ).loc Cert.RefS5bIdeal.main_arg10) = m ((c.tc : Thread Cert.RefS5bIdeal.nD Cert.RefS5bIdeal.τ).loc Cert.RefS5bIdeal.main_arg10)
      ∧ r.2.mem ((c.tc : Thread Cert.RefS5bIdeal.nD Cert.RefS5bIdeal.τ).loc Cert.RefS5bIdeal.main_arg11) = m ((c.tc : Thread Cert.RefS5bIdeal.nD Cert.RefS5bIdeal.τ).loc Cert.RefS5bIdeal.main_arg11)
      ∧ r.2.mem ((c.tc : Thread Cert.RefS5bIdeal.nD Cert.RefS5bIdeal.τ).loc Cert.RefS5bIdeal.main_arg12) = m ((c.tc : Thread Cert.RefS5bIdeal.nD Cert.RefS5bIdeal.τ).loc Cert.RefS5bIdeal.main_arg12))
      ∧ r.2.sem = fun _ => 0)

def preserves_Dff2_Dff2Ideal : Prop :=
  True

def algebraic_Dff2Ideal_RefDff2Ideal [hDff2Ideal : Cert.Dff2Ideal.Facts] [hRefDff2Ideal : Cert.RefDff2Ideal.Facts] : Prop :=
  ∀ (m : (ℓ : Loc Cert.Dff2Ideal.nD Cert.Dff2Ideal.τ Cert.Dff2Ideal.sig) → Buf (Elt Ideal) ℓ) (g : Dev Cert.Dff2Ideal.nD → PrngReg)
    (m' : (ℓ : Loc Cert.RefDff2Ideal.nD Cert.RefDff2Ideal.τ Cert.RefDff2Ideal.sig) → Buf (Elt Ideal) ℓ) (g' : Dev Cert.RefDff2Ideal.nD → PrngReg), Pre_Dff2Ideal m →
    (∀ c : Dev Cert.Dff2Ideal.nD,
      m' ((c.tc : Thread Cert.RefDff2Ideal.nD Cert.RefDff2Ideal.τ).loc Cert.RefDff2Ideal.main_arg0) = m ((c.tc : Thread Cert.Dff2Ideal.nD Cert.Dff2Ideal.τ).loc Cert.Dff2Ideal.main_arg0)
      ∧ m' ((c.tc : Thread Cert.RefDff2Ideal.nD Cert.RefDff2Ideal.τ).loc Cert.RefDff2Ideal.main_arg1) = m ((c.tc : Thread Cert.Dff2Ideal.nD Cert.Dff2Ideal.τ).loc Cert.Dff2Ideal.main_arg1)
      ∧ m' ((c.tc : Thread Cert.RefDff2Ideal.nD Cert.RefDff2Ideal.τ).loc Cert.RefDff2Ideal.main_arg2) = m ((c.tc : Thread Cert.Dff2Ideal.nD Cert.Dff2Ideal.τ).loc Cert.Dff2Ideal.main_arg2)) →
    ∃ (v0 : (c : Dev Cert.Dff2Ideal.nD) → Buf (Elt Ideal) ((c.tc : Thread Cert.Dff2Ideal.nD Cert.Dff2Ideal.τ).loc Cert.Dff2Ideal.main_v5)),
      θ_run (Cert.Dff2Ideal.defs (F := Ideal)) (onTc (τ := Cert.Dff2Ideal.τ) (Cert.Dff2Ideal.main (F := Ideal))) ⟨m, fun _ => 0, g⟩ (fun r => ∀ c : Dev Cert.Dff2Ideal.nD,
          r.2.mem ((c.tc : Thread Cert.Dff2Ideal.nD Cert.Dff2Ideal.τ).loc Cert.Dff2Ideal.main_v5) = v0 c
          ∧ r.2.mem ((c.tc : Thread Cert.Dff2Ideal.nD Cert.Dff2Ideal.τ).loc Cert.Dff2Ideal.main_arg0) = m ((c.tc : Thread Cert.Dff2Ideal.nD Cert.Dff2Ideal.τ).loc Cert.Dff2Ideal.main_arg0)
          ∧ r.2.mem ((c.tc : Thread Cert.Dff2Ideal.nD Cert.Dff2Ideal.τ).loc Cert.Dff2Ideal.main_arg1) = m ((c.tc : Thread Cert.Dff2Ideal.nD Cert.Dff2Ideal.τ).loc Cert.Dff2Ideal.main_arg1)
          ∧ r.2.mem ((c.tc : Thread Cert.Dff2Ideal.nD Cert.Dff2Ideal.τ).loc Cert.Dff2Ideal.main_arg2) = m ((c.tc : Thread Cert.Dff2Ideal.nD Cert.Dff2Ideal.τ).loc Cert.Dff2Ideal.main_arg2))
      ∧ θ_run (Cert.RefDff2Ideal.defs (F := Ideal)) (onTc (τ := Cert.RefDff2Ideal.τ) (Cert.RefDff2Ideal.main (F := Ideal))) ⟨m', fun _ => 0, g'⟩ (fun r => ∀ c : Dev Cert.RefDff2Ideal.nD,
          r.2.mem ((c.tc : Thread Cert.RefDff2Ideal.nD Cert.RefDff2Ideal.τ).loc Cert.RefDff2Ideal.main_v13) = v0 c
          ∧ r.2.mem ((c.tc : Thread Cert.RefDff2Ideal.nD Cert.RefDff2Ideal.τ).loc Cert.RefDff2Ideal.main_arg0) = m' ((c.tc : Thread Cert.RefDff2Ideal.nD Cert.RefDff2Ideal.τ).loc Cert.RefDff2Ideal.main_arg0)
          ∧ r.2.mem ((c.tc : Thread Cert.RefDff2Ideal.nD Cert.RefDff2Ideal.τ).loc Cert.RefDff2Ideal.main_arg1) = m' ((c.tc : Thread Cert.RefDff2Ideal.nD Cert.RefDff2Ideal.τ).loc Cert.RefDff2Ideal.main_arg1)
          ∧ r.2.mem ((c.tc : Thread Cert.RefDff2Ideal.nD Cert.RefDff2Ideal.τ).loc Cert.RefDff2Ideal.main_arg2) = m' ((c.tc : Thread Cert.RefDff2Ideal.nD Cert.RefDff2Ideal.τ).loc Cert.RefDff2Ideal.main_arg2))

def preserves_Gff2_Gff2Ideal : Prop :=
  True

def algebraic_Gff2Ideal_RefGff2Ideal [hGff2Ideal : Cert.Gff2Ideal.Facts] [hRefGff2Ideal : Cert.RefGff2Ideal.Facts] : Prop :=
  ∀ (m : (ℓ : Loc Cert.Gff2Ideal.nD Cert.Gff2Ideal.τ Cert.Gff2Ideal.sig) → Buf (Elt Ideal) ℓ) (g : Dev Cert.Gff2Ideal.nD → PrngReg)
    (m' : (ℓ : Loc Cert.RefGff2Ideal.nD Cert.RefGff2Ideal.τ Cert.RefGff2Ideal.sig) → Buf (Elt Ideal) ℓ) (g' : Dev Cert.RefGff2Ideal.nD → PrngReg), Pre_Gff2Ideal m →
    (∀ c : Dev Cert.Gff2Ideal.nD,
      m' ((c.tc : Thread Cert.RefGff2Ideal.nD Cert.RefGff2Ideal.τ).loc Cert.RefGff2Ideal.main_arg0) = m ((c.tc : Thread Cert.Gff2Ideal.nD Cert.Gff2Ideal.τ).loc Cert.Gff2Ideal.main_arg0)
      ∧ m' ((c.tc : Thread Cert.RefGff2Ideal.nD Cert.RefGff2Ideal.τ).loc Cert.RefGff2Ideal.main_arg1) = m ((c.tc : Thread Cert.Gff2Ideal.nD Cert.Gff2Ideal.τ).loc Cert.Gff2Ideal.main_arg1)
      ∧ m' ((c.tc : Thread Cert.RefGff2Ideal.nD Cert.RefGff2Ideal.τ).loc Cert.RefGff2Ideal.main_arg2) = m ((c.tc : Thread Cert.Gff2Ideal.nD Cert.Gff2Ideal.τ).loc Cert.Gff2Ideal.main_arg2)) →
    ∃ (v0 : (c : Dev Cert.Gff2Ideal.nD) → Buf (Elt Ideal) ((c.tc : Thread Cert.Gff2Ideal.nD Cert.Gff2Ideal.τ).loc Cert.Gff2Ideal.main_v3)),
      θ_run (Cert.Gff2Ideal.defs (F := Ideal)) (onTc (τ := Cert.Gff2Ideal.τ) (Cert.Gff2Ideal.main (F := Ideal))) ⟨m, fun _ => 0, g⟩ (fun r => ∀ c : Dev Cert.Gff2Ideal.nD,
          r.2.mem ((c.tc : Thread Cert.Gff2Ideal.nD Cert.Gff2Ideal.τ).loc Cert.Gff2Ideal.main_v3) = v0 c
          ∧ r.2.mem ((c.tc : Thread Cert.Gff2Ideal.nD Cert.Gff2Ideal.τ).loc Cert.Gff2Ideal.main_arg0) = m ((c.tc : Thread Cert.Gff2Ideal.nD Cert.Gff2Ideal.τ).loc Cert.Gff2Ideal.main_arg0)
          ∧ r.2.mem ((c.tc : Thread Cert.Gff2Ideal.nD Cert.Gff2Ideal.τ).loc Cert.Gff2Ideal.main_arg1) = m ((c.tc : Thread Cert.Gff2Ideal.nD Cert.Gff2Ideal.τ).loc Cert.Gff2Ideal.main_arg1)
          ∧ r.2.mem ((c.tc : Thread Cert.Gff2Ideal.nD Cert.Gff2Ideal.τ).loc Cert.Gff2Ideal.main_arg2) = m ((c.tc : Thread Cert.Gff2Ideal.nD Cert.Gff2Ideal.τ).loc Cert.Gff2Ideal.main_arg2))
      ∧ θ_run (Cert.RefGff2Ideal.defs (F := Ideal)) (onTc (τ := Cert.RefGff2Ideal.τ) (Cert.RefGff2Ideal.main (F := Ideal))) ⟨m', fun _ => 0, g'⟩ (fun r => ∀ c : Dev Cert.RefGff2Ideal.nD,
          r.2.mem ((c.tc : Thread Cert.RefGff2Ideal.nD Cert.RefGff2Ideal.τ).loc Cert.RefGff2Ideal.main_v6) = v0 c
          ∧ r.2.mem ((c.tc : Thread Cert.RefGff2Ideal.nD Cert.RefGff2Ideal.τ).loc Cert.RefGff2Ideal.main_arg0) = m' ((c.tc : Thread Cert.RefGff2Ideal.nD Cert.RefGff2Ideal.τ).loc Cert.RefGff2Ideal.main_arg0)
          ∧ r.2.mem ((c.tc : Thread Cert.RefGff2Ideal.nD Cert.RefGff2Ideal.τ).loc Cert.RefGff2Ideal.main_arg1) = m' ((c.tc : Thread Cert.RefGff2Ideal.nD Cert.RefGff2Ideal.τ).loc Cert.RefGff2Ideal.main_arg1)
          ∧ r.2.mem ((c.tc : Thread Cert.RefGff2Ideal.nD Cert.RefGff2Ideal.τ).loc Cert.RefGff2Ideal.main_arg2) = m' ((c.tc : Thread Cert.RefGff2Ideal.nD Cert.RefGff2Ideal.τ).loc Cert.RefGff2Ideal.main_arg2))

def preserves_Gff1_Gff1Ideal : Prop :=
  True

def algebraic_Gff1Ideal_RefGff1Ideal [hGff1Ideal : Cert.Gff1Ideal.Facts] [hRefGff1Ideal : Cert.RefGff1Ideal.Facts] : Prop :=
  ∀ (m : (ℓ : Loc Cert.Gff1Ideal.nD Cert.Gff1Ideal.τ Cert.Gff1Ideal.sig) → Buf (Elt Ideal) ℓ) (g : Dev Cert.Gff1Ideal.nD → PrngReg)
    (m' : (ℓ : Loc Cert.RefGff1Ideal.nD Cert.RefGff1Ideal.τ Cert.RefGff1Ideal.sig) → Buf (Elt Ideal) ℓ) (g' : Dev Cert.RefGff1Ideal.nD → PrngReg), Pre_Gff1Ideal m →
    (∀ c : Dev Cert.Gff1Ideal.nD,
      m' ((c.tc : Thread Cert.RefGff1Ideal.nD Cert.RefGff1Ideal.τ).loc Cert.RefGff1Ideal.main_arg0) = m ((c.tc : Thread Cert.Gff1Ideal.nD Cert.Gff1Ideal.τ).loc Cert.Gff1Ideal.main_arg0)
      ∧ m' ((c.tc : Thread Cert.RefGff1Ideal.nD Cert.RefGff1Ideal.τ).loc Cert.RefGff1Ideal.main_arg1) = m ((c.tc : Thread Cert.Gff1Ideal.nD Cert.Gff1Ideal.τ).loc Cert.Gff1Ideal.main_arg1)
      ∧ m' ((c.tc : Thread Cert.RefGff1Ideal.nD Cert.RefGff1Ideal.τ).loc Cert.RefGff1Ideal.main_arg2) = m ((c.tc : Thread Cert.Gff1Ideal.nD Cert.Gff1Ideal.τ).loc Cert.Gff1Ideal.main_arg2)) →
    ∃ (v0 : (c : Dev Cert.Gff1Ideal.nD) → Buf (Elt Ideal) ((c.tc : Thread Cert.Gff1Ideal.nD Cert.Gff1Ideal.τ).loc Cert.Gff1Ideal.main_v1)),
      θ_run (Cert.Gff1Ideal.defs (F := Ideal)) (onTc (τ := Cert.Gff1Ideal.τ) (Cert.Gff1Ideal.main (F := Ideal))) ⟨m, fun _ => 0, g⟩ (fun r => ∀ c : Dev Cert.Gff1Ideal.nD,
          r.2.mem ((c.tc : Thread Cert.Gff1Ideal.nD Cert.Gff1Ideal.τ).loc Cert.Gff1Ideal.main_v1) = v0 c
          ∧ r.2.mem ((c.tc : Thread Cert.Gff1Ideal.nD Cert.Gff1Ideal.τ).loc Cert.Gff1Ideal.main_arg0) = m ((c.tc : Thread Cert.Gff1Ideal.nD Cert.Gff1Ideal.τ).loc Cert.Gff1Ideal.main_arg0)
          ∧ r.2.mem ((c.tc : Thread Cert.Gff1Ideal.nD Cert.Gff1Ideal.τ).loc Cert.Gff1Ideal.main_arg1) = m ((c.tc : Thread Cert.Gff1Ideal.nD Cert.Gff1Ideal.τ).loc Cert.Gff1Ideal.main_arg1)
          ∧ r.2.mem ((c.tc : Thread Cert.Gff1Ideal.nD Cert.Gff1Ideal.τ).loc Cert.Gff1Ideal.main_arg2) = m ((c.tc : Thread Cert.Gff1Ideal.nD Cert.Gff1Ideal.τ).loc Cert.Gff1Ideal.main_arg2))
      ∧ θ_run (Cert.RefGff1Ideal.defs (F := Ideal)) (onTc (τ := Cert.RefGff1Ideal.τ) (Cert.RefGff1Ideal.main (F := Ideal))) ⟨m', fun _ => 0, g'⟩ (fun r => ∀ c : Dev Cert.RefGff1Ideal.nD,
          r.2.mem ((c.tc : Thread Cert.RefGff1Ideal.nD Cert.RefGff1Ideal.τ).loc Cert.RefGff1Ideal.main_v6) = v0 c
          ∧ r.2.mem ((c.tc : Thread Cert.RefGff1Ideal.nD Cert.RefGff1Ideal.τ).loc Cert.RefGff1Ideal.main_arg0) = m' ((c.tc : Thread Cert.RefGff1Ideal.nD Cert.RefGff1Ideal.τ).loc Cert.RefGff1Ideal.main_arg0)
          ∧ r.2.mem ((c.tc : Thread Cert.RefGff1Ideal.nD Cert.RefGff1Ideal.τ).loc Cert.RefGff1Ideal.main_arg1) = m' ((c.tc : Thread Cert.RefGff1Ideal.nD Cert.RefGff1Ideal.τ).loc Cert.RefGff1Ideal.main_arg1)
          ∧ r.2.mem ((c.tc : Thread Cert.RefGff1Ideal.nD Cert.RefGff1Ideal.τ).loc Cert.RefGff1Ideal.main_arg2) = m' ((c.tc : Thread Cert.RefGff1Ideal.nD Cert.RefGff1Ideal.τ).loc Cert.RefGff1Ideal.main_arg2))

def preserves_Dff1_Dff1Ideal : Prop :=
  True

def algebraic_Dff1Ideal_RefDff1Ideal [hDff1Ideal : Cert.Dff1Ideal.Facts] [hRefDff1Ideal : Cert.RefDff1Ideal.Facts] : Prop :=
  ∀ (m : (ℓ : Loc Cert.Dff1Ideal.nD Cert.Dff1Ideal.τ Cert.Dff1Ideal.sig) → Buf (Elt Ideal) ℓ) (g : Dev Cert.Dff1Ideal.nD → PrngReg)
    (m' : (ℓ : Loc Cert.RefDff1Ideal.nD Cert.RefDff1Ideal.τ Cert.RefDff1Ideal.sig) → Buf (Elt Ideal) ℓ) (g' : Dev Cert.RefDff1Ideal.nD → PrngReg), Pre_Dff1Ideal m →
    (∀ c : Dev Cert.Dff1Ideal.nD,
      m' ((c.tc : Thread Cert.RefDff1Ideal.nD Cert.RefDff1Ideal.τ).loc Cert.RefDff1Ideal.main_arg0) = m ((c.tc : Thread Cert.Dff1Ideal.nD Cert.Dff1Ideal.τ).loc Cert.Dff1Ideal.main_arg0)
      ∧ m' ((c.tc : Thread Cert.RefDff1Ideal.nD Cert.RefDff1Ideal.τ).loc Cert.RefDff1Ideal.main_arg1) = m ((c.tc : Thread Cert.Dff1Ideal.nD Cert.Dff1Ideal.τ).loc Cert.Dff1Ideal.main_arg1)
      ∧ m' ((c.tc : Thread Cert.RefDff1Ideal.nD Cert.RefDff1Ideal.τ).loc Cert.RefDff1Ideal.main_arg2) = m ((c.tc : Thread Cert.Dff1Ideal.nD Cert.Dff1Ideal.τ).loc Cert.Dff1Ideal.main_arg2)) →
    ∃ (v0 : (c : Dev Cert.Dff1Ideal.nD) → Buf (Elt Ideal) ((c.tc : Thread Cert.Dff1Ideal.nD Cert.Dff1Ideal.τ).loc Cert.Dff1Ideal.main_v3)),
      θ_run (Cert.Dff1Ideal.defs (F := Ideal)) (onTc (τ := Cert.Dff1Ideal.τ) (Cert.Dff1Ideal.main (F := Ideal))) ⟨m, fun _ => 0, g⟩ (fun r => ∀ c : Dev Cert.Dff1Ideal.nD,
          r.2.mem ((c.tc : Thread Cert.Dff1Ideal.nD Cert.Dff1Ideal.τ).loc Cert.Dff1Ideal.main_v3) = v0 c
          ∧ r.2.mem ((c.tc : Thread Cert.Dff1Ideal.nD Cert.Dff1Ideal.τ).loc Cert.Dff1Ideal.main_arg0) = m ((c.tc : Thread Cert.Dff1Ideal.nD Cert.Dff1Ideal.τ).loc Cert.Dff1Ideal.main_arg0)
          ∧ r.2.mem ((c.tc : Thread Cert.Dff1Ideal.nD Cert.Dff1Ideal.τ).loc Cert.Dff1Ideal.main_arg1) = m ((c.tc : Thread Cert.Dff1Ideal.nD Cert.Dff1Ideal.τ).loc Cert.Dff1Ideal.main_arg1)
          ∧ r.2.mem ((c.tc : Thread Cert.Dff1Ideal.nD Cert.Dff1Ideal.τ).loc Cert.Dff1Ideal.main_arg2) = m ((c.tc : Thread Cert.Dff1Ideal.nD Cert.Dff1Ideal.τ).loc Cert.Dff1Ideal.main_arg2))
      ∧ θ_run (Cert.RefDff1Ideal.defs (F := Ideal)) (onTc (τ := Cert.RefDff1Ideal.τ) (Cert.RefDff1Ideal.main (F := Ideal))) ⟨m', fun _ => 0, g'⟩ (fun r => ∀ c : Dev Cert.RefDff1Ideal.nD,
          r.2.mem ((c.tc : Thread Cert.RefDff1Ideal.nD Cert.RefDff1Ideal.τ).loc Cert.RefDff1Ideal.main_v2) = v0 c
          ∧ r.2.mem ((c.tc : Thread Cert.RefDff1Ideal.nD Cert.RefDff1Ideal.τ).loc Cert.RefDff1Ideal.main_arg0) = m' ((c.tc : Thread Cert.RefDff1Ideal.nD Cert.RefDff1Ideal.τ).loc Cert.RefDff1Ideal.main_arg0)
          ∧ r.2.mem ((c.tc : Thread Cert.RefDff1Ideal.nD Cert.RefDff1Ideal.τ).loc Cert.RefDff1Ideal.main_arg1) = m' ((c.tc : Thread Cert.RefDff1Ideal.nD Cert.RefDff1Ideal.τ).loc Cert.RefDff1Ideal.main_arg1)
          ∧ r.2.mem ((c.tc : Thread Cert.RefDff1Ideal.nD Cert.RefDff1Ideal.τ).loc Cert.RefDff1Ideal.main_arg2) = m' ((c.tc : Thread Cert.RefDff1Ideal.nD Cert.RefDff1Ideal.τ).loc Cert.RefDff1Ideal.main_arg2))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v8_0)) (v1 : (c : Dev Cert.MergeIdeal.nD) → Buf (Elt Ideal) ((c.tc : Thread Cert.MergeIdeal.nD Cert.MergeIdeal.τ).loc Cert.MergeIdeal.main_v8_1)) (v2 : (c : Dev Cert.MergeIdeal.nD) → Buf (Elt Ideal) ((c.tc : Thread Cert.MergeIdeal.nD Cert.MergeIdeal.τ).loc Cert.MergeIdeal.main_v8_2)) (v3 : (c : Dev Cert.MergeIdeal.nD) → Buf (Elt Ideal) ((c.tc : Thread Cert.MergeIdeal.nD Cert.MergeIdeal.τ).loc Cert.MergeIdeal.main_v8_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8_0) = v0 c
          ∧ r.2.mem ((c.tc : Thread Cert.MergeIdeal.nD Cert.MergeIdeal.τ).loc Cert.MergeIdeal.main_v8_1) = v1 c
          ∧ r.2.mem ((c.tc : Thread Cert.MergeIdeal.nD Cert.MergeIdeal.τ).loc Cert.MergeIdeal.main_v8_2) = v2 c
          ∧ r.2.mem ((c.tc : Thread Cert.MergeIdeal.nD Cert.MergeIdeal.τ).loc Cert.MergeIdeal.main_v8_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v49) = v0 c
          ∧ r.2.mem ((c.tc : Thread Cert.RefMergeIdeal.nD Cert.RefMergeIdeal.τ).loc Cert.RefMergeIdeal.main_v50) = v1 c
          ∧ r.2.mem ((c.tc : Thread Cert.RefMergeIdeal.nD Cert.RefMergeIdeal.τ).loc Cert.RefMergeIdeal.main_v51) = v2 c
          ∧ r.2.mem ((c.tc : Thread Cert.RefMergeIdeal.nD Cert.RefMergeIdeal.τ).loc Cert.RefMergeIdeal.main_v52) = v3 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4))

def preserves_Gin_GinIdeal : Prop :=
  True

def algebraic_GinIdeal_RefGinIdeal [hGinIdeal : Cert.GinIdeal.Facts] [hRefGinIdeal : Cert.RefGinIdeal.Facts] : Prop :=
  ∀ (m : (ℓ : Loc Cert.GinIdeal.nD Cert.GinIdeal.τ Cert.GinIdeal.sig) → Buf (Elt Ideal) ℓ) (g : Dev Cert.GinIdeal.nD → PrngReg)
    (m' : (ℓ : Loc Cert.RefGinIdeal.nD Cert.RefGinIdeal.τ Cert.RefGinIdeal.sig) → Buf (Elt Ideal) ℓ) (g' : Dev Cert.RefGinIdeal.nD → PrngReg), Pre_GinIdeal m →
    (∀ c : Dev Cert.GinIdeal.nD,
      m' ((c.tc : Thread Cert.RefGinIdeal.nD Cert.RefGinIdeal.τ).loc Cert.RefGinIdeal.main_arg0) = m ((c.tc : Thread Cert.GinIdeal.nD Cert.GinIdeal.τ).loc Cert.GinIdeal.main_arg0)
      ∧ m' ((c.tc : Thread Cert.RefGinIdeal.nD Cert.RefGinIdeal.τ).loc Cert.RefGinIdeal.main_arg1) = m ((c.tc : Thread Cert.GinIdeal.nD Cert.GinIdeal.τ).loc Cert.GinIdeal.main_arg1)
      ∧ m' ((c.tc : Thread Cert.RefGinIdeal.nD Cert.RefGinIdeal.τ).loc Cert.RefGinIdeal.main_arg2) = m ((c.tc : Thread Cert.GinIdeal.nD Cert.GinIdeal.τ).loc Cert.GinIdeal.main_arg2)) →
    ∃ (v0 : (c : Dev Cert.GinIdeal.nD) → Buf (Elt Ideal) ((c.tc : Thread Cert.GinIdeal.nD Cert.GinIdeal.τ).loc Cert.GinIdeal.main_v1)),
      θ_run (Cert.GinIdeal.defs (F := Ideal)) (onTc (τ := Cert.GinIdeal.τ) (Cert.GinIdeal.main (F := Ideal))) ⟨m, fun _ => 0, g⟩ (fun r => ∀ c : Dev Cert.GinIdeal.nD,
          r.2.mem ((c.tc : Thread Cert.GinIdeal.nD Cert.GinIdeal.τ).loc Cert.GinIdeal.main_v1) = v0 c
          ∧ r.2.mem ((c.tc : Thread Cert.GinIdeal.nD Cert.GinIdeal.τ).loc Cert.GinIdeal.main_arg0) = m ((c.tc : Thread Cert.GinIdeal.nD Cert.GinIdeal.τ).loc Cert.GinIdeal.main_arg0)
          ∧ r.2.mem ((c.tc : Thread Cert.GinIdeal.nD Cert.GinIdeal.τ).loc Cert.GinIdeal.main_arg1) = m ((c.tc : Thread Cert.GinIdeal.nD Cert.GinIdeal.τ).loc Cert.GinIdeal.main_arg1)
          ∧ r.2.mem ((c.tc : Thread Cert.GinIdeal.nD Cert.GinIdeal.τ).loc Cert.GinIdeal.main_arg2) = m ((c.tc : Thread Cert.GinIdeal.nD Cert.GinIdeal.τ).loc Cert.GinIdeal.main_arg2))
      ∧ θ_run (Cert.RefGinIdeal.defs (F := Ideal)) (onTc (τ := Cert.RefGinIdeal.τ) (Cert.RefGinIdeal.main (F := Ideal))) ⟨m', fun _ => 0, g'⟩ (fun r => ∀ c : Dev Cert.RefGinIdeal.nD,
          r.2.mem ((c.tc : Thread Cert.RefGinIdeal.nD Cert.RefGinIdeal.τ).loc Cert.RefGinIdeal.main_v6) = v0 c
          ∧ r.2.mem ((c.tc : Thread Cert.RefGinIdeal.nD Cert.RefGinIdeal.τ).loc Cert.RefGinIdeal.main_arg0) = m' ((c.tc : Thread Cert.RefGinIdeal.nD Cert.RefGinIdeal.τ).loc Cert.RefGinIdeal.main_arg0)
          ∧ r.2.mem ((c.tc : Thread Cert.RefGinIdeal.nD Cert.RefGinIdeal.τ).loc Cert.RefGinIdeal.main_arg1) = m' ((c.tc : Thread Cert.RefGinIdeal.nD Cert.RefGinIdeal.τ).loc Cert.RefGinIdeal.main_arg1)
          ∧ r.2.mem ((c.tc : Thread Cert.RefGinIdeal.nD Cert.RefGinIdeal.τ).loc Cert.RefGinIdeal.main_arg2) = m' ((c.tc : Thread Cert.RefGinIdeal.nD Cert.RefGinIdeal.τ).loc Cert.RefGinIdeal.main_arg2))

def preserves_Dproj_DprojIdeal : Prop :=
  True

def algebraic_DprojIdeal_RefDprojIdeal [hDprojIdeal : Cert.DprojIdeal.Facts] [hRefDprojIdeal : Cert.RefDprojIdeal.Facts] : Prop :=
  ∀ (m : (ℓ : Loc Cert.DprojIdeal.nD Cert.DprojIdeal.τ Cert.DprojIdeal.sig) → Buf (Elt Ideal) ℓ) (g : Dev Cert.DprojIdeal.nD → PrngReg)
    (m' : (ℓ : Loc Cert.RefDprojIdeal.nD Cert.RefDprojIdeal.τ Cert.RefDprojIdeal.sig) → Buf (Elt Ideal) ℓ) (g' : Dev Cert.RefDprojIdeal.nD → PrngReg), Pre_DprojIdeal m →
    (∀ c : Dev Cert.DprojIdeal.nD,
      m' ((c.tc : Thread Cert.RefDprojIdeal.nD Cert.RefDprojIdeal.τ).loc Cert.RefDprojIdeal.main_arg0) = m ((c.tc : Thread Cert.DprojIdeal.nD Cert.DprojIdeal.τ).loc Cert.DprojIdeal.main_arg0)
      ∧ m' ((c.tc : Thread Cert.RefDprojIdeal.nD Cert.RefDprojIdeal.τ).loc Cert.RefDprojIdeal.main_arg1) = m ((c.tc : Thread Cert.DprojIdeal.nD Cert.DprojIdeal.τ).loc Cert.DprojIdeal.main_arg1)
      ∧ m' ((c.tc : Thread Cert.RefDprojIdeal.nD Cert.RefDprojIdeal.τ).loc Cert.RefDprojIdeal.main_arg2) = m ((c.tc : Thread Cert.DprojIdeal.nD Cert.DprojIdeal.τ).loc Cert.DprojIdeal.main_arg2)) →
    ∃ (v0 : (c : Dev Cert.DprojIdeal.nD) → Buf (Elt Ideal) ((c.tc : Thread Cert.DprojIdeal.nD Cert.DprojIdeal.τ).loc Cert.DprojIdeal.main_v3)),
      θ_run (Cert.DprojIdeal.defs (F := Ideal)) (onTc (τ := Cert.DprojIdeal.τ) (Cert.DprojIdeal.main (F := Ideal))) ⟨m, fun _ => 0, g⟩ (fun r => ∀ c : Dev Cert.DprojIdeal.nD,
          r.2.mem ((c.tc : Thread Cert.DprojIdeal.nD Cert.DprojIdeal.τ).loc Cert.DprojIdeal.main_v3) = v0 c
          ∧ r.2.mem ((c.tc : Thread Cert.DprojIdeal.nD Cert.DprojIdeal.τ).loc Cert.DprojIdeal.main_arg0) = m ((c.tc : Thread Cert.DprojIdeal.nD Cert.DprojIdeal.τ).loc Cert.DprojIdeal.main_arg0)
          ∧ r.2.mem ((c.tc : Thread Cert.DprojIdeal.nD Cert.DprojIdeal.τ).loc Cert.DprojIdeal.main_arg1) = m ((c.tc : Thread Cert.DprojIdeal.nD Cert.DprojIdeal.τ).loc Cert.DprojIdeal.main_arg1)
          ∧ r.2.mem ((c.tc : Thread Cert.DprojIdeal.nD Cert.DprojIdeal.τ).loc Cert.DprojIdeal.main_arg2) = m ((c.tc : Thread Cert.DprojIdeal.nD Cert.DprojIdeal.τ).loc Cert.DprojIdeal.main_arg2))
      ∧ θ_run (Cert.RefDprojIdeal.defs (F := Ideal)) (onTc (τ := Cert.RefDprojIdeal.τ) (Cert.RefDprojIdeal.main (F := Ideal))) ⟨m', fun _ => 0, g'⟩ (fun r => ∀ c : Dev Cert.RefDprojIdeal.nD,
          r.2.mem ((c.tc : Thread Cert.RefDprojIdeal.nD Cert.RefDprojIdeal.τ).loc Cert.RefDprojIdeal.main_v2) = v0 c
          ∧ r.2.mem ((c.tc : Thread Cert.RefDprojIdeal.nD Cert.RefDprojIdeal.τ).loc Cert.RefDprojIdeal.main_arg0) = m' ((c.tc : Thread Cert.RefDprojIdeal.nD Cert.RefDprojIdeal.τ).loc Cert.RefDprojIdeal.main_arg0)
          ∧ r.2.mem ((c.tc : Thread Cert.RefDprojIdeal.nD Cert.RefDprojIdeal.τ).loc Cert.RefDprojIdeal.main_arg1) = m' ((c.tc : Thread Cert.RefDprojIdeal.nD Cert.RefDprojIdeal.τ).loc Cert.RefDprojIdeal.main_arg1)
          ∧ r.2.mem ((c.tc : Thread Cert.RefDprojIdeal.nD Cert.RefDprojIdeal.τ).loc Cert.RefDprojIdeal.main_arg2) = m' ((c.tc : Thread Cert.RefDprojIdeal.nD Cert.RefDprojIdeal.τ).loc Cert.RefDprojIdeal.main_arg2))

def preserves_Gout_GoutIdeal : Prop :=
  True

def algebraic_GoutIdeal_RefGoutIdeal [hGoutIdeal : Cert.GoutIdeal.Facts] [hRefGoutIdeal : Cert.RefGoutIdeal.Facts] : Prop :=
  ∀ (m : (ℓ : Loc Cert.GoutIdeal.nD Cert.GoutIdeal.τ Cert.GoutIdeal.sig) → Buf (Elt Ideal) ℓ) (g : Dev Cert.GoutIdeal.nD → PrngReg)
    (m' : (ℓ : Loc Cert.RefGoutIdeal.nD Cert.RefGoutIdeal.τ Cert.RefGoutIdeal.sig) → Buf (Elt Ideal) ℓ) (g' : Dev Cert.RefGoutIdeal.nD → PrngReg), Pre_GoutIdeal m →
    (∀ c : Dev Cert.GoutIdeal.nD,
      m' ((c.tc : Thread Cert.RefGoutIdeal.nD Cert.RefGoutIdeal.τ).loc Cert.RefGoutIdeal.main_arg0) = m ((c.tc : Thread Cert.GoutIdeal.nD Cert.GoutIdeal.τ).loc Cert.GoutIdeal.main_arg0)
      ∧ m' ((c.tc : Thread Cert.RefGoutIdeal.nD Cert.RefGoutIdeal.τ).loc Cert.RefGoutIdeal.main_arg1) = m ((c.tc : Thread Cert.GoutIdeal.nD Cert.GoutIdeal.τ).loc Cert.GoutIdeal.main_arg1)
      ∧ m' ((c.tc : Thread Cert.RefGoutIdeal.nD Cert.RefGoutIdeal.τ).loc Cert.RefGoutIdeal.main_arg2) = m ((c.tc : Thread Cert.GoutIdeal.nD Cert.GoutIdeal.τ).loc Cert.GoutIdeal.main_arg2)) →
    ∃ (v0 : (c : Dev Cert.GoutIdeal.nD) → Buf (Elt Ideal) ((c.tc : Thread Cert.GoutIdeal.nD Cert.GoutIdeal.τ).loc Cert.GoutIdeal.main_v1)),
      θ_run (Cert.GoutIdeal.defs (F := Ideal)) (onTc (τ := Cert.GoutIdeal.τ) (Cert.GoutIdeal.main (F := Ideal))) ⟨m, fun _ => 0, g⟩ (fun r => ∀ c : Dev Cert.GoutIdeal.nD,
          r.2.mem ((c.tc : Thread Cert.GoutIdeal.nD Cert.GoutIdeal.τ).loc Cert.GoutIdeal.main_v1) = v0 c
          ∧ r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
          ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1)
          ∧ r.2.mem ((c.tc : Thread Cert.GoutIdeal.nD Cert.GoutIdeal.τ).loc Cert.GoutIdeal.main_arg2) = m ((c.tc : Thread Cert.GoutIdeal.nD Cert.GoutIdeal.τ).loc Cert.GoutIdeal.main_arg2))
      ∧ θ_run (Cert.RefGoutIdeal.defs (F := Ideal)) (onTc (τ := Cert.RefGoutIdeal.τ) (Cert.RefGoutIdeal.main (F := Ideal))) ⟨m', fun _ => 0, g'⟩ (fun r => ∀ c : Dev Cert.RefGoutIdeal.nD,
          r.2.mem ((c.tc : Thread Cert.RefGoutIdeal.nD Cert.RefGoutIdeal.τ).loc Cert.RefGoutIdeal.main_v4) = v0 c
          ∧ r.2.mem ((c.tc : Thread Cert.RefGoutIdeal.nD Cert.RefGoutIdeal.τ).loc Cert.RefGoutIdeal.main_arg0) = m' ((c.tc : Thread Cert.RefGoutIdeal.nD Cert.RefGoutIdeal.τ).loc Cert.RefGoutIdeal.main_arg0)
          ∧ r.2.mem ((c.tc : Thread Cert.RefGoutIdeal.nD Cert.RefGoutIdeal.τ).loc Cert.RefGoutIdeal.main_arg1) = m' ((c.tc : Thread Cert.RefGoutIdeal.nD Cert.RefGoutIdeal.τ).loc Cert.RefGoutIdeal.main_arg1)
          ∧ r.2.mem ((c.tc : Thread Cert.RefGoutIdeal.nD Cert.RefGoutIdeal.τ).loc Cert.RefGoutIdeal.main_arg2) = m' ((c.tc : Thread Cert.RefGoutIdeal.nD Cert.RefGoutIdeal.τ).loc Cert.RefGoutIdeal.main_arg2))

def preserves_Dmix_DmixIdeal : Prop :=
  True

def algebraic_DmixIdeal_RefDmixIdeal [hDmixIdeal : Cert.DmixIdeal.Facts] [hRefDmixIdeal : Cert.RefDmixIdeal.Facts] : Prop :=
  ∀ (m : (ℓ : Loc Cert.DmixIdeal.nD Cert.DmixIdeal.τ Cert.DmixIdeal.sig) → Buf (Elt Ideal) ℓ) (g : Dev Cert.DmixIdeal.nD → PrngReg)
    (m' : (ℓ : Loc Cert.RefDmixIdeal.nD Cert.RefDmixIdeal.τ Cert.RefDmixIdeal.sig) → Buf (Elt Ideal) ℓ) (g' : Dev Cert.RefDmixIdeal.nD → PrngReg), Pre_DmixIdeal m →
    (∀ c : Dev Cert.DmixIdeal.nD,
      m' ((c.tc : Thread Cert.RefDmixIdeal.nD Cert.RefDmixIdeal.τ).loc Cert.RefDmixIdeal.main_arg0) = m ((c.tc : Thread Cert.DmixIdeal.nD Cert.DmixIdeal.τ).loc Cert.DmixIdeal.main_arg0)
      ∧ m' ((c.tc : Thread Cert.RefDmixIdeal.nD Cert.RefDmixIdeal.τ).loc Cert.RefDmixIdeal.main_arg1) = m ((c.tc : Thread Cert.DmixIdeal.nD Cert.DmixIdeal.τ).loc Cert.DmixIdeal.main_arg1)
      ∧ m' ((c.tc : Thread Cert.RefDmixIdeal.nD Cert.RefDmixIdeal.τ).loc Cert.RefDmixIdeal.main_arg2) = m ((c.tc : Thread Cert.DmixIdeal.nD Cert.DmixIdeal.τ).loc Cert.DmixIdeal.main_arg2)) →
    ∃ (v0 : (c : Dev Cert.DmixIdeal.nD) → Buf (Elt Ideal) ((c.tc : Thread Cert.DmixIdeal.nD Cert.DmixIdeal.τ).loc Cert.DmixIdeal.main_v2)),
      θ_run (Cert.DmixIdeal.defs (F := Ideal)) (onTc (τ := Cert.DmixIdeal.τ) (Cert.DmixIdeal.main (F := Ideal))) ⟨m, fun _ => 0, g⟩ (fun r => ∀ c : Dev Cert.DmixIdeal.nD,
          r.2.mem ((c.tc : Thread Cert.DmixIdeal.nD Cert.DmixIdeal.τ).loc Cert.DmixIdeal.main_v2) = v0 c
          ∧ r.2.mem ((c.tc : Thread Cert.DmixIdeal.nD Cert.DmixIdeal.τ).loc Cert.DmixIdeal.main_arg0) = m ((c.tc : Thread Cert.DmixIdeal.nD Cert.DmixIdeal.τ).loc Cert.DmixIdeal.main_arg0)
          ∧ r.2.mem ((c.tc : Thread Cert.DmixIdeal.nD Cert.DmixIdeal.τ).loc Cert.DmixIdeal.main_arg1) = m ((c.tc : Thread Cert.DmixIdeal.nD Cert.DmixIdeal.τ).loc Cert.DmixIdeal.main_arg1)
          ∧ r.2.mem ((c.tc : Thread Cert.DmixIdeal.nD Cert.DmixIdeal.τ).loc Cert.DmixIdeal.main_arg2) = m ((c.tc : Thread Cert.DmixIdeal.nD Cert.DmixIdeal.τ).loc Cert.DmixIdeal.main_arg2))
      ∧ θ_run (Cert.RefDmixIdeal.defs (F := Ideal)) (onTc (τ := Cert.RefDmixIdeal.τ) (Cert.RefDmixIdeal.main (F := Ideal))) ⟨m', fun _ => 0, g'⟩ (fun r => ∀ c : Dev Cert.RefDmixIdeal.nD,
          r.2.mem ((c.tc : Thread Cert.RefDmixIdeal.nD Cert.RefDmixIdeal.τ).loc Cert.RefDmixIdeal.main_v3) = v0 c
          ∧ r.2.mem ((c.tc : Thread Cert.RefDmixIdeal.nD Cert.RefDmixIdeal.τ).loc Cert.RefDmixIdeal.main_arg0) = m' ((c.tc : Thread Cert.RefDmixIdeal.nD Cert.RefDmixIdeal.τ).loc Cert.RefDmixIdeal.main_arg0)
          ∧ r.2.mem ((c.tc : Thread Cert.RefDmixIdeal.nD Cert.RefDmixIdeal.τ).loc Cert.RefDmixIdeal.main_arg1) = m' ((c.tc : Thread Cert.RefDmixIdeal.nD Cert.RefDmixIdeal.τ).loc Cert.RefDmixIdeal.main_arg1)
          ∧ r.2.mem ((c.tc : Thread Cert.RefDmixIdeal.nD Cert.RefDmixIdeal.τ).loc Cert.RefDmixIdeal.main_arg2) = m' ((c.tc : Thread Cert.RefDmixIdeal.nD Cert.RefDmixIdeal.τ).loc Cert.RefDmixIdeal.main_arg2))

def preserves_Gglu_GgluIdeal : Prop :=
  True

def algebraic_GgluIdeal_RefGgluIdeal [hGgluIdeal : Cert.GgluIdeal.Facts] [hRefGgluIdeal : Cert.RefGgluIdeal.Facts] : Prop :=
  ∀ (m : (ℓ : Loc Cert.GgluIdeal.nD Cert.GgluIdeal.τ Cert.GgluIdeal.sig) → Buf (Elt Ideal) ℓ) (g : Dev Cert.GgluIdeal.nD → PrngReg)
    (m' : (ℓ : Loc Cert.RefGgluIdeal.nD Cert.RefGgluIdeal.τ Cert.RefGgluIdeal.sig) → Buf (Elt Ideal) ℓ) (g' : Dev Cert.RefGgluIdeal.nD → PrngReg), Pre_GgluIdeal m →
    (∀ c : Dev Cert.GgluIdeal.nD,
      m' ((c.tc : Thread Cert.RefGgluIdeal.nD Cert.RefGgluIdeal.τ).loc Cert.RefGgluIdeal.main_arg0) = m ((c.tc : Thread Cert.GgluIdeal.nD Cert.GgluIdeal.τ).loc Cert.GgluIdeal.main_arg0)
      ∧ m' ((c.tc : Thread Cert.RefGgluIdeal.nD Cert.RefGgluIdeal.τ).loc Cert.RefGgluIdeal.main_arg1) = m ((c.tc : Thread Cert.GgluIdeal.nD Cert.GgluIdeal.τ).loc Cert.GgluIdeal.main_arg1)
      ∧ m' ((c.tc : Thread Cert.RefGgluIdeal.nD Cert.RefGgluIdeal.τ).loc Cert.RefGgluIdeal.main_arg2) = m ((c.tc : Thread Cert.GgluIdeal.nD Cert.GgluIdeal.τ).loc Cert.GgluIdeal.main_arg2)
      ∧ m' ((c.tc : Thread Cert.RefGgluIdeal.nD Cert.RefGgluIdeal.τ).loc Cert.RefGgluIdeal.main_arg3) = m ((c.tc : Thread Cert.GgluIdeal.nD Cert.GgluIdeal.τ).loc Cert.GgluIdeal.main_arg3)
      ∧ m' ((c.tc : Thread Cert.RefGgluIdeal.nD Cert.RefGgluIdeal.τ).loc Cert.RefGgluIdeal.main_arg4) = m ((c.tc : Thread Cert.GgluIdeal.nD Cert.GgluIdeal.τ).loc Cert.GgluIdeal.main_arg4)) →
    ∃ (v0 : (c : Dev Cert.GgluIdeal.nD) → Buf (Elt Ideal) ((c.tc : Thread Cert.GgluIdeal.nD Cert.GgluIdeal.τ).loc Cert.GgluIdeal.main_v8)),
      θ_run (Cert.GgluIdeal.defs (F := Ideal)) (onTc (τ := Cert.GgluIdeal.τ) (Cert.GgluIdeal.main (F := Ideal))) ⟨m, fun _ => 0, g⟩ (fun r => ∀ c : Dev Cert.GgluIdeal.nD,
          r.2.mem ((c.tc : Thread Cert.GgluIdeal.nD Cert.GgluIdeal.τ).loc Cert.GgluIdeal.main_v8) = v0 c
          ∧ r.2.mem ((c.tc : Thread Cert.GgluIdeal.nD Cert.GgluIdeal.τ).loc Cert.GgluIdeal.main_arg0) = m ((c.tc : Thread Cert.GgluIdeal.nD Cert.GgluIdeal.τ).loc Cert.GgluIdeal.main_arg0)
          ∧ r.2.mem ((c.tc : Thread Cert.GgluIdeal.nD Cert.GgluIdeal.τ).loc Cert.GgluIdeal.main_arg1) = m ((c.tc : Thread Cert.GgluIdeal.nD Cert.GgluIdeal.τ).loc Cert.GgluIdeal.main_arg1)
          ∧ r.2.mem ((c.tc : Thread Cert.GgluIdeal.nD Cert.GgluIdeal.τ).loc Cert.GgluIdeal.main_arg2) = m ((c.tc : Thread Cert.GgluIdeal.nD Cert.GgluIdeal.τ).loc Cert.GgluIdeal.main_arg2)
          ∧ r.2.mem ((c.tc : Thread Cert.GgluIdeal.nD Cert.GgluIdeal.τ).loc Cert.GgluIdeal.main_arg3) = m ((c.tc : Thread Cert.GgluIdeal.nD Cert.GgluIdeal.τ).loc Cert.GgluIdeal.main_arg3)
          ∧ r.2.mem ((c.tc : Thread Cert.GgluIdeal.nD Cert.GgluIdeal.τ).loc Cert.GgluIdeal.main_arg4) = m ((c.tc : Thread Cert.GgluIdeal.nD Cert.GgluIdeal.τ).loc Cert.GgluIdeal.main_arg4))
      ∧ θ_run (Cert.RefGgluIdeal.defs (F := Ideal)) (onTc (τ := Cert.RefGgluIdeal.τ) (Cert.RefGgluIdeal.main (F := Ideal))) ⟨m', fun _ => 0, g'⟩ (fun r => ∀ c : Dev Cert.RefGgluIdeal.nD,
          r.2.mem ((c.tc : Thread Cert.RefGgluIdeal.nD Cert.RefGgluIdeal.τ).loc Cert.RefGgluIdeal.main_v14) = v0 c
          ∧ r.2.mem ((c.tc : Thread Cert.RefGgluIdeal.nD Cert.RefGgluIdeal.τ).loc Cert.RefGgluIdeal.main_arg0) = m' ((c.tc : Thread Cert.RefGgluIdeal.nD Cert.RefGgluIdeal.τ).loc Cert.RefGgluIdeal.main_arg0)
          ∧ r.2.mem ((c.tc : Thread Cert.RefGgluIdeal.nD Cert.RefGgluIdeal.τ).loc Cert.RefGgluIdeal.main_arg1) = m' ((c.tc : Thread Cert.RefGgluIdeal.nD Cert.RefGgluIdeal.τ).loc Cert.RefGgluIdeal.main_arg1)
          ∧ r.2.mem ((c.tc : Thread Cert.RefGgluIdeal.nD Cert.RefGgluIdeal.τ).loc Cert.RefGgluIdeal.main_arg2) = m' ((c.tc : Thread Cert.RefGgluIdeal.nD Cert.RefGgluIdeal.τ).loc Cert.RefGgluIdeal.main_arg2)
          ∧ r.2.mem ((c.tc : Thread Cert.RefGgluIdeal.nD Cert.RefGgluIdeal.τ).loc Cert.RefGgluIdeal.main_arg3) = m' ((c.tc : Thread Cert.RefGgluIdeal.nD Cert.RefGgluIdeal.τ).loc Cert.RefGgluIdeal.main_arg3)
          ∧ r.2.mem ((c.tc : Thread Cert.RefGgluIdeal.nD Cert.RefGgluIdeal.τ).loc Cert.RefGgluIdeal.main_arg4) = m' ((c.tc : Thread Cert.RefGgluIdeal.nD Cert.RefGgluIdeal.τ).loc Cert.RefGgluIdeal.main_arg4))

def preserves_Dglu_DgluIdeal : Prop :=
  True

def algebraic_DgluIdeal_RefDgluIdeal [hDgluIdeal : Cert.DgluIdeal.Facts] [hRefDgluIdeal : Cert.RefDgluIdeal.Facts] : Prop :=
  ∀ (m : (ℓ : Loc Cert.DgluIdeal.nD Cert.DgluIdeal.τ Cert.DgluIdeal.sig) → Buf (Elt Ideal) ℓ) (g : Dev Cert.DgluIdeal.nD → PrngReg)
    (m' : (ℓ : Loc Cert.RefDgluIdeal.nD Cert.RefDgluIdeal.τ Cert.RefDgluIdeal.sig) → Buf (Elt Ideal) ℓ) (g' : Dev Cert.RefDgluIdeal.nD → PrngReg), Pre_DgluIdeal m →
    (∀ c : Dev Cert.DgluIdeal.nD,
      m' ((c.tc : Thread Cert.RefDgluIdeal.nD Cert.RefDgluIdeal.τ).loc Cert.RefDgluIdeal.main_arg0) = m ((c.tc : Thread Cert.DgluIdeal.nD Cert.DgluIdeal.τ).loc Cert.DgluIdeal.main_arg0)
      ∧ m' ((c.tc : Thread Cert.RefDgluIdeal.nD Cert.RefDgluIdeal.τ).loc Cert.RefDgluIdeal.main_arg1) = m ((c.tc : Thread Cert.DgluIdeal.nD Cert.DgluIdeal.τ).loc Cert.DgluIdeal.main_arg1)
      ∧ m' ((c.tc : Thread Cert.RefDgluIdeal.nD Cert.RefDgluIdeal.τ).loc Cert.RefDgluIdeal.main_arg2) = m ((c.tc : Thread Cert.DgluIdeal.nD Cert.DgluIdeal.τ).loc Cert.DgluIdeal.main_arg2)
      ∧ m' ((c.tc : Thread Cert.RefDgluIdeal.nD Cert.RefDgluIdeal.τ).loc Cert.RefDgluIdeal.main_arg3) = m ((c.tc : Thread Cert.DgluIdeal.nD Cert.DgluIdeal.τ).loc Cert.DgluIdeal.main_arg3)
      ∧ m' ((c.tc : Thread Cert.RefDgluIdeal.nD Cert.RefDgluIdeal.τ).loc Cert.RefDgluIdeal.main_arg4) = m ((c.tc : Thread Cert.DgluIdeal.nD Cert.DgluIdeal.τ).loc Cert.DgluIdeal.main_arg4)) →
    ∃ (v0 : (c : Dev Cert.DgluIdeal.nD) → Buf (Elt Ideal) ((c.tc : Thread Cert.DgluIdeal.nD Cert.DgluIdeal.τ).loc Cert.DgluIdeal.main_v16)),
      θ_run (Cert.DgluIdeal.defs (F := Ideal)) (onTc (τ := Cert.DgluIdeal.τ) (Cert.DgluIdeal.main (F := Ideal))) ⟨m, fun _ => 0, g⟩ (fun r => ∀ c : Dev Cert.DgluIdeal.nD,
          r.2.mem ((c.tc : Thread Cert.DgluIdeal.nD Cert.DgluIdeal.τ).loc Cert.DgluIdeal.main_v16) = v0 c
          ∧ r.2.mem ((c.tc : Thread Cert.DgluIdeal.nD Cert.DgluIdeal.τ).loc Cert.DgluIdeal.main_arg0) = m ((c.tc : Thread Cert.DgluIdeal.nD Cert.DgluIdeal.τ).loc Cert.DgluIdeal.main_arg0)
          ∧ r.2.mem ((c.tc : Thread Cert.DgluIdeal.nD Cert.DgluIdeal.τ).loc Cert.DgluIdeal.main_arg1) = m ((c.tc : Thread Cert.DgluIdeal.nD Cert.DgluIdeal.τ).loc Cert.DgluIdeal.main_arg1)
          ∧ r.2.mem ((c.tc : Thread Cert.DgluIdeal.nD Cert.DgluIdeal.τ).loc Cert.DgluIdeal.main_arg2) = m ((c.tc : Thread Cert.DgluIdeal.nD Cert.DgluIdeal.τ).loc Cert.DgluIdeal.main_arg2)
          ∧ r.2.mem ((c.tc : Thread Cert.DgluIdeal.nD Cert.DgluIdeal.τ).loc Cert.DgluIdeal.main_arg3) = m ((c.tc : Thread Cert.DgluIdeal.nD Cert.DgluIdeal.τ).loc Cert.DgluIdeal.main_arg3)
          ∧ r.2.mem ((c.tc : Thread Cert.DgluIdeal.nD Cert.DgluIdeal.τ).loc Cert.DgluIdeal.main_arg4) = m ((c.tc : Thread Cert.DgluIdeal.nD Cert.DgluIdeal.τ).loc Cert.DgluIdeal.main_arg4))
      ∧ θ_run (Cert.RefDgluIdeal.defs (F := Ideal)) (onTc (τ := Cert.RefDgluIdeal.τ) (Cert.RefDgluIdeal.main (F := Ideal))) ⟨m', fun _ => 0, g'⟩ (fun r => ∀ c : Dev Cert.RefDgluIdeal.nD,
          r.2.mem ((c.tc : Thread Cert.RefDgluIdeal.nD Cert.RefDgluIdeal.τ).loc Cert.RefDgluIdeal.main_v5) = v0 c
          ∧ r.2.mem ((c.tc : Thread Cert.RefDgluIdeal.nD Cert.RefDgluIdeal.τ).loc Cert.RefDgluIdeal.main_arg0) = m' ((c.tc : Thread Cert.RefDgluIdeal.nD Cert.RefDgluIdeal.τ).loc Cert.RefDgluIdeal.main_arg0)
          ∧ r.2.mem ((c.tc : Thread Cert.RefDgluIdeal.nD Cert.RefDgluIdeal.τ).loc Cert.RefDgluIdeal.main_arg1) = m' ((c.tc : Thread Cert.RefDgluIdeal.nD Cert.RefDgluIdeal.τ).loc Cert.RefDgluIdeal.main_arg1)
          ∧ r.2.mem ((c.tc : Thread Cert.RefDgluIdeal.nD Cert.RefDgluIdeal.τ).loc Cert.RefDgluIdeal.main_arg2) = m' ((c.tc : Thread Cert.RefDgluIdeal.nD Cert.RefDgluIdeal.τ).loc Cert.RefDgluIdeal.main_arg2)
          ∧ r.2.mem ((c.tc : Thread Cert.RefDgluIdeal.nD Cert.RefDgluIdeal.τ).loc Cert.RefDgluIdeal.main_arg3) = m' ((c.tc : Thread Cert.RefDgluIdeal.nD Cert.RefDgluIdeal.τ).loc Cert.RefDgluIdeal.main_arg3)
          ∧ r.2.mem ((c.tc : Thread Cert.RefDgluIdeal.nD Cert.RefDgluIdeal.τ).loc Cert.RefDgluIdeal.main_arg4) = m' ((c.tc : Thread Cert.RefDgluIdeal.nD Cert.RefDgluIdeal.τ).loc Cert.RefDgluIdeal.main_arg4))

def preserves_Gpo_GpoIdeal : Prop :=
  True

def algebraic_GpoIdeal_RefGpoIdeal [hGpoIdeal : Cert.GpoIdeal.Facts] [hRefGpoIdeal : Cert.RefGpoIdeal.Facts] : Prop :=
  ∀ (m : (ℓ : Loc Cert.GpoIdeal.nD Cert.GpoIdeal.τ Cert.GpoIdeal.sig) → Buf (Elt Ideal) ℓ) (g : Dev Cert.GpoIdeal.nD → PrngReg)
    (m' : (ℓ : Loc Cert.RefGpoIdeal.nD Cert.RefGpoIdeal.τ Cert.RefGpoIdeal.sig) → Buf (Elt Ideal) ℓ) (g' : Dev Cert.RefGpoIdeal.nD → PrngReg), Pre_GpoIdeal m →
    (∀ c : Dev Cert.GpoIdeal.nD,
      m' ((c.tc : Thread Cert.RefGpoIdeal.nD Cert.RefGpoIdeal.τ).loc Cert.RefGpoIdeal.main_arg0) = m ((c.tc : Thread Cert.GpoIdeal.nD Cert.GpoIdeal.τ).loc Cert.GpoIdeal.main_arg0)
      ∧ m' ((c.tc : Thread Cert.RefGpoIdeal.nD Cert.RefGpoIdeal.τ).loc Cert.RefGpoIdeal.main_arg1) = m ((c.tc : Thread Cert.GpoIdeal.nD Cert.GpoIdeal.τ).loc Cert.GpoIdeal.main_arg1)
      ∧ m' ((c.tc : Thread Cert.RefGpoIdeal.nD Cert.RefGpoIdeal.τ).loc Cert.RefGpoIdeal.main_arg2) = m ((c.tc : Thread Cert.GpoIdeal.nD Cert.GpoIdeal.τ).loc Cert.GpoIdeal.main_arg2)) →
    ∃ (v0 : (c : Dev Cert.GpoIdeal.nD) → Buf (Elt Ideal) ((c.tc : Thread Cert.GpoIdeal.nD Cert.GpoIdeal.τ).loc Cert.GpoIdeal.main_v1)),
      θ_run (Cert.GpoIdeal.defs (F := Ideal)) (onTc (τ := Cert.GpoIdeal.τ) (Cert.GpoIdeal.main (F := Ideal))) ⟨m, fun _ => 0, g⟩ (fun r => ∀ c : Dev Cert.GpoIdeal.nD,
          r.2.mem ((c.tc : Thread Cert.GpoIdeal.nD Cert.GpoIdeal.τ).loc Cert.GpoIdeal.main_v1) = v0 c
          ∧ r.2.mem ((c.tc : Thread Cert.GpoIdeal.nD Cert.GpoIdeal.τ).loc Cert.GpoIdeal.main_arg0) = m ((c.tc : Thread Cert.GpoIdeal.nD Cert.GpoIdeal.τ).loc Cert.GpoIdeal.main_arg0)
          ∧ r.2.mem ((c.tc : Thread Cert.GpoIdeal.nD Cert.GpoIdeal.τ).loc Cert.GpoIdeal.main_arg1) = m ((c.tc : Thread Cert.GpoIdeal.nD Cert.GpoIdeal.τ).loc Cert.GpoIdeal.main_arg1)
          ∧ r.2.mem ((c.tc : Thread Cert.GpoIdeal.nD Cert.GpoIdeal.τ).loc Cert.GpoIdeal.main_arg2) = m ((c.tc : Thread Cert.GpoIdeal.nD Cert.GpoIdeal.τ).loc Cert.GpoIdeal.main_arg2))
      ∧ θ_run (Cert.RefGpoIdeal.defs (F := Ideal)) (onTc (τ := Cert.RefGpoIdeal.τ) (Cert.RefGpoIdeal.main (F := Ideal))) ⟨m', fun _ => 0, g'⟩ (fun r => ∀ c : Dev Cert.RefGpoIdeal.nD,
          r.2.mem ((c.tc : Thread Cert.RefGpoIdeal.nD Cert.RefGpoIdeal.τ).loc Cert.RefGpoIdeal.main_v6) = v0 c
          ∧ r.2.mem ((c.tc : Thread Cert.RefGpoIdeal.nD Cert.RefGpoIdeal.τ).loc Cert.RefGpoIdeal.main_arg0) = m' ((c.tc : Thread Cert.RefGpoIdeal.nD Cert.RefGpoIdeal.τ).loc Cert.RefGpoIdeal.main_arg0)
          ∧ r.2.mem ((c.tc : Thread Cert.RefGpoIdeal.nD Cert.RefGpoIdeal.τ).loc Cert.RefGpoIdeal.main_arg1) = m' ((c.tc : Thread Cert.RefGpoIdeal.nD Cert.RefGpoIdeal.τ).loc Cert.RefGpoIdeal.main_arg1)
          ∧ r.2.mem ((c.tc : Thread Cert.RefGpoIdeal.nD Cert.RefGpoIdeal.τ).loc Cert.RefGpoIdeal.main_arg2) = m' ((c.tc : Thread Cert.RefGpoIdeal.nD Cert.RefGpoIdeal.τ).loc Cert.RefGpoIdeal.main_arg2))

def preserves_Dpo_DpoIdeal : Prop :=
  True

def algebraic_DpoIdeal_RefDpoIdeal [hDpoIdeal : Cert.DpoIdeal.Facts] [hRefDpoIdeal : Cert.RefDpoIdeal.Facts] : Prop :=
  ∀ (m : (ℓ : Loc Cert.DpoIdeal.nD Cert.DpoIdeal.τ Cert.DpoIdeal.sig) → Buf (Elt Ideal) ℓ) (g : Dev Cert.DpoIdeal.nD → PrngReg)
    (m' : (ℓ : Loc Cert.RefDpoIdeal.nD Cert.RefDpoIdeal.τ Cert.RefDpoIdeal.sig) → Buf (Elt Ideal) ℓ) (g' : Dev Cert.RefDpoIdeal.nD → PrngReg), Pre_DpoIdeal m →
    (∀ c : Dev Cert.DpoIdeal.nD,
      m' ((c.tc : Thread Cert.RefDpoIdeal.nD Cert.RefDpoIdeal.τ).loc Cert.RefDpoIdeal.main_arg0) = m ((c.tc : Thread Cert.DpoIdeal.nD Cert.DpoIdeal.τ).loc Cert.DpoIdeal.main_arg0)
      ∧ m' ((c.tc : Thread Cert.RefDpoIdeal.nD Cert.RefDpoIdeal.τ).loc Cert.RefDpoIdeal.main_arg1) = m ((c.tc : Thread Cert.DpoIdeal.nD Cert.DpoIdeal.τ).loc Cert.DpoIdeal.main_arg1)
      ∧ m' ((c.tc : Thread Cert.RefDpoIdeal.nD Cert.RefDpoIdeal.τ).loc Cert.RefDpoIdeal.main_arg2) = m ((c.tc : Thread Cert.DpoIdeal.nD Cert.DpoIdeal.τ).loc Cert.DpoIdeal.main_arg2)) →
    ∃ (v0 : (c : Dev Cert.DpoIdeal.nD) → Buf (Elt Ideal) ((c.tc : Thread Cert.DpoIdeal.nD Cert.DpoIdeal.τ).loc Cert.DpoIdeal.main_v3)),
      θ_run (Cert.DpoIdeal.defs (F := Ideal)) (onTc (τ := Cert.DpoIdeal.τ) (Cert.DpoIdeal.main (F := Ideal))) ⟨m, fun _ => 0, g⟩ (fun r => ∀ c : Dev Cert.DpoIdeal.nD,
          r.2.mem ((c.tc : Thread Cert.DpoIdeal.nD Cert.DpoIdeal.τ).loc Cert.DpoIdeal.main_v3) = v0 c
          ∧ r.2.mem ((c.tc : Thread Cert.DpoIdeal.nD Cert.DpoIdeal.τ).loc Cert.DpoIdeal.main_arg0) = m ((c.tc : Thread Cert.DpoIdeal.nD Cert.DpoIdeal.τ).loc Cert.DpoIdeal.main_arg0)
          ∧ r.2.mem ((c.tc : Thread Cert.DpoIdeal.nD Cert.DpoIdeal.τ).loc Cert.DpoIdeal.main_arg1) = m ((c.tc : Thread Cert.DpoIdeal.nD Cert.DpoIdeal.τ).loc Cert.DpoIdeal.main_arg1)
          ∧ r.2.mem ((c.tc : Thread Cert.DpoIdeal.nD Cert.DpoIdeal.τ).loc Cert.DpoIdeal.main_arg2) = m ((c.tc : Thread Cert.DpoIdeal.nD Cert.DpoIdeal.τ).loc Cert.DpoIdeal.main_arg2))
      ∧ θ_run (Cert.RefDpoIdeal.defs (F := Ideal)) (onTc (τ := Cert.RefDpoIdeal.τ) (Cert.RefDpoIdeal.main (F := Ideal))) ⟨m', fun _ => 0, g'⟩ (fun r => ∀ c : Dev Cert.RefDpoIdeal.nD,
          r.2.mem ((c.tc : Thread Cert.RefDpoIdeal.nD Cert.RefDpoIdeal.τ).loc Cert.RefDpoIdeal.main_v2) = v0 c
          ∧ r.2.mem ((c.tc : Thread Cert.RefDpoIdeal.nD Cert.RefDpoIdeal.τ).loc Cert.RefDpoIdeal.main_arg0) = m' ((c.tc : Thread Cert.RefDpoIdeal.nD Cert.RefDpoIdeal.τ).loc Cert.RefDpoIdeal.main_arg0)
          ∧ r.2.mem ((c.tc : Thread Cert.RefDpoIdeal.nD Cert.RefDpoIdeal.τ).loc Cert.RefDpoIdeal.main_arg1) = m' ((c.tc : Thread Cert.RefDpoIdeal.nD Cert.RefDpoIdeal.τ).loc Cert.RefDpoIdeal.main_arg1)
          ∧ r.2.mem ((c.tc : Thread Cert.RefDpoIdeal.nD Cert.RefDpoIdeal.τ).loc Cert.RefDpoIdeal.main_arg2) = m' ((c.tc : Thread Cert.RefDpoIdeal.nD Cert.RefDpoIdeal.τ).loc Cert.RefDpoIdeal.main_arg2))

def preserves_Dpm_DpmIdeal : Prop :=
  True

def algebraic_DpmIdeal_RefDpmIdeal [hDpmIdeal : Cert.DpmIdeal.Facts] [hRefDpmIdeal : Cert.RefDpmIdeal.Facts] : Prop :=
  ∀ (m : (ℓ : Loc Cert.DpmIdeal.nD Cert.DpmIdeal.τ Cert.DpmIdeal.sig) → Buf (Elt Ideal) ℓ) (g : Dev Cert.DpmIdeal.nD → PrngReg)
    (m' : (ℓ : Loc Cert.RefDpmIdeal.nD Cert.RefDpmIdeal.τ Cert.RefDpmIdeal.sig) → Buf (Elt Ideal) ℓ) (g' : Dev Cert.RefDpmIdeal.nD → PrngReg), Pre_DpmIdeal m →
    (∀ c : Dev Cert.DpmIdeal.nD,
      m' ((c.tc : Thread Cert.RefDpmIdeal.nD Cert.RefDpmIdeal.τ).loc Cert.RefDpmIdeal.main_arg0) = m ((c.tc : Thread Cert.DpmIdeal.nD Cert.DpmIdeal.τ).loc Cert.DpmIdeal.main_arg0)
      ∧ m' ((c.tc : Thread Cert.RefDpmIdeal.nD Cert.RefDpmIdeal.τ).loc Cert.RefDpmIdeal.main_arg1) = m ((c.tc : Thread Cert.DpmIdeal.nD Cert.DpmIdeal.τ).loc Cert.DpmIdeal.main_arg1)
      ∧ m' ((c.tc : Thread Cert.RefDpmIdeal.nD Cert.RefDpmIdeal.τ).loc Cert.RefDpmIdeal.main_arg2) = m ((c.tc : Thread Cert.DpmIdeal.nD Cert.DpmIdeal.τ).loc Cert.DpmIdeal.main_arg2)) →
    ∃ (v0 : (c : Dev Cert.DpmIdeal.nD) → Buf (Elt Ideal) ((c.tc : Thread Cert.DpmIdeal.nD Cert.DpmIdeal.τ).loc Cert.DpmIdeal.main_v1)),
      θ_run (Cert.DpmIdeal.defs (F := Ideal)) (onTc (τ := Cert.DpmIdeal.τ) (Cert.DpmIdeal.main (F := Ideal))) ⟨m, fun _ => 0, g⟩ (fun r => ∀ c : Dev Cert.DpmIdeal.nD,
          r.2.mem ((c.tc : Thread Cert.DpmIdeal.nD Cert.DpmIdeal.τ).loc Cert.DpmIdeal.main_v1) = v0 c
          ∧ r.2.mem ((c.tc : Thread Cert.DpmIdeal.nD Cert.DpmIdeal.τ).loc Cert.DpmIdeal.main_arg0) = m ((c.tc : Thread Cert.DpmIdeal.nD Cert.DpmIdeal.τ).loc Cert.DpmIdeal.main_arg0)
          ∧ r.2.mem ((c.tc : Thread Cert.DpmIdeal.nD Cert.DpmIdeal.τ).loc Cert.DpmIdeal.main_arg1) = m ((c.tc : Thread Cert.DpmIdeal.nD Cert.DpmIdeal.τ).loc Cert.DpmIdeal.main_arg1)
          ∧ r.2.mem ((c.tc : Thread Cert.DpmIdeal.nD Cert.DpmIdeal.τ).loc Cert.DpmIdeal.main_arg2) = m ((c.tc : Thread Cert.DpmIdeal.nD Cert.DpmIdeal.τ).loc Cert.DpmIdeal.main_arg2))
      ∧ θ_run (Cert.RefDpmIdeal.defs (F := Ideal)) (onTc (τ := Cert.RefDpmIdeal.τ) (Cert.RefDpmIdeal.main (F := Ideal))) ⟨m', fun _ => 0, g'⟩ (fun r => ∀ c : Dev Cert.RefDpmIdeal.nD,
          r.2.mem ((c.tc : Thread Cert.RefDpmIdeal.nD Cert.RefDpmIdeal.τ).loc Cert.RefDpmIdeal.main_v9) = v0 c
          ∧ r.2.mem ((c.tc : Thread Cert.RefDpmIdeal.nD Cert.RefDpmIdeal.τ).loc Cert.RefDpmIdeal.main_arg0) = m' ((c.tc : Thread Cert.RefDpmIdeal.nD Cert.RefDpmIdeal.τ).loc Cert.RefDpmIdeal.main_arg0)
          ∧ r.2.mem ((c.tc : Thread Cert.RefDpmIdeal.nD Cert.RefDpmIdeal.τ).loc Cert.RefDpmIdeal.main_arg1) = m' ((c.tc : Thread Cert.RefDpmIdeal.nD Cert.RefDpmIdeal.τ).loc Cert.RefDpmIdeal.main_arg1)
          ∧ r.2.mem ((c.tc : Thread Cert.RefDpmIdeal.nD Cert.RefDpmIdeal.τ).loc Cert.RefDpmIdeal.main_arg2) = m' ((c.tc : Thread Cert.RefDpmIdeal.nD Cert.RefDpmIdeal.τ).loc Cert.RefDpmIdeal.main_arg2))

def preserves_Gpool_GpoolIdeal : Prop :=
  True

def algebraic_GpoolIdeal_RefGpoolIdeal [hGpoolIdeal : Cert.GpoolIdeal.Facts] [hRefGpoolIdeal : Cert.RefGpoolIdeal.Facts] : Prop :=
  ∀ (m : (ℓ : Loc Cert.GpoolIdeal.nD Cert.GpoolIdeal.τ Cert.GpoolIdeal.sig) → Buf (Elt Ideal) ℓ) (g : Dev Cert.GpoolIdeal.nD → PrngReg)
    (m' : (ℓ : Loc Cert.RefGpoolIdeal.nD Cert.RefGpoolIdeal.τ Cert.RefGpoolIdeal.sig) → Buf (Elt Ideal) ℓ) (g' : Dev Cert.RefGpoolIdeal.nD → PrngReg), Pre_GpoolIdeal m →
    (∀ c : Dev Cert.GpoolIdeal.nD,
      m' ((c.tc : Thread Cert.RefGpoolIdeal.nD Cert.RefGpoolIdeal.τ).loc Cert.RefGpoolIdeal.main_arg0) = m ((c.tc : Thread Cert.GpoolIdeal.nD Cert.GpoolIdeal.τ).loc Cert.GpoolIdeal.main_arg0)
      ∧ m' ((c.tc : Thread Cert.RefGpoolIdeal.nD Cert.RefGpoolIdeal.τ).loc Cert.RefGpoolIdeal.main_arg1) = m ((c.tc : Thread Cert.GpoolIdeal.nD Cert.GpoolIdeal.τ).loc Cert.GpoolIdeal.main_arg1)
      ∧ m' ((c.tc : Thread Cert.RefGpoolIdeal.nD Cert.RefGpoolIdeal.τ).loc Cert.RefGpoolIdeal.main_arg2) = m ((c.tc : Thread Cert.GpoolIdeal.nD Cert.GpoolIdeal.τ).loc Cert.GpoolIdeal.main_arg2)) →
    ∃ (v0 : (c : Dev Cert.GpoolIdeal.nD) → Buf (Elt Ideal) ((c.tc : Thread Cert.GpoolIdeal.nD Cert.GpoolIdeal.τ).loc Cert.GpoolIdeal.main_v1)),
      θ_run (Cert.GpoolIdeal.defs (F := Ideal)) (onTc (τ := Cert.GpoolIdeal.τ) (Cert.GpoolIdeal.main (F := Ideal))) ⟨m, fun _ => 0, g⟩ (fun r => ∀ c : Dev Cert.GpoolIdeal.nD,
          r.2.mem ((c.tc : Thread Cert.GpoolIdeal.nD Cert.GpoolIdeal.τ).loc Cert.GpoolIdeal.main_v1) = v0 c
          ∧ r.2.mem ((c.tc : Thread Cert.GpoolIdeal.nD Cert.GpoolIdeal.τ).loc Cert.GpoolIdeal.main_arg0) = m ((c.tc : Thread Cert.GpoolIdeal.nD Cert.GpoolIdeal.τ).loc Cert.GpoolIdeal.main_arg0)
          ∧ r.2.mem ((c.tc : Thread Cert.GpoolIdeal.nD Cert.GpoolIdeal.τ).loc Cert.GpoolIdeal.main_arg1) = m ((c.tc : Thread Cert.GpoolIdeal.nD Cert.GpoolIdeal.τ).loc Cert.GpoolIdeal.main_arg1)
          ∧ r.2.mem ((c.tc : Thread Cert.GpoolIdeal.nD Cert.GpoolIdeal.τ).loc Cert.GpoolIdeal.main_arg2) = m ((c.tc : Thread Cert.GpoolIdeal.nD Cert.GpoolIdeal.τ).loc Cert.GpoolIdeal.main_arg2))
      ∧ θ_run (Cert.RefGpoolIdeal.defs (F := Ideal)) (onTc (τ := Cert.RefGpoolIdeal.τ) (Cert.RefGpoolIdeal.main (F := Ideal))) ⟨m', fun _ => 0, g'⟩ (fun r => ∀ c : Dev Cert.RefGpoolIdeal.nD,
          r.2.mem ((c.tc : Thread Cert.RefGpoolIdeal.nD Cert.RefGpoolIdeal.τ).loc Cert.RefGpoolIdeal.main_v9) = v0 c
          ∧ r.2.mem ((c.tc : Thread Cert.RefGpoolIdeal.nD Cert.RefGpoolIdeal.τ).loc Cert.RefGpoolIdeal.main_arg0) = m' ((c.tc : Thread Cert.RefGpoolIdeal.nD Cert.RefGpoolIdeal.τ).loc Cert.RefGpoolIdeal.main_arg0)
          ∧ r.2.mem ((c.tc : Thread Cert.RefGpoolIdeal.nD Cert.RefGpoolIdeal.τ).loc Cert.RefGpoolIdeal.main_arg1) = m' ((c.tc : Thread Cert.RefGpoolIdeal.nD Cert.RefGpoolIdeal.τ).loc Cert.RefGpoolIdeal.main_arg1)
          ∧ r.2.mem ((c.tc : Thread Cert.RefGpoolIdeal.nD Cert.RefGpoolIdeal.τ).loc Cert.RefGpoolIdeal.main_arg2) = m' ((c.tc : Thread Cert.RefGpoolIdeal.nD Cert.RefGpoolIdeal.τ).loc Cert.RefGpoolIdeal.main_arg2))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v0) = v0 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1))

def preserves_Glu_GluIdeal : Prop :=
  True

def algebraic_GluIdeal_RefGluIdeal [hGluIdeal : Cert.GluIdeal.Facts] [hRefGluIdeal : Cert.RefGluIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.RefGluIdeal.nD Cert.RefGluIdeal.τ Cert.RefGluIdeal.sig) → Buf (Elt Ideal) ℓ) (g' : Dev Cert.RefGluIdeal.nD → PrngReg), Pre_GluIdeal m →
    (∀ c : Dev Cert.GluIdeal.nD,
      m' ((c.tc : Thread Cert.RefGluIdeal.nD Cert.RefGluIdeal.τ).loc Cert.RefGluIdeal.main_arg0) = m ((c.tc : Thread Cert.GluIdeal.nD Cert.GluIdeal.τ).loc Cert.GluIdeal.main_arg0)
      ∧ m' ((c.tc : Thread Cert.RefGluIdeal.nD Cert.RefGluIdeal.τ).loc Cert.RefGluIdeal.main_arg1) = m ((c.tc : Thread Cert.GluIdeal.nD Cert.GluIdeal.τ).loc Cert.GluIdeal.main_arg1)
      ∧ m' ((c.tc : Thread Cert.RefGluIdeal.nD Cert.RefGluIdeal.τ).loc Cert.RefGluIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v10)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v10) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.RefGluIdeal.defs (F := Ideal)) (onTc (τ := Cert.RefGluIdeal.τ) (Cert.RefGluIdeal.main (F := Ideal))) ⟨m', fun _ => 0, g'⟩ (fun r => ∀ c : Dev Cert.RefGluIdeal.nD,
          r.2.mem ((c.tc : Thread Cert.RefGluIdeal.nD Cert.RefGluIdeal.τ).loc Cert.RefGluIdeal.main_v8) = v0 c
          ∧ r.2.mem ((c.tc : Thread Cert.RefGluIdeal.nD Cert.RefGluIdeal.τ).loc Cert.RefGluIdeal.main_arg0) = m' ((c.tc : Thread Cert.RefGluIdeal.nD Cert.RefGluIdeal.τ).loc Cert.RefGluIdeal.main_arg0)
          ∧ r.2.mem ((c.tc : Thread Cert.RefGluIdeal.nD Cert.RefGluIdeal.τ).loc Cert.RefGluIdeal.main_arg1) = m' ((c.tc : Thread Cert.RefGluIdeal.nD Cert.RefGluIdeal.τ).loc Cert.RefGluIdeal.main_arg1)
          ∧ r.2.mem ((c.tc : Thread Cert.RefGluIdeal.nD Cert.RefGluIdeal.τ).loc Cert.RefGluIdeal.main_arg2) = m' ((c.tc : Thread Cert.RefGluIdeal.nD Cert.RefGluIdeal.τ).loc Cert.RefGluIdeal.main_arg2))

def preserves_Pmix_PmixIdeal : Prop :=
  True

def algebraic_PmixIdeal_RefPmixIdeal [hPmixIdeal : Cert.PmixIdeal.Facts] [hRefPmixIdeal : Cert.RefPmixIdeal.Facts] : Prop :=
  ∀ (m : (ℓ : Loc Cert.PmixIdeal.nD Cert.PmixIdeal.τ Cert.PmixIdeal.sig) → Buf (Elt Ideal) ℓ) (g : Dev Cert.PmixIdeal.nD → PrngReg)
    (m' : (ℓ : Loc Cert.RefPmixIdeal.nD Cert.RefPmixIdeal.τ Cert.RefPmixIdeal.sig) → Buf (Elt Ideal) ℓ) (g' : Dev Cert.RefPmixIdeal.nD → PrngReg), Pre_PmixIdeal m →
    (∀ c : Dev Cert.PmixIdeal.nD,
      m' ((c.tc : Thread Cert.RefPmixIdeal.nD Cert.RefPmixIdeal.τ).loc Cert.RefPmixIdeal.main_arg0) = m ((c.tc : Thread Cert.PmixIdeal.nD Cert.PmixIdeal.τ).loc Cert.PmixIdeal.main_arg0)
      ∧ m' ((c.tc : Thread Cert.RefPmixIdeal.nD Cert.RefPmixIdeal.τ).loc Cert.RefPmixIdeal.main_arg1) = m ((c.tc : Thread Cert.PmixIdeal.nD Cert.PmixIdeal.τ).loc Cert.PmixIdeal.main_arg1)
      ∧ m' ((c.tc : Thread Cert.RefPmixIdeal.nD Cert.RefPmixIdeal.τ).loc Cert.RefPmixIdeal.main_arg2) = m ((c.tc : Thread Cert.PmixIdeal.nD Cert.PmixIdeal.τ).loc Cert.PmixIdeal.main_arg2)) →
    ∃ (v0 : (c : Dev Cert.PmixIdeal.nD) → Buf (Elt Ideal) ((c.tc : Thread Cert.PmixIdeal.nD Cert.PmixIdeal.τ).loc Cert.PmixIdeal.main_v2_0)) (v1 : (c : Dev Cert.PmixIdeal.nD) → Buf (Elt Ideal) ((c.tc : Thread Cert.PmixIdeal.nD Cert.PmixIdeal.τ).loc Cert.PmixIdeal.main_v2_1)),
      θ_run (Cert.PmixIdeal.defs (F := Ideal)) (onTc (τ := Cert.PmixIdeal.τ) (Cert.PmixIdeal.main (F := Ideal))) ⟨m, fun _ => 0, g⟩ (fun r => ∀ c : Dev Cert.PmixIdeal.nD,
          r.2.mem ((c.tc : Thread Cert.PmixIdeal.nD Cert.PmixIdeal.τ).loc Cert.PmixIdeal.main_v2_0) = v0 c
          ∧ r.2.mem ((c.tc : Thread Cert.PmixIdeal.nD Cert.PmixIdeal.τ).loc Cert.PmixIdeal.main_v2_1) = v1 c
          ∧ r.2.mem ((c.tc : Thread Cert.PmixIdeal.nD Cert.PmixIdeal.τ).loc Cert.PmixIdeal.main_arg0) = m ((c.tc : Thread Cert.PmixIdeal.nD Cert.PmixIdeal.τ).loc Cert.PmixIdeal.main_arg0)
          ∧ r.2.mem ((c.tc : Thread Cert.PmixIdeal.nD Cert.PmixIdeal.τ).loc Cert.PmixIdeal.main_arg1) = m ((c.tc : Thread Cert.PmixIdeal.nD Cert.PmixIdeal.τ).loc Cert.PmixIdeal.main_arg1)
          ∧ r.2.mem ((c.tc : Thread Cert.PmixIdeal.nD Cert.PmixIdeal.τ).loc Cert.PmixIdeal.main_arg2) = m ((c.tc : Thread Cert.PmixIdeal.nD Cert.PmixIdeal.τ).loc Cert.PmixIdeal.main_arg2))
      ∧ θ_run (Cert.RefPmixIdeal.defs (F := Ideal)) (onTc (τ := Cert.RefPmixIdeal.τ) (Cert.RefPmixIdeal.main (F := Ideal))) ⟨m', fun _ => 0, g'⟩ (fun r => ∀ c : Dev Cert.RefPmixIdeal.nD,
          r.2.mem ((c.tc : Thread Cert.RefPmixIdeal.nD Cert.RefPmixIdeal.τ).loc Cert.RefPmixIdeal.main_v3) = v0 c
          ∧ r.2.mem ((c.tc : Thread Cert.RefPmixIdeal.nD Cert.RefPmixIdeal.τ).loc Cert.RefPmixIdeal.main_v6) = v1 c
          ∧ r.2.mem ((c.tc : Thread Cert.RefPmixIdeal.nD Cert.RefPmixIdeal.τ).loc Cert.RefPmixIdeal.main_arg0) = m' ((c.tc : Thread Cert.RefPmixIdeal.nD Cert.RefPmixIdeal.τ).loc Cert.RefPmixIdeal.main_arg0)
          ∧ r.2.mem ((c.tc : Thread Cert.RefPmixIdeal.nD Cert.RefPmixIdeal.τ).loc Cert.RefPmixIdeal.main_arg1) = m' ((c.tc : Thread Cert.RefPmixIdeal.nD Cert.RefPmixIdeal.τ).loc Cert.RefPmixIdeal.main_arg1)
          ∧ r.2.mem ((c.tc : Thread Cert.RefPmixIdeal.nD Cert.RefPmixIdeal.τ).loc Cert.RefPmixIdeal.main_arg2) = m' ((c.tc : Thread Cert.RefPmixIdeal.nD Cert.RefPmixIdeal.τ).loc Cert.RefPmixIdeal.main_arg2))

def preserves_Po_PoIdeal : Prop :=
  True

def algebraic_PoIdeal_RefPoIdeal [hPoIdeal : Cert.PoIdeal.Facts] [hRefPoIdeal : Cert.RefPoIdeal.Facts] : Prop :=
  ∀ (m : (ℓ : Loc Cert.PoIdeal.nD Cert.PoIdeal.τ Cert.PoIdeal.sig) → Buf (Elt Ideal) ℓ) (g : Dev Cert.PoIdeal.nD → PrngReg)
    (m' : (ℓ : Loc Cert.RefPoIdeal.nD Cert.RefPoIdeal.τ Cert.RefPoIdeal.sig) → Buf (Elt Ideal) ℓ) (g' : Dev Cert.RefPoIdeal.nD → PrngReg), Pre_PoIdeal m →
    (∀ c : Dev Cert.PoIdeal.nD,
      m' ((c.tc : Thread Cert.RefPoIdeal.nD Cert.RefPoIdeal.τ).loc Cert.RefPoIdeal.main_arg0) = m ((c.tc : Thread Cert.PoIdeal.nD Cert.PoIdeal.τ).loc Cert.PoIdeal.main_arg0)
      ∧ m' ((c.tc : Thread Cert.RefPoIdeal.nD Cert.RefPoIdeal.τ).loc Cert.RefPoIdeal.main_arg1) = m ((c.tc : Thread Cert.PoIdeal.nD Cert.PoIdeal.τ).loc Cert.PoIdeal.main_arg1)) →
    ∃ (v0 : (c : Dev Cert.PoIdeal.nD) → Buf (Elt Ideal) ((c.tc : Thread Cert.PoIdeal.nD Cert.PoIdeal.τ).loc Cert.PoIdeal.main_v4)),
      θ_run (Cert.PoIdeal.defs (F := Ideal)) (onTc (τ := Cert.PoIdeal.τ) (Cert.PoIdeal.main (F := Ideal))) ⟨m, fun _ => 0, g⟩ (fun r => ∀ c : Dev Cert.PoIdeal.nD,
          r.2.mem ((c.tc : Thread Cert.PoIdeal.nD Cert.PoIdeal.τ).loc Cert.PoIdeal.main_v4) = v0 c
          ∧ r.2.mem ((c.tc : Thread Cert.PoIdeal.nD Cert.PoIdeal.τ).loc Cert.PoIdeal.main_arg0) = m ((c.tc : Thread Cert.PoIdeal.nD Cert.PoIdeal.τ).loc Cert.PoIdeal.main_arg0)
          ∧ r.2.mem ((c.tc : Thread Cert.PoIdeal.nD Cert.PoIdeal.τ).loc Cert.PoIdeal.main_arg1) = m ((c.tc : Thread Cert.PoIdeal.nD Cert.PoIdeal.τ).loc Cert.PoIdeal.main_arg1))
      ∧ θ_run (Cert.RefPoIdeal.defs (F := Ideal)) (onTc (τ := Cert.RefPoIdeal.τ) (Cert.RefPoIdeal.main (F := Ideal))) ⟨m', fun _ => 0, g'⟩ (fun r => ∀ c : Dev Cert.RefPoIdeal.nD,
          r.2.mem ((c.tc : Thread Cert.RefPoIdeal.nD Cert.RefPoIdeal.τ).loc Cert.RefPoIdeal.main_v1) = v0 c
          ∧ r.2.mem ((c.tc : Thread Cert.RefPoIdeal.nD Cert.RefPoIdeal.τ).loc Cert.RefPoIdeal.main_arg0) = m' ((c.tc : Thread Cert.RefPoIdeal.nD Cert.RefPoIdeal.τ).loc Cert.RefPoIdeal.main_arg0)
          ∧ r.2.mem ((c.tc : Thread Cert.RefPoIdeal.nD Cert.RefPoIdeal.τ).loc Cert.RefPoIdeal.main_arg1) = m' ((c.tc : Thread Cert.RefPoIdeal.nD Cert.RefPoIdeal.τ).loc Cert.RefPoIdeal.main_arg1))

def preserves_Mix_MixIdeal : Prop :=
  True

def algebraic_MixIdeal_RefMixIdeal [hMixIdeal : Cert.MixIdeal.Facts] [hRefMixIdeal : Cert.RefMixIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.RefMixIdeal.nD Cert.RefMixIdeal.τ Cert.RefMixIdeal.sig) → Buf (Elt Ideal) ℓ) (g' : Dev Cert.RefMixIdeal.nD → PrngReg), Pre_MixIdeal m →
    (∀ c : Dev Cert.MixIdeal.nD,
      m' ((c.tc : Thread Cert.RefMixIdeal.nD Cert.RefMixIdeal.τ).loc Cert.RefMixIdeal.main_arg0) = m ((c.tc : Thread Cert.MixIdeal.nD Cert.MixIdeal.τ).loc Cert.MixIdeal.main_arg0)
      ∧ m' ((c.tc : Thread Cert.RefMixIdeal.nD Cert.RefMixIdeal.τ).loc Cert.RefMixIdeal.main_arg1) = m ((c.tc : Thread Cert.MixIdeal.nD Cert.MixIdeal.τ).loc Cert.MixIdeal.main_arg1)) →
    ∃ (v0 : (c : Dev Cert.MixIdeal.nD) → Buf (Elt Ideal) ((c.tc : Thread Cert.MixIdeal.nD Cert.MixIdeal.τ).loc Cert.MixIdeal.main_v3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v3) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1))
      ∧ θ_run (Cert.RefMixIdeal.defs (F := Ideal)) (onTc (τ := Cert.RefMixIdeal.τ) (Cert.RefMixIdeal.main (F := Ideal))) ⟨m', fun _ => 0, g'⟩ (fun r => ∀ c : Dev Cert.RefMixIdeal.nD,
          r.2.mem ((c.tc : Thread Cert.RefMixIdeal.nD Cert.RefMixIdeal.τ).loc Cert.RefMixIdeal.main_v0) = v0 c
          ∧ r.2.mem ((c.tc : Thread Cert.RefMixIdeal.nD Cert.RefMixIdeal.τ).loc Cert.RefMixIdeal.main_arg0) = m' ((c.tc : Thread Cert.RefMixIdeal.nD Cert.RefMixIdeal.τ).loc Cert.RefMixIdeal.main_arg0)
          ∧ r.2.mem ((c.tc : Thread Cert.RefMixIdeal.nD Cert.RefMixIdeal.τ).loc Cert.RefMixIdeal.main_arg1) = m' ((c.tc : Thread Cert.RefMixIdeal.nD Cert.RefMixIdeal.τ).loc Cert.RefMixIdeal.main_arg1))

def preserves_Ff1_Ff1Ideal : Prop :=
  True

def algebraic_Ff1Ideal_RefFf1Ideal [hFf1Ideal : Cert.Ff1Ideal.Facts] [hRefFf1Ideal : Cert.RefFf1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.RefFf1Ideal.nD Cert.RefFf1Ideal.τ Cert.RefFf1Ideal.sig) → Buf (Elt Ideal) ℓ) (g' : Dev Cert.RefFf1Ideal.nD → PrngReg), Pre_Ff1Ideal m →
    (∀ c : Dev Cert.Ff1Ideal.nD,
      m' ((c.tc : Thread Cert.RefFf1Ideal.nD Cert.RefFf1Ideal.τ).loc Cert.RefFf1Ideal.main_arg0) = m ((c.tc : Thread Cert.Ff1Ideal.nD Cert.Ff1Ideal.τ).loc Cert.Ff1Ideal.main_arg0)
      ∧ m' ((c.tc : Thread Cert.RefFf1Ideal.nD Cert.RefFf1Ideal.τ).loc Cert.RefFf1Ideal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v4)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v4) = v0 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.RefFf1Ideal.defs (F := Ideal)) (onTc (τ := Cert.RefFf1Ideal.τ) (Cert.RefFf1Ideal.main (F := Ideal))) ⟨m', fun _ => 0, g'⟩ (fun r => ∀ c : Dev Cert.RefFf1Ideal.nD,
          r.2.mem ((c.tc : Thread Cert.RefFf1Ideal.nD Cert.RefFf1Ideal.τ).loc Cert.RefFf1Ideal.main_v2) = v0 c
          ∧ r.2.mem ((c.tc : Thread Cert.RefFf1Ideal.nD Cert.RefFf1Ideal.τ).loc Cert.RefFf1Ideal.main_arg0) = m' ((c.tc : Thread Cert.RefFf1Ideal.nD Cert.RefFf1Ideal.τ).loc Cert.RefFf1Ideal.main_arg0)
          ∧ r.2.mem ((c.tc : Thread Cert.RefFf1Ideal.nD Cert.RefFf1Ideal.τ).loc Cert.RefFf1Ideal.main_arg1) = m' ((c.tc : Thread Cert.RefFf1Ideal.nD Cert.RefFf1Ideal.τ).loc Cert.RefFf1Ideal.main_arg1))

def preserves_Ff2_Ff2Ideal : Prop :=
  True

def algebraic_Ff2Ideal_RefFf2Ideal [hFf2Ideal : Cert.Ff2Ideal.Facts] [hRefFf2Ideal : Cert.RefFf2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.RefFf2Ideal.nD Cert.RefFf2Ideal.τ Cert.RefFf2Ideal.sig) → Buf (Elt Ideal) ℓ) (g' : Dev Cert.RefFf2Ideal.nD → PrngReg), Pre_Ff2Ideal m →
    (∀ c : Dev Cert.Ff2Ideal.nD,
      m' ((c.tc : Thread Cert.RefFf2Ideal.nD Cert.RefFf2Ideal.τ).loc Cert.RefFf2Ideal.main_arg0) = m ((c.tc : Thread Cert.Ff2Ideal.nD Cert.Ff2Ideal.τ).loc Cert.Ff2Ideal.main_arg0)
      ∧ m' ((c.tc : Thread Cert.RefFf2Ideal.nD Cert.RefFf2Ideal.τ).loc Cert.RefFf2Ideal.main_arg1) = m ((c.tc : Thread Cert.Ff2Ideal.nD Cert.Ff2Ideal.τ).loc Cert.Ff2Ideal.main_arg1)) →
    ∃ (v0 : (c : Dev Cert.Ff2Ideal.nD) → Buf (Elt Ideal) ((c.tc : Thread Cert.Ff2Ideal.nD Cert.Ff2Ideal.τ).loc Cert.Ff2Ideal.main_v5)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v5) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ θ_run (Cert.RefFf2Ideal.defs (F := Ideal)) (onTc (τ := Cert.RefFf2Ideal.τ) (Cert.RefFf2Ideal.main (F := Ideal))) ⟨m', fun _ => 0, g'⟩ (fun r => ∀ c : Dev Cert.RefFf2Ideal.nD,
          r.2.mem ((c.tc : Thread Cert.RefFf2Ideal.nD Cert.RefFf2Ideal.τ).loc Cert.RefFf2Ideal.main_v2) = v0 c
          ∧ r.2.mem ((c.tc : Thread Cert.RefFf2Ideal.nD Cert.RefFf2Ideal.τ).loc Cert.RefFf2Ideal.main_arg0) = m' ((c.tc : Thread Cert.RefFf2Ideal.nD Cert.RefFf2Ideal.τ).loc Cert.RefFf2Ideal.main_arg0)
          ∧ r.2.mem ((c.tc : Thread Cert.RefFf2Ideal.nD Cert.RefFf2Ideal.τ).loc Cert.RefFf2Ideal.main_arg1) = m' ((c.tc : Thread Cert.RefFf2Ideal.nD Cert.RefFf2Ideal.τ).loc Cert.RefFf2Ideal.main_arg1))

def preserves_Pscale_PscaleIdeal : Prop :=
  True

def algebraic_PscaleIdeal_RefPscaleIdeal [hPscaleIdeal : Cert.PscaleIdeal.Facts] [hRefPscaleIdeal : Cert.RefPscaleIdeal.Facts] : Prop :=
  ∀ (m : (ℓ : Loc Cert.PscaleIdeal.nD Cert.PscaleIdeal.τ Cert.PscaleIdeal.sig) → Buf (Elt Ideal) ℓ) (g : Dev Cert.PscaleIdeal.nD → PrngReg)
    (m' : (ℓ : Loc Cert.RefPscaleIdeal.nD Cert.RefPscaleIdeal.τ Cert.RefPscaleIdeal.sig) → Buf (Elt Ideal) ℓ) (g' : Dev Cert.RefPscaleIdeal.nD → PrngReg), Pre_PscaleIdeal m →
    (∀ c : Dev Cert.PscaleIdeal.nD,
      m' ((c.tc : Thread Cert.RefPscaleIdeal.nD Cert.RefPscaleIdeal.τ).loc Cert.RefPscaleIdeal.main_arg0) = m ((c.tc : Thread Cert.PscaleIdeal.nD Cert.PscaleIdeal.τ).loc Cert.PscaleIdeal.main_arg0)
      ∧ m' ((c.tc : Thread Cert.RefPscaleIdeal.nD Cert.RefPscaleIdeal.τ).loc Cert.RefPscaleIdeal.main_arg1) = m ((c.tc : Thread Cert.PscaleIdeal.nD Cert.PscaleIdeal.τ).loc Cert.PscaleIdeal.main_arg1)
      ∧ m' ((c.tc : Thread Cert.RefPscaleIdeal.nD Cert.RefPscaleIdeal.τ).loc Cert.RefPscaleIdeal.main_arg2) = m ((c.tc : Thread Cert.PscaleIdeal.nD Cert.PscaleIdeal.τ).loc Cert.PscaleIdeal.main_arg2)) →
    ∃ (v0 : (c : Dev Cert.PscaleIdeal.nD) → Buf (Elt Ideal) ((c.tc : Thread Cert.PscaleIdeal.nD Cert.PscaleIdeal.τ).loc Cert.PscaleIdeal.main_v0_0)) (v1 : (c : Dev Cert.PscaleIdeal.nD) → Buf (Elt Ideal) ((c.tc : Thread Cert.PscaleIdeal.nD Cert.PscaleIdeal.τ).loc Cert.PscaleIdeal.main_v0_1)),
      θ_run (Cert.PscaleIdeal.defs (F := Ideal)) (onTc (τ := Cert.PscaleIdeal.τ) (Cert.PscaleIdeal.main (F := Ideal))) ⟨m, fun _ => 0, g⟩ (fun r => ∀ c : Dev Cert.PscaleIdeal.nD,
          r.2.mem ((c.tc : Thread Cert.PscaleIdeal.nD Cert.PscaleIdeal.τ).loc Cert.PscaleIdeal.main_v0_0) = v0 c
          ∧ r.2.mem ((c.tc : Thread Cert.PscaleIdeal.nD Cert.PscaleIdeal.τ).loc Cert.PscaleIdeal.main_v0_1) = v1 c
          ∧ r.2.mem ((c.tc : Thread Cert.PscaleIdeal.nD Cert.PscaleIdeal.τ).loc Cert.PscaleIdeal.main_arg0) = m ((c.tc : Thread Cert.PscaleIdeal.nD Cert.PscaleIdeal.τ).loc Cert.PscaleIdeal.main_arg0)
          ∧ r.2.mem ((c.tc : Thread Cert.PscaleIdeal.nD Cert.PscaleIdeal.τ).loc Cert.PscaleIdeal.main_arg1) = m ((c.tc : Thread Cert.PscaleIdeal.nD Cert.PscaleIdeal.τ).loc Cert.PscaleIdeal.main_arg1)
          ∧ r.2.mem ((c.tc : Thread Cert.PscaleIdeal.nD Cert.PscaleIdeal.τ).loc Cert.PscaleIdeal.main_arg2) = m ((c.tc : Thread Cert.PscaleIdeal.nD Cert.PscaleIdeal.τ).loc Cert.PscaleIdeal.main_arg2))
      ∧ θ_run (Cert.RefPscaleIdeal.defs (F := Ideal)) (onTc (τ := Cert.RefPscaleIdeal.τ) (Cert.RefPscaleIdeal.main (F := Ideal))) ⟨m', fun _ => 0, g'⟩ (fun r => ∀ c : Dev Cert.RefPscaleIdeal.nD,
          r.2.mem ((c.tc : Thread Cert.RefPscaleIdeal.nD Cert.RefPscaleIdeal.τ).loc Cert.RefPscaleIdeal.main_v7) = v0 c
          ∧ r.2.mem ((c.tc : Thread Cert.RefPscaleIdeal.nD Cert.RefPscaleIdeal.τ).loc Cert.RefPscaleIdeal.main_v4) = v1 c
          ∧ r.2.mem ((c.tc : Thread Cert.RefPscaleIdeal.nD Cert.RefPscaleIdeal.τ).loc Cert.RefPscaleIdeal.main_arg0) = m' ((c.tc : Thread Cert.RefPscaleIdeal.nD Cert.RefPscaleIdeal.τ).loc Cert.RefPscaleIdeal.main_arg0)
          ∧ r.2.mem ((c.tc : Thread Cert.RefPscaleIdeal.nD Cert.RefPscaleIdeal.τ).loc Cert.RefPscaleIdeal.main_arg1) = m' ((c.tc : Thread Cert.RefPscaleIdeal.nD Cert.RefPscaleIdeal.τ).loc Cert.RefPscaleIdeal.main_arg1)
          ∧ r.2.mem ((c.tc : Thread Cert.RefPscaleIdeal.nD Cert.RefPscaleIdeal.τ).loc Cert.RefPscaleIdeal.main_arg2) = m' ((c.tc : Thread Cert.RefPscaleIdeal.nD Cert.RefPscaleIdeal.τ).loc Cert.RefPscaleIdeal.main_arg2))

def algebraic_S5bIdeal_RefS5bIdeal [hS5bIdeal : Cert.S5bIdeal.Facts] [hRefS5bIdeal : Cert.RefS5bIdeal.Facts] : Prop :=
  ∀ (m : (ℓ : Loc Cert.S5bIdeal.nD Cert.S5bIdeal.τ Cert.S5bIdeal.sig) → Buf (Elt Ideal) ℓ) (g : Dev Cert.S5bIdeal.nD → PrngReg)
    (m' : (ℓ : Loc Cert.RefS5bIdeal.nD Cert.RefS5bIdeal.τ Cert.RefS5bIdeal.sig) → Buf (Elt Ideal) ℓ) (g' : Dev Cert.RefS5bIdeal.nD → PrngReg), Pre_S5bIdeal m →
    (∀ c : Dev Cert.S5bIdeal.nD,
      m' ((c.tc : Thread Cert.RefS5bIdeal.nD Cert.RefS5bIdeal.τ).loc Cert.RefS5bIdeal.main_arg0) = m ((c.tc : Thread Cert.S5bIdeal.nD Cert.S5bIdeal.τ).loc Cert.S5bIdeal.main_arg0)
      ∧ m' ((c.tc : Thread Cert.RefS5bIdeal.nD Cert.RefS5bIdeal.τ).loc Cert.RefS5bIdeal.main_arg1) = m ((c.tc : Thread Cert.S5bIdeal.nD Cert.S5bIdeal.τ).loc Cert.S5bIdeal.main_arg1)
      ∧ m' ((c.tc : Thread Cert.RefS5bIdeal.nD Cert.RefS5bIdeal.τ).loc Cert.RefS5bIdeal.main_arg2) = m ((c.tc : Thread Cert.S5bIdeal.nD Cert.S5bIdeal.τ).loc Cert.S5bIdeal.main_arg2)
      ∧ m' ((c.tc : Thread Cert.RefS5bIdeal.nD Cert.RefS5bIdeal.τ).loc Cert.RefS5bIdeal.main_arg3) = m ((c.tc : Thread Cert.S5bIdeal.nD Cert.S5bIdeal.τ).loc Cert.S5bIdeal.main_arg3)
      ∧ m' ((c.tc : Thread Cert.RefS5bIdeal.nD Cert.RefS5bIdeal.τ).loc Cert.RefS5bIdeal.main_arg4) = m ((c.tc : Thread Cert.S5bIdeal.nD Cert.S5bIdeal.τ).loc Cert.S5bIdeal.main_arg4)
      ∧ m' ((c.tc : Thread Cert.RefS5bIdeal.nD Cert.RefS5bIdeal.τ).loc Cert.RefS5bIdeal.main_arg5) = m ((c.tc : Thread Cert.S5bIdeal.nD Cert.S5bIdeal.τ).loc Cert.S5bIdeal.main_arg5)
      ∧ m' ((c.tc : Thread Cert.RefS5bIdeal.nD Cert.RefS5bIdeal.τ).loc Cert.RefS5bIdeal.main_arg6) = m ((c.tc : Thread Cert.S5bIdeal.nD Cert.S5bIdeal.τ).loc Cert.S5bIdeal.main_arg6)
      ∧ m' ((c.tc : Thread Cert.RefS5bIdeal.nD Cert.RefS5bIdeal.τ).loc Cert.RefS5bIdeal.main_arg7) = m ((c.tc : Thread Cert.S5bIdeal.nD Cert.S5bIdeal.τ).loc Cert.S5bIdeal.main_arg7)
      ∧ m' ((c.tc : Thread Cert.RefS5bIdeal.nD Cert.RefS5bIdeal.τ).loc Cert.RefS5bIdeal.main_arg8) = m ((c.tc : Thread Cert.S5bIdeal.nD Cert.S5bIdeal.τ).loc Cert.S5bIdeal.main_arg8)
      ∧ m' ((c.tc : Thread Cert.RefS5bIdeal.nD Cert.RefS5bIdeal.τ).loc Cert.RefS5bIdeal.main_arg9) = m ((c.tc : Thread Cert.S5bIdeal.nD Cert.S5bIdeal.τ).loc Cert.S5bIdeal.main_arg9)
      ∧ m' ((c.tc : Thread Cert.RefS5bIdeal.nD Cert.RefS5bIdeal.τ).loc Cert.RefS5bIdeal.main_arg10) = m ((c.tc : Thread Cert.S5bIdeal.nD Cert.S5bIdeal.τ).loc Cert.S5bIdeal.main_arg10)
      ∧ m' ((c.tc : Thread Cert.RefS5bIdeal.nD Cert.RefS5bIdeal.τ).loc Cert.RefS5bIdeal.main_arg11) = m ((c.tc : Thread Cert.S5bIdeal.nD Cert.S5bIdeal.τ).loc Cert.S5bIdeal.main_arg11)
      ∧ m' ((c.tc : Thread Cert.RefS5bIdeal.nD Cert.RefS5bIdeal.τ).loc Cert.RefS5bIdeal.main_arg12) = m ((c.tc : Thread Cert.S5bIdeal.nD Cert.S5bIdeal.τ).loc Cert.S5bIdeal.main_arg12)) →
    ∃ (v0 : (c : Dev Cert.S5bIdeal.nD) → Buf (Elt Ideal) ((c.tc : Thread Cert.S5bIdeal.nD Cert.S5bIdeal.τ).loc Cert.S5bIdeal.main_v19_3)) (v1 : (c : Dev Cert.S5bIdeal.nD) → Buf (Elt Ideal) ((c.tc : Thread Cert.S5bIdeal.nD Cert.S5bIdeal.τ).loc Cert.S5bIdeal.main_v19_6)),
      θ_run (Cert.S5bIdeal.defs (F := Ideal)) (onTc (τ := Cert.S5bIdeal.τ) (Cert.S5bIdeal.main (F := Ideal))) ⟨m, fun _ => 0, g⟩ (fun r => ∀ c : Dev Cert.S5bIdeal.nD,
          r.2.mem ((c.tc : Thread Cert.S5bIdeal.nD Cert.S5bIdeal.τ).loc Cert.S5bIdeal.main_v19_3) = v0 c
          ∧ r.2.mem ((c.tc : Thread Cert.S5bIdeal.nD Cert.S5bIdeal.τ).loc Cert.S5bIdeal.main_v19_6) = v1 c
          ∧ r.2.mem ((c.tc : Thread Cert.S5bIdeal.nD Cert.S5bIdeal.τ).loc Cert.S5bIdeal.main_arg0) = m ((c.tc : Thread Cert.S5bIdeal.nD Cert.S5bIdeal.τ).loc Cert.S5bIdeal.main_arg0)
          ∧ r.2.mem ((c.tc : Thread Cert.S5bIdeal.nD Cert.S5bIdeal.τ).loc Cert.S5bIdeal.main_arg1) = m ((c.tc : Thread Cert.S5bIdeal.nD Cert.S5bIdeal.τ).loc Cert.S5bIdeal.main_arg1)
          ∧ r.2.mem ((c.tc : Thread Cert.S5bIdeal.nD Cert.S5bIdeal.τ).loc Cert.S5bIdeal.main_arg2) = m ((c.tc : Thread Cert.S5bIdeal.nD Cert.S5bIdeal.τ).loc Cert.S5bIdeal.main_arg2)
          ∧ r.2.mem ((c.tc : Thread Cert.S5bIdeal.nD Cert.S5bIdeal.τ).loc Cert.S5bIdeal.main_arg3) = m ((c.tc : Thread Cert.S5bIdeal.nD Cert.S5bIdeal.τ).loc Cert.S5bIdeal.main_arg3)
          ∧ r.2.mem ((c.tc : Thread Cert.S5bIdeal.nD Cert.S5bIdeal.τ).loc Cert.S5bIdeal.main_arg4) = m ((c.tc : Thread Cert.S5bIdeal.nD Cert.S5bIdeal.τ).loc Cert.S5bIdeal.main_arg4)
          ∧ r.2.mem ((c.tc : Thread Cert.S5bIdeal.nD Cert.S5bIdeal.τ).loc Cert.S5bIdeal.main_arg5) = m ((c.tc : Thread Cert.S5bIdeal.nD Cert.S5bIdeal.τ).loc Cert.S5bIdeal.main_arg5)
          ∧ r.2.mem ((c.tc : Thread Cert.S5bIdeal.nD Cert.S5bIdeal.τ).loc Cert.S5bIdeal.main_arg6) = m ((c.tc : Thread Cert.S5bIdeal.nD Cert.S5bIdeal.τ).loc Cert.S5bIdeal.main_arg6)
          ∧ r.2.mem ((c.tc : Thread Cert.S5bIdeal.nD Cert.S5bIdeal.τ).loc Cert.S5bIdeal.main_arg7) = m ((c.tc : Thread Cert.S5bIdeal.nD Cert.S5bIdeal.τ).loc Cert.S5bIdeal.main_arg7)
          ∧ r.2.mem ((c.tc : Thread Cert.S5bIdeal.nD Cert.S5bIdeal.τ).loc Cert.S5bIdeal.main_arg8) = m ((c.tc : Thread Cert.S5bIdeal.nD Cert.S5bIdeal.τ).loc Cert.S5bIdeal.main_arg8)
          ∧ r.2.mem ((c.tc : Thread Cert.S5bIdeal.nD Cert.S5bIdeal.τ).loc Cert.S5bIdeal.main_arg9) = m ((c.tc : Thread Cert.S5bIdeal.nD Cert.S5bIdeal.τ).loc Cert.S5bIdeal.main_arg9)
          ∧ r.2.mem ((c.tc : Thread Cert.S5bIdeal.nD Cert.S5bIdeal.τ).loc Cert.S5bIdeal.main_arg10) = m ((c.tc : Thread Cert.S5bIdeal.nD Cert.S5bIdeal.τ).loc Cert.S5bIdeal.main_arg10)
          ∧ r.2.mem ((c.tc : Thread Cert.S5bIdeal.nD Cert.S5bIdeal.τ).loc Cert.S5bIdeal.main_arg11) = m ((c.tc : Thread Cert.S5bIdeal.nD Cert.S5bIdeal.τ).loc Cert.S5bIdeal.main_arg11)
          ∧ r.2.mem ((c.tc : Thread Cert.S5bIdeal.nD Cert.S5bIdeal.τ).loc Cert.S5bIdeal.main_arg12) = m ((c.tc : Thread Cert.S5bIdeal.nD Cert.S5bIdeal.τ).loc Cert.S5bIdeal.main_arg12))
      ∧ θ_run (Cert.RefS5bIdeal.defs (F := Ideal)) (onTc (τ := Cert.RefS5bIdeal.τ) (Cert.RefS5bIdeal.main (F := Ideal))) ⟨m', fun _ => 0, g'⟩ (fun r => ∀ c : Dev Cert.RefS5bIdeal.nD,
          r.2.mem ((c.tc : Thread Cert.RefS5bIdeal.nD Cert.RefS5bIdeal.τ).loc Cert.RefS5bIdeal.main_v25) = v0 c
          ∧ r.2.mem ((c.tc : Thread Cert.RefS5bIdeal.nD Cert.RefS5bIdeal.τ).loc Cert.RefS5bIdeal.main_v21) = v1 c
          ∧ r.2.mem ((c.tc : Thread Cert.RefS5bIdeal.nD Cert.RefS5bIdeal.τ).loc Cert.RefS5bIdeal.main_arg0) = m' ((c.tc : Thread Cert.RefS5bIdeal.nD Cert.RefS5bIdeal.τ).loc Cert.RefS5bIdeal.main_arg0)
          ∧ r.2.mem ((c.tc : Thread Cert.RefS5bIdeal.nD Cert.RefS5bIdeal.τ).loc Cert.RefS5bIdeal.main_arg1) = m' ((c.tc : Thread Cert.RefS5bIdeal.nD Cert.RefS5bIdeal.τ).loc Cert.RefS5bIdeal.main_arg1)
          ∧ r.2.mem ((c.tc : Thread Cert.RefS5bIdeal.nD Cert.RefS5bIdeal.τ).loc Cert.RefS5bIdeal.main_arg2) = m' ((c.tc : Thread Cert.RefS5bIdeal.nD Cert.RefS5bIdeal.τ).loc Cert.RefS5bIdeal.main_arg2)
          ∧ r.2.mem ((c.tc : Thread Cert.RefS5bIdeal.nD Cert.RefS5bIdeal.τ).loc Cert.RefS5bIdeal.main_arg3) = m' ((c.tc : Thread Cert.RefS5bIdeal.nD Cert.RefS5bIdeal.τ).loc Cert.RefS5bIdeal.main_arg3)
          ∧ r.2.mem ((c.tc : Thread Cert.RefS5bIdeal.nD Cert.RefS5bIdeal.τ).loc Cert.RefS5bIdeal.main_arg4) = m' ((c.tc : Thread Cert.RefS5bIdeal.nD Cert.RefS5bIdeal.τ).loc Cert.RefS5bIdeal.main_arg4)
          ∧ r.2.mem ((c.tc : Thread Cert.RefS5bIdeal.nD Cert.RefS5bIdeal.τ).loc Cert.RefS5bIdeal.main_arg5) = m' ((c.tc : Thread Cert.RefS5bIdeal.nD Cert.RefS5bIdeal.τ).loc Cert.RefS5bIdeal.main_arg5)
          ∧ r.2.mem ((c.tc : Thread Cert.RefS5bIdeal.nD Cert.RefS5bIdeal.τ).loc Cert.RefS5bIdeal.main_arg6) = m' ((c.tc : Thread Cert.RefS5bIdeal.nD Cert.RefS5bIdeal.τ).loc Cert.RefS5bIdeal.main_arg6)
          ∧ r.2.mem ((c.tc : Thread Cert.RefS5bIdeal.nD Cert.RefS5bIdeal.τ).loc Cert.RefS5bIdeal.main_arg7) = m' ((c.tc : Thread Cert.RefS5bIdeal.nD Cert.RefS5bIdeal.τ).loc Cert.RefS5bIdeal.main_arg7)
          ∧ r.2.mem ((c.tc : Thread Cert.RefS5bIdeal.nD Cert.RefS5bIdeal.τ).loc Cert.RefS5bIdeal.main_arg8) = m' ((c.tc : Thread Cert.RefS5bIdeal.nD Cert.RefS5bIdeal.τ).loc Cert.RefS5bIdeal.main_arg8)
          ∧ r.2.mem ((c.tc : Thread Cert.RefS5bIdeal.nD Cert.RefS5bIdeal.τ).loc Cert.RefS5bIdeal.main_arg9) = m' ((c.tc : Thread Cert.RefS5bIdeal.nD Cert.RefS5bIdeal.τ).loc Cert.RefS5bIdeal.main_arg9)
          ∧ r.2.mem ((c.tc : Thread Cert.RefS5bIdeal.nD Cert.RefS5bIdeal.τ).loc Cert.RefS5bIdeal.main_arg10) = m' ((c.tc : Thread Cert.RefS5bIdeal.nD Cert.RefS5bIdeal.τ).loc Cert.RefS5bIdeal.main_arg10)
          ∧ r.2.mem ((c.tc : Thread Cert.RefS5bIdeal.nD Cert.RefS5bIdeal.τ).loc Cert.RefS5bIdeal.main_arg11) = m' ((c.tc : Thread Cert.RefS5bIdeal.nD Cert.RefS5bIdeal.τ).loc Cert.RefS5bIdeal.main_arg11)
          ∧ r.2.mem ((c.tc : Thread Cert.RefS5bIdeal.nD Cert.RefS5bIdeal.τ).loc Cert.RefS5bIdeal.main_arg12) = m' ((c.tc : Thread Cert.RefS5bIdeal.nD Cert.RefS5bIdeal.τ).loc Cert.RefS5bIdeal.main_arg12))

def Claim : Prop :=
  ∃ (hDff2 : Cert.Dff2.Facts) (hDff2Ideal : Cert.Dff2Ideal.Facts) (hRefDff2Ideal : Cert.RefDff2Ideal.Facts) (hGff2 : Cert.Gff2.Facts) (hGff2Ideal : Cert.Gff2Ideal.Facts) (hRefGff2Ideal : Cert.RefGff2Ideal.Facts) (hGff1 : Cert.Gff1.Facts) (hGff1Ideal : Cert.Gff1Ideal.Facts) (hRefGff1Ideal : Cert.RefGff1Ideal.Facts) (hDff1 : Cert.Dff1.Facts) (hDff1Ideal : Cert.Dff1Ideal.Facts) (hRefDff1Ideal : Cert.RefDff1Ideal.Facts) (hMerge : Cert.Merge.Facts) (hMergeIdeal : Cert.MergeIdeal.Facts) (hRefMergeIdeal : Cert.RefMergeIdeal.Facts) (hGin : Cert.Gin.Facts) (hGinIdeal : Cert.GinIdeal.Facts) (hRefGinIdeal : Cert.RefGinIdeal.Facts) (hDproj : Cert.Dproj.Facts) (hDprojIdeal : Cert.DprojIdeal.Facts) (hRefDprojIdeal : Cert.RefDprojIdeal.Facts) (hGout : Cert.Gout.Facts) (hGoutIdeal : Cert.GoutIdeal.Facts) (hRefGoutIdeal : Cert.RefGoutIdeal.Facts) (hDmix : Cert.Dmix.Facts) (hDmixIdeal : Cert.DmixIdeal.Facts) (hRefDmixIdeal : Cert.RefDmixIdeal.Facts) (hGglu : Cert.Gglu.Facts) (hGgluIdeal : Cert.GgluIdeal.Facts) (hRefGgluIdeal : Cert.RefGgluIdeal.Facts) (hDglu : Cert.Dglu.Facts) (hDgluIdeal : Cert.DgluIdeal.Facts) (hRefDgluIdeal : Cert.RefDgluIdeal.Facts) (hGpo : Cert.Gpo.Facts) (hGpoIdeal : Cert.GpoIdeal.Facts) (hRefGpoIdeal : Cert.RefGpoIdeal.Facts) (hDpo : Cert.Dpo.Facts) (hDpoIdeal : Cert.DpoIdeal.Facts) (hRefDpoIdeal : Cert.RefDpoIdeal.Facts) (hDpm : Cert.Dpm.Facts) (hDpmIdeal : Cert.DpmIdeal.Facts) (hRefDpmIdeal : Cert.RefDpmIdeal.Facts) (hGpool : Cert.Gpool.Facts) (hGpoolIdeal : Cert.GpoolIdeal.Facts) (hRefGpoolIdeal : Cert.RefGpoolIdeal.Facts) (hProj : Cert.Proj.Facts) (hProjIdeal : Cert.ProjIdeal.Facts) (hRefProjIdeal : Cert.RefProjIdeal.Facts) (hGlu : Cert.Glu.Facts) (hGluIdeal : Cert.GluIdeal.Facts) (hRefGluIdeal : Cert.RefGluIdeal.Facts) (hPmix : Cert.Pmix.Facts) (hPmixIdeal : Cert.PmixIdeal.Facts) (hRefPmixIdeal : Cert.RefPmixIdeal.Facts) (hPo : Cert.Po.Facts) (hPoIdeal : Cert.PoIdeal.Facts) (hRefPoIdeal : Cert.RefPoIdeal.Facts) (hMix : Cert.Mix.Facts) (hMixIdeal : Cert.MixIdeal.Facts) (hRefMixIdeal : Cert.RefMixIdeal.Facts) (hFf1 : Cert.Ff1.Facts) (hFf1Ideal : Cert.Ff1Ideal.Facts) (hRefFf1Ideal : Cert.RefFf1Ideal.Facts) (hFf2 : Cert.Ff2.Facts) (hFf2Ideal : Cert.Ff2Ideal.Facts) (hRefFf2Ideal : Cert.RefFf2Ideal.Facts) (hPscale : Cert.Pscale.Facts) (hPscaleIdeal : Cert.PscaleIdeal.Facts) (hRefPscaleIdeal : Cert.RefPscaleIdeal.Facts) (hS5bIdeal : Cert.S5bIdeal.Facts) (hRefS5bIdeal : Cert.RefS5bIdeal.Facts),
    quiescent_Dff2 (hDff2 := hDff2)
    ∧ quiescent_Dff2Ideal (hDff2Ideal := hDff2Ideal)
    ∧ quiescent_RefDff2Ideal (hRefDff2Ideal := hRefDff2Ideal)
    ∧ quiescent_Gff2 (hGff2 := hGff2)
    ∧ quiescent_Gff2Ideal (hGff2Ideal := hGff2Ideal)
    ∧ quiescent_RefGff2Ideal (hRefGff2Ideal := hRefGff2Ideal)
    ∧ quiescent_Gff1 (hGff1 := hGff1)
    ∧ quiescent_Gff1Ideal (hGff1Ideal := hGff1Ideal)
    ∧ quiescent_RefGff1Ideal (hRefGff1Ideal := hRefGff1Ideal)
    ∧ quiescent_Dff1 (hDff1 := hDff1)
    ∧ quiescent_Dff1Ideal (hDff1Ideal := hDff1Ideal)
    ∧ quiescent_RefDff1Ideal (hRefDff1Ideal := hRefDff1Ideal)
    ∧ quiescent_Merge (hMerge := hMerge)
    ∧ quiescent_MergeIdeal (hMergeIdeal := hMergeIdeal)
    ∧ quiescent_RefMergeIdeal (hRefMergeIdeal := hRefMergeIdeal)
    ∧ quiescent_Gin (hGin := hGin)
    ∧ quiescent_GinIdeal (hGinIdeal := hGinIdeal)
    ∧ quiescent_RefGinIdeal (hRefGinIdeal := hRefGinIdeal)
    ∧ quiescent_Dproj (hDproj := hDproj)
    ∧ quiescent_DprojIdeal (hDprojIdeal := hDprojIdeal)
    ∧ quiescent_RefDprojIdeal (hRefDprojIdeal := hRefDprojIdeal)
    ∧ quiescent_Gout (hGout := hGout)
    ∧ quiescent_GoutIdeal (hGoutIdeal := hGoutIdeal)
    ∧ quiescent_RefGoutIdeal (hRefGoutIdeal := hRefGoutIdeal)
    ∧ quiescent_Dmix (hDmix := hDmix)
    ∧ quiescent_DmixIdeal (hDmixIdeal := hDmixIdeal)
    ∧ quiescent_RefDmixIdeal (hRefDmixIdeal := hRefDmixIdeal)
    ∧ quiescent_Gglu (hGglu := hGglu)
    ∧ quiescent_GgluIdeal (hGgluIdeal := hGgluIdeal)
    ∧ quiescent_RefGgluIdeal (hRefGgluIdeal := hRefGgluIdeal)
    ∧ quiescent_Dglu (hDglu := hDglu)
    ∧ quiescent_DgluIdeal (hDgluIdeal := hDgluIdeal)
    ∧ quiescent_RefDgluIdeal (hRefDgluIdeal := hRefDgluIdeal)
    ∧ quiescent_Gpo (hGpo := hGpo)
    ∧ quiescent_GpoIdeal (hGpoIdeal := hGpoIdeal)
    ∧ quiescent_RefGpoIdeal (hRefGpoIdeal := hRefGpoIdeal)
    ∧ quiescent_Dpo (hDpo := hDpo)
    ∧ quiescent_DpoIdeal (hDpoIdeal := hDpoIdeal)
    ∧ quiescent_RefDpoIdeal (hRefDpoIdeal := hRefDpoIdeal)
    ∧ quiescent_Dpm (hDpm := hDpm)
    ∧ quiescent_DpmIdeal (hDpmIdeal := hDpmIdeal)
    ∧ quiescent_RefDpmIdeal (hRefDpmIdeal := hRefDpmIdeal)
    ∧ quiescent_Gpool (hGpool := hGpool)
    ∧ quiescent_GpoolIdeal (hGpoolIdeal := hGpoolIdeal)
    ∧ quiescent_RefGpoolIdeal (hRefGpoolIdeal := hRefGpoolIdeal)
    ∧ quiescent_Proj (hProj := hProj)
    ∧ quiescent_ProjIdeal (hProjIdeal := hProjIdeal)
    ∧ quiescent_RefProjIdeal (hRefProjIdeal := hRefProjIdeal)
    ∧ quiescent_Glu (hGlu := hGlu)
    ∧ quiescent_GluIdeal (hGluIdeal := hGluIdeal)
    ∧ quiescent_RefGluIdeal (hRefGluIdeal := hRefGluIdeal)
    ∧ quiescent_Pmix (hPmix := hPmix)
    ∧ quiescent_PmixIdeal (hPmixIdeal := hPmixIdeal)
    ∧ quiescent_RefPmixIdeal (hRefPmixIdeal := hRefPmixIdeal)
    ∧ quiescent_Po (hPo := hPo)
    ∧ quiescent_PoIdeal (hPoIdeal := hPoIdeal)
    ∧ quiescent_RefPoIdeal (hRefPoIdeal := hRefPoIdeal)
    ∧ quiescent_Mix (hMix := hMix)
    ∧ quiescent_MixIdeal (hMixIdeal := hMixIdeal)
    ∧ quiescent_RefMixIdeal (hRefMixIdeal := hRefMixIdeal)
    ∧ quiescent_Ff1 (hFf1 := hFf1)
    ∧ quiescent_Ff1Ideal (hFf1Ideal := hFf1Ideal)
    ∧ quiescent_RefFf1Ideal (hRefFf1Ideal := hRefFf1Ideal)
    ∧ quiescent_Ff2 (hFf2 := hFf2)
    ∧ quiescent_Ff2Ideal (hFf2Ideal := hFf2Ideal)
    ∧ quiescent_RefFf2Ideal (hRefFf2Ideal := hRefFf2Ideal)
    ∧ quiescent_Pscale (hPscale := hPscale)
    ∧ quiescent_PscaleIdeal (hPscaleIdeal := hPscaleIdeal)
    ∧ quiescent_RefPscaleIdeal (hRefPscaleIdeal := hRefPscaleIdeal)
    ∧ quiescent_S5bIdeal (hS5bIdeal := hS5bIdeal)
    ∧ quiescent_RefS5bIdeal (hRefS5bIdeal := hRefS5bIdeal)
    ∧ preserves_Dff2_Dff2Ideal
    ∧ algebraic_Dff2Ideal_RefDff2Ideal (hDff2Ideal := hDff2Ideal) (hRefDff2Ideal := hRefDff2Ideal)
    ∧ preserves_Gff2_Gff2Ideal
    ∧ algebraic_Gff2Ideal_RefGff2Ideal (hGff2Ideal := hGff2Ideal) (hRefGff2Ideal := hRefGff2Ideal)
    ∧ preserves_Gff1_Gff1Ideal
    ∧ algebraic_Gff1Ideal_RefGff1Ideal (hGff1Ideal := hGff1Ideal) (hRefGff1Ideal := hRefGff1Ideal)
    ∧ preserves_Dff1_Dff1Ideal
    ∧ algebraic_Dff1Ideal_RefDff1Ideal (hDff1Ideal := hDff1Ideal) (hRefDff1Ideal := hRefDff1Ideal)
    ∧ preserves_Merge_MergeIdeal
    ∧ algebraic_MergeIdeal_RefMergeIdeal (hMergeIdeal := hMergeIdeal) (hRefMergeIdeal := hRefMergeIdeal)
    ∧ preserves_Gin_GinIdeal
    ∧ algebraic_GinIdeal_RefGinIdeal (hGinIdeal := hGinIdeal) (hRefGinIdeal := hRefGinIdeal)
    ∧ preserves_Dproj_DprojIdeal
    ∧ algebraic_DprojIdeal_RefDprojIdeal (hDprojIdeal := hDprojIdeal) (hRefDprojIdeal := hRefDprojIdeal)
    ∧ preserves_Gout_GoutIdeal
    ∧ algebraic_GoutIdeal_RefGoutIdeal (hGoutIdeal := hGoutIdeal) (hRefGoutIdeal := hRefGoutIdeal)
    ∧ preserves_Dmix_DmixIdeal
    ∧ algebraic_DmixIdeal_RefDmixIdeal (hDmixIdeal := hDmixIdeal) (hRefDmixIdeal := hRefDmixIdeal)
    ∧ preserves_Gglu_GgluIdeal
    ∧ algebraic_GgluIdeal_RefGgluIdeal (hGgluIdeal := hGgluIdeal) (hRefGgluIdeal := hRefGgluIdeal)
    ∧ preserves_Dglu_DgluIdeal
    ∧ algebraic_DgluIdeal_RefDgluIdeal (hDgluIdeal := hDgluIdeal) (hRefDgluIdeal := hRefDgluIdeal)
    ∧ preserves_Gpo_GpoIdeal
    ∧ algebraic_GpoIdeal_RefGpoIdeal (hGpoIdeal := hGpoIdeal) (hRefGpoIdeal := hRefGpoIdeal)
    ∧ preserves_Dpo_DpoIdeal
    ∧ algebraic_DpoIdeal_RefDpoIdeal (hDpoIdeal := hDpoIdeal) (hRefDpoIdeal := hRefDpoIdeal)
    ∧ preserves_Dpm_DpmIdeal
    ∧ algebraic_DpmIdeal_RefDpmIdeal (hDpmIdeal := hDpmIdeal) (hRefDpmIdeal := hRefDpmIdeal)
    ∧ preserves_Gpool_GpoolIdeal
    ∧ algebraic_GpoolIdeal_RefGpoolIdeal (hGpoolIdeal := hGpoolIdeal) (hRefGpoolIdeal := hRefGpoolIdeal)
    ∧ preserves_Proj_ProjIdeal
    ∧ algebraic_ProjIdeal_RefProjIdeal (hProjIdeal := hProjIdeal) (hRefProjIdeal := hRefProjIdeal)
    ∧ preserves_Glu_GluIdeal
    ∧ algebraic_GluIdeal_RefGluIdeal (hGluIdeal := hGluIdeal) (hRefGluIdeal := hRefGluIdeal)
    ∧ preserves_Pmix_PmixIdeal
    ∧ algebraic_PmixIdeal_RefPmixIdeal (hPmixIdeal := hPmixIdeal) (hRefPmixIdeal := hRefPmixIdeal)
    ∧ preserves_Po_PoIdeal
    ∧ algebraic_PoIdeal_RefPoIdeal (hPoIdeal := hPoIdeal) (hRefPoIdeal := hRefPoIdeal)
    ∧ preserves_Mix_MixIdeal
    ∧ algebraic_MixIdeal_RefMixIdeal (hMixIdeal := hMixIdeal) (hRefMixIdeal := hRefMixIdeal)
    ∧ preserves_Ff1_Ff1Ideal
    ∧ algebraic_Ff1Ideal_RefFf1Ideal (hFf1Ideal := hFf1Ideal) (hRefFf1Ideal := hRefFf1Ideal)
    ∧ preserves_Ff2_Ff2Ideal
    ∧ algebraic_Ff2Ideal_RefFf2Ideal (hFf2Ideal := hFf2Ideal) (hRefFf2Ideal := hRefFf2Ideal)
    ∧ preserves_Pscale_PscaleIdeal
    ∧ algebraic_PscaleIdeal_RefPscaleIdeal (hPscaleIdeal := hPscaleIdeal) (hRefPscaleIdeal := hRefPscaleIdeal)
    ∧ algebraic_S5bIdeal_RefS5bIdeal (hS5bIdeal := hS5bIdeal) (hRefS5bIdeal := hRefS5bIdeal)
-- ==== Dff2.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S1x8192x2048 : Shape := ⟨3, ![1, 8192, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .bf16⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S8192x2048, .bf16⟩
  | .hbm, ⟨8, _⟩ => ⟨S1x8192x2048, .bf16⟩
  | .hbm, ⟨9, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefDff2Ideal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .bf16⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S2048x2048, .f32⟩
  | .hbm, ⟨16, _⟩ => ⟨S2048x2048, .f32⟩
  | .hbm, ⟨17, _⟩ => ⟨S2048x8192, .f32⟩
  | .hbm, ⟨18, _⟩ => ⟨S2048x8192, .f32⟩
  | .hbm, ⟨19, _⟩ => ⟨S_, .f32⟩
  | .hbm, ⟨20, _⟩ => ⟨S2048x8192, .f32⟩
  | .hbm, ⟨21, _⟩ => ⟨S2048x8192, .f32⟩
  | .hbm, ⟨22, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Gff2.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .bf16⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGff2Ideal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .bf16⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S2048x2048, .f32⟩
  | .hbm, ⟨8, _⟩ => ⟨S2048x2048, .f32⟩
  | .hbm, ⟨9, _⟩ => ⟨S2048x8192, .f32⟩
  | .hbm, ⟨10, _⟩ => ⟨S8192x2048, .f32⟩
  | .hbm, ⟨11, _⟩ => ⟨S8192x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Gff1.lean ====
abbrev S2048x2048 : Shape := ⟨2, ![2048, 2048]⟩
abbrev S2048x8192 : Shape := ⟨2, ![2048, 8192]⟩
abbrev S8x2048x1024 : Shape := ⟨3, ![8, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .bf16⟩
  | .hbm, ⟨3, _⟩ => ⟨S2048x2048, .bf16⟩
  | .hbm, ⟨4, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGff1Ideal.lean ====
abbrev S2048x2048 : Shape := ⟨2, ![2048, 2048]⟩
abbrev S2048x8192 : Shape := ⟨2, ![2048, 8192]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .bf16⟩
  | .hbm, ⟨3, _⟩ => ⟨S2048x8192, .f32⟩
  | .hbm, ⟨4, _⟩ => ⟨S2048x8192, .f32⟩
  | .hbm, ⟨5, _⟩ => ⟨S8192x2048, .f32⟩
  | .hbm, ⟨6, _⟩ => ⟨S2048x8192, .f32⟩
  | .hbm, ⟨7, _⟩ => ⟨S2048x8x1024, .f32⟩
  | .hbm, ⟨8, _⟩ => ⟨S8x2048x1024, .f32⟩
  | .hbm, ⟨9, _⟩ => ⟨S8x2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dff1.lean ====
abbrev S2048x2048 : Shape := ⟨2, ![2048, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S1024x4096 : Shape := ⟨2, ![1024, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .bf16⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S2048x2048, .f32⟩
  | .local _ .vmem, ⟨0, _⟩ => ⟨S1024x4096, .bf16⟩
  | .local _ .vmem, ⟨1, _⟩ => ⟨S1024x4096, .bf16⟩
  | .local _ .vmem, ⟨2, _⟩ => ⟨S4x1024x1024, .bf16⟩
  | .local _ .vmem, ⟨3, _⟩ => ⟨S4x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_16 : BitVec 32 := 1#32
  let v28 : BitVec 1 := Scalar.cmpi .eq arg2 c1_i32_16
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDff1Ideal.lean ====
abbrev S2048x2048 : Shape := ⟨2, ![2048, 2048]⟩
abbrev S2048x8192 : Shape := ⟨2, ![2048, 8192]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .bf16⟩
  | .hbm, ⟨3, _⟩ => ⟨S2048x8192, .f32⟩
  | .hbm, ⟨4, _⟩ => ⟨S2048x8192, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Merge.lean ====
abbrev S2048x6144 : Shape := ⟨2, ![2048, 6144]⟩
abbrev S2048x2048 : Shape := ⟨2, ![2048, 2048]⟩
abbrev S2048x8x256 : Shape := ⟨3, ![2048, 8, 256]⟩
abbrev S2048x8x1x256 : Shape := ⟨4, ![2048, 8, 1, 256]⟩
abbrev S2048x8x2x256 : Shape := ⟨4, ![2048, 8, 2, 256]⟩
abbrev S2048x4096 : Shape := ⟨2, ![2048, 4096]⟩
abbrev S256x1024 : Shape := ⟨2, ![256, 1024]⟩
abbrev S256x2048 : Shape := ⟨2, ![256, 2048]⟩
abbrev S256x256 : Shape := ⟨2, ![256, 256]⟩

abbrev nBuf : Space → Nat
  | .hbm => 17
  | .vmem => 18
  | .smem => 0
  | _ => 0

abbrev bufTy : (tb : Table) → Fin (tcTables nBuf tb) → BufTy
  | .hbm, ⟨0, _⟩ => ⟨S2048x6144, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x8x256, .f32⟩
  | .hbm, ⟨6, _⟩ => ⟨S2048x8x256, .f32⟩
  | .hbm, ⟨7, _⟩ => ⟨S2048x8x1x256, .f32⟩
  | .hbm, ⟨8, _⟩ => ⟨S2048x8x1x256, .f32⟩
  | .hbm, ⟨9, _⟩ => ⟨S2048x8x2x256, .f32⟩
  | .hbm, ⟨10, _⟩ => ⟨S2048x4096, .f32⟩
  | .hbm, ⟨11, _⟩ => ⟨S2048x4096, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S2048x4096, .bf16⟩
  | .hbm, ⟨16, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .bf16⟩
  | .local _ .vmem, ⟨5, _⟩ => ⟨S256x2048, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x2048, .bf16⟩
  | .local _ .vmem, ⟨15, _⟩ => ⟨S256x2048, .bf16⟩
  | .local _ .vmem, ⟨16, _⟩ => ⟨S256x1024, .bf16⟩
  | .local _ .vmem, ⟨17, _⟩ => ⟨S256x1024, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v8_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefMergeIdeal.lean ====
abbrev S2048x6144 : Shape := ⟨2, ![2048, 6144]⟩
abbrev S2048x2048 : Shape := ⟨2, ![2048, 2048]⟩
abbrev S_ : Shape := ⟨0, ![]⟩
abbrev S2048x8x256 : Shape := ⟨3, ![2048, 8, 256]⟩
abbrev S2048x8x1x256 : Shape := ⟨4, ![2048, 8, 1, 256]⟩
abbrev S2048x8x2x256 : Shape := ⟨4, ![2048, 8, 2, 256]⟩
abbrev S2048x4096 : Shape := ⟨2, ![2048, 4096]⟩

abbrev nBuf : Space → Nat
  | .hbm => 67
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S_, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x8x256, .f32⟩
  | .hbm, ⟨58, _⟩ => ⟨S2048x8x256, .f32⟩
  | .hbm, ⟨59, _⟩ => ⟨S2048x8x1x256, .f32⟩
  | .hbm, ⟨60, _⟩ => ⟨S2048x8x1x256, .f32⟩
  | .hbm, ⟨61, _⟩ => ⟨S2048x8x2x256, .f32⟩
  | .hbm, ⟨62, _⟩ => ⟨S2048x4096, .f32⟩
  | .hbm, ⟨63, _⟩ => ⟨S2048x2048, .bf16⟩
  | .hbm, ⟨64, _⟩ => ⟨S2048x2048, .bf16⟩
  | .hbm, ⟨65, _⟩ => ⟨S2048x4096, .bf16⟩
  | .hbm, ⟨66, _⟩ => ⟨S2048x2048, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Gin.lean ====
abbrev S2048x2048 : Shape := ⟨2, ![2048, 2048]⟩
abbrev S2048x6144 : Shape := ⟨2, ![2048, 6144]⟩
abbrev S8x2048x768 : Shape := ⟨3, ![8, 2048, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S2048x6144, .bf16⟩
  | .hbm, ⟨3, _⟩ => ⟨S2048x2048, .bf16⟩
  | .hbm, ⟨4, _⟩ => ⟨S8x2048x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGinIdeal.lean ====
abbrev S2048x2048 : Shape := ⟨2, ![2048, 2048]⟩
abbrev S2048x6144 : Shape := ⟨2, ![2048, 6144]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S2048x6144, .bf16⟩
  | .hbm, ⟨3, _⟩ => ⟨S2048x6144, .f32⟩
  | .hbm, ⟨4, _⟩ => ⟨S2048x6144, .f32⟩
  | .hbm, ⟨5, _⟩ => ⟨S6144x2048, .f32⟩
  | .hbm, ⟨6, _⟩ => ⟨S2048x6144, .f32⟩
  | .hbm, ⟨7, _⟩ => ⟨S2048x8x768, .f32⟩
  | .hbm, ⟨8, _⟩ => ⟨S8x2048x768, .f32⟩
  | .hbm, ⟨9, _⟩ => ⟨S8x2048x768, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dproj.lean ====
abbrev S2048x2048 : Shape := ⟨2, ![2048, 2048]⟩
abbrev S2048x6144 : Shape := ⟨2, ![2048, 6144]⟩
abbrev S2048x8x768 : Shape := ⟨3, ![2048, 8, 768]⟩
abbrev S8x2048x768 : Shape := ⟨3, ![8, 2048, 768]⟩
abbrev S1024x3072 : Shape := ⟨2, ![1024, 3072]⟩
abbrev S4x1024x768 : Shape := ⟨3, ![4, 1024, 768]⟩
abbrev S1024x1024 : Shape := ⟨2, ![1024, 1024]⟩
abbrev S1024x768 : Shape := ⟨2, ![1024, 768]⟩
abbrev S1x1024x768 : Shape := ⟨3, ![1, 1024, 768]⟩

abbrev nBuf : Space → Nat
  | .hbm => 7
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S2048x6144, .bf16⟩
  | .hbm, ⟨3, _⟩ => ⟨S2048x8x768, .f32⟩
  | .hbm, ⟨4, _⟩ => ⟨S8x2048x768, .f32⟩
  | .hbm, ⟨5, _⟩ => ⟨S8x2048x768, .bf16⟩
  | .hbm, ⟨6, _⟩ => ⟨S2048x2048, .f32⟩
  | .local _ .vmem, ⟨0, _⟩ => ⟨S1024x3072, .bf16⟩
  | .local _ .vmem, ⟨1, _⟩ => ⟨S1024x3072, .bf16⟩
  | .local _ .vmem, ⟨2, _⟩ => ⟨S4x1024x768, .bf16⟩
  | .local _ .vmem, ⟨3, _⟩ => ⟨S4x1024x768, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_16 : BitVec 32 := 1#32
  let v28 : BitVec 1 := Scalar.cmpi .eq arg2 c1_i32_16
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDprojIdeal.lean ====
abbrev S2048x2048 : Shape := ⟨2, ![2048, 2048]⟩
abbrev S2048x6144 : Shape := ⟨2, ![2048, 6144]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S2048x6144, .bf16⟩
  | .hbm, ⟨3, _⟩ => ⟨S2048x6144, .f32⟩
  | .hbm, ⟨4, _⟩ => ⟨S2048x6144, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Gout.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGoutIdeal.lean ====
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dmix.lean ====
abbrev S2048x2048 : Shape := ⟨2, ![2048, 2048]⟩
abbrev S1x2048x2048 : Shape := ⟨3, ![1, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S1x2048x2048, .bf16⟩
  | .hbm, ⟨5, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDmixIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Gglu.lean ====
abbrev S2048x1024 : Shape := ⟨2, ![2048, 1024]⟩
abbrev S1024x2048 : Shape := ⟨2, ![1024, 2048]⟩
abbrev S2048x2048 : Shape := ⟨2, ![2048, 2048]⟩
abbrev S2048x8x256 : Shape := ⟨3, ![2048, 8, 256]⟩
abbrev S2048x8x1x256 : Shape := ⟨4, ![2048, 8, 1, 256]⟩
abbrev S2048x8x2x256 : Shape := ⟨4, ![2048, 8, 2, 256]⟩
abbrev S2048x4096 : Shape := ⟨2, ![2048, 4096]⟩
abbrev S16x1024x256 : Shape := ⟨3, ![16, 1024, 256]⟩
abbrev S4x1024x256 : Shape := ⟨3, ![4, 1024, 256]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 14
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S1024x2048, .f32⟩
  | .hbm, ⟨3, _⟩ => ⟨S2048x2048, .f32⟩
  | .hbm, ⟨4, _⟩ => ⟨S2048x2048, .f32⟩
  | .hbm, ⟨5, _⟩ => ⟨S2048x1024, .bf16⟩
  | .hbm, ⟨6, _⟩ => ⟨S2048x8x256, .f32⟩
  | .hbm, ⟨7, _⟩ => ⟨S2048x8x256, .f32⟩
  | .hbm, ⟨8, _⟩ => ⟨S2048x8x1x256, .f32⟩
  | .hbm, ⟨9, _⟩ => ⟨S2048x8x1x256, .f32⟩
  | .hbm, ⟨10, _⟩ => ⟨S2048x8x2x256, .f32⟩
  | .hbm, ⟨11, _⟩ => ⟨S2048x4096, .f32⟩
  | .hbm, ⟨12, _⟩ => ⟨S2048x4096, .bf16⟩
  | .hbm, ⟨13, _⟩ => ⟨S16x1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S4x1024x256, .bf16⟩
  | .local _ .vmem, ⟨4, _⟩ => ⟨S4x1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGgluIdeal.lean ====
abbrev S2048x1024 : Shape := ⟨2, ![2048, 1024]⟩
abbrev S1024x2048 : Shape := ⟨2, ![1024, 2048]⟩
abbrev S2048x2048 : Shape := ⟨2, ![2048, 2048]⟩
abbrev S1024x8x256 : Shape := ⟨3, ![1024, 8, 256]⟩
abbrev S8x1024x256 : Shape := ⟨3, ![8, 1024, 256]⟩
abbrev S8x1x1024x256 : Shape := ⟨4, ![8, 1, 1024, 256]⟩
abbrev S8x2x1024x256 : Shape := ⟨4, ![8, 2, 1024, 256]⟩
abbrev S16x1024x256 : Shape := ⟨3, ![16, 1024, 256]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S1024x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S2048x1024, .f32⟩
  | .hbm, ⟨10, _⟩ => ⟨S1024x2048, .f32⟩
  | .hbm, ⟨11, _⟩ => ⟨S1024x8x256, .f32⟩
  | .hbm, ⟨12, _⟩ => ⟨S8x1024x256, .f32⟩
  | .hbm, ⟨13, _⟩ => ⟨S1024x8x256, .f32⟩
  | .hbm, ⟨14, _⟩ => ⟨S8x1024x256, .f32⟩
  | .hbm, ⟨15, _⟩ => ⟨S8x1x1024x256, .f32⟩
  | .hbm, ⟨16, _⟩ => ⟨S8x1x1024x256, .f32⟩
  | .hbm, ⟨17, _⟩ => ⟨S8x2x1024x256, .f32⟩
  | .hbm, ⟨18, _⟩ => ⟨S16x1024x256, .f32⟩
  | .hbm, ⟨19, _⟩ => ⟨S16x1024x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Dglu.lean ====
abbrev S2048x1024 : Shape := ⟨2, ![2048, 1024]⟩
abbrev S1024x2048 : Shape := ⟨2, ![1024, 2048]⟩
abbrev S2048x2048 : Shape := ⟨2, ![2048, 2048]⟩
abbrev S2048x8x256 : Shape := ⟨3, ![2048, 8, 256]⟩
abbrev S2048x8x1x256 : Shape := ⟨4, ![2048, 8, 1, 256]⟩
abbrev S2048x8x2x256 : Shape := ⟨4, ![2048, 8, 2, 256]⟩
abbrev S2048x4096 : Shape := ⟨2, ![2048, 4096]⟩
abbrev S1024x8x256 : Shape := ⟨3, ![1024, 8, 256]⟩
abbrev S8x1024x256 : Shape := ⟨3, ![8, 1024, 256]⟩
abbrev S8x1x1024x256 : Shape := ⟨4, ![8, 1, 1024, 256]⟩
abbrev S8x2x1024x256 : Shape := ⟨4, ![8, 2, 1024, 256]⟩
abbrev S16x1024x256 : Shape := ⟨3, ![16, 1024, 256]⟩
abbrev S1024x4096 : Shape := ⟨2, ![1024, 4096]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 22
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S1024x2048, .f32⟩
  | .hbm, ⟨3, _⟩ => ⟨S2048x2048, .f32⟩
  | .hbm, ⟨4, _⟩ => ⟨S2048x2048, .f32⟩
  | .hbm, ⟨5, _⟩ => ⟨S2048x8x256, .f32⟩
  | .hbm, ⟨6, _⟩ => ⟨S2048x8x256, .f32⟩
  | .hbm, ⟨7, _⟩ => ⟨S2048x8x1x256, .f32⟩
  | .hbm, ⟨8, _⟩ => ⟨S2048x8x1x256, .f32⟩
  | .hbm, ⟨9, _⟩ => ⟨S2048x8x2x256, .f32⟩
  | .hbm, ⟨10, _⟩ => ⟨S2048x4096, .f32⟩
  | .hbm, ⟨11, _⟩ => ⟨S2048x4096, .bf16⟩
  | .hbm, ⟨12, _⟩ => ⟨S1024x8x256, .f32⟩
  | .hbm, ⟨13, _⟩ => ⟨S8x1024x256, .f32⟩
  | .hbm, ⟨14, _⟩ => ⟨S1024x8x256, .f32⟩
  | .hbm, ⟨15, _⟩ => ⟨S8x1024x256, .f32⟩
  | .hbm, ⟨16, _⟩ => ⟨S8x1x1024x256, .f32⟩
  | .hbm, ⟨17, _⟩ => ⟨S8x1x1024x256, .f32⟩
  | .hbm, ⟨18, _⟩ => ⟨S8x2x1024x256, .f32⟩
  | .hbm, ⟨19, _⟩ => ⟨S16x1024x256, .f32⟩
  | .hbm, ⟨20, _⟩ => ⟨S16x1024x256, .bf16⟩
  | .hbm, ⟨21, _⟩ => ⟨S2048x1024, .bf16⟩
  | .local _ .vmem, ⟨0, _⟩ => ⟨S1024x4096, .bf16⟩
  | .local _ .vmem, ⟨1, _⟩ => ⟨S1024x4096, .bf16⟩
  | .local _ .vmem, ⟨2, _⟩ => ⟨S16x1024x256, .bf16⟩
  | .local _ .vmem, ⟨3, _⟩ => ⟨S1024x1024, .bf16⟩
  | .local _ .vmem, ⟨4, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S16x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDgluIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S1024x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Gpo.lean ====
abbrev S2048x1024 : Shape := ⟨2, ![2048, 1024]⟩
abbrev S1024x2048 : Shape := ⟨2, ![1024, 2048]⟩
abbrev S2048x2048 : Shape := ⟨2, ![2048, 2048]⟩
abbrev S8x1024x256 : Shape := ⟨3, ![8, 1024, 256]⟩
abbrev S4x1024x256 : Shape := ⟨3, ![4, 1024, 256]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .bf16⟩
  | .hbm, ⟨3, _⟩ => ⟨S2048x1024, .bf16⟩
  | .hbm, ⟨4, _⟩ => ⟨S8x1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S4x1024x256, .bf16⟩
  | .local _ .vmem, ⟨4, _⟩ => ⟨S4x1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGpoIdeal.lean ====
abbrev S2048x1024 : Shape := ⟨2, ![2048, 1024]⟩
abbrev S1024x2048 : Shape := ⟨2, ![1024, 2048]⟩
abbrev S2048x2048 : Shape := ⟨2, ![2048, 2048]⟩
abbrev S1024x8x256 : Shape := ⟨3, ![1024, 8, 256]⟩
abbrev S8x1024x256 : Shape := ⟨3, ![8, 1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x1024, .f32⟩
  | .hbm, ⟨6, _⟩ => ⟨S1024x2048, .f32⟩
  | .hbm, ⟨7, _⟩ => ⟨S1024x8x256, .f32⟩
  | .hbm, ⟨8, _⟩ => ⟨S8x1024x256, .f32⟩
  | .hbm, ⟨9, _⟩ => ⟨S8x1024x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dpo.lean ====
abbrev S2048x1024 : Shape := ⟨2, ![2048, 1024]⟩
abbrev S1024x2048 : Shape := ⟨2, ![1024, 2048]⟩
abbrev S2048x2048 : Shape := ⟨2, ![2048, 2048]⟩
abbrev S1024x8x256 : Shape := ⟨3, ![1024, 8, 256]⟩
abbrev S8x1024x256 : Shape := ⟨3, ![8, 1024, 256]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 7
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .bf16⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S8x1024x256, .bf16⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDpoIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dpm.lean ====
abbrev S2048x1024 : Shape := ⟨2, ![2048, 1024]⟩
abbrev S4x256x256 : Shape := ⟨3, ![4, 256, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4x256x256, .f32⟩
  | .hbm, ⟨2, _⟩ => ⟨S2048x1024, .bf16⟩
  | .hbm, ⟨3, _⟩ => ⟨S4x256x256, .bf16⟩
  | .hbm, ⟨4, _⟩ => ⟨S2048x1024, .f32⟩
  | .local _ .vmem, ⟨0, _⟩ => ⟨S1024x256, .bf16⟩
  | .local _ .vmem, ⟨1, _⟩ => ⟨S1024x256, .bf16⟩
  | .local _ .vmem, ⟨2, _⟩ => ⟨S1x256x256, .bf16⟩
  | .local _ .vmem, ⟨3, _⟩ => ⟨S1x256x256, .bf16⟩
  | .local _ .vmem, ⟨4, _⟩ => ⟨S1024x256, .f32⟩
  | .local _ .vmem, ⟨5, _⟩ => ⟨S1024x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDpmIdeal.lean ====
abbrev S2048x1024 : Shape := ⟨2, ![2048, 1024]⟩
abbrev S4x256x256 : Shape := ⟨3, ![4, 256, 256]⟩
abbrev S2048x4x256 : Shape := ⟨3, ![2048, 4, 256]⟩
abbrev S4x256x2048 : Shape := ⟨3, ![4, 256, 2048]⟩
abbrev S4x2048x256 : Shape := ⟨3, ![4, 2048, 256]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x256x256, .f32⟩
  | .hbm, ⟨2, _⟩ => ⟨S2048x1024, .bf16⟩
  | .hbm, ⟨3, _⟩ => ⟨S2048x4x256, .f32⟩
  | .hbm, ⟨4, _⟩ => ⟨S4x256x2048, .f32⟩
  | .hbm, ⟨5, _⟩ => ⟨S2048x4x256, .f32⟩
  | .hbm, ⟨6, _⟩ => ⟨S2048x1024, .f32⟩
  | .hbm, ⟨7, _⟩ => ⟨S2048x1024, .f32⟩
  | .hbm, ⟨8, _⟩ => ⟨S2048x4x256, .f32⟩
  | .hbm, ⟨9, _⟩ => ⟨S4x256x2048, .f32⟩
  | .hbm, ⟨10, _⟩ => ⟨S4x2048x256, .f32⟩
  | .hbm, ⟨11, _⟩ => ⟨S2048x4x256, .f32⟩
  | .hbm, ⟨12, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Gpool.lean ====
abbrev S2048x1024 : Shape := ⟨2, ![2048, 1024]⟩
abbrev S4x256x256 : Shape := ⟨3, ![4, 256, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4x256x256, .f32⟩
  | .hbm, ⟨2, _⟩ => ⟨S2048x1024, .bf16⟩
  | .hbm, ⟨3, _⟩ => ⟨S2048x1024, .bf16⟩
  | .hbm, ⟨4, _⟩ => ⟨S4x256x256, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S1x256x256, .bf16⟩
  | .local _ .vmem, ⟨5, _⟩ => ⟨S1x256x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== RefGpoolIdeal.lean ====
abbrev S2048x1024 : Shape := ⟨2, ![2048, 1024]⟩
abbrev S4x256x256 : Shape := ⟨3, ![4, 256, 256]⟩
abbrev S2048x4x256 : Shape := ⟨3, ![2048, 4, 256]⟩
abbrev S4x256x2048 : Shape := ⟨3, ![4, 256, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x256x256, .f32⟩
  | .hbm, ⟨2, _⟩ => ⟨S2048x1024, .bf16⟩
  | .hbm, ⟨3, _⟩ => ⟨S2048x4x256, .f32⟩
  | .hbm, ⟨4, _⟩ => ⟨S4x256x2048, .f32⟩
  | .hbm, ⟨5, _⟩ => ⟨S2048x4x256, .f32⟩
  | .hbm, ⟨6, _⟩ => ⟨S2048x1024, .f32⟩
  | .hbm, ⟨7, _⟩ => ⟨S2048x1024, .f32⟩
  | .hbm, ⟨8, _⟩ => ⟨S2048x4x256, .f32⟩
  | .hbm, ⟨9, _⟩ => ⟨S4x256x2048, .f32⟩
  | .hbm, ⟨10, _⟩ => ⟨S4x256x256, .f32⟩
  | .hbm, ⟨11, _⟩ => ⟨S4x256x256, .f32⟩
  | .hbm, ⟨12, _⟩ => ⟨S4x256x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proj.lean ====
abbrev S2048x2048 : Shape := ⟨2, ![2048, 2048]⟩
abbrev S2048x6144 : Shape := ⟨2, ![2048, 6144]⟩
abbrev S2048x8x768 : Shape := ⟨3, ![2048, 8, 768]⟩
abbrev S8x2048x768 : Shape := ⟨3, ![8, 2048, 768]⟩
abbrev S1024x2048 : Shape := ⟨2, ![1024, 2048]⟩
abbrev S2x2048x768 : Shape := ⟨3, ![2, 2048, 768]⟩
abbrev S1024x1536 : Shape := ⟨2, ![1024, 1536]⟩
abbrev S1x2048x768 : Shape := ⟨3, ![1, 2048, 768]⟩
abbrev S2048x768 : Shape := ⟨2, ![2048, 768]⟩
abbrev S1024x768 : Shape := ⟨2, ![1024, 768]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S2048x2048, .bf16⟩
  | .hbm, ⟨3, _⟩ => ⟨S2048x8x768, .f32⟩
  | .hbm, ⟨4, _⟩ => ⟨S8x2048x768, .f32⟩
  | .hbm, ⟨5, _⟩ => ⟨S8x2048x768, .bf16⟩
  | .hbm, ⟨6, _⟩ => ⟨S2048x6144, .f32⟩
  | .local _ .vmem, ⟨0, _⟩ => ⟨S1024x2048, .bf16⟩
  | .local _ .vmem, ⟨1, _⟩ => ⟨S1024x2048, .bf16⟩
  | .local _ .vmem, ⟨2, _⟩ => ⟨S2x2048x768, .bf16⟩
  | .local _ .vmem, ⟨3, _⟩ => ⟨S2x2048x768, .bf16⟩
  | .local _ .vmem, ⟨4, _⟩ => ⟨S1024x1536, .f32⟩
  | .local _ .vmem, ⟨5, _⟩ => ⟨S1024x1536, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefProjIdeal.lean ====
abbrev S2048x2048 : Shape := ⟨2, ![2048, 2048]⟩
abbrev S2048x6144 : Shape := ⟨2, ![2048, 6144]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x6144, .f32⟩
  | .hbm, ⟨2, _⟩ => ⟨S2048x6144, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Glu.lean ====
abbrev S2048x1024 : Shape := ⟨2, ![2048, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S8x1x1024x256 : Shape := ⟨4, ![8, 1, 1024, 256]⟩
abbrev S8x2x1024x256 : Shape := ⟨4, ![8, 2, 1024, 256]⟩
abbrev S16x1024x256 : Shape := ⟨3, ![16, 1024, 256]⟩
abbrev S2048x4096 : Shape := ⟨2, ![2048, 4096]⟩
abbrev S1024x1024 : Shape := ⟨2, ![1024, 1024]⟩
abbrev S4x1024x256 : Shape := ⟨3, ![4, 1024, 256]⟩
abbrev S1x1024x256 : Shape := ⟨3, ![1, 1024, 256]⟩
abbrev S1024x256 : Shape := ⟨2, ![1024, 256]⟩

abbrev nBuf : Space → Nat
  | .hbm => 14
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S1024x2048, .f32⟩
  | .hbm, ⟨3, _⟩ => ⟨S2048x1024, .bf16⟩
  | .hbm, ⟨4, _⟩ => ⟨S1024x8x256, .f32⟩
  | .hbm, ⟨5, _⟩ => ⟨S8x1024x256, .f32⟩
  | .hbm, ⟨6, _⟩ => ⟨S1024x8x256, .f32⟩
  | .hbm, ⟨7, _⟩ => ⟨S8x1024x256, .f32⟩
  | .hbm, ⟨8, _⟩ => ⟨S8x1x1024x256, .f32⟩
  | .hbm, ⟨9, _⟩ => ⟨S8x1x1024x256, .f32⟩
  | .hbm, ⟨10, _⟩ => ⟨S8x2x1024x256, .f32⟩
  | .hbm, ⟨11, _⟩ => ⟨S16x1024x256, .f32⟩
  | .hbm, ⟨12, _⟩ => ⟨S16x1024x256, .bf16⟩
  | .hbm, ⟨13, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S4x1024x256, .bf16⟩
  | .local _ .vmem, ⟨3, _⟩ => ⟨S4x1024x256, .bf16⟩
  | .local _ .vmem, ⟨4, _⟩ => ⟨S1024x1024, .bf16⟩
  | .local _ .vmem, ⟨5, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGluIdeal.lean ====
abbrev S2048x1024 : Shape := ⟨2, ![2048, 1024]⟩
abbrev S1024x2048 : Shape := ⟨2, ![1024, 2048]⟩
abbrev S2048x2048 : Shape := ⟨2, ![2048, 2048]⟩
abbrev S2048x8x256 : Shape := ⟨3, ![2048, 8, 256]⟩
abbrev S2048x8x1x256 : Shape := ⟨4, ![2048, 8, 1, 256]⟩
abbrev S2048x8x2x256 : Shape := ⟨4, ![2048, 8, 2, 256]⟩
abbrev S2048x4096 : Shape := ⟨2, ![2048, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S1024x2048, .f32⟩
  | .hbm, ⟨3, _⟩ => ⟨S2048x2048, .f32⟩
  | .hbm, ⟨4, _⟩ => ⟨S2048x2048, .f32⟩
  | .hbm, ⟨5, _⟩ => ⟨S2048x8x256, .f32⟩
  | .hbm, ⟨6, _⟩ => ⟨S2048x8x256, .f32⟩
  | .hbm, ⟨7, _⟩ => ⟨S2048x8x1x256, .f32⟩
  | .hbm, ⟨8, _⟩ => ⟨S2048x8x1x256, .f32⟩
  | .hbm, ⟨9, _⟩ => ⟨S2048x8x2x256, .f32⟩
  | .hbm, ⟨10, _⟩ => ⟨S2048x4096, .f32⟩
  | .hbm, ⟨11, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Pmix.lean ====
abbrev S2048x1024 : Shape := ⟨2, ![2048, 1024]⟩
abbrev S4x256x256 : Shape := ⟨3, ![4, 256, 256]⟩
abbrev S1x1024 : Shape := ⟨2, ![1, 1024]⟩
abbrev S1024x256 : Shape := ⟨2, ![1024, 256]⟩
abbrev S1x256x256 : Shape := ⟨3, ![1, 256, 256]⟩
abbrev S1x256 : Shape := ⟨2, ![1, 256]⟩
abbrev S256x256 : Shape := ⟨2, ![256, 256]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S4x256x256, .f32⟩
  | .hbm, ⟨2, _⟩ => ⟨S1x1024, .f32⟩
  | .hbm, ⟨3, _⟩ => ⟨S2048x1024, .bf16⟩
  | .hbm, ⟨4, _⟩ => ⟨S4x256x256, .bf16⟩
  | .hbm, ⟨5, _⟩ => ⟨S2048x1024, .f32⟩
  | .hbm, ⟨6, _⟩ => ⟨S2048x1024, .bf16⟩
  | .local _ .vmem, ⟨0, _⟩ => ⟨S1024x256, .bf16⟩
  | .local _ .vmem, ⟨1, _⟩ => ⟨S1024x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256, .f32⟩
  | .local _ .vmem, ⟨5, _⟩ => ⟨S1x256, .f32⟩
  | .local _ .vmem, ⟨6, _⟩ => ⟨S1024x256, .f32⟩
  | .local _ .vmem, ⟨7, _⟩ => ⟨S1024x256, .f32⟩
  | .local _ .vmem, ⟨8, _⟩ => ⟨S1024x256, .bf16⟩
  | .local _ .vmem, ⟨9, _⟩ => ⟨S1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefPmixIdeal.lean ====
abbrev S2048x1024 : Shape := ⟨2, ![2048, 1024]⟩
abbrev S4x256x256 : Shape := ⟨3, ![4, 256, 256]⟩
abbrev S1x1024 : Shape := ⟨2, ![1, 1024]⟩
abbrev S2048x4x256 : Shape := ⟨3, ![2048, 4, 256]⟩
abbrev S4x256x2048 : Shape := ⟨3, ![4, 256, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x256x256, .f32⟩
  | .hbm, ⟨2, _⟩ => ⟨S1x1024, .f32⟩
  | .hbm, ⟨3, _⟩ => ⟨S2048x4x256, .f32⟩
  | .hbm, ⟨4, _⟩ => ⟨S4x256x2048, .f32⟩
  | .hbm, ⟨5, _⟩ => ⟨S2048x4x256, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Po.lean ====
abbrev S2048x1024 : Shape := ⟨2, ![2048, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S2048x2048 : Shape := ⟨2, ![2048, 2048]⟩
abbrev S1024x1024 : Shape := ⟨2, ![1024, 1024]⟩
abbrev S4x1024x256 : Shape := ⟨3, ![4, 1024, 256]⟩
abbrev S1x1024x256 : Shape := ⟨3, ![1, 1024, 256]⟩
abbrev S1024x256 : Shape := ⟨2, ![1024, 256]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x1024, .bf16⟩
  | .hbm, ⟨3, _⟩ => ⟨S1024x8x256, .f32⟩
  | .hbm, ⟨4, _⟩ => ⟨S8x1024x256, .f32⟩
  | .hbm, ⟨5, _⟩ => ⟨S8x1024x256, .bf16⟩
  | .hbm, ⟨6, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S4x1024x256, .bf16⟩
  | .local _ .vmem, ⟨3, _⟩ => ⟨S4x1024x256, .bf16⟩
  | .local _ .vmem, ⟨4, _⟩ => ⟨S1024x1024, .bf16⟩
  | .local _ .vmem, ⟨5, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefPoIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .hbm, ⟨3, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Mix.lean ====
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S1x2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefMixIdeal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Ff1.lean ====
abbrev S2048x2048 : Shape := ⟨2, ![2048, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S2048x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefFf1Ideal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Ff2.lean ====
abbrev S2048x8192 : Shape := ⟨2, ![2048, 8192]⟩
abbrev S8192x2048 : Shape := ⟨2, ![8192, 2048]⟩
abbrev S_ : Shape := ⟨0, ![]⟩
abbrev S1x8192x2048 : Shape := ⟨3, ![1, 8192, 2048]⟩
abbrev S2048x2048 : Shape := ⟨2, ![2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S2048x8192, .bf16⟩
  | .hbm, ⟨6, _⟩ => ⟨S8192x2048, .bf16⟩
  | .hbm, ⟨7, _⟩ => ⟨S1x8192x2048, .bf16⟩
  | .hbm, ⟨8, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v14 : BitVec 1 := Scalar.cmpi .eq arg2 c3_i32_7
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefFf2Ideal.lean ====
abbrev S2048x8192 : Shape := ⟨2, ![2048, 8192]⟩
abbrev S8192x2048 : Shape := ⟨2, ![8192, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S2048x8192, .f32⟩
  | .hbm, ⟨6, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Pscale.lean ====
abbrev S2048x1024 : Shape := ⟨2, ![2048, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .bf16⟩
  | .hbm, ⟨4, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_7 : BitVec 32 := 0#32
  let v12 : BitVec 1 := Scalar.cmpi .ne v11 c0_i32_7
  v12

def k0_cond2 (i : grid0.Coords) : BitVec 1 :=
  let arg0 : BitVec 32 := BitVec.ofNat 32 (i 0).val
  let c0_i32_8 : BitVec 32 := 0#32
  let v13 : BitVec 1 := Scalar.cmpi .sgt arg0 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RefPscaleIdeal.lean ====
abbrev S2048x1024 : Shape := ⟨2, ![2048, 1024]⟩
abbrev S1x1024 : Shape := ⟨2, ![1, 1024]⟩
abbrev S_ : Shape := ⟨0, ![]⟩
abbrev S1024 : Shape := ⟨1, ![1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== S5bIdeal.lean ====
abbrev S2048x6144 : Shape := ⟨2, ![2048, 6144]⟩
abbrev S2048x64x64 : Shape := ⟨3, ![2048, 64, 64]⟩
abbrev S18x8x4096 : Shape := ⟨3, ![18, 8, 4096]⟩
abbrev S64x64 : Shape := ⟨2, ![64, 64]⟩
abbrev S64x64x16 : Shape := ⟨3, ![64, 64, 16]⟩
abbrev S64x16x64 : Shape := ⟨3, ![64, 16, 64]⟩
abbrev S1x1024 : Shape := ⟨2, ![1, 1024]⟩
abbrev S2048x1024 : Shape := ⟨2, ![2048, 1024]⟩
abbrev S1x64x64 : Shape := ⟨3, ![1, 64, 64]⟩
abbrev S2x64x64 : Shape := ⟨3, ![2, 64, 64]⟩
abbrev S2x1x4096 : Shape := ⟨3, ![2, 1, 4096]⟩
abbrev S16x64x64 : Shape := ⟨3, ![16, 64, 64]⟩
abbrev S16x4096 : Shape := ⟨2, ![16, 4096]⟩
abbrev S2048x8x512 : Shape := ⟨3, ![2048, 8, 512]⟩
abbrev S2048x8x1x512 : Shape := ⟨4, ![2048, 8, 1, 512]⟩
abbrev S2048x8x2x512 : Shape := ⟨4, ![2048, 8, 2, 512]⟩
abbrev S2048x8192 : Shape := ⟨2, ![2048, 8192]⟩
abbrev S8x2x512 : Shape := ⟨3, ![8, 2, 512]⟩
abbrev S2048x128 : Shape := ⟨2, ![2048, 128]⟩
abbrev S2x1x512 : Shape := ⟨3, ![2, 1, 512]⟩
abbrev S16x512 : Shape := ⟨2, ![16, 512]⟩
abbrev S1x128 : Shape := ⟨2, ![1, 128]⟩
abbrev S18x8x512 : Shape := ⟨3, ![18, 8, 512]⟩
abbrev S1x2x512 : Shape := ⟨3, ![1, 2, 512]⟩
abbrev S8x2048x128 : Shape := ⟨3, ![8, 2048, 128]⟩
abbrev S128x1024 : Shape := ⟨2, ![128, 1024]⟩
abbrev S1x1x512 : Shape := ⟨3, ![1, 1, 512]⟩
abbrev S1x512 : Shape := ⟨2, ![1, 512]⟩
abbrev S16x1024 : Shape := ⟨2, ![16, 1024]⟩
abbrev S1x2048x128 : Shape := ⟨3, ![1, 2048, 128]⟩
abbrev S128 : Shape := ⟨1, ![128]⟩
abbrev S8x512 : Shape := ⟨2, ![8, 512]⟩
abbrev S1x8x512 : Shape := ⟨3, ![1, 8, 512]⟩
abbrev S1x8x128 : Shape := ⟨3, ![1, 8, 128]⟩
abbrev S8x128 : Shape := ⟨2, ![8, 128]⟩
abbrev S512 : Shape := ⟨1, ![512]⟩

abbrev nBuf : Space → Nat
  | .hbm => 40
  | .vmem => 40
  | .smem => 0
  | _ => 0

abbrev bufTy : (tb : Table) → Fin (tcTables nBuf tb) → BufTy
  | .hbm, ⟨0, _⟩ => ⟨S2048x6144, .f32⟩
  | .hbm, ⟨1, _⟩ => ⟨S2048x64x64, .f32⟩
  | .hbm, ⟨2, _⟩ => ⟨S2048x64x64, .f32⟩
  | .hbm, ⟨3, _⟩ => ⟨S18x8x4096, .f32⟩
  | .hbm, ⟨4, _⟩ => ⟨S64x64, .f32⟩
  | .hbm, ⟨5, _⟩ => ⟨S64x64, .f32⟩
  | .hbm, ⟨6, _⟩ => ⟨S64x64x16, .f32⟩
  | .hbm, ⟨7, _⟩ => ⟨S64x64x16, .f32⟩
  | .hbm, ⟨8, _⟩ => ⟨S64x16x64, .f32⟩
  | .hbm, ⟨9, _⟩ => ⟨S64x16x64, .f32⟩
  | .hbm, ⟨10, _⟩ => ⟨S1x1024, .f32⟩
  | .hbm, ⟨11, _⟩ => ⟨S2048x1024, .bf16⟩
  | .hbm, ⟨12, _⟩ => ⟨S2048x1024, .bf16⟩
  | .hbm, ⟨13, _⟩ => ⟨S1x64x64, .f32⟩
  | .hbm, ⟨14, _⟩ => ⟨S1x64x64, .f32⟩
  | .hbm, ⟨15, _⟩ => ⟨S2x64x64, .f32⟩
  | .hbm, ⟨16, _⟩ => ⟨S2x1x4096, .f32⟩
  | .hbm, ⟨17, _⟩ => ⟨S16x64x64, .f32⟩
  | .hbm, ⟨18, _⟩ => ⟨S16x4096, .f32⟩
  | .hbm, ⟨19, _⟩ => ⟨S16x64x64, .f32⟩
  | .hbm, ⟨20, _⟩ => ⟨S16x4096, .f32⟩
  | .hbm, ⟨21, _⟩ => ⟨S16x64x64, .f32⟩
  | .hbm, ⟨22, _⟩ => ⟨S16x4096, .f32⟩
  | .hbm, ⟨23, _⟩ => ⟨S16x64x64, .f32⟩
  | .hbm, ⟨24, _⟩ => ⟨S16x4096, .f32⟩
  | .hbm, ⟨25, _⟩ => ⟨S2048x8x512, .f32⟩
  | .hbm, ⟨26, _⟩ => ⟨S2048x8x512, .f32⟩
  | .hbm, ⟨27, _⟩ => ⟨S2048x8x1x512, .f32⟩
  | .hbm, ⟨28, _⟩ => ⟨S2048x8x1x512, .f32⟩
  | .hbm, ⟨29, _⟩ => ⟨S2048x8x2x512, .f32⟩
  | .hbm, ⟨30, _⟩ => ⟨S2048x8192, .f32⟩
  | .hbm, ⟨31, _⟩ => ⟨S2048x8192, .bf16⟩
  | .hbm, ⟨32, _⟩ => ⟨S2048x1024, .bf16⟩
  | .hbm, ⟨33, _⟩ => ⟨S16x4096, .f32⟩
  | .hbm, ⟨34, _⟩ => ⟨S16x4096, .f32⟩
  | .hbm, ⟨35, _⟩ => ⟨S16x4096, .f32⟩
  | .hbm, ⟨36, _⟩ => ⟨S16x4096, .f32⟩
  | .hbm, ⟨37, _⟩ => ⟨S2x1x4096, .f32⟩
  | .hbm, ⟨38, _⟩ => ⟨S1x1024, .f32⟩
  | .hbm, ⟨39, _⟩ => ⟨S8x2x512, .f32⟩
  | .local _ .vmem, ⟨0, _⟩ => ⟨S2048x128, .f32⟩
  | .local _ .vmem, ⟨1, _⟩ => ⟨S2048x128, .f32⟩
  | .local _ .vmem, ⟨2, _⟩ => ⟨S2048x1024, .bf16⟩
  | .local _ .vmem, ⟨3, _⟩ => ⟨S2048x1024, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2x1x512, .f32⟩
  | .local _ .vmem, ⟨9, _⟩ => ⟨S2x1x512, .f32⟩
  | .local _ .vmem, ⟨10, _⟩ => ⟨S16x512, .f32⟩
  | .local _ .vmem, ⟨11, _⟩ => ⟨S16x512, .f32⟩
  | .local _ .vmem, ⟨12, _⟩ => ⟨S16x512, .f32⟩
  | .local _ .vmem, ⟨13, _⟩ => ⟨S16x512, .f32⟩
  | .local _ .vmem, ⟨14, _⟩ => ⟨S16x512, .f32⟩
  | .local _ .vmem, ⟨15, _⟩ => ⟨S16x512, .f32⟩
  | .local _ .vmem, ⟨16, _⟩ => ⟨S16x512, .f32⟩
  | .local _ .vmem, ⟨17, _⟩ => ⟨S16x512, .f32⟩
  | .local _ .vmem, ⟨18, _⟩ => ⟨S1x128, .f32⟩
  | .local _ .vmem, ⟨19, _⟩ => ⟨S1x128, .f32⟩
  | .local _ .vmem, ⟨20, _⟩ => ⟨S18x8x512, .f32⟩
  | .local _ .vmem, ⟨21, _⟩ => ⟨S18x8x512, .f32⟩
  | .local _ .vmem, ⟨22, _⟩ => ⟨S2048x128, .bf16⟩
  | .local _ .vmem, ⟨23, _⟩ => ⟨S2048x128, .bf16⟩
  | .local _ .vmem, ⟨24, _⟩ => ⟨S16x512, .f32⟩
  | .local _ .vmem, ⟨25, _⟩ => ⟨S16x512, .f32⟩
  | .local _ .vmem, ⟨26, _⟩ => ⟨S16x512, .f32⟩
  | .local _ .vmem, ⟨27, _⟩ => ⟨S16x512, .f32⟩
  | .local _ .vmem, ⟨28, _⟩ => ⟨S16x512, .f32⟩
  | .local _ .vmem, ⟨29, _⟩ => ⟨S16x512, .f32⟩
  | .local _ .vmem, ⟨30, _⟩ => ⟨S16x512, .f32⟩
  | .local _ .vmem, ⟨31, _⟩ => ⟨S16x512, .f32⟩
  | .local _ .vmem, ⟨32, _⟩ => ⟨S2x1x512, .f32⟩
  | .local _ .vmem, ⟨33, _⟩ => ⟨S2x1x512, .f32⟩
  | .local _ .vmem, ⟨34, _⟩ => ⟨S1x128, .f32⟩
  | .local _ .vmem, ⟨35, _⟩ => ⟨S1x128, .f32⟩
  | .local _ .vmem, ⟨36, _⟩ => ⟨S1x2x512, .f32⟩
  | .local _ .vmem, ⟨37, _⟩ => ⟨S1x2x512, .f32⟩
  | .local _ .vmem, ⟨38, _⟩ => ⟨S8x2048x128, .f32⟩
  | .local _ .vmem, ⟨39, _⟩ => ⟨S8x2048x128, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v19_3 : Ref sig .tc := ⟨.hbm, 35, rfl⟩
abbrev main_v19_4 : Ref sig .tc := ⟨.hbm, 36, rfl⟩
abbrev main_v19_5 : Ref sig .tc := ⟨.hbm, 37, rfl⟩
abbrev main_v19_6 : Ref sig .tc := ⟨.hbm, 38, rfl⟩
abbrev main_v19_7 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_scratch0 : Ref sig .tc := ⟨.vmem, 38, rfl⟩
abbrev cc0_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_93 : BitVec 32 := 0#32
  let c64_i32_94 : BitVec 32 := 64#32
  let v208 : BitVec 32 := Scalar.addi c0_i32_93 c64_i32_94
  let c1_i32_95 : BitVec 32 := 1#32
  ⟨c0_i32_93, v208, c1_i32_95⟩
def k0_mult1 (k0_t1 : Fin k0_t1_loop.trips) : BitVec 32 :=
  let c63_i32 : BitVec 32 := 63#32
  let c0_i32_93 : BitVec 32 := 0#32
  let c1_i32_95 : BitVec 32 := 1#32
  let arg22 : BitVec 32 := Scf.iv c0_i32_93 c1_i32_95 k0_t1
  let v300 : BitVec 32 := Scalar.subi c63_i32 arg22
  let c32_i32 : BitVec 32 := 32#32
  let v301 : BitVec 32 := Scalar.muli v300 c32_i32
  v301
def k0_off1 (k0_t1 : Fin k0_t1_loop.trips) (c0_i32_161 : BitVec 32) : Fin 3 → Nat :=
  let c0_162 : Index := 0#32
  let c63_i32 : BitVec 32 := 63#32
  let c0_i32_93 : BitVec 32 := 0#32
  let c1_i32_95 : BitVec 32 := 1#32
  let arg22 : BitVec 32 := Scf.iv c0_i32_93 c1_i32_95 k0_t1
  let v300 : BitVec 32 := Scalar.subi c63_i32 arg22
  let c32_i32 : BitVec 32 := 32#32
  let v301 : BitVec 32 := Scalar.muli v300 c32_i32
  let v302 : BitVec 32 := v301
  let v309 : BitVec 32 := Scalar.addi v302 c0_i32_161
  let v310 : Index := Scalar.indexCast v309
  let c0_163 : Index := 0#32
  ![0, v310.toNat, 0]
def k0_off2 (k0_t1 : Fin k0_t1_loop.trips) (c0_i32_161 : BitVec 32) : Fin 3 → Nat :=
  let c1_164 : Index := 1#32
  let c63_i32 : BitVec 32 := 63#32
  let c0_i32_93 : BitVec 32 := 0#32
  let c1_i32_95 : BitVec 32 := 1#32
  let arg22 : BitVec 32 := Scf.iv c0_i32_93 c1_i32_95 k0_t1
  let v300 : BitVec 32 := Scalar.subi c63_i32 arg22
  let c32_i32 : BitVec 32 := 32#32
  let v301 : BitVec 32 := Scalar.muli v300 c32_i32
  let v302 : BitVec 32 := v301
  let v309 : BitVec 32 := Scalar.addi v302 c0_i32_161
  let v313 : Index := Scalar.indexCast v309
  let c0_165 : Index := 0#32
  ![1, v313.toNat, 0]
def k0_off3 (k0_t1 : Fin k0_t1_loop.trips) (c0_i32_161 : BitVec 32) : Fin 3 → Nat :=
  let c2_166 : Index := 2#32
  let c63_i32 : BitVec 32 := 63#32
  let c0_i32_93 : BitVec 32 := 0#32
  let c1_i32_95 : BitVec 32 := 1#32
  let arg22 : BitVec 32 := Scf.iv c0_i32_93 c1_i32_95 k0_t1
  let v300 : BitVec 32 := Scalar.subi c63_i32 arg22
  let c32_i32 : BitVec 32 := 32#32
  let v301 : BitVec 32 := Scalar.muli v300 c32_i32
  let v302 : BitVec 32 := v301
  let v309 : BitVec 32 := Scalar.addi v302 c0_i32_161
  let v316 : Index := Scalar.indexCast v309
  let c0_167 : Index := 0#32
  ![2, v316.toNat, 0]
def k0_off4 (k0_t1 : Fin k0_t1_loop.trips) (c0_i32_161 : BitVec 32) : Fin 3 → Nat :=
  let c3_168 : Index := 3#32
  let c63_i32 : BitVec 32 := 63#32
  let c0_i32_93 : BitVec 32 := 0#32
  let c1_i32_95 : BitVec 32 := 1#32
  let arg22 : BitVec 32 := Scf.iv c0_i32_93 c1_i32_95 k0_t1
  let v300 : BitVec 32 := Scalar.subi c63_i32 arg22
  let c32_i32 : BitVec 32 := 32#32
  let v301 : BitVec 32 := Scalar.muli v300 c32_i32
  let v302 : BitVec 32 := v301
  let v309 : BitVec 32 := Scalar.addi v302 c0_i32_161
  let v319 : Index := Scalar.indexCast v309
  let c0_169 : Index := 0#32
  ![3, v319.toNat, 0]
def k0_off5 (k0_t1 : Fin k0_t1_loop.trips) (c0_i32_195 : BitVec 32) : Fin 3 → Nat :=
  let c4_196 : Index := 4#32
  let c63_i32 : BitVec 32 := 63#32
  let c0_i32_93 : BitVec 32 := 0#32
  let c1_i32_95 : BitVec 32 := 1#32
  let arg22 : BitVec 32 := Scf.iv c0_i32_93 c1_i32_95 k0_t1
  let v300 : BitVec 32 := Scalar.subi c63_i32 arg22
  let c32_i32 : BitVec 32 := 32#32
  let v301 : BitVec 32 := Scalar.muli v300 c32_i32
  let v302 : BitVec 32 := v301
  let v365 : BitVec 32 := Scalar.addi v302 c0_i32_195
  let v366 : Index := Scalar.indexCast v365
  let c0_197 : Index := 0#32
  ![4, v366.toNat, 0]
def k0_off6 (k0_t1 : Fin k0_t1_loop.trips) (c0_i32_195 : BitVec 32) : Fin 3 → Nat :=
  let c5_198 : Index := 5#32
  let c63_i32 : BitVec 32 := 63#32
  let c0_i32_93 : BitVec 32 := 0#32
  let c1_i32_95 : BitVec 32 := 1#32
  let arg22 : BitVec 32 := Scf.iv c0_i32_93 c1_i32_95 k0_t1
  let v300 : BitVec 32 := Scalar.subi c63_i32 arg22
  let c32_i32 : BitVec 32 := 32#32
  let v301 : BitVec 32 := Scalar.muli v300 c32_i32
  let v302 : BitVec 32 := v301
  let v365 : BitVec 32 := Scalar.addi v302 c0_i32_195
  let v369 : Index := Scalar.indexCast v365
  let c0_199 : Index := 0#32
  ![5, v369.toNat, 0]
def k0_off7 (k0_t1 : Fin k0_t1_loop.trips) (c0_i32_195 : BitVec 32) : Fin 3 → Nat :=
  let c6_200 : Index := 6#32
  let c63_i32 : BitVec 32 := 63#32
  let c0_i32_93 : BitVec 32 := 0#32
  let c1_i32_95 : BitVec 32 := 1#32
  let arg22 : BitVec 32 := Scf.iv c0_i32_93 c1_i32_95 k0_t1
  let v300 : BitVec 32 := Scalar.subi c63_i32 arg22
  let c32_i32 : BitVec 32 := 32#32
  let v301 : BitVec 32 := Scalar.muli v300 c32_i32
  let v302 : BitVec 32 := v301
  let v365 : BitVec 32 := Scalar.addi v302 c0_i32_195
  let v372 : Index := Scalar.indexCast v365
  let c0_201 : Index := 0#32
  ![6, v372.toNat, 0]
def k0_off8 (k0_t1 : Fin k0_t1_loop.trips) (c0_i32_195 : BitVec 32) : Fin 3 → Nat :=
  let c7_202 : Index := 7#32
  let c63_i32 : BitVec 32 := 63#32
  let c0_i32_93 : BitVec 32 := 0#32
  let c1_i32_95 : BitVec 32 := 1#32
  let arg22 : BitVec 32 := Scf.iv c0_i32_93 c1_i32_95 k0_t1
  let v300 : BitVec 32 := Scalar.subi c63_i32 arg22
  let c32_i32 : BitVec 32 := 32#32
  let v301 : BitVec 32 := Scalar.muli v300 c32_i32
  let v302 : BitVec 32 := v301
  let v365 : BitVec 32 := Scalar.addi v302 c0_i32_195
  let v375 : Index := Scalar.indexCast v365
  let c0_203 : Index := 0#32
  ![7, v375.toNat, 0]
def k0_mult2 (k0_t1 : Fin k0_t1_loop.trips) : BitVec 32 :=
  let c63_i32 : BitVec 32 := 63#32
  let c0_i32_93 : BitVec 32 := 0#32
  let c1_i32_95 : BitVec 32 := 1#32
  let arg22 : BitVec 32 := Scf.iv c0_i32_93 c1_i32_95 k0_t1
  let v300 : BitVec 32 := Scalar.subi c63_i32 arg22
  let c1_i32_398 : BitVec 32 := 1#32
  let v811 : BitVec 32 := Scalar.subi v300 c1_i32_398
  let c0_i32_399 : BitVec 32 := 0#32
  let v812 : BitVec 32 := Scalar.maxsi v811 c0_i32_399
  let c32_i32_400 : BitVec 32 := 32#32
  let v813 : BitVec 32 := Scalar.muli v812 c32_i32_400
  v813
def k0_off9 (k0_t1 : Fin k0_t1_loop.trips) : Fin 3 → Nat :=
  let c0_404 : Index := 0#32
  let c63_i32 : BitVec 32 := 63#32
  let c0_i32_93 : BitVec 32 := 0#32
  let c1_i32_95 : BitVec 32 := 1#32
  let arg22 : BitVec 32 := Scf.iv c0_i32_93 c1_i32_95 k0_t1
  let v300 : BitVec 32 := Scalar.subi c63_i32 arg22
  let c1_i32_398 : BitVec 32 := 1#32
  let v811 : BitVec 32 := Scalar.subi v300 c1_i32_398
  let c0_i32_399 : BitVec 32 := 0#32
  let v812 : BitVec 32 := Scalar.maxsi v811 c0_i32_399
  let c32_i32_400 : BitVec 32 := 32#32
  let v813 : BitVec 32 := Scalar.muli v812 c32_i32_400
  let v814 : BitVec 32 := v813
  let c4_i32_402 : BitVec 32 := 4#32
  let v818 : BitVec 32 := Scalar.addi v814 c4_i32_402
  let c1_i32_403 : BitVec 32 := 1#32
  let v819 : BitVec 32 := Scalar.subi v818 c1_i32_403
  let v820 : Index := Scalar.indexCast v819
  let c0_405 : Index := 0#32
  ![0, v820.toNat, 0]
def k0_off10 (k0_t1 : Fin k0_t1_loop.trips) : Fin 3 → Nat :=
  let c1_406 : Index := 1#32
  let c63_i32 : BitVec 32 := 63#32
  let c0_i32_93 : BitVec 32 := 0#32
  let c1_i32_95 : BitVec 32 := 1#32
  let arg22 : BitVec 32 := Scf.iv c0_i32_93 c1_i32_95 k0_t1
  let v300 : BitVec 32 := Scalar.subi c63_i32 arg22
  let c1_i32_398 : BitVec 32 := 1#32
  let v811 : BitVec 32 := Scalar.subi v300 c1_i32_398
  let c0_i32_399 : BitVec 32 := 0#32
  let v812 : BitVec 32 := Scalar.maxsi v811 c0_i32_399
  let c32_i32_400 : BitVec 32 := 32#32
  let v813 : BitVec 32 := Scalar.muli v812 c32_i32_400
  let v814 : BitVec 32 := v813
  let c4_i32_402 : BitVec 32 := 4#32
  let v818 : BitVec 32 := Scalar.addi v814 c4_i32_402
  let c1_i32_403 : BitVec 32 := 1#32
  let v819 : BitVec 32 := Scalar.subi v818 c1_i32_403
  let v823 : Index := Scalar.indexCast v819
  let c0_407 : Index := 0#32
  ![1, v823.toNat, 0]
def k0_off11 (k0_t1 : Fin k0_t1_loop.trips) : Fin 3 → Nat :=
  let c2_408 : Index := 2#32
  let c63_i32 : BitVec 32 := 63#32
  let c0_i32_93 : BitVec 32 := 0#32
  let c1_i32_95 : BitVec 32 := 1#32
  let arg22 : BitVec 32 := Scf.iv c0_i32_93 c1_i32_95 k0_t1
  let v300 : BitVec 32 := Scalar.subi c63_i32 arg22
  let c1_i32_398 : BitVec 32 := 1#32
  let v811 : BitVec 32 := Scalar.subi v300 c1_i32_398
  let c0_i32_399 : BitVec 32 := 0#32
  let v812 : BitVec 32 := Scalar.maxsi v811 c0_i32_399
  let c32_i32_400 : BitVec 32 := 32#32
  let v813 : BitVec 32 := Scalar.muli v812 c32_i32_400
  let v814 : BitVec 32 := v813
  let c4_i32_402 : BitVec 32 := 4#32
  let v818 : BitVec 32 := Scalar.addi v814 c4_i32_402
  let c1_i32_403 : BitVec 32 := 1#32
  let v819 : BitVec 32 := Scalar.subi v818 c1_i32_403
  let v826 : Index := Scalar.indexCast v819
  let c0_409 : Index := 0#32
  ![2, v826.toNat, 0]
def k0_off12 (k0_t1 : Fin k0_t1_loop.trips) : Fin 3 → Nat :=
  let c3_410 : Index := 3#32
  let c63_i32 : BitVec 32 := 63#32
  let c0_i32_93 : BitVec 32 := 0#32
  let c1_i32_95 : BitVec 32 := 1#32
  let arg22 : BitVec 32 := Scf.iv c0_i32_93 c1_i32_95 k0_t1
  let v300 : BitVec 32 := Scalar.subi c63_i32 arg22
  let c1_i32_398 : BitVec 32 := 1#32
  let v811 : BitVec 32 := Scalar.subi v300 c1_i32_398
  let c0_i32_399 : BitVec 32 := 0#32
  let v812 : BitVec 32 := Scalar.maxsi v811 c0_i32_399
  let c32_i32_400 : BitVec 32 := 32#32
  let v813 : BitVec 32 := Scalar.muli v812 c32_i32_400
  let v814 : BitVec 32 := v813
  let c4_i32_402 : BitVec 32 := 4#32
  let v818 : BitVec 32 := Scalar.addi v814 c4_i32_402
  let c1_i32_403 : BitVec 32 := 1#32
  let v819 : BitVec 32 := Scalar.subi v818 c1_i32_403
  let v829 : Index := Scalar.indexCast v819
  let c0_411 : Index := 0#32
  ![3, v829.toNat, 0]
def k0_off13 (k0_t1 : Fin k0_t1_loop.trips) : Fin 3 → Nat :=
  let c4_414 : Index := 4#32
  let c63_i32 : BitVec 32 := 63#32
  let c0_i32_93 : BitVec 32 := 0#32
  let c1_i32_95 : BitVec 32 := 1#32
  let arg22 : BitVec 32 := Scf.iv c0_i32_93 c1_i32_95 k0_t1
  let v300 : BitVec 32 := Scalar.subi c63_i32 arg22
  let c1_i32_398 : BitVec 32 := 1#32
  let v811 : BitVec 32 := Scalar.subi v300 c1_i32_398
  let c0_i32_399 : BitVec 32 := 0#32
  let v812 : BitVec 32 := Scalar.maxsi v811 c0_i32_399
  let c32_i32_400 : BitVec 32 := 32#32
  let v813 : BitVec 32 := Scalar.muli v812 c32_i32_400
  let v814 : BitVec 32 := v813
  let c4_i32_412 : BitVec 32 := 4#32
  let v838 : BitVec 32 := Scalar.addi v814 c4_i32_412
  let c1_i32_413 : BitVec 32 := 1#32
  let v839 : BitVec 32 := Scalar.subi v838 c1_i32_413
  let v840 : Index := Scalar.indexCast v839
  let c0_415 : Index := 0#32
  ![4, v840.toNat, 0]
def k0_off14 (k0_t1 : Fin k0_t1_loop.trips) : Fin 3 → Nat :=
  let c5_416 : Index := 5#32
  let c63_i32 : BitVec 32 := 63#32
  let c0_i32_93 : BitVec 32 := 0#32
  let c1_i32_95 : BitVec 32 := 1#32
  let arg22 : BitVec 32 := Scf.iv c0_i32_93 c1_i32_95 k0_t1
  let v300 : BitVec 32 := Scalar.subi c63_i32 arg22
  let c1_i32_398 : BitVec 32 := 1#32
  let v811 : BitVec 32 := Scalar.subi v300 c1_i32_398
  let c0_i32_399 : BitVec 32 := 0#32
  let v812 : BitVec 32 := Scalar.maxsi v811 c0_i32_399
  let c32_i32_400 : BitVec 32 := 32#32
  let v813 : BitVec 32 := Scalar.muli v812 c32_i32_400
  let v814 : BitVec 32 := v813
  let c4_i32_412 : BitVec 32 := 4#32
  let v838 : BitVec 32 := Scalar.addi v814 c4_i32_412
  let c1_i32_413 : BitVec 32 := 1#32
  let v839 : BitVec 32 := Scalar.subi v838 c1_i32_413
  let v843 : Index := Scalar.indexCast v839
  let c0_417 : Index := 0#32
  ![5, v843.toNat, 0]
def k0_off15 (k0_t1 : Fin k0_t1_loop.trips) : Fin 3 → Nat :=
  let c6_418 : Index := 6#32
  let c63_i32 : BitVec 32 := 63#32
  let c0_i32_93 : BitVec 32 := 0#32
  let c1_i32_95 : BitVec 32 := 1#32
  let arg22 : BitVec 32 := Scf.iv c0_i32_93 c1_i32_95 k0_t1
  let v300 : BitVec 32 := Scalar.subi c63_i32 arg22
  let c1_i32_398 : BitVec 32 := 1#32
  let v811 : BitVec 32 := Scalar.subi v300 c1_i32_398
  let c0_i32_399 : BitVec 32 := 0#32
  let v812 : BitVec 32 := Scalar.maxsi v811 c0_i32_399
  let c32_i32_400 : BitVec 32 := 32#32
  let v813 : BitVec 32 := Scalar.muli v812 c32_i32_400
  let v814 : BitVec 32 := v813
  let c4_i32_412 : BitVec 32 := 4#32
  let v838 : BitVec 32 := Scalar.addi v814 c4_i32_412
  let c1_i32_413 : BitVec 32 := 1#32
  let v839 : BitVec 32 := Scalar.subi v838 c1_i32_413
  let v846 : Index := Scalar.indexCast v839
  let c0_419 : Index := 0#32
  ![6, v846.toNat, 0]
def k0_off16 (k0_t1 : Fin k0_t1_loop.trips) : Fin 3 → Nat :=
  let c7_420 : Index := 7#32
  let c63_i32 : BitVec 32 := 63#32
  let c0_i32_93 : BitVec 32 := 0#32
  let c1_i32_95 : BitVec 32 := 1#32
  let arg22 : BitVec 32 := Scf.iv c0_i32_93 c1_i32_95 k0_t1
  let v300 : BitVec 32 := Scalar.subi c63_i32 arg22
  let c1_i32_398 : BitVec 32 := 1#32
  let v811 : BitVec 32 := Scalar.subi v300 c1_i32_398
  let c0_i32_399 : BitVec 32 := 0#32
  let v812 : BitVec 32 := Scalar.maxsi v811 c0_i32_399
  let c32_i32_400 : BitVec 32 := 32#32
  let v813 : BitVec 32 := Scalar.muli v812 c32_i32_400
  let v814 : BitVec 32 := v813
  let c4_i32_412 : BitVec 32 := 4#32
  let v838 : BitVec 32 := Scalar.addi v814 c4_i32_412
  let c1_i32_413 : BitVec 32 := 1#32
  let v839 : BitVec 32 := Scalar.subi v838 c1_i32_413
  let v849 : Index := Scalar.indexCast v839
  let c0_421 : Index := 0#32
  ![7, v849.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S18x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x1x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x2x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== RefS5bIdeal.lean ====
abbrev S2048x6144 : Shape := ⟨2, ![2048, 6144]⟩
abbrev S2048x64x64 : Shape := ⟨3, ![2048, 64, 64]⟩
abbrev S18x8x4096 : Shape := ⟨3, ![18, 8, 4096]⟩
abbrev S64x64 : Shape := ⟨2, ![64, 64]⟩
abbrev S64x64x16 : Shape := ⟨3, ![64, 64, 16]⟩
abbrev S64x16x64 : Shape := ⟨3, ![64, 16, 64]⟩
abbrev S1x1024 : Shape := ⟨2, ![1, 1024]⟩
abbrev S2048x1024 : Shape := ⟨2, ![2048, 1024]⟩
abbrev S2048x64x16 : Shape := ⟨3, ![2048, 64, 16]⟩
abbrev S64x16x2048 : Shape := ⟨3, ![64, 16, 2048]⟩
abbrev S64x16 : Shape := ⟨2, ![64, 16]⟩
abbrev S1x64x16 : Shape := ⟨3, ![1, 64, 16]⟩
abbrev S_ : Shape := ⟨0, ![]⟩
abbrev S16x64x64 : Shape := ⟨3, ![16, 64, 64]⟩
abbrev S16x4096 : Shape := ⟨2, ![16, 4096]⟩

abbrev nBuf : Space → Nat
  | .hbm => 41
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S2048x64x64, .f32⟩
  | .hbm, ⟨2, _⟩ => ⟨S2048x64x64, .f32⟩
  | .hbm, ⟨3, _⟩ => ⟨S18x8x4096, .f32⟩
  | .hbm, ⟨4, _⟩ => ⟨S64x64, .f32⟩
  | .hbm, ⟨5, _⟩ => ⟨S64x64, .f32⟩
  | .hbm, ⟨6, _⟩ => ⟨S64x64x16, .f32⟩
  | .hbm, ⟨7, _⟩ => ⟨S64x64x16, .f32⟩
  | .hbm, ⟨8, _⟩ => ⟨S64x16x64, .f32⟩
  | .hbm, ⟨9, _⟩ => ⟨S64x16x64, .f32⟩
  | .hbm, ⟨10, _⟩ => ⟨S1x1024, .f32⟩
  | .hbm, ⟨11, _⟩ => ⟨S2048x1024, .bf16⟩
  | .hbm, ⟨12, _⟩ => ⟨S2048x1024, .bf16⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x64x16, .f32⟩
  | .hbm, ⟨18, _⟩ => ⟨S64x16x2048, .f32⟩
  | .hbm, ⟨19, _⟩ => ⟨S2048x64x16, .f32⟩
  | .hbm, ⟨20, _⟩ => ⟨S64x16x2048, .f32⟩
  | .hbm, ⟨21, _⟩ => ⟨S2048x64x16, .f32⟩
  | .hbm, ⟨22, _⟩ => ⟨S2048x64x16, .f32⟩
  | .hbm, ⟨23, _⟩ => ⟨S64x16, .f32⟩
  | .hbm, ⟨24, _⟩ => ⟨S1x64x16, .f32⟩
  | .hbm, ⟨25, _⟩ => ⟨S2048x64x16, .f32⟩
  | .hbm, ⟨26, _⟩ => ⟨S2048x64x16, .f32⟩
  | .hbm, ⟨27, _⟩ => ⟨S2048x64x16, .f32⟩
  | .hbm, ⟨28, _⟩ => ⟨S2048x1024, .f32⟩
  | .hbm, ⟨29, _⟩ => ⟨S2048x64x16, .f32⟩
  | .hbm, ⟨30, _⟩ => ⟨S2048x64x16, .f32⟩
  | .hbm, ⟨31, _⟩ => ⟨S_, .f32⟩
  | .hbm, ⟨32, _⟩ => ⟨S64x16, .f32⟩
  | .hbm, ⟨33, _⟩ => ⟨S1x64x16, .f32⟩
  | .hbm, ⟨34, _⟩ => ⟨S_, .f32⟩
  | .hbm, ⟨35, _⟩ => ⟨S64x16, .f32⟩
  | .hbm, ⟨36, _⟩ => ⟨S1x1024, .f32⟩
  | .hbm, ⟨37, _⟩ => ⟨S64x16x2048, .f32⟩
  | .hbm, ⟨38, _⟩ => ⟨S64x16x64, .f32⟩
  | .hbm, ⟨39, _⟩ => ⟨S16x64x64, .f32⟩
  | .hbm, ⟨40, _⟩ => ⟨S16x4096, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Proof.Dff2.lean ====
module

public import proofs.«01_k».proof.Defs
public import proofs.«01_k».proof.Proof.Gen.Dff2.Frame
public import proofs.«01_k».proof.Proof.Gen.Dff2Ideal.Value
public import proofs.«01_k».proof.Proof.Gen.RefDff2Ideal.Run
public import Idealize.ShloMosaic.Lib.Pipeline.Value
public import Idealize.ShloMosaic.Lib.Pointwise

@[expose] public section

set_option maxRecDepth 16384

noncomputable section

namespace Cert.Proof.Dff2

open Idealize.ShloMosaic Idealize.SL.Sem Cert.Dff2Ideal
open Cert.Dff2Ideal.Gen Idealize.ShloMosaic.TcCoe
open Idealize.ShloMosaic.Pipeline (Dat Cfg Window)

/-- What a grid point stores, element by element: a row of the cotangent against a row of the weights, times twice the
    activation. -/
theorem pay_apply (x0 : Vec Ideal S1024x2048 .bf16) (x1 : Vec Ideal S1x1024x2048 .bf16) (x2 : Vec Ideal S1024x1024 .bf16)
    (r l : Fin 1024) :
    k0_pay1 x0 x1 x2 (ix2 r l)
      = (∑ k : Fin 2048, x0 (ix2 r k) * x1 (ix3 0 l k)) * (Ideal.ofBits .f32 0x40000000#32 * x2 (ix2 r l)) := by
  pointwise [k0_pay1]

theorem out_eq (x0 : Vec Ideal S1024x2048 .bf16) (x1 : Vec Ideal S1x1024x2048 .bf16) (x2 : Vec Ideal S1024x1024 .bf16) :
    out0_3 x0 x1 x2 = k0_pay1 x0 x1 x2 := by
  have h2 : (![0, 0] : Fin 2 → Nat) = fun _ => 0 := funext fun a => by fin_cases a <;> rfl
  have h3 : (![0, 0, 0] : Fin 3 → Nat) = fun _ => 0 := funext fun a => by fin_cases a <;> rfl
  unfold out0_3
  rw [View.canon_unit_zero h2, View.ld_unit_zero (S := S1024x2048) h2, View.ld_unit_zero (S := S1x1024x2048) h3, View.ld_unit_zero (S := S1024x1024) h2]

/-- Which blocks of the operands a point reads, by the block it writes. -/
theorem idx_facts : ∀ t : Fin cfg0.N,
    win0_0.index t 0 = win0_3.index t 0 ∧ win0_0.index t 1 = 0 ∧ win0_1.index t 0 = 0
    ∧ win0_1.index t 1 = win0_3.index t 1 ∧ win0_1.index t 2 = 0
    ∧ win0_2.index t 0 = win0_3.index t 0 ∧ win0_2.index t 1 = win0_3.index t 1 :=
  (by decide +kernel : ∀ t : Fin grid0.N,
    win0_0.index t 0 = win0_3.index t 0 ∧ win0_0.index t 1 = 0 ∧ win0_1.index t 0 = 0
    ∧ win0_1.index t 1 = win0_3.index t 1 ∧ win0_1.index t 2 = 0
    ∧ win0_2.index t 0 = win0_3.index t 0 ∧ win0_2.index t 1 = win0_3.index t 1)

/-- Every block of the output is some point's. -/
theorem idx_onto : ∀ a : Fin 2, ∀ b : Fin 8, ∃ t : Fin cfg0.N, win0_3.flush t = true ∧ win0_3.index t 0 = a.val ∧ win0_3.index t 1 = b.val :=
  (by decide +kernel : ∀ a : Fin 2, ∀ b : Fin 8, ∃ t : Fin grid0.N, win0_3.flush t = true ∧ win0_3.index t 0 = a.val ∧ win0_3.index t 1 = b.val)

/-- The gradient of the pre-activation, element by element. -/
def val (a : FVec Ideal S2048x8192 .f32) (w : FVec Ideal S8192x2048 .f32) (dy : FVec Ideal S2048x2048 .bf16) : FVec Ideal S2048x8192 .bf16 :=
  fun j => (∑ k : Fin 2048, dy (ix2 (j 0) k) * w (ix2 (j 1) k)) * (Ideal.ofBits .f32 0x40000000#32 * max (a j) 0)

variable (m : (ℓ : Loc nD τ sig) → Buf (Elt Ideal) ℓ) (ρ : Dev nD → PrngReg)

/-- The three arguments as launched. -/
abbrev argA (c : Dev nD) : FVec Ideal S2048x8192 .f32 := m ((c : Thread nD τ).loc main_arg0)
abbrev argW (c : Dev nD) : FVec Ideal S8192x2048 .f32 := m ((c : Thread nD τ).loc main_arg1)
abbrev argDy (c : Dev nD) : FVec Ideal S2048x2048 .bf16 := m ((c : Thread nD τ).loc main_arg2)
/-- The weights rounded, as the host hands them to the kernel. -/
abbrev wB (c : Dev nD) : FVec Ideal S8192x2048 .bf16 := truncf .bf16 (argW m c) bitsLt_bf16_f32

theorem V2 (c : Dev nD) : V m c main_v2 = truncf .bf16 (maximumf (m ((c : Thread nD τ).loc main_arg0)) (broadcastInDim S2048x8192 ![] bcast_S_S2048x8192 (constant (F := Ideal) S_ .f32 0x00000000#32))) bitsLt_bf16_f32 := by
  unfold V hostOps0
  after_results

theorem V4 (c : Dev nD) : (V m c main_v4 : FVec Ideal S1x8192x2048 .bf16) = shapeCast S1x8192x2048 (wB m c) shapeCasts_S8192x2048_S1x8192x2048 := by
  unfold V hostOps0
  after_results
  rfl

theorem flushed_eq (c : Dev nD) (t : Fin cfg0.N) :
    (dats m 0 c).flushed 3 t = ((cfg0.win 3).blk t).view.read (Elt Ideal)
      (val (argA m c) (argW m c) (argDy m c)) := by
  rw [Value.flushed3, out_eq]
  obtain ⟨h00, h01, h10, h11, h12, h20, h21⟩ := idx_facts t
  funext j
  obtain ⟨r, l, rfl⟩ : ∃ (r l : Fin 1024), j = ix2 r l := ⟨j 0, j 1, eq_ix2 j⟩
  refine (pay_apply _ _ _ r l).trans ?_
  have e0 : ∀ k, iblk m c 0 t (ix2 r k) = argDy m c (ix2 ((win0_3.rect t).idx (ix2 r l) 0) k) := by
    intro k
    show V m c main_arg2 _ = _
    rw [V_main_arg2]
    refine congrArg _ (funext fun a => Fin.ext ?_)
    match a with
    | ⟨0, _⟩ => show win0_0.index t 0 * 1024 + 1 * r.val = win0_3.index t 0 * 1024 + 1 * r.val; rw [h00]
    | ⟨1, _⟩ => show win0_0.index t 1 * 2048 + 1 * k.val = k.val; rw [h01]; omega
  have e1 : ∀ k, iblk m c 1 t (ix3 0 l k) = argW m c (ix2 ((win0_3.rect t).idx (ix2 r l) 1) k) := by
    intro k
    show (V m c main_v4 : FVec Ideal S1x8192x2048 .bf16) _ = _
    rw [V4]
    have : ((win0_1.blk t).view.emb (ix3 0 l k)) = ix3 0 ((win0_3.rect t).idx (ix2 r l) 1) k := by
      funext a
      match a with
      | ⟨0, _⟩ => apply Fin.ext; show win0_1.index t 0 * 1 + 1 * 0 = 0; rw [h10]
      | ⟨1, _⟩ => apply Fin.ext; show win0_1.index t 1 * 1024 + 1 * l.val = win0_3.index t 1 * 1024 + 1 * l.val; rw [h11]
      | ⟨2, _⟩ => apply Fin.ext; show win0_1.index t 2 * 2048 + 1 * k.val = k.val; rw [h12]; omega
    rw [this]
    pointwise
  have e2 : iblk m c 2 t (ix2 r l) = max (argA m c ((win0_3.rect t).idx (ix2 r l))) 0 := by
    show (V m c main_v2 : FVec Ideal S2048x8192 .bf16) _ = _
    rw [V2]
    have : ((win0_2.blk t).view.emb (ix2 r l)) = (win0_3.rect t).idx (ix2 r l) := by
      funext a
      match a with
      | ⟨0, _⟩ => apply Fin.ext; show win0_2.index t 0 * 1024 + 1 * r.val = win0_3.index t 0 * 1024 + 1 * r.val; rw [h20]
      | ⟨1, _⟩ => apply Fin.ext; show win0_2.index t 1 * 1024 + 1 * l.val = win0_3.index t 1 * 1024 + 1 * l.val; rw [h21]
    rw [this]
    pointwise
  simp only [e0, e1, e2]
  rfl

theorem final (c : Dev nD) : (dats m 0 c).arrAt 3 cfg0.N
    = val (argA m c) (argW m c) (argDy m c) :=
  (dats m 0 c).arrAt_eq_of_cover 3 _ (fun t _ => flushed_eq m c t) fun i => by
    have h0 : (i 0 : Nat) < 2048 := (i 0).isLt
    have h1 : (i 1 : Nat) < 8192 := (i 1).isLt
    obtain ⟨t, ht, ha, hb⟩ := idx_onto ⟨(i 0 : Nat) / 1024, by omega⟩ ⟨(i 1 : Nat) / 1024, by omega⟩
    refine ⟨t, ht, ?_⟩
    show i ∈ ((View.whole main_v5).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024; rw [ha]; dsimp only; omega
    | ⟨1, _⟩ => show win0_3.index t 1 * 1024 ≤ (i 1 : Nat) ∧ (i 1 : Nat) < win0_3.index t 1 * 1024 + 1024; rw [hb]; dsimp only; omega

/-- The reference's composed term is the same function: where the activation is zero both factors are. -/
theorem ref_eq (a : FVec Ideal S2048x8192 .f32) (w : FVec Ideal S8192x2048 .f32) (dy : FVec Ideal S2048x2048 .bf16)
    (j : S2048x8192.Idx) :
    (truncf .bf16 (select (cmpf .ogt a (broadcastInDim S2048x8192 ![] Cert.RefDff2Ideal.Gen.facts.toFacts₀.bcast_S_S2048x8192 (constant Cert.RefDff2Ideal.S_ .f32 0x00000000#32))) (mulf (Host.dotGeneral Cert.RefDff2Ideal.dot_S2048x2048_S8192x2048_S2048x8192_1_1_0_0_n_n none (extf .f32 dy Cert.RefDff2Ideal.Gen.facts.toFacts₀.bitsLt_bf16_f32) w) (mulf (broadcastInDim S2048x8192 ![] Cert.RefDff2Ideal.Gen.facts.toFacts₀.bcast_S_S2048x8192 (constant Cert.RefDff2Ideal.S_ .f32 0x40000000#32)) (maximumf a (broadcastInDim S2048x8192 ![] Cert.RefDff2Ideal.Gen.facts.toFacts₀.bcast_S_S2048x8192 (constant Cert.RefDff2Ideal.S_ .f32 0x00000000#32))))) (broadcastInDim S2048x8192 ![] Cert.RefDff2Ideal.Gen.facts.toFacts₀.bcast_S_S2048x8192 (constant Cert.RefDff2Ideal.S_ .f32 0x00000000#32))) Cert.RefDff2Ideal.Gen.facts.toFacts₀.bitsLt_bf16_f32 : FVec Ideal S2048x8192 .bf16) j
      = val a w dy j := by
  unfold val
  pointwise
  split
  · rfl
  · next h => rw [max_eq_right (not_lt.mp h), mul_zero, mul_zero]

theorem claim : Cert.algebraic_Dff2Ideal_RefDff2Ideal (hDff2Ideal := Cert.Dff2Ideal.Gen.facts) (hRefDff2Ideal := Cert.RefDff2Ideal.Gen.facts) := by
  intro m g m' g' _ hargs
  refine ⟨fun c => val (argA m c) (argW m c) (argDy m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefDff2Ideal.Value.run (F := Ideal) m' g')
    obtain ⟨hv, hr⟩ := h c
    refine ⟨hv.trans ?_, hr⟩
    rw [(hargs c).1, (hargs c).2.1, (hargs c).2.2]
    exact funext fun j => ref_eq _ _ _ j

end Cert.Proof.Dff2

end
-- ==== Proof.Gff2.lean ====
module

public import proofs.«01_k».proof.Defs
public import proofs.«01_k».proof.Proof.Gen.Gff2.Frame
public import proofs.«01_k».proof.Proof.Gen.Gff2Ideal.Value
public import proofs.«01_k».proof.Proof.Gen.RefGff2Ideal.Run
public import Idealize.ShloMosaic.Lib.Pipeline.Value
public import Idealize.ShloMosaic.Lib.Pointwise

@[expose] public section

set_option maxRecDepth 16384

noncomputable section

namespace Cert.Proof.Gff2

open Idealize.ShloMosaic Idealize.SL.Sem Cert.Gff2Ideal
open Cert.Gff2Ideal.Gen Idealize.ShloMosaic.TcCoe
open Idealize.ShloMosaic.Pipeline (Dat Cfg Window)

/-- What a grid point stores, element by element: a column of the squared activations against a column of the
    cotangent. -/
theorem pay_apply (x0 x1 : Vec Ideal S2048x1024 .bf16) (r l : Fin 1024) :
    k0_pay1 x0 x1 (ix2 r l)
      = ∑ k : Fin 2048, (x0 (ix2 k r) * x0 (ix2 k r)) * x1 (ix2 k l) := by
  pointwise [k0_pay1]

theorem out_eq (x0 x1 : Vec Ideal S2048x1024 .bf16) : out0_2 x0 x1 = k0_pay1 x0 x1 := by
  have h2 : (![0, 0] : Fin 2 → Nat) = fun _ => 0 := funext fun a => by fin_cases a <;> rfl
  unfold out0_2
  rw [View.canon_unit_zero h2, View.ld_unit_zero (S := S2048x1024) h2, View.ld_unit_zero (S := S2048x1024) h2]

/-- Which blocks of the operands a point reads, by the block it writes. -/
theorem idx_facts : ∀ t : Fin cfg0.N,
    win0_0.index t 0 = 0 ∧ win0_0.index t 1 = win0_2.index t 0
    ∧ win0_1.index t 0 = 0 ∧ win0_1.index t 1 = win0_2.index t 1 :=
  (by decide +kernel : ∀ t : Fin grid0.N,
    win0_0.index t 0 = 0 ∧ win0_0.index t 1 = win0_2.index t 0
    ∧ win0_1.index t 0 = 0 ∧ win0_1.index t 1 = win0_2.index t 1)

/-- Every block of the output is some point's. -/
theorem idx_onto : ∀ a : Fin 8, ∀ b : Fin 2, ∃ t : Fin cfg0.N, win0_2.flush t = true ∧ win0_2.index t 0 = a.val ∧ win0_2.index t 1 = b.val :=
  (by decide +kernel : ∀ a : Fin 8, ∀ b : Fin 2, ∃ t : Fin grid0.N, win0_2.flush t = true ∧ win0_2.index t 0 = a.val ∧ win0_2.index t 1 = b.val)

/-- The gradient of the second feed-forward weights, element by element. -/
def val (a : FVec Ideal S2048x8192 .f32) (dy : FVec Ideal S2048x2048 .bf16) : FVec Ideal S8192x2048 .bf16 :=
  fun j => ∑ k : Fin 2048, dy (ix2 k (j 1)) * (max (a (ix2 k (j 0))) 0 * max (a (ix2 k (j 0))) 0)

variable (m : (ℓ : Loc nD τ sig) → Buf (Elt Ideal) ℓ) (ρ : Dev nD → PrngReg)

/-- The arguments the gradient depends on, as launched. -/
abbrev argA (c : Dev nD) : FVec Ideal S2048x8192 .f32 := m ((c : Thread nD τ).loc main_arg0)
abbrev argDy (c : Dev nD) : FVec Ideal S2048x2048 .bf16 := m ((c : Thread nD τ).loc main_arg2)

theorem V2 (c : Dev nD) : V m c main_v2 = truncf .bf16 (maximumf (m ((c : Thread nD τ).loc main_arg0)) (broadcastInDim S2048x8192 ![] bcast_S_S2048x8192 (constant (F := Ideal) S_ .f32 0x00000000#32))) bitsLt_bf16_f32 := by
  unfold V hostOps0
  after_results

theorem flushed_eq (c : Dev nD) (t : Fin cfg0.N) :
    (dats m 0 c).flushed 2 t = ((cfg0.win 2).blk t).view.read (Elt Ideal) (val (argA m c) (argDy m c)) := by
  rw [Value.flushed2, out_eq]
  obtain ⟨h00, h01, h10, h11⟩ := idx_facts t
  funext j
  obtain ⟨r, l, rfl⟩ : ∃ (r l : Fin 1024), j = ix2 r l := ⟨j 0, j 1, eq_ix2 j⟩
  refine (pay_apply _ _ r l).trans ?_
  have e0 : ∀ k, iblk m c 0 t (ix2 k r) = max (argA m c (ix2 k ((win0_2.rect t).idx (ix2 r l) 0))) 0 := by
    intro k
    show (V m c main_v2 : FVec Ideal S2048x8192 .bf16) _ = _
    rw [V2]
    have : (win0_0.blk t).view.emb (ix2 k r) = ix2 k ((win0_2.rect t).idx (ix2 r l) 0) := funext fun a => Fin.ext <|
      match a with
      | ⟨0, _⟩ => by show win0_0.index t 0 * 2048 + 1 * k.val = k.val; rw [h00]; omega
      | ⟨1, _⟩ => by show win0_0.index t 1 * 1024 + 1 * r.val = win0_2.index t 0 * 1024 + 1 * r.val; rw [h01]
    rw [this]
    pointwise
  have e1 : ∀ k, iblk m c 1 t (ix2 k l) = argDy m c (ix2 k ((win0_2.rect t).idx (ix2 r l) 1)) := by
    intro k
    show V m c main_arg2 _ = _
    rw [V_main_arg2]
    exact congrArg (argDy m c) <| funext fun a => Fin.ext <|
      match a with
      | ⟨0, _⟩ => by show win0_1.index t 0 * 2048 + 1 * k.val = k.val; rw [h10]; omega
      | ⟨1, _⟩ => by show win0_1.index t 1 * 1024 + 1 * l.val = win0_2.index t 1 * 1024 + 1 * l.val; rw [h11]
  simp only [e0, e1]
  exact Finset.sum_congr rfl fun k _ => mul_comm _ _

theorem final (c : Dev nD) : (dats m 0 c).arrAt 2 cfg0.N = val (argA m c) (argDy m c) :=
  (dats m 0 c).arrAt_eq_of_cover 2 _ (fun t _ => flushed_eq m c t) fun i => by
    have h0 : (i 0 : Nat) < 8192 := (i 0).isLt
    have h1 : (i 1 : Nat) < 2048 := (i 1).isLt
    obtain ⟨t, ht, ha, hb⟩ := idx_onto ⟨(i 0 : Nat) / 1024, by omega⟩ ⟨(i 1 : Nat) / 1024, by omega⟩
    refine ⟨t, ht, ?_⟩
    show i ∈ ((View.whole main_v3).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [ha]; dsimp only; omega
    | ⟨1, _⟩ => show win0_2.index t 1 * 1024 ≤ (i 1 : Nat) ∧ (i 1 : Nat) < win0_2.index t 1 * 1024 + 1024; rw [hb]; dsimp only; omega

theorem claim : Cert.algebraic_Gff2Ideal_RefGff2Ideal (hGff2Ideal := Cert.Gff2Ideal.Gen.facts) (hRefGff2Ideal := Cert.RefGff2Ideal.Gen.facts) := by
  intro m g m' g' _ hargs
  refine ⟨fun c => val (argA m c) (argDy m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefGff2Ideal.Value.run (F := Ideal) m' g')
    obtain ⟨hv, hr⟩ := h c
    refine ⟨hv.trans ?_, hr⟩
    rw [(hargs c).1, (hargs c).2.2]
    funext j
    unfold val
    pointwise

end Cert.Proof.Gff2

end
-- ==== Proof.Gff1.lean ====
module

public import proofs.«01_k».proof.Defs
public import proofs.«01_k».proof.Proof.Gen.Gff1.Frame
public import proofs.«01_k».proof.Proof.Gen.Gff1Ideal.Value
public import proofs.«01_k».proof.Proof.Gen.RefGff1Ideal.Run
public import Idealize.ShloMosaic.Lib.Pipeline.Value
public import Idealize.ShloMosaic.Lib.Pointwise

@[expose] public section

set_option maxRecDepth 16384

noncomputable section

namespace Cert.Proof.Gff1

open Idealize.ShloMosaic Idealize.SL.Sem Cert.Gff1Ideal
open Cert.Gff1Ideal.Gen Idealize.ShloMosaic.TcCoe
open Idealize.ShloMosaic.Pipeline (Dat Cfg Window)

/-- What a grid point stores, element by element: a column of the normalised rows against a column of the
    cotangent. -/
theorem pay_apply (x0 x1 : Vec Ideal S2048x1024 .bf16) (r l : Fin 1024) :
    k0_pay1 x0 x1 (ix3 0 r l)
      = ∑ k : Fin 2048, x0 (ix2 k r) * x1 (ix2 k l) := by
  pointwise [k0_pay1]

theorem out_eq (x0 x1 : Vec Ideal S2048x1024 .bf16) : out0_2 x0 x1 = k0_pay1 x0 x1 := by
  have h2 : (![0, 0] : Fin 2 → Nat) = fun _ => 0 := funext fun a => by fin_cases a <;> rfl
  have h3 : (![0, 0, 0] : Fin 3 → Nat) = fun _ => 0 := funext fun a => by fin_cases a <;> rfl
  unfold out0_2
  rw [View.canon_unit_zero h3, View.ld_unit_zero (S := S2048x1024) h2, View.ld_unit_zero (S := S2048x1024) h2]

/-- Which blocks of the operands a point reads, by the block it writes. -/
theorem idx_facts : ∀ t : Fin cfg0.N,
    win0_0.index t 0 = 0 ∧ win0_0.index t 1 = win0_2.index t 1
    ∧ win0_1.index t 0 = 0 ∧ win0_1.index t 1 = win0_2.index t 0 ∧ win0_2.index t 2 = 0 :=
  (by decide +kernel : ∀ t : Fin grid0.N,
    win0_0.index t 0 = 0 ∧ win0_0.index t 1 = win0_2.index t 1
    ∧ win0_1.index t 0 = 0 ∧ win0_1.index t 1 = win0_2.index t 0 ∧ win0_2.index t 2 = 0)

/-- Every block of the output is some point's. -/
theorem idx_onto : ∀ a : Fin 8, ∀ b : Fin 2, ∃ t : Fin cfg0.N, win0_2.flush t = true ∧ win0_2.index t 0 = a.val ∧ win0_2.index t 1 = b.val :=
  (by decide +kernel : ∀ a : Fin 8, ∀ b : Fin 2, ∃ t : Fin grid0.N, win0_2.flush t = true ∧ win0_2.index t 0 = a.val ∧ win0_2.index t 1 = b.val)

/-- The gradient of the first feed-forward weights, element by element, cut into eight planes of columns. -/
def val (h : FVec Ideal S2048x2048 .f32) (da : FVec Ideal S2048x8192 .bf16) : FVec Ideal S8x2048x1024 .bf16 :=
  fun j => ∑ k : Fin 2048, da (ix2 k ⟨(j 0).val * 1024 + (j 2).val, by have h0 : (j 0).val < 8 := (j 0).isLt; have h2 : (j 2).val < 1024 := (j 2).isLt; omega⟩)
    * h (ix2 k (j 1))

variable (m : (ℓ : Loc nD τ sig) → Buf (Elt Ideal) ℓ) (ρ : Dev nD → PrngReg)

/-- The arguments the gradient depends on, as launched. -/
abbrev argH (c : Dev nD) : FVec Ideal S2048x2048 .f32 := m ((c : Thread nD τ).loc main_arg0)
abbrev argDa (c : Dev nD) : FVec Ideal S2048x8192 .bf16 := m ((c : Thread nD τ).loc main_arg2)

theorem V0 (c : Dev nD) : (V m c main_v0 : FVec Ideal S2048x2048 .bf16) = truncf .bf16 (argH m c) bitsLt_bf16_f32 := by
  unfold V hostOps0
  after_results

theorem flushed_eq (c : Dev nD) (t : Fin cfg0.N) :
    (dats m 0 c).flushed 2 t = ((cfg0.win 2).blk t).view.read (Elt Ideal) (val (argH m c) (argDa m c)) := by
  rw [Value.flushed2, out_eq]
  obtain ⟨h00, h01, h10, h11, h22⟩ := idx_facts t
  funext j
  obtain ⟨r, l, rfl⟩ : ∃ (r l : Fin 1024), j = ix3 0 r l := ⟨j 1, j 2, funext fun a => match a with
    | ⟨0, _⟩ => Subsingleton.elim (α := Fin 1) _ _
    | ⟨1, _⟩ => rfl
    | ⟨2, _⟩ => rfl⟩
  refine (pay_apply _ _ r l).trans ?_
  have e0 : ∀ k, iblk m c 0 t (ix2 k r) = argH m c (ix2 k ((win0_2.rect t).idx (ix3 0 r l) 1)) := by
    intro k
    show (V m c main_v0 : FVec Ideal S2048x2048 .bf16) _ = _
    rw [V0]
    exact congrArg (argH m c) <| funext fun a => Fin.ext <|
      match a with
      | ⟨0, _⟩ => by show win0_0.index t 0 * 2048 + 1 * k.val = k.val; rw [h00]; omega
      | ⟨1, _⟩ => by show win0_0.index t 1 * 1024 + 1 * r.val = win0_2.index t 1 * 1024 + 1 * r.val; rw [h01]
  have e1 : ∀ k, ∀ h, iblk m c 1 t (ix2 k l) = argDa m c (ix2 k ⟨((win0_2.rect t).idx (ix3 0 r l) 0).val * 1024 + ((win0_2.rect t).idx (ix3 0 r l) 2).val, h⟩) := by
    intro k h
    show V m c main_arg2 _ = _
    rw [V_main_arg2]
    exact congrArg (argDa m c) <| funext fun a => Fin.ext <|
      match a with
      | ⟨0, _⟩ => by show win0_1.index t 0 * 2048 + 1 * k.val = k.val; rw [h10]; omega
      | ⟨1, _⟩ => by show win0_1.index t 1 * 1024 + 1 * l.val = (win0_2.index t 0 * 1 + 1 * 0) * 1024 + (win0_2.index t 2 * 1024 + 1 * l.val); rw [h11, h22]; omega
  show _ = val _ _ ((win0_2.rect t).idx (ix3 0 r l))
  unfold val
  refine (Finset.sum_congr rfl fun k _ => ?_)
  rw [e0 k, e1 k]
  exact mul_comm _ _

theorem final (c : Dev nD) : (dats m 0 c).arrAt 2 cfg0.N = val (argH m c) (argDa m c) :=
  (dats m 0 c).arrAt_eq_of_cover 2 _ (fun t _ => flushed_eq m c t) fun i => by
    have h0 : (i 0 : Nat) < 8 := (i 0).isLt
    have h1 : (i 1 : Nat) < 2048 := (i 1).isLt
    have h2 : (i 2 : Nat) < 1024 := (i 2).isLt
    obtain ⟨t, ht, ha, hb⟩ := idx_onto ⟨(i 0 : Nat), h0⟩ ⟨(i 1 : Nat) / 1024, by omega⟩
    have hz := (idx_facts t).2.2.2.2
    refine ⟨t, ht, ?_⟩
    show i ∈ ((View.whole main_v1).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1; rw [ha]; dsimp only; omega
    | ⟨1, _⟩ => show win0_2.index t 1 * 1024 ≤ (i 1 : Nat) ∧ (i 1 : Nat) < win0_2.index t 1 * 1024 + 1024; rw [hb]; dsimp only; omega
    | ⟨2, _⟩ => show win0_2.index t 2 * 1024 ≤ (i 2 : Nat) ∧ (i 2 : Nat) < win0_2.index t 2 * 1024 + 1024; rw [hz]; omega

theorem claim : Cert.algebraic_Gff1Ideal_RefGff1Ideal (hGff1Ideal := Cert.Gff1Ideal.Gen.facts) (hRefGff1Ideal := Cert.RefGff1Ideal.Gen.facts) := by
  intro m g m' g' _ hargs
  refine ⟨fun c => val (argH m c) (argDa m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefGff1Ideal.Value.run (F := Ideal) m' g')
    obtain ⟨hv, hr⟩ := h c
    refine ⟨hv.trans ?_, hr⟩
    rw [(hargs c).1, (hargs c).2.2]
    funext j
    obtain ⟨p, q, l, rfl⟩ : ∃ (p : Fin 8) (q : Fin 2048) (l : Fin 1024), j = ix3 p q l := ⟨j 0, j 1, j 2, eq_ix3 j⟩
    unfold val
    pointwise

end Cert.Proof.Gff1

end
-- ==== Proof.Dff1.lean ====
module

public import proofs.«01_k».proof.Defs
public import proofs.«01_k».proof.Proof.Gen.Dff1.Frame
public import proofs.«01_k».proof.Proof.Gen.Dff1Ideal.Value
public import proofs.«01_k».proof.Proof.Gen.RefDff1Ideal.Run
public import Idealize.ShloMosaic.Lib.Pipeline.Value
public import Idealize.ShloMosaic.Lib.Pointwise
public import Idealize.ShloMosaic.Lib.Tactic

@[expose] public section

set_option maxRecDepth 16384

noncomputable section

namespace Cert.Proof.Dff1

open Idealize.ShloMosaic Idealize.SL.Sem Cert.Dff1Ideal
open Cert.Dff1Ideal.Gen Idealize.ShloMosaic.TcCoe
open Idealize.ShloMosaic.Pipeline (Dat Cfg Window)

theorem h2 : (![0, 0] : Fin 2 → Nat) = fun _ => 0 := funext fun a => by fin_cases a <;> rfl

/-- One plane of the four a block of the weights holds. -/
def plane (x : Vec Ideal S4x1024x1024 .bf16) (s : Nat) (h : ∀ a, (![s, 0, 0] : Fin 3 → Nat) a + S1x1024x1024.size a ≤ S4x1024x1024.size a) :
    Vec Ideal S1x1024x1024 .bf16 := View.ld x (Rect.unit (s := S4x1024x1024) ![s, 0, 0] S1x1024x1024.size h)

theorem plane_apply (x : Vec Ideal S4x1024x1024 .bf16) (s : Nat) (hs : s < 4) (h) (l k : Fin 1024) :
    plane x s h (ix3 0 l k) = x (ix3 ⟨s, hs⟩ l k) := by
  show x _ = x _
  exact congrArg x <| funext fun a => Fin.ext <|
    match a with
    | ⟨0, _⟩ => by show s + 1 * 0 = s; omega
    | ⟨1, _⟩ => by show 0 + 1 * l.val = l.val; omega
    | ⟨2, _⟩ => by show 0 + 1 * k.val = k.val; omega

/-- The partial product of one point: four planes of the contracted axis. -/
def part (x0 : Vec Ideal S1024x4096 .bf16) (x1 : Vec Ideal S4x1024x1024 .bf16) : FVec Ideal S1024x1024 .f32 :=
  k0_pay2 x0 (plane x1 0 inb_S4x1024x1024_S1x1024x1024_0_0_0) (plane x1 1 inb_S4x1024x1024_S1x1024x1024_1_0_0)
    (plane x1 2 inb_S4x1024x1024_S1x1024x1024_2_0_0) (plane x1 3 inb_S4x1024x1024_S1x1024x1024_3_0_0)

theorem pay2_apply (x0 : Vec Ideal S1024x4096 .bf16) (p0 p1 p2 p3 : Vec Ideal S1x1024x1024 .bf16) (r l : Fin 1024) :
    k0_pay2 x0 p0 p1 p2 p3 (ix2 r l)
      = (∑ k : Fin 1024, x0 (ix2 r ⟨k.val, by omega⟩) * p0 (ix3 0 l k)) + (∑ k : Fin 1024, x0 (ix2 r ⟨1024 + k.val, by omega⟩) * p1 (ix3 0 l k))
        + (∑ k : Fin 1024, x0 (ix2 r ⟨2048 + k.val, by omega⟩) * p2 (ix3 0 l k)) + (∑ k : Fin 1024, x0 (ix2 r ⟨3072 + k.val, by omega⟩) * p3 (ix3 0 l k)) := by
  pointwise [k0_pay2]

theorem part_apply (x0 : Vec Ideal S1024x4096 .bf16) (x1 : Vec Ideal S4x1024x1024 .bf16) (r l : Fin 1024) :
    part x0 x1 (ix2 r l) = ∑ s : Fin 4, ∑ k : Fin 1024, x0 (ix2 r ⟨s.val * 1024 + k.val, by omega⟩) * x1 (ix3 s l k) := by
  rw [part, pay2_apply, Fin.sum_univ_four]
  simp only [plane_apply x1 0 (by omega), plane_apply x1 1 (by omega), plane_apply x1 2 (by omega), plane_apply x1 3 (by omega)]
  simp only [show (0 : Fin 4).val = 0 from rfl, show (1 : Fin 4).val = 1 from rfl, show (2 : Fin 4).val = 2 from rfl, show (3 : Fin 4).val = 3 from rfl,
    Nat.zero_mul, Nat.zero_add, Nat.one_mul, Nat.reduceMul]
  rfl

/-- The first point of a run leaves its partial product in the scratch. -/
theorem sout_A (c : Dev nD) (i : grid0.Coords) (a3 : Memref sig .tc .vmem S1024x4096 .bf16) (ha3 : a3.IsWhole) (a4 : Memref sig .tc .vmem S4x1024x1024 .bf16) (ha4 : a4.IsWhole)
    (a5 : Memref sig .tc .vmem S1024x1024 .f32) (ha5 : a5.IsWhole) (a6 : Memref sig .tc .vmem S1024x1024 .f32) (ha6 : a6.IsWhole)
    (hc0 : cond0_0 i) (hc1 : ¬cond0_1 i) (hc2 : ¬cond0_2 i) (x0 : Vec Ideal S1024x4096 .bf16) (x1 : Vec Ideal S4x1024x1024 .bf16) :
    sout0_A_0 c i a3 ha3 a4 ha4 a5 ha5 a6 ha6 hc0 hc1 hc2 x0 x1 = part x0 x1 := by
  unfold sout0_A_0
  rw [View.read_writes_eq_canon _ _ _ (scover0_A_0 c i a3 ha3 a4 ha4 a5 ha5 a6 ha6 hc0 hc1 hc2 x0 x1)]
  unfold kernelRun0_A
  dsimp only
  rw [View.canon_unit_zero h2]
  unfold k0_pay3
  simp only [View.readAt_eq_ld, ha3.read_unread, ha4.read_unread, View.ld_unit_zero (S := S1024x4096) h2, shapeCast_self]
  rfl

/-- The second adds its own and stores the sum. -/
theorem out_B (c : Dev nD) (i : grid0.Coords) (a3 : Memref sig .tc .vmem S1024x4096 .bf16) (ha3 : a3.IsWhole) (a4 : Memref sig .tc .vmem S4x1024x1024 .bf16) (ha4 : a4.IsWhole)
    (a5 : Memref sig .tc .vmem S1024x1024 .f32) (ha5 : a5.IsWhole) (a6 : Memref sig .tc .vmem S1024x1024 .f32) (ha6 : a6.IsWhole)
    (hc0 : ¬cond0_0 i) (hc1 : ¬cond0_1 i) (hc2 : cond0_2 i) (x0 : Vec Ideal S1024x4096 .bf16) (x1 : Vec Ideal S4x1024x1024 .bf16) (xs : Vec Ideal S1024x1024 .f32) :
    out0_B_2 c i a3 ha3 a4 ha4 a5 ha5 a6 ha6 hc0 hc1 hc2 x0 x1 xs = addf xs (part x0 x1) := by
  unfold out0_B_2
  rw [View.read_writes_eq_canon _ _ _ (cover0_B_2 c i a3 ha3 a4 ha4 a5 ha5 a6 ha6 hc0 hc1 hc2 x0 x1 xs)]
  unfold kernelRun0_B
  dsimp only
  sl_unfold_words
  rw [View.canon_unit_zero h2]
  unfold k0_pay1
  simp only [View.readAt_eq_ld, ha3.read_unread, ha4.read_unread, ha6.read_unread, View.ld_unit_zero (S := S1024x4096) h2, View.ld_unit_zero (S := S1024x1024) h2, shapeCast_self]
  rfl

/-- Which blocks a point reads, by the block of the output and the half of the contracted axis it is at. -/
theorem idx_facts : ∀ t : Fin cfg0.N,
    win0_0.index t 0 = win0_2.index t 0 ∧ win0_0.index t 1 = t.val % 2
    ∧ win0_1.index t 0 = t.val % 2 ∧ win0_1.index t 1 = win0_2.index t 1 ∧ win0_1.index t 2 = 0
    ∧ win0_2.index t 0 = t.val / 4 ∧ win0_2.index t 1 = t.val / 2 % 2 :=
  (by decide +kernel : ∀ t : Fin grid0.N,
    win0_0.index t 0 = win0_2.index t 0 ∧ win0_0.index t 1 = t.val % 2
    ∧ win0_1.index t 0 = t.val % 2 ∧ win0_1.index t 1 = win0_2.index t 1 ∧ win0_1.index t 2 = 0
    ∧ win0_2.index t 0 = t.val / 4 ∧ win0_2.index t 1 = t.val / 2 % 2)

theorem flush_iff : ∀ t : Fin cfg0.N, win0_2.flush t = true ↔ t.val % 2 = 1 :=
  (by decide +kernel : ∀ t : Fin grid0.N, win0_2.flush t = true ↔ t.val % 2 = 1)

/-- A sum over `n * p` terms in `n` runs of `p`. -/
theorem sum_runs (n p : Nat) (f : Fin (n * p) → EReal) :
    ∑ x, f x = ∑ s : Fin n, ∑ k : Fin p, f ⟨s.val * p + k.val, by have := Nat.mul_le_mul_right p (Nat.succ_le_of_lt s.isLt); rw [Nat.succ_mul] at this; omega⟩ := by
  rw [← finProdFinEquiv.sum_comp, Fintype.sum_prod_type]
  refine Finset.sum_congr rfl fun s _ => Finset.sum_congr rfl fun k _ => congrArg f (Fin.ext ?_)
  show k.val + p * s.val = s.val * p + k.val
  rw [Nat.mul_comm, Nat.add_comm]

/-- The gradient of the normalised rows, element by element. -/
def val (w : FVec Ideal S2048x8192 .f32) (da : FVec Ideal S2048x8192 .bf16) : FVec Ideal S2048x2048 .f32 :=
  fun j => ∑ k : Fin 8192, da (ix2 (j 0) k) * w (ix2 (j 1) k)

variable (m : (ℓ : Loc nD τ sig) → Buf (Elt Ideal) ℓ) (ρ : Dev nD → PrngReg)

/-- The arguments the gradient depends on, as launched. -/
abbrev argW (c : Dev nD) : FVec Ideal S2048x8192 .f32 := m ((c : Thread nD τ).loc main_arg1)
abbrev argDa (c : Dev nD) : FVec Ideal S2048x8192 .bf16 := m ((c : Thread nD τ).loc main_arg2)

theorem V2 (c : Dev nD) : (V m c main_v2 : FVec Ideal S8x2048x1024 .bf16)
    = truncf .bf16 (transpose S8x2048x1024 [1, 0, 2] (shapeCast S2048x8x1024 (argW m c) shapeCasts_S2048x8192_S2048x8x1024) transposes_S2048x8x1024_S8x2048x1024_1_0_2) bitsLt_bf16_f32 := by
  unfold V hostOps0
  after_results
  rfl

theorem V2_apply (c : Dev nD) (p : Fin 8) (q : Fin 2048) (l : Fin 1024) :
    (V m c main_v2 : FVec Ideal S8x2048x1024 .bf16) (ix3 p q l) = argW m c (ix2 q ⟨p.val * 1024 + l.val, by omega⟩) := by
  rw [V2]
  pointwise

/-- What a point adds: half of the contracted axis of the block it is at. -/
theorem part_eq (c : Dev nD) (t : Fin cfg0.N) (R C : Fin 2048) (r l : Fin 1024)
    (hR : R.val = win0_2.index t 0 * 1024 + r.val) (hC : C.val = win0_2.index t 1 * 1024 + l.val) :
    part (iblk m c 0 t) (iblk m c 1 t) (ix2 r l)
      = ∑ s : Fin 4, ∑ k : Fin 1024, argDa m c (ix2 R ⟨(t.val % 2 * 4 + s.val) * 1024 + k.val, by omega⟩)
          * argW m c (ix2 C ⟨(t.val % 2 * 4 + s.val) * 1024 + k.val, by omega⟩) := by
  obtain ⟨h00, h01, h10, h11, h12, -, -⟩ := idx_facts t
  rw [part_apply]
  refine Finset.sum_congr rfl fun s _ => Finset.sum_congr rfl fun k _ => congrArg₂ (· * ·) ?_ ?_
  · show V m c main_arg2 _ = _
    rw [V_main_arg2]
    exact congrArg (argDa m c) <| funext fun a => Fin.ext <|
      match a with
      | ⟨0, _⟩ => by show win0_0.index t 0 * 1024 + 1 * r.val = R.val; rw [h00]; omega
      | ⟨1, _⟩ => by show win0_0.index t 1 * 4096 + 1 * (s.val * 1024 + k.val) = (t.val % 2 * 4 + s.val) * 1024 + k.val; rw [h01]; omega
  · show (V m c main_v2 : FVec Ideal S8x2048x1024 .bf16) _ = _
    have : (win0_1.blk t).view.emb (ix3 s l k) = ix3 (⟨t.val % 2 * 4 + s.val, by omega⟩ : Fin 8) C k := funext fun a => Fin.ext <|
      match a with
      | ⟨0, _⟩ => by show win0_1.index t 0 * 4 + 1 * s.val = t.val % 2 * 4 + s.val; rw [h10]; omega
      | ⟨1, _⟩ => by show win0_1.index t 1 * 1024 + 1 * l.val = C.val; rw [h11]; omega
      | ⟨2, _⟩ => by show win0_1.index t 2 * 1024 + 1 * k.val = k.val; rw [h12]; omega
    rw [this]
    exact V2_apply m c _ _ _

theorem flushed_eq (c : Dev nD) (t : Fin cfg0.N) (hf : (cfg0.win 2).flush t = true) :
    (dats m 0 c).flushed 2 t = ((cfg0.win 2).blk t).view.read (Elt Ideal) (val (argW m c) (argDa m c)) := by
  have h1 : t.val % 2 = 1 := (flush_iff t).mp hf
  have hlt : t.val - 1 < cfg0.N := Nat.lt_of_le_of_lt (Nat.sub_le _ _) t.isLt
  let u : Fin cfg0.N := ⟨t.val - 1, hlt⟩
  have hu : u.val = t.val - 1 := rfl
  rw [Value.flushed2_B m c t (by omega) h1, out_B, show outsAt0 m c (t.val - 1) _ = outsAt0 m c u.val u.isLt from rfl,
    outsAt0_A m c u (by omega) (by omega), sout_A]
  have htt := idx_facts t
  have huu := idx_facts u
  funext j
  obtain ⟨r, l, rfl⟩ : ∃ (r l : Fin 1024), j = ix2 r l := ⟨j 0, j 1, eq_ix2 j⟩
  show part (iblk m c 0 u) (iblk m c 1 u) (ix2 r l) + part (iblk m c 0 t) (iblk m c 1 t) (ix2 r l)
    = val (argW m c) (argDa m c) ((win0_2.rect t).idx (ix2 r l))
  have hR : (((win0_2.rect t).idx (ix2 r l) 0 : Fin 2048)).val = win0_2.index t 0 * 1024 + r.val := by
    show win0_2.index t 0 * 1024 + 1 * r.val = _; omega
  have hC : (((win0_2.rect t).idx (ix2 r l) 1 : Fin 2048)).val = win0_2.index t 1 * 1024 + l.val := by
    show win0_2.index t 1 * 1024 + 1 * l.val = _; omega
  rw [part_eq m c t _ _ r l hR hC, part_eq m c u ((win0_2.rect t).idx (ix2 r l) 0) ((win0_2.rect t).idx (ix2 r l) 1) r l (by omega) (by omega)]
  have e := sum_runs 8 1024 fun k => argDa m c (ix2 ((win0_2.rect t).idx (ix2 r l) 0) k) * argW m c (ix2 ((win0_2.rect t).idx (ix2 r l) 1) k)
  refine Eq.trans ?_ e.symm
  rw [Fin.sum_univ_eight, Fin.sum_univ_four, Fin.sum_univ_four]
  have hu0 : u.val % 2 = 0 := by omega
  simp only [hu0, h1, add_assoc]
  rfl

theorem final (c : Dev nD) : (dats m 0 c).arrAt 2 cfg0.N = val (argW m c) (argDa m c) :=
  (dats m 0 c).arrAt_eq_of_cover 2 _ (flushed_eq m c) fun i => by
    have h0 : (i 0 : Nat) < 2048 := (i 0).isLt
    have h1 : (i 1 : Nat) < 2048 := (i 1).isLt
    have hN : cfg0.N = 8 := N_0
    let t : Fin cfg0.N := ⟨(i 0 : Nat) / 1024 * 4 + (i 1 : Nat) / 1024 * 2 + 1, by omega⟩
    obtain ⟨-, -, -, -, -, ha, hb⟩ := idx_facts t
    have ht : t.val = (i 0 : Nat) / 1024 * 4 + (i 1 : Nat) / 1024 * 2 + 1 := rfl
    refine ⟨t, (flush_iff t).mpr (by omega), ?_⟩
    show i ∈ ((View.whole main_v3).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [ha]; omega
    | ⟨1, _⟩ => show win0_2.index t 1 * 1024 ≤ (i 1 : Nat) ∧ (i 1 : Nat) < win0_2.index t 1 * 1024 + 1024; rw [hb]; omega

theorem claim : Cert.algebraic_Dff1Ideal_RefDff1Ideal (hDff1Ideal := Cert.Dff1Ideal.Gen.facts) (hRefDff1Ideal := Cert.RefDff1Ideal.Gen.facts) := by
  intro m g m' g' _ hargs
  refine ⟨fun c => val (argW m c) (argDa m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefDff1Ideal.Value.run (F := Ideal) m' g')
    obtain ⟨hv, hr⟩ := h c
    refine ⟨hv.trans ?_, hr⟩
    rw [(hargs c).2.1, (hargs c).2.2]
    funext j
    unfold val
    pointwise

end Cert.Proof.Dff1

end
-- ==== Proof.Merge.lean ====
module

public import proofs.«01_k».proof.Defs
public import proofs.«01_k».proof.Proof.Gen.Merge.Frame
public import proofs.«01_k».proof.Proof.Gen.MergeIdeal.Value
public import proofs.«01_k».proof.Proof.Gen.RefMergeIdeal.Run
public import Idealize.ShloMosaic.Lib.Pipeline.Value
public import Idealize.ShloMosaic.Lib.Pointwise

@[expose] public section

set_option maxRecDepth 16384

noncomputable section

namespace Cert.Proof.Merge

open Idealize.ShloMosaic Idealize.SL.Sem Cert.MergeIdeal
open Cert.MergeIdeal.Gen Idealize.ShloMosaic.TcCoe
open Idealize.ShloMosaic.Pipeline (Dat Cfg Window)

/-- The logistic function. -/
def sg (x : EReal) : EReal := Ideal.div 1 (1 + Ideal.exp (0 - x))

/-- The gradient of a value or, in every second piece of 256 columns, of its gate `g`. -/
def pick (k : Nat) (d a v g : EReal) : EReal := if k / 256 % 2 < 1 then d * sg a * sg g else d * sg a * v * sg g * (1 - sg g)

/-! ## What a grid point stores, element by element -/

section Pay

variable (x0 x1 : Vec Ideal S256x1024 .f32) (x2 : Vec Ideal S256x2048 .bf16) (x3 x4 : Vec Ideal S256x1024 .bf16) (r : Fin 256)

/-- Column `l` of the values in a block that holds values and gates in turns of 256 columns, -/
abbrev colV (l : Fin 1024) : Fin 2048 := ⟨l.val / 256 * 512 + l.val % 256, by omega⟩
/-- and of the gates. -/
abbrev colG (l : Fin 1024) : Fin 2048 := ⟨l.val / 256 * 512 + 256 + l.val % 256, by omega⟩

theorem pay9_apply (l : Fin 1024) : k0_pay9 x2 (ix2 r l) = x2 (ix2 r (colV l)) := by
  pointwise [k0_pay9, k0_pay6]
  split_ifs <;> exact congrArg x2 (congrArg (ix2 r) (Fin.ext (by first | (dsimp only; omega) | dsimp only)))

theorem pay12_apply (l : Fin 1024) : k0_pay12 x2 (ix2 r l) = 1 + Ideal.exp (0 - x2 (ix2 r (colG l))) := by
  pointwise [k0_pay12, k0_pay6]
  split_ifs <;> exact congrArg (fun k => 1 + Ideal.exp (0 - x2 (ix2 r k))) (Fin.ext (by dsimp only; omega))

theorem pay10_apply (l : Fin 1024) : k0_pay10 x0 (ix2 r l) = sg (x0 (ix2 r l)) := by
  unfold sg
  pointwise [k0_pay10]

theorem pay11_apply (l : Fin 1024) : k0_pay11 x1 (ix2 r l) = sg (x1 (ix2 r l)) := by
  unfold sg
  pointwise [k0_pay11]

theorem pay4_apply (dm vv sa den : FVec Ideal S256x1024 .f32) (l : Fin 2048) :
    k0_pay4 dm vv sa den (Scalar.ofBits .f32 0x3F800000#32) (ix2 r l)
      = if l.val / 256 % 2 < 1 then
          dm (ix2 r ⟨l.val / 512 * 256 + l.val % 256, by omega⟩) * sa (ix2 r ⟨l.val / 512 * 256 + l.val % 256, by omega⟩)
            * Ideal.div 1 (den (ix2 r ⟨l.val / 512 * 256 + l.val % 256, by omega⟩))
        else
          dm (ix2 r ⟨l.val / 512 * 256 + l.val % 256, by omega⟩) * sa (ix2 r ⟨l.val / 512 * 256 + l.val % 256, by omega⟩)
            * vv (ix2 r ⟨l.val / 512 * 256 + l.val % 256, by omega⟩) * Ideal.div 1 (den (ix2 r ⟨l.val / 512 * 256 + l.val % 256, by omega⟩))
            * (1 - Ideal.div 1 (den (ix2 r ⟨l.val / 512 * 256 + l.val % 256, by omega⟩))) := by
  by_cases h : l.val / 256 % 2 < 1
  · rw [if_pos h]
    pointwise [k0_pay4, k0_pay1]
    split_ifs <;> first
      | (exfalso; omega)
      | exact congrArg (fun y : Fin 1024 => dm (ix2 r y) * sa (ix2 r y) * Ideal.div 1 (den (ix2 r y))) (Fin.ext (by dsimp only; omega))
  · rw [if_neg h]
    pointwise [k0_pay4, k0_pay1]
    split_ifs <;> first
      | (exfalso; omega)
      | exact congrArg (fun y : Fin 1024 => dm (ix2 r y) * sa (ix2 r y) * vv (ix2 r y) * Ideal.div 1 (den (ix2 r y)) * (1 - Ideal.div 1 (den (ix2 r y))))
          (Fin.ext (by dsimp only; omega))

theorem h2 : (![0, 0] : Fin 2 → Nat) = fun _ => 0 := funext fun a => by fin_cases a <;> rfl

/-- The gradient of the first gate's argument. -/
theorem out5_apply (l : Fin 1024) : out0_5 x0 x1 x2 x3 x4 (ix2 r l)
    = x4 (ix2 r l) * (x2 (ix2 r (colV l)) * sg (x2 (ix2 r (colG l)))) * sg (x0 (ix2 r l)) * (1 - sg (x0 (ix2 r l))) := by
  unfold out0_5 k0_pay13 k0_pay14 k0_pay15 k0_pay17
  rw [View.canon_unit_zero h2, View.ld_unit_zero (S := S256x1024) h2, View.ld_unit_zero (S := S256x2048) h2, View.ld_unit_zero (S := S256x1024) h2]
  have e (dm vv sa den : FVec Ideal S256x1024 .f32) : k0_pay2 dm vv sa den (Scalar.ofBits .f32 0x3F800000#32) (ix2 r l)
      = dm (ix2 r l) * (vv (ix2 r l) * Ideal.div 1 (den (ix2 r l))) * sa (ix2 r l) * (1 - sa (ix2 r l)) := by pointwise [k0_pay2, k0_pay1]
  rw [e, pay9_apply, pay12_apply, pay10_apply]
  rfl

/-- The gradient of the second gate's argument. -/
theorem out6_apply (l : Fin 1024) : out0_6 x0 x1 x2 x3 x4 (ix2 r l)
    = x4 (ix2 r l) * x3 (ix2 r l) * sg (x1 (ix2 r l)) * (1 - sg (x1 (ix2 r l))) := by
  unfold out0_6 k0_pay13 k0_pay16
  rw [View.canon_unit_zero h2, View.ld_unit_zero (S := S256x1024) h2, View.ld_unit_zero (S := S256x1024) h2, View.ld_unit_zero (S := S256x1024) h2]
  have e (y dm sb : FVec Ideal S256x1024 .f32) : k0_pay3 y dm sb (ix2 r l)
      = dm (ix2 r l) * y (ix2 r l) * sb (ix2 r l) * (1 - sb (ix2 r l)) := by pointwise [k0_pay3]
  rw [e, pay11_apply]
  have e' : k0_pay7 x3 (ix2 r l) = x3 (ix2 r l) := by pointwise [k0_pay7]
  rw [e']
  rfl

/-- The gradients of the values and of the gates, in turns of 256 columns. -/
theorem out7_apply (l : Fin 2048) : out0_7 x0 x1 x2 x3 x4 (ix2 r l)
    = (fun y : Fin 1024 => pick l.val (x4 (ix2 r y)) (x0 (ix2 r y)) (x2 (ix2 r (colV y))) (x2 (ix2 r (colG y))))
      ⟨l.val / 512 * 256 + l.val % 256, by omega⟩ := by
  unfold out0_7 k0_pay13 k0_pay14 k0_pay15 k0_pay17
  rw [View.canon_unit_zero h2, View.ld_unit_zero (S := S256x1024) h2, View.ld_unit_zero (S := S256x2048) h2, View.ld_unit_zero (S := S256x1024) h2]
  rw [pay4_apply, pay9_apply, pay12_apply, pay10_apply]
  rfl

/-- The gradient of the second branch. -/
theorem out8_apply (l : Fin 1024) : out0_8 x0 x1 x2 x3 x4 (ix2 r l) = x4 (ix2 r l) * sg (x1 (ix2 r l)) := by
  unfold out0_8 k0_pay13 k0_pay16
  rw [View.canon_unit_zero h2, View.ld_unit_zero (S := S256x1024) h2, View.ld_unit_zero (S := S256x1024) h2]
  have e (dm sb : FVec Ideal S256x1024 .f32) : k0_pay5 dm sb (ix2 r l) = dm (ix2 r l) * sb (ix2 r l) := by pointwise [k0_pay5]
  rw [e, pay11_apply]
  rfl

end Pay

/-! ## The four gradients as functions of the arguments -/

section Val

variable (p : FVec Ideal S2048x6144 .f32) (v g y : FVec Ideal S2048x2048 .f32) (d : FVec Ideal S2048x2048 .bf16)

/-- The arguments of the two gates, columns of the projection. -/
abbrev gA (R C : Fin 2048) : EReal := p (ix2 R ⟨2048 + C.val, by omega⟩)
abbrev gB (R C : Fin 2048) : EReal := p (ix2 R ⟨4096 + C.val, by omega⟩)

def dGa : FVec Ideal S2048x2048 .bf16 := fun j =>
  d (ix2 (j 0) (j 1)) * (v (ix2 (j 0) (j 1)) * sg (g (ix2 (j 0) (j 1)))) * sg (gA p (j 0) (j 1)) * (1 - sg (gA p (j 0) (j 1)))

def dGb : FVec Ideal S2048x2048 .bf16 := fun j =>
  d (ix2 (j 0) (j 1)) * y (ix2 (j 0) (j 1)) * sg (gB p (j 0) (j 1)) * (1 - sg (gB p (j 0) (j 1)))

def dY : FVec Ideal S2048x2048 .bf16 := fun j => d (ix2 (j 0) (j 1)) * sg (gB p (j 0) (j 1))

def dVg : FVec Ideal S2048x4096 .bf16 := fun j =>
  (fun C : Fin 2048 => pick (j 1).val (d (ix2 (j 0) C)) (gA p (j 0) C) (v (ix2 (j 0) C)) (g (ix2 (j 0) C)))
    ⟨(j 1).val / 512 * 256 + (j 1).val % 256, by have : (j 1).val < 4096 := (j 1).isLt; omega⟩

end Val

/-! ## The blocks a point reads -/

variable (m : (ℓ : Loc nD τ sig) → Buf (Elt Ideal) ℓ) (ρ : Dev nD → PrngReg)
abbrev argP (c : Dev nD) : FVec Ideal S2048x6144 .f32 := m ((c : Thread nD τ).loc main_arg0)
abbrev argV (c : Dev nD) : FVec Ideal S2048x2048 .f32 := m ((c : Thread nD τ).loc main_arg1)
abbrev argG (c : Dev nD) : FVec Ideal S2048x2048 .f32 := m ((c : Thread nD τ).loc main_arg2)
abbrev argY (c : Dev nD) : FVec Ideal S2048x2048 .f32 := m ((c : Thread nD τ).loc main_arg3)
abbrev argD (c : Dev nD) : FVec Ideal S2048x2048 .bf16 := m ((c : Thread nD τ).loc main_arg4)

/-- Two arrays laid side by side in turns of 256 columns. -/
abbrev vg (v g : FVec Ideal S2048x2048 .f32) : FVec Ideal S2048x4096 .bf16 :=
  truncf .bf16 (shapeCast S2048x4096 (concatenate S2048x8x2x256 2
    [⟨S2048x8x1x256, broadcastInDim S2048x8x1x256 ![0, 1, 3] bcast_S2048x8x256_S2048x8x1x256_0_1_3 (shapeCast S2048x8x256 v shapeCasts_S2048x2048_S2048x8x256)⟩,
     ⟨S2048x8x1x256, broadcastInDim S2048x8x1x256 ![0, 1, 3] bcast_S2048x8x256_S2048x8x1x256_0_1_3 (shapeCast S2048x8x256 g shapeCasts_S2048x2048_S2048x8x256)⟩]
    concatenates_S2048x8x1x256_S2048x8x1x256_S2048x8x2x256_d2) shapeCasts_S2048x8x2x256_S2048x4096) bitsLt_bf16_f32

theorem V6 (c : Dev nD) : (V m c main_v6 : FVec Ideal S2048x4096 .bf16) = vg (argV m c) (argG m c) := by
  unfold V hostOps0
  after_results
  rfl

theorem V7 (c : Dev nD) : (V m c main_v7 : FVec Ideal S2048x2048 .bf16) = truncf .bf16 (argY m c) bitsLt_bf16_f32 := by
  unfold V hostOps0
  after_results

theorem vg_apply (v g : FVec Ideal S2048x2048 .f32) (R : Fin 2048) (k : Fin 4096) :
    vg v g (ix2 R k) = if k.val / 256 % 2 < 1 then v (ix2 R ⟨k.val / 512 * 256 + k.val % 256, by omega⟩)
      else g (ix2 R ⟨k.val / 512 * 256 + k.val % 256, by omega⟩) := by
  unfold vg
  pointwise
  split_ifs <;> rfl

/-- Every window moves with the first output's. -/
theorem idx_facts : ∀ t : Fin cfg0.N,
    (win0_0.index t 0 = win0_5.index t 0 ∧ win0_0.index t 1 = 2 + win0_5.index t 1)
    ∧ (win0_1.index t 0 = win0_5.index t 0 ∧ win0_1.index t 1 = 4 + win0_5.index t 1)
    ∧ (win0_2.index t 0 = win0_5.index t 0 ∧ win0_2.index t 1 = win0_5.index t 1)
    ∧ (win0_3.index t 0 = win0_5.index t 0 ∧ win0_3.index t 1 = win0_5.index t 1)
    ∧ (win0_4.index t 0 = win0_5.index t 0 ∧ win0_4.index t 1 = win0_5.index t 1)
    ∧ (win0_6.index t 0 = win0_5.index t 0 ∧ win0_6.index t 1 = win0_5.index t 1)
    ∧ (win0_7.index t 0 = win0_5.index t 0 ∧ win0_7.index t 1 = win0_5.index t 1)
    ∧ (win0_8.index t 0 = win0_5.index t 0 ∧ win0_8.index t 1 = win0_5.index t 1)
    ∧ win0_5.index t 0 < 8 ∧ win0_5.index t 1 < 2 :=
  (by decide +kernel : ∀ t : Fin grid0.N,
    (win0_0.index t 0 = win0_5.index t 0 ∧ win0_0.index t 1 = 2 + win0_5.index t 1)
    ∧ (win0_1.index t 0 = win0_5.index t 0 ∧ win0_1.index t 1 = 4 + win0_5.index t 1)
    ∧ (win0_2.index t 0 = win0_5.index t 0 ∧ win0_2.index t 1 = win0_5.index t 1)
    ∧ (win0_3.index t 0 = win0_5.index t 0 ∧ win0_3.index t 1 = win0_5.index t 1)
    ∧ (win0_4.index t 0 = win0_5.index t 0 ∧ win0_4.index t 1 = win0_5.index t 1)
    ∧ (win0_6.index t 0 = win0_5.index t 0 ∧ win0_6.index t 1 = win0_5.index t 1)
    ∧ (win0_7.index t 0 = win0_5.index t 0 ∧ win0_7.index t 1 = win0_5.index t 1)
    ∧ (win0_8.index t 0 = win0_5.index t 0 ∧ win0_8.index t 1 = win0_5.index t 1)
    ∧ win0_5.index t 0 < 8 ∧ win0_5.index t 1 < 2)

/-- Every block is some point's, and every point writes its blocks back. -/
theorem idx_onto : ∀ a : Fin 8, ∀ b : Fin 2, ∃ t : Fin cfg0.N, win0_5.flush t = true ∧ win0_6.flush t = true ∧ win0_7.flush t = true
    ∧ win0_8.flush t = true ∧ win0_5.index t 0 = a.val ∧ win0_5.index t 1 = b.val :=
  (by decide +kernel : ∀ a : Fin 8, ∀ b : Fin 2, ∃ t : Fin grid0.N, win0_5.flush t = true ∧ win0_6.flush t = true ∧ win0_7.flush t = true
    ∧ win0_8.flush t = true ∧ win0_5.index t 0 = a.val ∧ win0_5.index t 1 = b.val)

section Read

variable (c : Dev nD) (t : Fin cfg0.N) (r : Fin 256) (l : Fin 1024) (R C : Fin 2048)
  (hR : R.val = win0_5.index t 0 * 256 + r.val) (hC : C.val = win0_5.index t 1 * 1024 + l.val)

include hR hC

theorem read0 : iblk m c 0 t (ix2 r l) = gA (argP m c) R C := by
  obtain ⟨⟨ha, hb⟩, -⟩ := idx_facts t
  show V m c main_arg0 _ = _
  rw [V_main_arg0]
  exact congrArg (argP m c) <| funext fun a => Fin.ext <|
    match a with
    | ⟨0, _⟩ => by show win0_0.index t 0 * 256 + 1 * r.val = R.val; omega
    | ⟨1, _⟩ => by show win0_0.index t 1 * 1024 + 1 * l.val = 2048 + C.val; omega

theorem read1 : iblk m c 1 t (ix2 r l) = gB (argP m c) R C := by
  obtain ⟨-, ⟨ha, hb⟩, -⟩ := idx_facts t
  show V m c main_arg0 _ = _
  rw [V_main_arg0]
  exact congrArg (argP m c) <| funext fun a => Fin.ext <|
    match a with
    | ⟨0, _⟩ => by show win0_1.index t 0 * 256 + 1 * r.val = R.val; omega
    | ⟨1, _⟩ => by show win0_1.index t 1 * 1024 + 1 * l.val = 4096 + C.val; omega

theorem read2 (x : Fin 2048) (k : Fin 4096) (hk : k.val = win0_5.index t 1 * 2048 + x.val) :
    iblk m c 2 t (ix2 r x) = vg (argV m c) (argG m c) (ix2 R k) := by
  obtain ⟨-, -, ⟨ha, hb⟩, -⟩ := idx_facts t
  show (V m c main_v6 : FVec Ideal S2048x4096 .bf16) _ = _
  rw [V6]
  exact congrArg (vg (argV m c) (argG m c)) <| funext fun a => Fin.ext <|
    match a with
    | ⟨0, _⟩ => by show win0_2.index t 0 * 256 + 1 * r.val = R.val; omega
    | ⟨1, _⟩ => by show win0_2.index t 1 * 2048 + 1 * x.val = k.val; omega

theorem read2v : iblk m c 2 t (ix2 r (colV l)) = argV m c (ix2 R C) := by
  have hlt := (idx_facts t).2.2.2.2.2.2.2.2.2
  rw [read2 m c t r l R C hR hC (colV l) ⟨C.val / 256 * 512 + C.val % 256, by omega⟩ (by dsimp only; omega), vg_apply, if_pos (by dsimp only; omega)]
  exact congrArg (argV m c) (congrArg (ix2 R) (Fin.ext (by dsimp only; omega)))

theorem read2g : iblk m c 2 t (ix2 r (colG l)) = argG m c (ix2 R C) := by
  have hlt := (idx_facts t).2.2.2.2.2.2.2.2.2
  rw [read2 m c t r l R C hR hC (colG l) ⟨C.val / 256 * 512 + 256 + C.val % 256, by omega⟩ (by dsimp only; omega), vg_apply, if_neg (by dsimp only; omega)]
  exact congrArg (argG m c) (congrArg (ix2 R) (Fin.ext (by dsimp only; omega)))

theorem read3 : iblk m c 3 t (ix2 r l) = argY m c (ix2 R C) := by
  obtain ⟨-, -, -, ⟨ha, hb⟩, -⟩ := idx_facts t
  show (V m c main_v7 : FVec Ideal S2048x2048 .bf16) _ = _
  rw [V7]
  exact congrArg (argY m c) <| funext fun a => Fin.ext <|
    match a with
    | ⟨0, _⟩ => by show win0_3.index t 0 * 256 + 1 * r.val = R.val; omega
    | ⟨1, _⟩ => by show win0_3.index t 1 * 1024 + 1 * l.val = C.val; omega

theorem read4 : iblk m c 4 t (ix2 r l) = argD m c (ix2 R C) := by
  obtain ⟨-, -, -, -, ⟨ha, hb⟩, -⟩ := idx_facts t
  show V m c main_arg4 _ = _
  rw [V_main_arg4]
  exact congrArg (argD m c) <| funext fun a => Fin.ext <|
    match a with
    | ⟨0, _⟩ => by show win0_4.index t 0 * 256 + 1 * r.val = R.val; omega
    | ⟨1, _⟩ => by show win0_4.index t 1 * 1024 + 1 * l.val = C.val; omega

end Read

/-! ## The arrays after the run -/

theorem flushed5 (c : Dev nD) (t : Fin cfg0.N) :
    (dats m 0 c).flushed 5 t = ((cfg0.win 5).blk t).view.read (Elt Ideal) (dGa (argP m c) (argV m c) (argG m c) (argD m c)) := by
  rw [Value.flushed5]
  obtain ⟨-, -, -, -, -, h6, -, h8, -⟩ := idx_facts t
  funext j
  obtain ⟨r, l, rfl⟩ : ∃ (r : Fin 256) (l : Fin 1024), j = ix2 r l := ⟨j 0, j 1, eq_ix2 j⟩
  refine (out5_apply _ _ _ _ _ r l).trans ?_
  have hR : ((win0_5.rect t).idx (ix2 r l) 0 : Fin 2048).val = win0_5.index t 0 * 256 + r.val := by
    show win0_5.index t 0 * 256 + 1 * r.val = _; omega
  have hC : ((win0_5.rect t).idx (ix2 r l) 1 : Fin 2048).val = win0_5.index t 1 * 1024 + l.val := by
    show win0_5.index t 1 * 1024 + 1 * l.val = _; omega
  rw [read0 m c t r l _ _ hR hC, read2v m c t r l _ _ hR hC, read2g m c t r l _ _ hR hC, read4 m c t r l _ _ hR hC]
  rfl

theorem flushed6 (c : Dev nD) (t : Fin cfg0.N) :
    (dats m 0 c).flushed 6 t = ((cfg0.win 6).blk t).view.read (Elt Ideal) (dGb (argP m c) (argY m c) (argD m c)) := by
  rw [Value.flushed6]
  obtain ⟨-, -, -, -, -, h6, -, h8, -⟩ := idx_facts t
  funext j
  obtain ⟨r, l, rfl⟩ : ∃ (r : Fin 256) (l : Fin 1024), j = ix2 r l := ⟨j 0, j 1, eq_ix2 j⟩
  refine (out6_apply _ _ _ _ _ r l).trans ?_
  have hR : ((win0_6.rect t).idx (ix2 r l) 0 : Fin 2048).val = win0_5.index t 0 * 256 + r.val := by
    show win0_6.index t 0 * 256 + 1 * r.val = _; omega
  have hC : ((win0_6.rect t).idx (ix2 r l) 1 : Fin 2048).val = win0_5.index t 1 * 1024 + l.val := by
    show win0_6.index t 1 * 1024 + 1 * l.val = _; omega
  rw [read1 m c t r l _ _ hR hC, read3 m c t r l _ _ hR hC, read4 m c t r l _ _ hR hC]
  rfl

theorem flushed8 (c : Dev nD) (t : Fin cfg0.N) :
    (dats m 0 c).flushed 8 t = ((cfg0.win 8).blk t).view.read (Elt Ideal) (dY (argP m c) (argD m c)) := by
  rw [Value.flushed8]
  obtain ⟨-, -, -, -, -, h6, -, h8, -⟩ := idx_facts t
  funext j
  obtain ⟨r, l, rfl⟩ : ∃ (r : Fin 256) (l : Fin 1024), j = ix2 r l := ⟨j 0, j 1, eq_ix2 j⟩
  refine (out8_apply _ _ _ _ _ r l).trans ?_
  have hR : ((win0_8.rect t).idx (ix2 r l) 0 : Fin 2048).val = win0_5.index t 0 * 256 + r.val := by
    show win0_8.index t 0 * 256 + 1 * r.val = _; omega
  have hC : ((win0_8.rect t).idx (ix2 r l) 1 : Fin 2048).val = win0_5.index t 1 * 1024 + l.val := by
    show win0_8.index t 1 * 1024 + 1 * l.val = _; omega
  rw [read1 m c t r l _ _ hR hC, read4 m c t r l _ _ hR hC]
  rfl

theorem flushed7 (c : Dev nD) (t : Fin cfg0.N) :
    (dats m 0 c).flushed 7 t = ((cfg0.win 7).blk t).view.read (Elt Ideal) (dVg (argP m c) (argV m c) (argG m c) (argD m c)) := by
  rw [Value.flushed7]
  obtain ⟨-, -, -, -, -, -, h7, -, -, hlt⟩ := idx_facts t
  funext j
  obtain ⟨r, l, rfl⟩ : ∃ (r : Fin 256) (l : Fin 2048), j = ix2 r l := ⟨j 0, j 1, eq_ix2 j⟩
  refine (out7_apply _ _ _ _ _ r l).trans ?_
  let R : Fin 2048 := (win0_7.rect t).idx (ix2 r l) 0
  let K : Fin 4096 := (win0_7.rect t).idx (ix2 r l) 1
  let x : Fin 1024 := ⟨l.val / 512 * 256 + l.val % 256, by omega⟩
  let C : Fin 2048 := ⟨K.val / 512 * 256 + K.val % 256, by omega⟩
  have hK : K.val = win0_5.index t 1 * 2048 + l.val := by
    show win0_7.index t 1 * 2048 + 1 * l.val = _; omega
  have hR : R.val = win0_5.index t 0 * 256 + r.val := by
    show win0_7.index t 0 * 256 + 1 * r.val = _; omega
  have hC : C.val = win0_5.index t 1 * 1024 + x.val := by
    show K.val / 512 * 256 + K.val % 256 = win0_5.index t 1 * 1024 + (l.val / 512 * 256 + l.val % 256); omega
  show pick l.val (iblk m c 4 t (ix2 r x)) (iblk m c 0 t (ix2 r x)) (iblk m c 2 t (ix2 r (colV x))) (iblk m c 2 t (ix2 r (colG x)))
    = pick K.val (argD m c (ix2 R C)) (gA (argP m c) R C) (argV m c (ix2 R C)) (argG m c (ix2 R C))
  rw [read0 m c t r x R C hR hC, read2v m c t r x R C hR hC, read2g m c t r x R C hR hC, read4 m c t r x R C hR hC]
  unfold pick
  have hp : K.val / 256 % 2 = l.val / 256 % 2 := by omega
  rw [hp]

theorem final5 (c : Dev nD) : (dats m 0 c).arrAt 5 cfg0.N = dGa (argP m c) (argV m c) (argG m c) (argD m c) :=
  (dats m 0 c).arrAt_eq_of_cover 5 _ (fun t _ => flushed5 m c t) fun i => by
    have h0 : (i 0 : Nat) < 2048 := (i 0).isLt
    have h1 : (i 1 : Nat) < 2048 := (i 1).isLt
    obtain ⟨t, f5, f6, f7, f8, ha, hb⟩ := idx_onto ⟨(i 0 : Nat) / 256, by omega⟩ ⟨(i 1 : Nat) / 1024, by omega⟩
    obtain ⟨-, -, -, -, -, h6, h7, h8, -⟩ := idx_facts t
    dsimp only at ha hb
    refine ⟨t, f5, ?_⟩
    show i ∈ ((View.whole main_v8_0).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256; omega
    | ⟨1, _⟩ => show win0_5.index t 1 * 1024 ≤ (i 1 : Nat) ∧ (i 1 : Nat) < win0_5.index t 1 * 1024 + 1024; omega

theorem final6 (c : Dev nD) : (dats m 0 c).arrAt 6 cfg0.N = dGb (argP m c) (argY m c) (argD m c) :=
  (dats m 0 c).arrAt_eq_of_cover 6 _ (fun t _ => flushed6 m c t) fun i => by
    have h0 : (i 0 : Nat) < 2048 := (i 0).isLt
    have h1 : (i 1 : Nat) < 2048 := (i 1).isLt
    obtain ⟨t, f5, f6, f7, f8, ha, hb⟩ := idx_onto ⟨(i 0 : Nat) / 256, by omega⟩ ⟨(i 1 : Nat) / 1024, by omega⟩
    obtain ⟨-, -, -, -, -, h6, h7, h8, -⟩ := idx_facts t
    dsimp only at ha hb
    refine ⟨t, f6, ?_⟩
    show i ∈ ((View.whole main_v8_1).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + 256; omega
    | ⟨1, _⟩ => show win0_6.index t 1 * 1024 ≤ (i 1 : Nat) ∧ (i 1 : Nat) < win0_6.index t 1 * 1024 + 1024; omega

theorem final7 (c : Dev nD) : (dats m 0 c).arrAt 7 cfg0.N = dVg (argP m c) (argV m c) (argG m c) (argD m c) :=
  (dats m 0 c).arrAt_eq_of_cover 7 _ (fun t _ => flushed7 m c t) fun i => by
    have h0 : (i 0 : Nat) < 2048 := (i 0).isLt
    have h1 : (i 1 : Nat) < 4096 := (i 1).isLt
    obtain ⟨t, f5, f6, f7, f8, ha, hb⟩ := idx_onto ⟨(i 0 : Nat) / 256, by omega⟩ ⟨(i 1 : Nat) / 2048, by omega⟩
    obtain ⟨-, -, -, -, -, h6, h7, h8, -⟩ := idx_facts t
    dsimp only at ha hb
    refine ⟨t, f7, ?_⟩
    show i ∈ ((View.whole main_v8_2).slice (win0_7.rect t)).set
    rw [View.set_slice_whole, Rect.mem_set_unit]
    intro a
    match a with
    | ⟨0, _⟩ => show win0_7.index t 0 * 256 ≤ (i 0 : Nat) ∧ (i 0 : Nat) < win0_7.index t 0 * 256 + 256; omega
    | ⟨1, _⟩ => show win0_7.index t 1 * 2048 ≤ (i 1 : Nat) ∧ (i 1 : Nat) < win0_7.index t 1 * 2048 + 2048; omega

theorem final8 (c : Dev nD) : (dats m 0 c).arrAt 8 cfg0.N = dY (argP m c) (argD m c) :=
  (dats m 0 c).arrAt_eq_of_cover 8 _ (fun t _ => flushed8 m c t) fun i => by
    have h0 : (i 0 : Nat) < 2048 := (i 0).isLt
    have h1 : (i 1 : Nat) < 2048 := (i 1).isLt
    obtain ⟨t, f5, f6, f7, f8, ha, hb⟩ := idx_onto ⟨(i 0 : Nat) / 256, by omega⟩ ⟨(i 1 : Nat) / 1024, by omega⟩
    obtain ⟨-, -, -, -, -, h6, h7, h8, -⟩ := idx_facts t
    dsimp only at ha hb
    refine ⟨t, f8, ?_⟩
    show i ∈ ((View.whole main_v8_3).slice (win0_8.rect t)).set
    rw [View.set_slice_whole, Rect.mem_set_unit]
    intro a
    match a with
    | ⟨0, _⟩ => show win0_8.index t 0 * 256 ≤ (i 0 : Nat) ∧ (i 0 : Nat) < win0_8.index t 0 * 256 + 256; omega
    | ⟨1, _⟩ => show win0_8.index t 1 * 1024 ≤ (i 1 : Nat) ∧ (i 1 : Nat) < win0_8.index t 1 * 1024 + 1024; omega

theorem claim : Cert.algebraic_MergeIdeal_RefMergeIdeal (hMergeIdeal := Cert.MergeIdeal.Gen.facts) (hRefMergeIdeal := Cert.RefMergeIdeal.Gen.facts) := by
  intro m g m' g' _ hargs
  refine ⟨fun c => dGa (argP m c) (argV m c) (argG m c) (argD m c), fun c => dGb (argP m c) (argY m c) (argD m c),
    fun c => dVg (argP m c) (argV m c) (argG m c) (argD m c), fun c => dY (argP m c) (argD m c), ?_, ?_⟩
  · refine (θ_run defs _ _).mono (fun r h c => ?_) (Value.run_blocks (F := Ideal) m g)
    obtain ⟨h5, h6, h7, h8, hr⟩ := h c
    exact ⟨h5.trans (final5 m c), h6.trans (final6 m c), h7.trans (final7 m c), h8.trans (final8 m c), hr⟩
  · refine (θ_run _ _ _).mono (fun r h c => ?_) (Cert.RefMergeIdeal.Value.run (F := Ideal) m' g')
    obtain ⟨h5, h6, h7, h8, hr⟩ := h c
    obtain ⟨a0, a1, a2, a3, a4⟩ := hargs c
    refine ⟨h5.trans ?_, h6.trans ?_, h7.trans ?_, h8.trans ?_, hr⟩
    · rw [a0, a1, a2, a4]
      funext j
      obtain ⟨R, C, rfl⟩ : ∃ (R : Fin 2048) (C : Fin 2048), j = ix2 R C := ⟨j 0, j 1, eq_ix2 j⟩
      show _ = argD m c (ix2 R C) * (argV m c (ix2 R C) * sg (argG m c (ix2 R C))) * sg (gA (argP m c) R C) * (1 - sg (gA (argP m c) R C))
      simp only [sg, gA, gB, argP, argV, argG, argY, argD, zero_sub]
      pointwise
      ac_rfl
    · rw [a0, a3, a4]
      funext j
      obtain ⟨R, C, rfl⟩ : ∃ (R : Fin 2048) (C : Fin 2048), j = ix2 R C := ⟨j 0, j 1, eq_ix2 j⟩
      show _ = argD m c (ix2 R C) * argY m c (ix2 R C) * sg (gB (argP m c) R C) * (1 - sg (gB (argP m c) R C))
      simp only [sg, gA, gB, argP, argV, argG, argY, argD, zero_sub]
      pointwise
      ac_rfl
    · rw [a0, a1, a2, a4]
      funext j
      obtain ⟨R, k, rfl⟩ : ∃ (R : Fin 2048) (k : Fin 4096), j = ix2 R k := ⟨j 0, j 1, eq_ix2 j⟩
      show _ = (fun C : Fin 2048 => pick k.val (argD m c (ix2 R C)) (gA (argP m c) R C) (argV m c (ix2 R C)) (argG m c (ix2 R C)))
        ⟨k.val / 512 * 256 + k.val % 256, by omega⟩
      simp only [pick, sg, gA, argP, argV, argG, argD, zero_sub]
      pointwise
      split_ifs <;> ac_rfl
    · rw [a0, a4]
      funext j
      obtain ⟨R, C, rfl⟩ : ∃ (R : Fin 2048) (C : Fin 2048), j = ix2 R C := ⟨j 0, j 1, eq_ix2 j⟩
      show _ = argD m c (ix2 R C) * sg (gB (argP m c) R C)
      simp only [sg, gA, gB, argP, argV, argG, argY, argD, zero_sub]
      pointwise
      exact mul_comm _ _

end Cert.Proof.Merge

end
-- ==== Proof.Common.lean ====
module

public import Idealize.ShloMosaic.Lib.Pointwise

@[expose] public section

noncomputable section

/-! Facts that several of the modules use. -/

namespace Cert.Proof.Common

theorem z2 : (![0, 0] : Fin 2 → Nat) = fun _ => 0 := funext fun a => by fin_cases a <;> rfl

theorem z3 : (![0, 0, 0] : Fin 3 → Nat) = fun _ => 0 := funext fun a => by fin_cases a <;> rfl

/-- A sum over `n * p` terms in `n` runs of `p`. -/
theorem sum_runs (n p : Nat) (f : Fin (n * p) → EReal) :
    ∑ x, f x = ∑ s : Fin n, ∑ k : Fin p, f ⟨s.val * p + k.val, by have := Nat.mul_le_mul_right p (Nat.succ_le_of_lt s.isLt); rw [Nat.succ_mul] at this; omega⟩ := by
  rw [← finProdFinEquiv.sum_comp, Fintype.sum_prod_type]
  refine Finset.sum_congr rfl fun s _ => Finset.sum_congr rfl fun k _ => congrArg f (Fin.ext ?_)
  show k.val + p * s.val = s.val * p + k.val
  rw [Nat.mul_comm, Nat.add_comm]

/-- Two rows of 2048 interleaved by runs of 256. -/
def pick (f g : Fin 2048 → EReal) (x : Fin 4096) : EReal :=
  if x.val / 256 % 2 = 0 then f ⟨x.val / 512 * 256 + x.val % 256, by omega⟩ else g ⟨x.val / 512 * 256 + x.val % 256, by omega⟩

/-- The product of two interleaved pairs of rows is the sum of the products. -/
theorem sum_pick (f g f' g' : Fin 2048 → EReal) :
    ∑ x, pick f g x * pick f' g' x = (∑ k, f k * f' k) + ∑ k, g k * g' k := by
  rw [show ∑ x : Fin 4096, pick f g x * pick f' g' x = ∑ x : Fin (8 * 512), pick f g x * pick f' g' x from rfl, sum_runs 8 512,
    show ∑ k : Fin 2048, f k * f' k = ∑ k : Fin (8 * 256), f k * f' k from rfl, sum_runs 8 256,
    show ∑ k : Fin 2048, g k * g' k = ∑ k : Fin (8 * 256), g k * g' k from rfl, sum_runs 8 256, ← Finset.sum_add_distrib]
  refine Finset.sum_congr rfl fun s _ => ?_
  rw [show ∀ h : Fin 512 → EReal, ∑ k, h k = ∑ k : Fin (2 * 256), h k from fun _ => rfl, sum_runs 2 256, Fin.sum_univ_two]
  refine congrArg₂ (· + ·) (Finset.sum_congr rfl fun k _ => ?_) (Finset.sum_congr rfl fun k _ => ?_)
  · have h : (s.val * 512 + ((0 : Fin 2).val * 256 + k.val)) / 256 % 2 = 0 := by show (s.val * 512 + (0 * 256 + k.val)) / 256 % 2 = 0; omega
    have e : (s.val * 512 + ((0 : Fin 2).val * 256 + k.val)) / 512 * 256 + (s.val * 512 + ((0 : Fin 2).val * 256 + k.val)) % 256 = s.val * 256 + k.val := by
      show (s.val * 512 + (0 * 256 + k.val)) / 512 * 256 + (s.val * 512 + (0 * 256 + k.val)) % 256 = _; omega
    simp only [pick, if_pos h, e]
  · have h : ¬ (s.val * 512 + ((1 : Fin 2).val * 256 + k.val)) / 256 % 2 = 0 := by show ¬ (s.val * 512 + (1 * 256 + k.val)) / 256 % 2 = 0; omega
    have e : (s.val * 512 + ((1 : Fin 2).val * 256 + k.val)) / 512 * 256 + (s.val * 512 + ((1 : Fin 2).val * 256 + k.val)) % 256 = s.val * 256 + k.val := by
      show (s.val * 512 + (1 * 256 + k.val)) / 512 * 256 + (s.val * 512 + (1 * 256 + k.val)) % 256 = _; omega
    simp only [pick, if_neg h, e]

end Cert.Proof.Common

end
-- ==== Proof.Gin.lean ====
module

public import proofs.«01_k».proof.Defs
public import proofs.«01_k».proof.Proof.Gen.Gin.Frame
public import proofs.«01_k».proof.Proof.Gen.GinIdeal.Value
public import proofs.«01_k».proof.Proof.Gen.RefGinIdeal.Run
public import Idealize.ShloMosaic.Lib.Pipeline.Value
public import Idealize.ShloMosaic.Lib.Pointwise
public import proofs.«01_k».proof.Proof.Common

@[expose] public section

set_option maxRecDepth 16384

noncomputable section

namespace Cert.Proof.Gin

open Idealize.ShloMosaic Idealize.SL.Sem Cert.GinIdeal
open Cert.GinIdeal.Gen Idealize.ShloMosaic.TcCoe
open Cert.Proof.Common
open Idealize.ShloMosaic.Pipeline (Dat Cfg Window)

/-- What a grid point stores, element by element: a column of the normalised rows against a column of the
    cotangent. -/
theorem pay_apply (x0 : Vec Ideal S2048x1024 .bf16) (x1 : Vec Ideal S2048x768 .bf16) (r : Fin 1024) (l : Fin 768) :
    k0_pay1 x0 x1 (ix3 0 r l)
      = ∑ k : Fin 2048, x0 (ix2 k r) * x1 (ix2 k l) := by
  pointwise [k0_pay1]

theorem out_eq (x0 : Vec Ideal S2048x1024 .bf16) (x1 : Vec Ideal S2048x768 .bf16) : out0_2 x0 x1 = k0_pay1 x0 x1 := by
  unfold out0_2
  rw [View.canon_unit_zero z3, View.ld_unit_zero (S := S2048x1024) z2, View.ld_unit_zero (S := S2048x768) z2]

/-- Which blocks of the operands a point reads, by the block it writes. -/
theorem idx_facts : ∀ t : Fin cfg0.N,
    win0_0.index t 0 = 0 ∧ win0_0.index t 1 = win0_2.index t 1
    ∧ win0_1.index t 0 = 0 ∧ win0_1.index t 1 = win0_2.index t 0 ∧ win0_2.index t 2 = 0 :=
  (by decide +kernel : ∀ t : Fin grid0.N,
    win0_0.index t 0 = 0 ∧ win0_0.index t 1 = win0_2.index t 1
    ∧ win0_1.index t 0 = 0 ∧ win0_1.index t 1 = win0_2.index t 0 ∧ win0_2.index t 2 = 0)

/-- Every block of the output is some point's. -/
theorem idx_onto : ∀ a : Fin 8, ∀ b : Fin 2, ∃ t : Fin cfg0.N, win0_2.flush t = true ∧ win0_2.index t 0 = a.val ∧ win0_2.index t 1 = b.val :=
  (by decide +kernel : ∀ a : Fin 8, ∀ b : Fin 2, ∃ t : Fin grid0.N, win0_2.flush t = true ∧ win0_2.index t 0 = a.val ∧ win0_2.index t 1 = b.val)

/-- The gradient of the combined input weights, element by element, cut into eight planes of columns. -/
def val (h : FVec Ideal S2048x2048 .f32) (da : FVec Ideal S2048x6144 .bf16) : FVec Ideal S8x2048x768 .bf16 :=
  fun j => ∑ k : Fin 2048, da (ix2 k ⟨(j 0).val * 768 + (j 2).val, by have h0 : (j 0).val < 8 := (j 0).isLt; have h2 : (j 2).val < 768 := (j 2).isLt; omega⟩)
    * h (ix2 k (j 1))

variable (m : (ℓ : Loc nD τ sig) → Buf (Elt Ideal) ℓ) (ρ : Dev nD → PrngReg)

/-- The arguments the gradient depends on, as launched. -/
abbrev argH (c : Dev nD) : FVec Ideal S2048x2048 .f32 := m ((c : Thread nD τ).loc main_arg0)
abbrev argDa (c : Dev nD) : FVec Ideal S2048x6144 .bf16 := m ((c : Thread nD τ).loc main_arg2)

theorem V0 (c : Dev nD) : (V m c main_v0 : FVec Ideal S2048x2048 .bf16) = truncf .bf16 (argH m c) bitsLt_bf16_f32 := by
  unfold V hostOps0
  after_results

theorem flushed_eq (c : Dev nD) (t : Fin cfg0.N) :
    (dats m 0 c).flushed 2 t = ((cfg0.win 2).blk t).view.read (Elt Ideal) (val (argH m c) (argDa m c)) := by
  rw [Value.flushed2, out_eq]
  obtain ⟨h00, h01, h10, h11, h22⟩ := idx_facts t
  funext j
  obtain ⟨r, l, rfl⟩ : ∃ (r : Fin 1024) (l : Fin 768), j = ix3 0 r l := ⟨j 1, j 2, funext fun a => match a with
    | ⟨0, _⟩ => Subsingleton.elim (α := Fin 1) _ _
    | ⟨1, _⟩ => rfl
    | ⟨2, _⟩ => rfl⟩
  refine (pay_apply _ _ r l).trans ?_
  have e0 : ∀ k, iblk m c 0 t (ix2 k r) = argH m c (ix2 k ((win0_2.rect t).idx (ix3 0 r l) 1)) := by
    intro k
    show (V m c main_v0 : FVec Ideal S2048x2048 .bf16) _ = _
    rw [V0]
    exact congrArg (argH m c) <| funext fun a => Fin.ext <|
      match a with
      | ⟨0, _⟩ => by show win0_0.index t 0 * 2048 + 1 * k.val = k.val; rw [h00]; omega
      | ⟨1, _⟩ => by show win0_0.index t 1 * 1024 + 1 * r.val = win0_2.index t 1 * 1024 + 1 * r.val; rw [h01]
  have e1 : ∀ k, ∀ h, iblk m c 1 t (ix2 k l) = argDa m c (ix2 k ⟨((win0_2.rect t).idx (ix3 0 r l) 0).val * 768 + ((win0_2.rect t).idx (ix3 0 r l) 2).val, h⟩) := by
    intro k h
    show V m c main_arg2 _ = _
    rw [V_main_arg2]
    exact congrArg (argDa m c) <| funext fun a => Fin.ext <|
      match a with
      | ⟨0, _⟩ => by show win0_1.index t 0 * 2048 + 1 * k.val = k.val; rw [h10]; omega
      | ⟨1, _⟩ => by show win0_1.index t 1 * 768 + 1 * l.val = (win0_2.index t 0 * 1 + 1 * 0) * 768 + (win0_2.index t 2 * 768 + 1 * l.val); rw [h11, h22]; omega
  show _ = val _ _ ((win0_2.rect t).idx (ix3 0 r l))
  unfold val
  refine (Finset.sum_congr rfl fun k _ => ?_)
  rw [e0 k, e1 k]
  exact mul_comm _ _

theorem final (c : Dev nD) : (dats m 0 c).arrAt 2 cfg0.N = val (argH m c) (argDa m c) :=
  (dats m 0 c).arrAt_eq_of_cover 2 _ (fun t _ => flushed_eq m c t) fun i => by
    have h0 : (i 0 : Nat) < 8 := (i 0).isLt
    have h1 : (i 1 : Nat) < 2048 := (i 1).isLt
    have h2 : (i 2 : Nat) < 768 := (i 2).isLt
    obtain ⟨t, ht, ha, hb⟩ := idx_onto ⟨(i 0 : Nat), h0⟩ ⟨(i 1 : Nat) / 1024, by omega⟩
    have hz := (idx_facts t).2.2.2.2
    refine ⟨t, ht, ?_⟩
    show i ∈ ((View.whole main_v1).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1; rw [ha]; dsimp only; omega
    | ⟨1, _⟩ => show win0_2.index t 1 * 1024 ≤ (i 1 : Nat) ∧ (i 1 : Nat) < win0_2.index t 1 * 1024 + 1024; rw [hb]; dsimp only; omega
    | ⟨2, _⟩ => show win0_2.index t 2 * 768 ≤ (i 2 : Nat) ∧ (i 2 : Nat) < win0_2.index t 2 * 768 + 768; rw [hz]; omega

theorem claim : Cert.algebraic_GinIdeal_RefGinIdeal (hGinIdeal := Cert.GinIdeal.Gen.facts) (hRefGinIdeal := Cert.RefGinIdeal.Gen.facts) := by
  intro m g m' g' _ hargs
  refine ⟨fun c => val (argH m c) (argDa m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefGinIdeal.Value.run (F := Ideal) m' g')
    obtain ⟨hv, hr⟩ := h c
    refine ⟨hv.trans ?_, hr⟩
    rw [(hargs c).1, (hargs c).2.2]
    funext j
    obtain ⟨p, q, l, rfl⟩ : ∃ (p : Fin 8) (q : Fin 2048) (l : Fin 768), j = ix3 p q l := ⟨j 0, j 1, j 2, eq_ix3 j⟩
    unfold val
    pointwise

end Cert.Proof.Gin

end
-- ==== Proof.Dproj.lean ====
module

public import proofs.«01_k».proof.Defs
public import proofs.«01_k».proof.Proof.Gen.Dproj.Frame
public import proofs.«01_k».proof.Proof.Gen.DprojIdeal.Value
public import proofs.«01_k».proof.Proof.Gen.RefDprojIdeal.Run
public import Idealize.ShloMosaic.Lib.Pipeline.Value
public import Idealize.ShloMosaic.Lib.Pointwise
public import Idealize.ShloMosaic.Lib.Tactic
public import proofs.«01_k».proof.Proof.Common

@[expose] public section

set_option maxRecDepth 16384

noncomputable section

namespace Cert.Proof.Dproj

open Idealize.ShloMosaic Idealize.SL.Sem Cert.DprojIdeal
open Cert.DprojIdeal.Gen Idealize.ShloMosaic.TcCoe
open Cert.Proof.Common
open Idealize.ShloMosaic.Pipeline (Dat Cfg Window)

/-- One plane of the four a block of the weights holds. -/
def plane (x : Vec Ideal S4x1024x768 .bf16) (s : Nat) (h : ∀ a, (![s, 0, 0] : Fin 3 → Nat) a + S1x1024x768.size a ≤ S4x1024x768.size a) :
    Vec Ideal S1x1024x768 .bf16 := View.ld x (Rect.unit (s := S4x1024x768) ![s, 0, 0] S1x1024x768.size h)

theorem plane_apply (x : Vec Ideal S4x1024x768 .bf16) (s : Nat) (hs : s < 4) (h) (l : Fin 1024) (k : Fin 768) :
    plane x s h (ix3 0 l k) = x (ix3 ⟨s, hs⟩ l k) := by
  show x _ = x _
  exact congrArg x <| funext fun a => Fin.ext <|
    match a with
    | ⟨0, _⟩ => by show s + 1 * 0 = s; omega
    | ⟨1, _⟩ => by show 0 + 1 * l.val = l.val; omega
    | ⟨2, _⟩ => by show 0 + 1 * k.val = k.val; omega

/-- The partial product of one point: four planes of the contracted axis. -/
def part (x0 : Vec Ideal S1024x3072 .bf16) (x1 : Vec Ideal S4x1024x768 .bf16) : FVec Ideal S1024x1024 .f32 :=
  k0_pay2 x0 (plane x1 0 inb_S4x1024x768_S1x1024x768_0_0_0) (plane x1 1 inb_S4x1024x768_S1x1024x768_1_0_0)
    (plane x1 2 inb_S4x1024x768_S1x1024x768_2_0_0) (plane x1 3 inb_S4x1024x768_S1x1024x768_3_0_0)

theorem pay2_apply (x0 : Vec Ideal S1024x3072 .bf16) (p0 p1 p2 p3 : Vec Ideal S1x1024x768 .bf16) (r l : Fin 1024) :
    k0_pay2 x0 p0 p1 p2 p3 (ix2 r l)
      = (∑ k : Fin 768, x0 (ix2 r ⟨k.val, by omega⟩) * p0 (ix3 0 l k)) + (∑ k : Fin 768, x0 (ix2 r ⟨768 + k.val, by omega⟩) * p1 (ix3 0 l k))
        + (∑ k : Fin 768, x0 (ix2 r ⟨1536 + k.val, by omega⟩) * p2 (ix3 0 l k)) + (∑ k : Fin 768, x0 (ix2 r ⟨2304 + k.val, by omega⟩) * p3 (ix3 0 l k)) := by
  pointwise [k0_pay2]

theorem part_apply (x0 : Vec Ideal S1024x3072 .bf16) (x1 : Vec Ideal S4x1024x768 .bf16) (r l : Fin 1024) :
    part x0 x1 (ix2 r l) = ∑ s : Fin 4, ∑ k : Fin 768, x0 (ix2 r ⟨s.val * 768 + k.val, by omega⟩) * x1 (ix3 s l k) := by
  rw [part, pay2_apply, Fin.sum_univ_four]
  simp only [plane_apply x1 0 (by omega), plane_apply x1 1 (by omega), plane_apply x1 2 (by omega), plane_apply x1 3 (by omega)]
  simp only [show (0 : Fin 4).val = 0 from rfl, show (1 : Fin 4).val = 1 from rfl, show (2 : Fin 4).val = 2 from rfl, show (3 : Fin 4).val = 3 from rfl,
    Nat.zero_mul, Nat.zero_add, Nat.one_mul, Nat.reduceMul]
  rfl

/-- The first point of a run leaves its partial product in the scratch. -/
theorem sout_A (c : Dev nD) (i : grid0.Coords) (a3 : Memref sig .tc .vmem S1024x3072 .bf16) (ha3 : a3.IsWhole) (a4 : Memref sig .tc .vmem S4x1024x768 .bf16) (ha4 : a4.IsWhole)
    (a5 : Memref sig .tc .vmem S1024x1024 .f32) (ha5 : a5.IsWhole) (a6 : Memref sig .tc .vmem S1024x1024 .f32) (ha6 : a6.IsWhole)
    (hc0 : cond0_0 i) (hc1 : ¬cond0_1 i) (hc2 : ¬cond0_2 i) (x0 : Vec Ideal S1024x3072 .bf16) (x1 : Vec Ideal S4x1024x768 .bf16) :
    sout0_A_0 c i a3 ha3 a4 ha4 a5 ha5 a6 ha6 hc0 hc1 hc2 x0 x1 = part x0 x1 := by
  unfold sout0_A_0
  rw [View.read_writes_eq_canon _ _ _ (scover0_A_0 c i a3 ha3 a4 ha4 a5 ha5 a6 ha6 hc0 hc1 hc2 x0 x1)]
  unfold kernelRun0_A
  dsimp only
  rw [View.canon_unit_zero z2]
  unfold k0_pay3
  simp only [View.readAt_eq_ld, ha3.read_unread, ha4.read_unread, View.ld_unit_zero (S := S1024x3072) z2, shapeCast_self]
  rfl

/-- The second adds its own and stores the sum. -/
theorem out_B (c : Dev nD) (i : grid0.Coords) (a3 : Memref sig .tc .vmem S1024x3072 .bf16) (ha3 : a3.IsWhole) (a4 : Memref sig .tc .vmem S4x1024x768 .bf16) (ha4 : a4.IsWhole)
    (a5 : Memref sig .tc .vmem S1024x1024 .f32) (ha5 : a5.IsWhole) (a6 : Memref sig .tc .vmem S1024x1024 .f32) (ha6 : a6.IsWhole)
    (hc0 : ¬cond0_0 i) (hc1 : ¬cond0_1 i) (hc2 : cond0_2 i) (x0 : Vec Ideal S1024x3072 .bf16) (x1 : Vec Ideal S4x1024x768 .bf16) (xs : Vec Ideal S1024x1024 .f32) :
    out0_B_2 c i a3 ha3 a4 ha4 a5 ha5 a6 ha6 hc0 hc1 hc2 x0 x1 xs = addf xs (part x0 x1) := by
  unfold out0_B_2
  rw [View.read_writes_eq_canon _ _ _ (cover0_B_2 c i a3 ha3 a4 ha4 a5 ha5 a6 ha6 hc0 hc1 hc2 x0 x1 xs)]
  unfold kernelRun0_B
  dsimp only
  sl_unfold_words
  rw [View.canon_unit_zero z2]
  unfold k0_pay1
  simp only [View.readAt_eq_ld, ha3.read_unread, ha4.read_unread, ha6.read_unread, View.ld_unit_zero (S := S1024x3072) z2, View.ld_unit_zero (S := S1024x1024) z2, shapeCast_self]
  rfl

/-- Which blocks a point reads, by the block of the output and the half of the contracted axis it is at. -/
theorem idx_facts : ∀ t : Fin cfg0.N,
    win0_0.index t 0 = win0_2.index t 0 ∧ win0_0.index t 1 = t.val % 2
    ∧ win0_1.index t 0 = t.val % 2 ∧ win0_1.index t 1 = win0_2.index t 1 ∧ win0_1.index t 2 = 0
    ∧ win0_2.index t 0 = t.val / 4 ∧ win0_2.index t 1 = t.val / 2 % 2 :=
  (by decide +kernel : ∀ t : Fin grid0.N,
    win0_0.index t 0 = win0_2.index t 0 ∧ win0_0.index t 1 = t.val % 2
    ∧ win0_1.index t 0 = t.val % 2 ∧ win0_1.index t 1 = win0_2.index t 1 ∧ win0_1.index t 2 = 0
    ∧ win0_2.index t 0 = t.val / 4 ∧ win0_2.index t 1 = t.val / 2 % 2)

theorem flush_iff : ∀ t : Fin cfg0.N, win0_2.flush t = true ↔ t.val % 2 = 1 :=
  (by decide +kernel : ∀ t : Fin grid0.N, win0_2.flush t = true ↔ t.val % 2 = 1)

/-- The gradient of the normalised rows, element by element. -/
def val (w : FVec Ideal S2048x6144 .f32) (da : FVec Ideal S2048x6144 .bf16) : FVec Ideal S2048x2048 .f32 :=
  fun j => ∑ k : Fin 6144, da (ix2 (j 0) k) * w (ix2 (j 1) k)

variable (m : (ℓ : Loc nD τ sig) → Buf (Elt Ideal) ℓ) (ρ : Dev nD → PrngReg)

/-- The arguments the gradient depends on, as launched. -/
abbrev argW (c : Dev nD) : FVec Ideal S2048x6144 .f32 := m ((c : Thread nD τ).loc main_arg1)
abbrev argDa (c : Dev nD) : FVec Ideal S2048x6144 .bf16 := m ((c : Thread nD τ).loc main_arg2)

theorem V2 (c : Dev nD) : (V m c main_v2 : FVec Ideal S8x2048x768 .bf16)
    = truncf .bf16 (transpose S8x2048x768 [1, 0, 2] (shapeCast S2048x8x768 (argW m c) shapeCasts_S2048x6144_S2048x8x768) transposes_S2048x8x768_S8x2048x768_1_0_2) bitsLt_bf16_f32 := by
  unfold V hostOps0
  after_results
  rfl

theorem V2_apply (c : Dev nD) (p : Fin 8) (q : Fin 2048) (l : Fin 768) :
    (V m c main_v2 : FVec Ideal S8x2048x768 .bf16) (ix3 p q l) = argW m c (ix2 q ⟨p.val * 768 + l.val, by omega⟩) := by
  rw [V2]
  pointwise

/-- What a point adds: half of the contracted axis of the block it is at. -/
theorem part_eq (c : Dev nD) (t : Fin cfg0.N) (R C : Fin 2048) (r l : Fin 1024)
    (hR : R.val = win0_2.index t 0 * 1024 + r.val) (hC : C.val = win0_2.index t 1 * 1024 + l.val) :
    part (iblk m c 0 t) (iblk m c 1 t) (ix2 r l)
      = ∑ s : Fin 4, ∑ k : Fin 768, argDa m c (ix2 R ⟨(t.val % 2 * 4 + s.val) * 768 + k.val, by omega⟩)
          * argW m c (ix2 C ⟨(t.val % 2 * 4 + s.val) * 768 + k.val, by omega⟩) := by
  obtain ⟨h00, h01, h10, h11, h12, -, -⟩ := idx_facts t
  rw [part_apply]
  refine Finset.sum_congr rfl fun s _ => Finset.sum_congr rfl fun k _ => congrArg₂ (· * ·) ?_ ?_
  · show V m c main_arg2 _ = _
    rw [V_main_arg2]
    exact congrArg (argDa m c) <| funext fun a => Fin.ext <|
      match a with
      | ⟨0, _⟩ => by show win0_0.index t 0 * 1024 + 1 * r.val = R.val; rw [h00]; omega
      | ⟨1, _⟩ => by show win0_0.index t 1 * 3072 + 1 * (s.val * 768 + k.val) = (t.val % 2 * 4 + s.val) * 768 + k.val; rw [h01]; omega
  · show (V m c main_v2 : FVec Ideal S8x2048x768 .bf16) _ = _
    have : (win0_1.blk t).view.emb (ix3 s l k) = ix3 (⟨t.val % 2 * 4 + s.val, by omega⟩ : Fin 8) C k := funext fun a => Fin.ext <|
      match a with
      | ⟨0, _⟩ => by show win0_1.index t 0 * 4 + 1 * s.val = t.val % 2 * 4 + s.val; rw [h10]; omega
      | ⟨1, _⟩ => by show win0_1.index t 1 * 1024 + 1 * l.val = C.val; rw [h11]; omega
      | ⟨2, _⟩ => by show win0_1.index t 2 * 1024 + 1 * k.val = k.val; rw [h12]; omega
    rw [this]
    exact V2_apply m c _ _ _

theorem flushed_eq (c : Dev nD) (t : Fin cfg0.N) (hf : (cfg0.win 2).flush t = true) :
    (dats m 0 c).flushed 2 t = ((cfg0.win 2).blk t).view.read (Elt Ideal) (val (argW m c) (argDa m c)) := by
  have h1 : t.val % 2 = 1 := (flush_iff t).mp hf
  have hlt : t.val - 1 < cfg0.N := Nat.lt_of_le_of_lt (Nat.sub_le _ _) t.isLt
  let u : Fin cfg0.N := ⟨t.val - 1, hlt⟩
  have hu : u.val = t.val - 1 := rfl
  rw [Value.flushed2_B m c t (by omega) h1, out_B, show outsAt0 m c (t.val - 1) _ = outsAt0 m c u.val u.isLt from rfl,
    outsAt0_A m c u (by omega) (by omega), sout_A]
  have htt := idx_facts t
  have huu := idx_facts u
  funext j
  obtain ⟨r, l, rfl⟩ : ∃ (r l : Fin 1024), j = ix2 r l := ⟨j 0, j 1, eq_ix2 j⟩
  show part (iblk m c 0 u) (iblk m c 1 u) (ix2 r l) + part (iblk m c 0 t) (iblk m c 1 t) (ix2 r l)
    = val (argW m c) (argDa m c) ((win0_2.rect t).idx (ix2 r l))
  have hR : (((win0_2.rect t).idx (ix2 r l) 0 : Fin 2048)).val = win0_2.index t 0 * 1024 + r.val := by
    show win0_2.index t 0 * 1024 + 1 * r.val = _; omega
  have hC : (((win0_2.rect t).idx (ix2 r l) 1 : Fin 2048)).val = win0_2.index t 1 * 1024 + l.val := by
    show win0_2.index t 1 * 1024 + 1 * l.val = _; omega
  rw [part_eq m c t _ _ r l hR hC, part_eq m c u ((win0_2.rect t).idx (ix2 r l) 0) ((win0_2.rect t).idx (ix2 r l) 1) r l (by omega) (by omega)]
  have e := sum_runs 8 768 fun k => argDa m c (ix2 ((win0_2.rect t).idx (ix2 r l) 0) k) * argW m c (ix2 ((win0_2.rect t).idx (ix2 r l) 1) k)
  refine Eq.trans ?_ e.symm
  rw [Fin.sum_univ_eight, Fin.sum_univ_four, Fin.sum_univ_four]
  have hu0 : u.val % 2 = 0 := by omega
  simp only [hu0, h1, add_assoc]
  rfl

theorem final (c : Dev nD) : (dats m 0 c).arrAt 2 cfg0.N = val (argW m c) (argDa m c) :=
  (dats m 0 c).arrAt_eq_of_cover 2 _ (flushed_eq m c) fun i => by
    have h0 : (i 0 : Nat) < 2048 := (i 0).isLt
    have h1 : (i 1 : Nat) < 2048 := (i 1).isLt
    have hN : cfg0.N = 8 := N_0
    let t : Fin cfg0.N := ⟨(i 0 : Nat) / 1024 * 4 + (i 1 : Nat) / 1024 * 2 + 1, by omega⟩
    obtain ⟨-, -, -, -, -, ha, hb⟩ := idx_facts t
    have ht : t.val = (i 0 : Nat) / 1024 * 4 + (i 1 : Nat) / 1024 * 2 + 1 := rfl
    refine ⟨t, (flush_iff t).mpr (by omega), ?_⟩
    show i ∈ ((View.whole main_v3).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [ha]; omega
    | ⟨1, _⟩ => show win0_2.index t 1 * 1024 ≤ (i 1 : Nat) ∧ (i 1 : Nat) < win0_2.index t 1 * 1024 + 1024; rw [hb]; omega

theorem claim : Cert.algebraic_DprojIdeal_RefDprojIdeal (hDprojIdeal := Cert.DprojIdeal.Gen.facts) (hRefDprojIdeal := Cert.RefDprojIdeal.Gen.facts) := by
  intro m g m' g' _ hargs
  refine ⟨fun c => val (argW m c) (argDa m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefDprojIdeal.Value.run (F := Ideal) m' g')
    obtain ⟨hv, hr⟩ := h c
    refine ⟨hv.trans ?_, hr⟩
    rw [(hargs c).2.1, (hargs c).2.2]
    funext j
    unfold val
    pointwise

end Cert.Proof.Dproj

end
-- ==== Proof.Gout.lean ====
module

public import proofs.«01_k».proof.Defs
public import proofs.«01_k».proof.Proof.Gen.Gout.Frame
public import proofs.«01_k».proof.Proof.Gen.GoutIdeal.Value
public import proofs.«01_k».proof.Proof.Gen.RefGoutIdeal.Run
public import Idealize.ShloMosaic.Lib.Pipeline.Value
public import Idealize.ShloMosaic.Lib.Pointwise
public import proofs.«01_k».proof.Proof.Common

@[expose] public section

set_option maxRecDepth 16384

noncomputable section

namespace Cert.Proof.Gout

open Idealize.ShloMosaic Idealize.SL.Sem Cert.GoutIdeal
open Cert.GoutIdeal.Gen Idealize.ShloMosaic.TcCoe
open Cert.Proof.Common
open Idealize.ShloMosaic.Pipeline (Dat Cfg Window)

/-- What a grid point stores, element by element: a column of the merged rows against a column of the
    cotangent. -/
theorem pay_apply (x0 x1 : Vec Ideal S2048x1024 .bf16) (r l : Fin 1024) :
    k0_pay1 x0 x1 (ix2 r l)
      = ∑ k : Fin 2048, x0 (ix2 k r) * x1 (ix2 k l) := by
  pointwise [k0_pay1]

theorem out_eq (x0 x1 : Vec Ideal S2048x1024 .bf16) : out0_2 x0 x1 = k0_pay1 x0 x1 := by
  unfold out0_2
  rw [View.canon_unit_zero z2, View.ld_unit_zero (S := S2048x1024) z2, View.ld_unit_zero (S := S2048x1024) z2]

/-- Which blocks of the operands a point reads, by the block it writes. -/
theorem idx_facts : ∀ t : Fin cfg0.N,
    win0_0.index t 0 = 0 ∧ win0_0.index t 1 = win0_2.index t 0
    ∧ win0_1.index t 0 = 0 ∧ win0_1.index t 1 = win0_2.index t 1 :=
  (by decide +kernel : ∀ t : Fin grid0.N,
    win0_0.index t 0 = 0 ∧ win0_0.index t 1 = win0_2.index t 0
    ∧ win0_1.index t 0 = 0 ∧ win0_1.index t 1 = win0_2.index t 1)

/-- Every block of the output is some point's. -/
theorem idx_onto : ∀ a : Fin 2, ∀ b : Fin 2, ∃ t : Fin cfg0.N, win0_2.flush t = true ∧ win0_2.index t 0 = a.val ∧ win0_2.index t 1 = b.val :=
  (by decide +kernel : ∀ a : Fin 2, ∀ b : Fin 2, ∃ t : Fin grid0.N, win0_2.flush t = true ∧ win0_2.index t 0 = a.val ∧ win0_2.index t 1 = b.val)

/-- The gradient of the output weights, element by element. -/
def val (a : FVec Ideal S2048x2048 .f32) (dy : FVec Ideal S2048x2048 .bf16) : FVec Ideal S2048x2048 .bf16 :=
  fun j => ∑ k : Fin 2048, dy (ix2 k (j 1)) * a (ix2 k (j 0))

variable (m : (ℓ : Loc nD τ sig) → Buf (Elt Ideal) ℓ) (ρ : Dev nD → PrngReg)

/-- The arguments the gradient depends on, as launched. -/
abbrev argA (c : Dev nD) : FVec Ideal S2048x2048 .f32 := m ((c : Thread nD τ).loc main_arg0)
abbrev argDy (c : Dev nD) : FVec Ideal S2048x2048 .bf16 := m ((c : Thread nD τ).loc main_arg2)

theorem V0 (c : Dev nD) : (V m c main_v0 : FVec Ideal S2048x2048 .bf16) = truncf .bf16 (argA m c) bitsLt_bf16_f32 := by
  unfold V hostOps0
  after_results

theorem flushed_eq (c : Dev nD) (t : Fin cfg0.N) :
    (dats m 0 c).flushed 2 t = ((cfg0.win 2).blk t).view.read (Elt Ideal) (val (argA m c) (argDy m c)) := by
  rw [Value.flushed2, out_eq]
  obtain ⟨h00, h01, h10, h11⟩ := idx_facts t
  funext j
  obtain ⟨r, l, rfl⟩ : ∃ (r l : Fin 1024), j = ix2 r l := ⟨j 0, j 1, eq_ix2 j⟩
  refine (pay_apply _ _ r l).trans ?_
  have e0 : ∀ k, iblk m c 0 t (ix2 k r) = argA m c (ix2 k ((win0_2.rect t).idx (ix2 r l) 0)) := by
    intro k
    show (V m c main_v0 : FVec Ideal S2048x2048 .bf16) _ = _
    rw [V0]
    exact congrArg (argA m c) <| funext fun a => Fin.ext <|
      match a with
      | ⟨0, _⟩ => by show win0_0.index t 0 * 2048 + 1 * k.val = k.val; rw [h00]; omega
      | ⟨1, _⟩ => by show win0_0.index t 1 * 1024 + 1 * r.val = win0_2.index t 0 * 1024 + 1 * r.val; rw [h01]
  have e1 : ∀ k, iblk m c 1 t (ix2 k l) = argDy m c (ix2 k ((win0_2.rect t).idx (ix2 r l) 1)) := by
    intro k
    show V m c main_arg2 _ = _
    rw [V_main_arg2]
    exact congrArg (argDy m c) <| funext fun a => Fin.ext <|
      match a with
      | ⟨0, _⟩ => by show win0_1.index t 0 * 2048 + 1 * k.val = k.val; rw [h10]; omega
      | ⟨1, _⟩ => by show win0_1.index t 1 * 1024 + 1 * l.val = win0_2.index t 1 * 1024 + 1 * l.val; rw [h11]
  simp only [e0, e1]
  exact Finset.sum_congr rfl fun k _ => mul_comm _ _

theorem final (c : Dev nD) : (dats m 0 c).arrAt 2 cfg0.N = val (argA m c) (argDy m c) :=
  (dats m 0 c).arrAt_eq_of_cover 2 _ (fun t _ => flushed_eq m c t) fun i => by
    have h0 : (i 0 : Nat) < 2048 := (i 0).isLt
    have h1 : (i 1 : Nat) < 2048 := (i 1).isLt
    obtain ⟨t, ht, ha, hb⟩ := idx_onto ⟨(i 0 : Nat) / 1024, by omega⟩ ⟨(i 1 : Nat) / 1024, by omega⟩
    refine ⟨t, ht, ?_⟩
    show i ∈ ((View.whole main_v1).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [ha]; dsimp only; omega
    | ⟨1, _⟩ => show win0_2.index t 1 * 1024 ≤ (i 1 : Nat) ∧ (i 1 : Nat) < win0_2.index t 1 * 1024 + 1024; rw [hb]; dsimp only; omega

theorem claim : Cert.algebraic_GoutIdeal_RefGoutIdeal (hGoutIdeal := Cert.GoutIdeal.Gen.facts) (hRefGoutIdeal := Cert.RefGoutIdeal.Gen.facts) := by
  intro m g m' g' _ hargs
  refine ⟨fun c => val (argA m c) (argDy m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefGoutIdeal.Value.run (F := Ideal) m' g')
    obtain ⟨hv, hr⟩ := h c
    refine ⟨hv.trans ?_, hr⟩
    rw [(hargs c).1, (hargs c).2.2]
    funext j
    unfold val
    pointwise

end Cert.Proof.Gout

end
-- ==== Proof.Dmix.lean ====
module

public import proofs.«01_k».proof.Defs
public import proofs.«01_k».proof.Proof.Gen.Dmix.Frame
public import proofs.«01_k».proof.Proof.Gen.DmixIdeal.Value
public import proofs.«01_k».proof.Proof.Gen.RefDmixIdeal.Run
public import Idealize.ShloMosaic.Lib.Pipeline.Value
public import Idealize.ShloMosaic.Lib.Pointwise
public import proofs.«01_k».proof.Proof.Common

@[expose] public section

set_option maxRecDepth 16384

noncomputable section

namespace Cert.Proof.Dmix

open Idealize.ShloMosaic Idealize.SL.Sem Cert.DmixIdeal
open Cert.DmixIdeal.Gen Idealize.ShloMosaic.TcCoe
open Cert.Proof.Common
open Idealize.ShloMosaic.Pipeline (Dat Cfg Window)

/-- What a grid point stores, element by element: a row of the cotangent against a row of the weights. -/
theorem pay_apply (x0 : Vec Ideal S1024x2048 .bf16) (x1 : Vec Ideal S1x1024x2048 .bf16) (r l : Fin 1024) :
    k0_pay1 x0 x1 (ix2 r l) = ∑ k : Fin 2048, x0 (ix2 r k) * x1 (ix3 0 l k) := by
  pointwise [k0_pay1]

theorem out_eq (x0 : Vec Ideal S1024x2048 .bf16) (x1 : Vec Ideal S1x1024x2048 .bf16) : out0_2 x0 x1 = k0_pay1 x0 x1 := by
  unfold out0_2
  rw [View.canon_unit_zero z2, View.ld_unit_zero (S := S1024x2048) z2, View.ld_unit_zero (S := S1x1024x2048) z3]

/-- Which blocks of the operands a point reads, by the block it writes. -/
theorem idx_facts : ∀ t : Fin cfg0.N,
    win0_0.index t 0 = win0_2.index t 0 ∧ win0_0.index t 1 = 0 ∧ win0_1.index t 0 = 0
    ∧ win0_1.index t 1 = win0_2.index t 1 ∧ win0_1.index t 2 = 0 :=
  (by decide +kernel : ∀ t : Fin grid0.N,
    win0_0.index t 0 = win0_2.index t 0 ∧ win0_0.index t 1 = 0 ∧ win0_1.index t 0 = 0
    ∧ win0_1.index t 1 = win0_2.index t 1 ∧ win0_1.index t 2 = 0)

/-- Every block of the output is some point's. -/
theorem idx_onto : ∀ a : Fin 2, ∀ b : Fin 2, ∃ t : Fin cfg0.N, win0_2.flush t = true ∧ win0_2.index t 0 = a.val ∧ win0_2.index t 1 = b.val :=
  (by decide +kernel : ∀ a : Fin 2, ∀ b : Fin 2, ∃ t : Fin grid0.N, win0_2.flush t = true ∧ win0_2.index t 0 = a.val ∧ win0_2.index t 1 = b.val)

/-- The gradient of the merged branches, element by element. -/
def val (w : FVec Ideal S2048x2048 .f32) (dy : FVec Ideal S2048x2048 .bf16) : FVec Ideal S2048x2048 .bf16 :=
  fun j => ∑ k : Fin 2048, dy (ix2 (j 0) k) * w (ix2 (j 1) k)

variable (m : (ℓ : Loc nD τ sig) → Buf (Elt Ideal) ℓ) (ρ : Dev nD → PrngReg)

/-- The arguments the gradient depends on, as launched. -/
abbrev argW (c : Dev nD) : FVec Ideal S2048x2048 .f32 := m ((c : Thread nD τ).loc main_arg1)
abbrev argDy (c : Dev nD) : FVec Ideal S2048x2048 .bf16 := m ((c : Thread nD τ).loc main_arg2)
/-- The weights rounded, as the host hands them to the kernel. -/
abbrev wB (c : Dev nD) : FVec Ideal S2048x2048 .bf16 := truncf .bf16 (argW m c) bitsLt_bf16_f32

theorem V1 (c : Dev nD) : (V m c main_v1 : FVec Ideal S1x2048x2048 .bf16) = shapeCast S1x2048x2048 (wB m c) shapeCasts_S2048x2048_S1x2048x2048 := by
  unfold V hostOps0
  after_results
  rfl

theorem flushed_eq (c : Dev nD) (t : Fin cfg0.N) :
    (dats m 0 c).flushed 2 t = ((cfg0.win 2).blk t).view.read (Elt Ideal)
      (val (argW m c) (argDy m c)) := by
  rw [Value.flushed2, out_eq]
  obtain ⟨h00, h01, h10, h11, h12⟩ := idx_facts t
  funext j
  obtain ⟨r, l, rfl⟩ : ∃ (r l : Fin 1024), j = ix2 r l := ⟨j 0, j 1, eq_ix2 j⟩
  refine (pay_apply _ _ r l).trans ?_
  have e0 : ∀ k, iblk m c 0 t (ix2 r k) = argDy m c (ix2 ((win0_2.rect t).idx (ix2 r l) 0) k) := by
    intro k
    show V m c main_arg2 _ = _
    rw [V_main_arg2]
    refine congrArg _ (funext fun a => Fin.ext ?_)
    match a with
    | ⟨0, _⟩ => show win0_0.index t 0 * 1024 + 1 * r.val = win0_2.index t 0 * 1024 + 1 * r.val; rw [h00]
    | ⟨1, _⟩ => show win0_0.index t 1 * 2048 + 1 * k.val = k.val; rw [h01]; omega
  have e1 : ∀ k, iblk m c 1 t (ix3 0 l k) = argW m c (ix2 ((win0_2.rect t).idx (ix2 r l) 1) k) := by
    intro k
    show (V m c main_v1 : FVec Ideal S1x2048x2048 .bf16) _ = _
    rw [V1]
    have : ((win0_1.blk t).view.emb (ix3 0 l k)) = ix3 0 ((win0_2.rect t).idx (ix2 r l) 1) k := by
      funext a
      match a with
      | ⟨0, _⟩ => apply Fin.ext; show win0_1.index t 0 * 1 + 1 * 0 = 0; rw [h10]
      | ⟨1, _⟩ => apply Fin.ext; show win0_1.index t 1 * 1024 + 1 * l.val = win0_2.index t 1 * 1024 + 1 * l.val; rw [h11]
      | ⟨2, _⟩ => apply Fin.ext; show win0_1.index t 2 * 2048 + 1 * k.val = k.val; rw [h12]; omega
    rw [this]
    pointwise
  simp only [e0, e1]
  rfl

theorem final (c : Dev nD) : (dats m 0 c).arrAt 2 cfg0.N
    = val (argW m c) (argDy m c) :=
  (dats m 0 c).arrAt_eq_of_cover 2 _ (fun t _ => flushed_eq m c t) fun i => by
    have h0 : (i 0 : Nat) < 2048 := (i 0).isLt
    have h1 : (i 1 : Nat) < 2048 := (i 1).isLt
    obtain ⟨t, ht, ha, hb⟩ := idx_onto ⟨(i 0 : Nat) / 1024, by omega⟩ ⟨(i 1 : Nat) / 1024, by omega⟩
    refine ⟨t, ht, ?_⟩
    show i ∈ ((View.whole main_v2).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [ha]; dsimp only; omega
    | ⟨1, _⟩ => show win0_2.index t 1 * 1024 ≤ (i 1 : Nat) ∧ (i 1 : Nat) < win0_2.index t 1 * 1024 + 1024; rw [hb]; dsimp only; omega

theorem claim : Cert.algebraic_DmixIdeal_RefDmixIdeal (hDmixIdeal := Cert.DmixIdeal.Gen.facts) (hRefDmixIdeal := Cert.RefDmixIdeal.Gen.facts) := by
  intro m g m' g' _ hargs
  refine ⟨fun c => val (argW m c) (argDy m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefDmixIdeal.Value.run (F := Ideal) m' g')
    obtain ⟨hv, hr⟩ := h c
    refine ⟨hv.trans ?_, hr⟩
    rw [(hargs c).2.1, (hargs c).2.2]
    funext j
    unfold val
    pointwise

end Cert.Proof.Dmix

end
-- ==== Proof.Gglu.lean ====
module

public import proofs.«01_k».proof.Defs
public import proofs.«01_k».proof.Proof.Gen.Gglu.Frame
public import proofs.«01_k».proof.Proof.Gen.GgluIdeal.Value
public import proofs.«01_k».proof.Proof.Gen.RefGgluIdeal.Run
public import Idealize.ShloMosaic.Lib.Pipeline.Value
public import Idealize.ShloMosaic.Lib.Pointwise
public import proofs.«01_k».proof.Proof.Common

@[expose] public section

set_option maxRecDepth 16384

noncomputable section

namespace Cert.Proof.Gglu

open Idealize.ShloMosaic Idealize.SL.Sem Cert.GgluIdeal
open Cert.GgluIdeal.Gen Idealize.ShloMosaic.TcCoe
open Cert.Proof.Common
open Idealize.ShloMosaic.Pipeline (Dat Cfg Window)

/-- What the four stores hold, element by element: a column of the rows against a column of the interleaved cotangents, 256 columns to a plane. -/
theorem pay2_apply (x0 x1 : Vec Ideal S2048x1024 .bf16) (q : Fin 1024) (l : Fin 256) :
    k0_pay2 x0 x1 (ix3 0 q l) = ∑ k : Fin 2048, x0 (ix2 k q) * x1 (ix2 k ⟨l.val, by omega⟩) := by
  pointwise [k0_pay2, k0_pay1]

theorem pay3_apply (x0 x1 : Vec Ideal S2048x1024 .bf16) (q : Fin 1024) (l : Fin 256) :
    k0_pay3 x0 x1 (ix3 0 q l) = ∑ k : Fin 2048, x0 (ix2 k q) * x1 (ix2 k ⟨256 + l.val, by omega⟩) := by
  pointwise [k0_pay3, k0_pay1]

theorem pay4_apply (x0 x1 : Vec Ideal S2048x1024 .bf16) (q : Fin 1024) (l : Fin 256) :
    k0_pay4 x0 x1 (ix3 0 q l) = ∑ k : Fin 2048, x0 (ix2 k q) * x1 (ix2 k ⟨512 + l.val, by omega⟩) := by
  pointwise [k0_pay4, k0_pay1]

theorem pay5_apply (x0 x1 : Vec Ideal S2048x1024 .bf16) (q : Fin 1024) (l : Fin 256) :
    k0_pay5 x0 x1 (ix3 0 q l) = ∑ k : Fin 2048, x0 (ix2 k q) * x1 (ix2 k ⟨768 + l.val, by omega⟩) := by
  pointwise [k0_pay5, k0_pay1]

/-- The block a point leaves. -/
def blockVal (x0 x1 : Vec Ideal S2048x1024 .bf16) : Vec Ideal S4x1024x256 .bf16 :=
  fun y => ∑ k : Fin 2048, x0 (ix2 k (y 1)) * x1 (ix2 k ⟨(y 0).val * 256 + (y 2).val, by
    have h0 : (y 0).val < 4 := (y 0).isLt
    have h2 : (y 2).val < 256 := (y 2).isLt
    show _ < 1024
    omega⟩)

/-- The store of plane `s` holds that plane of the block. -/
theorem piece_eq (s : Nat) (hs : s < 4) (h : ∀ a, (![s, 0, 0] : Fin 3 → Nat) a + S1x1024x256.size a ≤ S4x1024x256.size a)
    (x0 x1 : Vec Ideal S2048x1024 .bf16) (p : Vec Ideal S1x1024x256 .bf16)
    (hp : ∀ (q : Fin 1024) (l : Fin 256), p (ix3 0 q l) = ∑ k : Fin 2048, x0 (ix2 k q) * x1 (ix2 k ⟨s * 256 + l.val, by omega⟩)) (x : S1x1024x256.Idx) :
    p x = blockVal x0 x1 ((Rect.unit (s := S4x1024x256) ![s, 0, 0] S1x1024x256.size h).emb x) := by
  obtain ⟨z, q, l, rfl⟩ : ∃ (z : Fin 1) (q : Fin 1024) (l : Fin 256), x = ix3 z q l := ⟨x 0, x 1, x 2, eq_ix3 x⟩
  obtain rfl : z = 0 := Subsingleton.elim _ _
  rw [hp]
  refine Finset.sum_congr rfl fun k _ => congrArg₂ (fun a b : EReal => a * b) (congrArg (fun y => x0 (ix2 k y)) <| Fin.ext ?_)
    (congrArg (fun y => x1 (ix2 k y)) <| Fin.ext ?_)
  · show q.val = 0 + 1 * q.val; omega
  · show s * 256 + l.val = (s + 1 * 0) * 256 + (0 + 1 * l.val); omega

theorem out_eq (x0 x1 : Vec Ideal S2048x1024 .bf16) : out0_2 x0 x1 = blockVal x0 x1 := by
  unfold out0_2
  rw [View.ld_unit_zero (S := S2048x1024) z2, View.ld_unit_zero (S := S2048x1024) z2]
  funext y
  refine View.canon_apply_of_pieces (blockVal x0 x1) _ (fun p hp x => ?_) y (cover0_2 _ _ _ _ y)
  simp only [List.mem_cons, List.not_mem_nil, or_false] at hp
  rcases hp with rfl | rfl | rfl | rfl
  · exact piece_eq 3 (by omega) inb_S4x1024x256_S1x1024x256_3_0_0 x0 x1 (k0_pay5 x0 x1) (pay5_apply x0 x1) x
  · exact piece_eq 2 (by omega) inb_S4x1024x256_S1x1024x256_2_0_0 x0 x1 (k0_pay4 x0 x1) (pay4_apply x0 x1) x
  · exact piece_eq 1 (by omega) inb_S4x1024x256_S1x1024x256_1_0_0 x0 x1 (k0_pay3 x0 x1) (pay3_apply x0 x1) x
  · exact piece_eq 0 (by omega) inb_S4x1024x256_S1x1024x256_0_0_0 x0 x1 (k0_pay2 x0 x1) (fun q l => (pay2_apply x0 x1 q l).trans
      (by simp only [Nat.zero_mul, Nat.zero_add])) x

/-- Which blocks of the operands a point reads, by the block it writes. -/
theorem idx_facts : ∀ t : Fin cfg0.N,
    win0_0.index t 0 = 0 ∧ win0_0.index t 1 = 0 ∧ win0_1.index t 0 = 0 ∧ win0_1.index t 1 = win0_2.index t 0
    ∧ win0_2.index t 1 = 0 ∧ win0_2.index t 2 = 0 ∧ win0_2.index t 0 < 4 :=
  (by decide +kernel : ∀ t : Fin grid0.N,
    win0_0.index t 0 = 0 ∧ win0_0.index t 1 = 0 ∧ win0_1.index t 0 = 0 ∧ win0_1.index t 1 = win0_2.index t 0
    ∧ win0_2.index t 1 = 0 ∧ win0_2.index t 2 = 0 ∧ win0_2.index t 0 < 4)

/-- Every block of the output is some point's. -/
theorem idx_onto : ∀ a : Fin 4, ∃ t : Fin cfg0.N, win0_2.flush t = true ∧ win0_2.index t 0 = a.val :=
  (by decide +kernel : ∀ a : Fin 4, ∃ t : Fin grid0.N, win0_2.flush t = true ∧ win0_2.index t 0 = a.val)

/-- The gradients of the two weights of the gated unit, their planes of 256 columns interleaved. -/
def val (z : FVec Ideal S2048x1024 .f32) (dv dg : FVec Ideal S2048x2048 .f32) : FVec Ideal S16x1024x256 .bf16 :=
  fun j => ∑ k : Fin 2048, z (ix2 k (j 1)) * pick (fun q => dv (ix2 k q)) (fun q => dg (ix2 k q)) ⟨(j 0).val * 256 + (j 2).val, by
    have h0 : (j 0).val < 16 := (j 0).isLt
    have h2 : (j 2).val < 256 := (j 2).isLt
    omega⟩

variable (m : (ℓ : Loc nD τ sig) → Buf (Elt Ideal) ℓ) (ρ : Dev nD → PrngReg)

/-- The arguments the gradient depends on, as launched. -/
abbrev argA (c : Dev nD) : FVec Ideal S2048x1024 .f32 := m ((c : Thread nD τ).loc main_arg0)
abbrev argV (c : Dev nD) : FVec Ideal S2048x2048 .f32 := m ((c : Thread nD τ).loc main_arg3)
abbrev argG (c : Dev nD) : FVec Ideal S2048x2048 .f32 := m ((c : Thread nD τ).loc main_arg4)

theorem V0 (c : Dev nD) : (V m c main_v0 : FVec Ideal S2048x1024 .bf16) = truncf .bf16 (argA m c) bitsLt_bf16_f32 := by
  unfold V hostOps0
  after_results

/-- The cotangents the call is given: those of the values and of the gates, interleaved by runs of columns. -/
theorem V7 (c : Dev nD) : (V m c main_v7 : FVec Ideal S2048x4096 .bf16)
    = truncf .bf16 (shapeCast S2048x4096 (concatenate S2048x8x2x256 2
        [⟨S2048x8x1x256, (broadcastInDim S2048x8x1x256 ![0, 1, 3] bcast_S2048x8x256_S2048x8x1x256_0_1_3 (shapeCast S2048x8x256 (argV m c) shapeCasts_S2048x2048_S2048x8x256) : FVec Ideal S2048x8x1x256 .f32)⟩,
         ⟨S2048x8x1x256, (broadcastInDim S2048x8x1x256 ![0, 1, 3] bcast_S2048x8x256_S2048x8x1x256_0_1_3 (shapeCast S2048x8x256 (argG m c) shapeCasts_S2048x2048_S2048x8x256) : FVec Ideal S2048x8x1x256 .f32)⟩]
        concatenates_S2048x8x1x256_S2048x8x1x256_S2048x8x2x256_d2 : FVec Ideal S2048x8x2x256 .f32) shapeCasts_S2048x8x2x256_S2048x4096) bitsLt_bf16_f32 := by
  unfold V hostOps0
  after_results
  rfl

theorem V7_apply (c : Dev nD) (s : Fin 2048) (C : Fin 4096) :
    (V m c main_v7 : FVec Ideal S2048x4096 .bf16) (ix2 s C) = pick (fun k => argV m c (ix2 s k)) (fun k => argG m c (ix2 s k)) C := by
  rw [V7]
  unfold pick
  by_cases h : C.val / 256 % 2 = 0
  · rw [if_pos h]
    pointwise
    split_ifs <;> first | (exfalso; omega) | exact congrArg (fun y => argV m c (ix2 s y)) (Fin.ext (by dsimp only <;> omega))
  · rw [if_neg h]
    pointwise
    split_ifs <;> first | (exfalso; omega) | exact congrArg (fun y => argG m c (ix2 s y)) (Fin.ext (by dsimp only <;> omega))

/-- A block read from these arguments is the corresponding block of the gradient. -/
theorem blockVal_val (x0 x1 : Vec Ideal S2048x1024 .bf16) (z : FVec Ideal S2048x1024 .f32) (dv dg : FVec Ideal S2048x2048 .f32)
    (s : Fin 4) (q : Fin 1024) (l : Fin 256) (P : Fin 16)
    (h0 : ∀ k : Fin 2048, x0 (ix2 k q) = z (ix2 k q))
    (h1 : ∀ k : Fin 2048, x1 (ix2 k (⟨s.val * 256 + l.val, by omega⟩ : Fin 1024)) = pick (fun q => dv (ix2 k q)) (fun q => dg (ix2 k q)) ⟨P.val * 256 + l.val, by omega⟩) :
    blockVal x0 x1 (ix3 s q l) = val z dv dg (ix3 P q l) :=
  Finset.sum_congr rfl fun k _ => congrArg₂ (fun a b : EReal => a * b) (h0 k) (h1 k)

theorem flushed_eq (c : Dev nD) (t : Fin cfg0.N) :
    (dats m 0 c).flushed 2 t = ((cfg0.win 2).blk t).view.read (Elt Ideal) (val (argA m c) (argV m c) (argG m c)) := by
  rw [Value.flushed2, out_eq]
  obtain ⟨h00, h01, h10, h11, h21, h22, hb⟩ := idx_facts t
  funext j
  obtain ⟨s, q, l, rfl⟩ : ∃ (s : Fin 4) (q : Fin 1024) (l : Fin 256), j = ix3 s q l := ⟨j 0, j 1, j 2, eq_ix3 j⟩
  have hP : (win0_2.rect t).idx (ix3 s q l) = ix3 (⟨win0_2.index t 0 * 4 + s.val, by omega⟩ : Fin 16) q l := funext fun a => Fin.ext <|
    match a with
    | ⟨0, _⟩ => by show win0_2.index t 0 * 4 + 1 * s.val = win0_2.index t 0 * 4 + s.val; omega
    | ⟨1, _⟩ => by show win0_2.index t 1 * 1024 + 1 * q.val = q.val; rw [h21]; omega
    | ⟨2, _⟩ => by show win0_2.index t 2 * 256 + 1 * l.val = l.val; rw [h22]; omega
  refine (blockVal_val (iblk m c 0 t) (iblk m c 1 t) (argA m c) (argV m c) (argG m c) s q l (⟨win0_2.index t 0 * 4 + s.val, by omega⟩ : Fin 16)
    (fun k => ?_) fun k => ?_).trans (congrArg (val (argA m c) (argV m c) (argG m c)) hP.symm)
  · show (V m c main_v0 : FVec Ideal S2048x1024 .bf16) _ = _
    rw [V0]
    exact congrArg (argA m c) <| funext fun a => Fin.ext <|
      match a with
      | ⟨0, _⟩ => by show win0_0.index t 0 * 2048 + 1 * k.val = k.val; rw [h00]; omega
      | ⟨1, _⟩ => by show win0_0.index t 1 * 1024 + 1 * q.val = q.val; rw [h01]; omega
  · show (V m c main_v7 : FVec Ideal S2048x4096 .bf16) _ = _
    have : ((win0_1.blk t).view.emb (ix2 k (⟨s.val * 256 + l.val, by omega⟩ : Fin 1024)))
        = ix2 k (⟨(win0_2.index t 0 * 4 + s.val) * 256 + l.val, by omega⟩ : Fin 4096) := funext fun a => Fin.ext <|
      match a with
      | ⟨0, _⟩ => by show win0_1.index t 0 * 2048 + 1 * k.val = k.val; rw [h10]; omega
      | ⟨1, _⟩ => by show win0_1.index t 1 * 1024 + 1 * (s.val * 256 + l.val) = (win0_2.index t 0 * 4 + s.val) * 256 + l.val; rw [h11]; omega
    rw [this]
    exact V7_apply m c k (⟨(win0_2.index t 0 * 4 + s.val) * 256 + l.val, by omega⟩ : Fin 4096)

theorem final (c : Dev nD) : (dats m 0 c).arrAt 2 cfg0.N = val (argA m c) (argV m c) (argG m c) :=
  (dats m 0 c).arrAt_eq_of_cover 2 _ (fun t _ => flushed_eq m c t) fun i => by
    have h0 : (i 0 : Nat) < 16 := (i 0).isLt
    have h1 : (i 1 : Nat) < 1024 := (i 1).isLt
    have h2 : (i 2 : Nat) < 256 := (i 2).isLt
    obtain ⟨t, ht, ha⟩ := idx_onto ⟨(i 0 : Nat) / 4, by omega⟩
    obtain ⟨-, -, -, -, h21, h22, -⟩ := idx_facts t
    refine ⟨t, ht, ?_⟩
    show i ∈ ((View.whole main_v8).slice (win0_2.rect t)).set
    rw [View.set_slice_whole, Rect.mem_set_unit]
    intro a
    match a with
    | ⟨0, _⟩ => show win0_2.index t 0 * 4 ≤ (i 0 : Nat) ∧ (i 0 : Nat) < win0_2.index t 0 * 4 + 4; rw [ha]; dsimp only; omega
    | ⟨1, _⟩ => show win0_2.index t 1 * 1024 ≤ (i 1 : Nat) ∧ (i 1 : Nat) < win0_2.index t 1 * 1024 + 1024; rw [h21]; omega
    | ⟨2, _⟩ => show win0_2.index t 2 * 256 ≤ (i 2 : Nat) ∧ (i 2 : Nat) < win0_2.index t 2 * 256 + 256; rw [h22]; omega

theorem claim : Cert.algebraic_GgluIdeal_RefGgluIdeal (hGgluIdeal := Cert.GgluIdeal.Gen.facts) (hRefGgluIdeal := Cert.RefGgluIdeal.Gen.facts) := by
  intro m g m' g' _ hargs
  refine ⟨fun c => val (argA m c) (argV m c) (argG m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefGgluIdeal.Value.run (F := Ideal) m' g')
    obtain ⟨hv, hr⟩ := h c
    refine ⟨hv.trans ?_, hr⟩
    rw [(hargs c).1, (hargs c).2.2.2.1, (hargs c).2.2.2.2]
    funext j
    obtain ⟨p, q, l, rfl⟩ : ∃ (p : Fin 16) (q : Fin 1024) (l : Fin 256), j = ix3 p q l := ⟨j 0, j 1, j 2, eq_ix3 j⟩
    show _ = ∑ k : Fin 2048, argA m c (ix2 k q) * pick (fun x => argV m c (ix2 k x)) (fun x => argG m c (ix2 k x)) ⟨p.val * 256 + l.val, by omega⟩
    unfold pick
    by_cases h : (p.val * 256 + l.val) / 256 % 2 = 0
    · simp only [if_pos h]
      pointwise
      split_ifs
      all_goals first
        | (exfalso; omega)
        | (refine Finset.sum_congr rfl fun k _ => (mul_comm _ _).trans (congrArg₂ (fun a b : EReal => a * b) rfl ?_)
           exact congrArg (fun y => argV m c (ix2 k y)) (Fin.ext (by dsimp only <;> omega)))
    · simp only [if_neg h]
      pointwise
      split_ifs
      all_goals first
        | (exfalso; omega)
        | (refine Finset.sum_congr rfl fun k _ => (mul_comm _ _).trans (congrArg₂ (fun a b : EReal => a * b) rfl ?_)
           exact congrArg (fun y => argG m c (ix2 k y)) (Fin.ext (by dsimp only <;> omega)))

end Cert.Proof.Gglu

end
-- ==== Proof.Dglu.lean ====
module

public import proofs.«01_k».proof.Defs
public import proofs.«01_k».proof.Proof.Gen.Dglu.Frame
public import proofs.«01_k».proof.Proof.Gen.DgluIdeal.Value
public import proofs.«01_k».proof.Proof.Gen.RefDgluIdeal.Run
public import Idealize.ShloMosaic.Lib.Pipeline.Value
public import Idealize.ShloMosaic.Lib.Pointwise
public import proofs.«01_k».proof.Proof.Common

@[expose] public section

set_option maxRecDepth 16384

noncomputable section

namespace Cert.Proof.Dglu

open Idealize.ShloMosaic Idealize.SL.Sem Cert.DgluIdeal
open Cert.DgluIdeal.Gen Idealize.ShloMosaic.TcCoe
open Cert.Proof.Common
open Idealize.ShloMosaic.Pipeline (Dat Cfg Window)

/-- One plane of the sixteen a block of the weights holds. -/
def plane (x : Vec Ideal S16x1024x256 .bf16) (s : Nat) (h : ∀ a, (![s, 0, 0] : Fin 3 → Nat) a + S1x1024x256.size a ≤ S16x1024x256.size a) :
    Vec Ideal S1x1024x256 .bf16 := View.ld x (Rect.unit (s := S16x1024x256) ![s, 0, 0] S1x1024x256.size h)

theorem plane_apply (x : Vec Ideal S16x1024x256 .bf16) (s : Nat) (hs : s < 16) (h) (l : Fin 1024) (k : Fin 256) :
    plane x s h (ix3 0 l k) = x (ix3 ⟨s, hs⟩ l k) := by
  show x _ = x _
  exact congrArg x <| funext fun a => Fin.ext <|
    match a with
    | ⟨0, _⟩ => by show s + 1 * 0 = s; omega
    | ⟨1, _⟩ => by show 0 + 1 * l.val = l.val; omega
    | ⟨2, _⟩ => by show 0 + 1 * k.val = k.val; omega

/-- What a point stores, in terms of the planes of its weights. -/
def pay (x0 : Vec Ideal S1024x4096 .bf16) (p0 p1 p2 p3 p4 p5 p6 p7 p8 p9 p10 p11 p12 p13 p14 p15 : Vec Ideal S1x1024x256 .bf16) : FVec Ideal S1024x1024 .bf16 :=
  k0_pay1 (k0_pay2 x0) (k0_pay4 (k0_pay2 x0) (k0_pay3 x0 p0 p1 p2 p3 p4 p5) p6 p7 p8 p9 p10 p11) (k0_pay5 (k0_pay2 x0)) (k0_pay6 p12) p13 p14 p15

theorem pay_apply (x0 : Vec Ideal S1024x4096 .bf16) (p0 p1 p2 p3 p4 p5 p6 p7 p8 p9 p10 p11 p12 p13 p14 p15 : Vec Ideal S1x1024x256 .bf16) (r l : Fin 1024) :
    pay x0 p0 p1 p2 p3 p4 p5 p6 p7 p8 p9 p10 p11 p12 p13 p14 p15 (ix2 r l)
      = (∑ k : Fin 256, x0 (ix2 r ⟨k.val, by omega⟩) * p0 (ix3 0 l k))
        + (∑ k : Fin 256, x0 (ix2 r ⟨256 + k.val, by omega⟩) * p1 (ix3 0 l k))
        + (∑ k : Fin 256, x0 (ix2 r ⟨512 + k.val, by omega⟩) * p2 (ix3 0 l k))
        + (∑ k : Fin 256, x0 (ix2 r ⟨768 + k.val, by omega⟩) * p3 (ix3 0 l k))
        + (∑ k : Fin 256, x0 (ix2 r ⟨1024 + k.val, by omega⟩) * p4 (ix3 0 l k))
        + (∑ k : Fin 256, x0 (ix2 r ⟨1280 + k.val, by omega⟩) * p5 (ix3 0 l k))
        + (∑ k : Fin 256, x0 (ix2 r ⟨1536 + k.val, by omega⟩) * p6 (ix3 0 l k))
        + (∑ k : Fin 256, x0 (ix2 r ⟨1792 + k.val, by omega⟩) * p7 (ix3 0 l k))
        + (∑ k : Fin 256, x0 (ix2 r ⟨2048 + k.val, by omega⟩) * p8 (ix3 0 l k))
        + (∑ k : Fin 256, x0 (ix2 r ⟨2304 + k.val, by omega⟩) * p9 (ix3 0 l k))
        + (∑ k : Fin 256, x0 (ix2 r ⟨2560 + k.val, by omega⟩) * p10 (ix3 0 l k))
        + (∑ k : Fin 256, x0 (ix2 r ⟨2816 + k.val, by omega⟩) * p11 (ix3 0 l k))
        + (∑ k : Fin 256, x0 (ix2 r ⟨3072 + k.val, by omega⟩) * p12 (ix3 0 l k))
        + (∑ k : Fin 256, x0 (ix2 r ⟨3328 + k.val, by omega⟩) * p13 (ix3 0 l k))
        + (∑ k : Fin 256, x0 (ix2 r ⟨3584 + k.val, by omega⟩) * p14 (ix3 0 l k))
        + (∑ k : Fin 256, x0 (ix2 r ⟨3840 + k.val, by omega⟩) * p15 (ix3 0 l k)) := by
  pointwise [pay, k0_pay1, k0_pay2, k0_pay3, k0_pay4, k0_pay5, k0_pay6]

theorem sum_sixteen (f : Fin 16 → EReal) :
    ∑ s, f s = f 0 + f 1 + f 2 + f 3 + f 4 + f 5 + f 6 + f 7 + f 8 + f 9 + f 10 + f 11 + f 12 + f 13 + f 14 + f 15 := by
  rw [Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_eight]
  rfl

theorem out_eq (x0 : Vec Ideal S1024x4096 .bf16) (x1 : Vec Ideal S16x1024x256 .bf16) (r l : Fin 1024) :
    out0_2 x0 x1 (ix2 r l) = ∑ s : Fin 16, ∑ k : Fin 256, x0 (ix2 r ⟨s.val * 256 + k.val, by omega⟩) * x1 (ix3 s l k) := by
  have e : out0_2 x0 x1 = pay x0 (plane x1 0 inb_S16x1024x256_S1x1024x256_0_0_0) (plane x1 1 inb_S16x1024x256_S1x1024x256_1_0_0) (plane x1 2 inb_S16x1024x256_S1x1024x256_2_0_0) (plane x1 3 inb_S16x1024x256_S1x1024x256_3_0_0) (plane x1 4 inb_S16x1024x256_S1x1024x256_4_0_0) (plane x1 5 inb_S16x1024x256_S1x1024x256_5_0_0) (plane x1 6 inb_S16x1024x256_S1x1024x256_6_0_0) (plane x1 7 inb_S16x1024x256_S1x1024x256_7_0_0) (plane x1 8 inb_S16x1024x256_S1x1024x256_8_0_0) (plane x1 9 inb_S16x1024x256_S1x1024x256_9_0_0) (plane x1 10 inb_S16x1024x256_S1x1024x256_10_0_0) (plane x1 11 inb_S16x1024x256_S1x1024x256_11_0_0) (plane x1 12 inb_S16x1024x256_S1x1024x256_12_0_0) (plane x1 13 inb_S16x1024x256_S1x1024x256_13_0_0) (plane x1 14 inb_S16x1024x256_S1x1024x256_14_0_0) (plane x1 15 inb_S16x1024x256_S1x1024x256_15_0_0) := by
    unfold out0_2 k0_pay7
    rw [View.canon_unit_zero z2, View.ld_unit_zero (S := S1024x4096) z2]
    rfl
  rw [e, pay_apply, sum_sixteen]
  simp only [plane_apply x1 0 (by omega), plane_apply x1 1 (by omega), plane_apply x1 2 (by omega), plane_apply x1 3 (by omega), plane_apply x1 4 (by omega), plane_apply x1 5 (by omega), plane_apply x1 6 (by omega), plane_apply x1 7 (by omega), plane_apply x1 8 (by omega), plane_apply x1 9 (by omega), plane_apply x1 10 (by omega), plane_apply x1 11 (by omega), plane_apply x1 12 (by omega), plane_apply x1 13 (by omega), plane_apply x1 14 (by omega), plane_apply x1 15 (by omega)]
  simp only [show (0 : Fin 16).val = 0 from rfl, show (1 : Fin 16).val = 1 from rfl, show (2 : Fin 16).val = 2 from rfl, show (3 : Fin 16).val = 3 from rfl, show (4 : Fin 16).val = 4 from rfl, show (5 : Fin 16).val = 5 from rfl, show (6 : Fin 16).val = 6 from rfl, show (7 : Fin 16).val = 7 from rfl, show (8 : Fin 16).val = 8 from rfl, show (9 : Fin 16).val = 9 from rfl, show (10 : Fin 16).val = 10 from rfl, show (11 : Fin 16).val = 11 from rfl, show (12 : Fin 16).val = 12 from rfl, show (13 : Fin 16).val = 13 from rfl, show (14 : Fin 16).val = 14 from rfl, show (15 : Fin 16).val = 15 from rfl, Nat.zero_mul, Nat.zero_add, Nat.one_mul, Nat.reduceMul]
  rfl

/-- Which blocks of the operands a point reads, by the block it writes. -/
theorem idx_facts : ∀ t : Fin cfg0.N,
    win0_0.index t 0 = win0_2.index t 0 ∧ win0_0.index t 1 = 0 ∧ win0_1.index t 0 = 0 ∧ win0_1.index t 1 = 0
    ∧ win0_1.index t 2 = 0 ∧ win0_2.index t 1 = 0 :=
  (by decide +kernel : ∀ t : Fin grid0.N,
    win0_0.index t 0 = win0_2.index t 0 ∧ win0_0.index t 1 = 0 ∧ win0_1.index t 0 = 0 ∧ win0_1.index t 1 = 0
    ∧ win0_1.index t 2 = 0 ∧ win0_2.index t 1 = 0)

/-- Every block of the output is some point's. -/
theorem idx_onto : ∀ a : Fin 2, ∃ t : Fin cfg0.N, win0_2.flush t = true ∧ win0_2.index t 0 = a.val :=
  (by decide +kernel : ∀ a : Fin 2, ∃ t : Fin grid0.N, win0_2.flush t = true ∧ win0_2.index t 0 = a.val)

/-- The gradient of the gated unit's input, element by element. -/
def val (wv wg : FVec Ideal S1024x2048 .f32) (dv dg : FVec Ideal S2048x2048 .f32) : FVec Ideal S2048x1024 .bf16 :=
  fun j => (∑ k : Fin 2048, dv (ix2 (j 0) k) * wv (ix2 (j 1) k)) + ∑ k : Fin 2048, dg (ix2 (j 0) k) * wg (ix2 (j 1) k)

variable (m : (ℓ : Loc nD τ sig) → Buf (Elt Ideal) ℓ) (ρ : Dev nD → PrngReg)

/-- The arguments the gradient depends on, as launched. -/
abbrev argWv (c : Dev nD) : FVec Ideal S1024x2048 .f32 := m ((c : Thread nD τ).loc main_arg1)
abbrev argWg (c : Dev nD) : FVec Ideal S1024x2048 .f32 := m ((c : Thread nD τ).loc main_arg2)
abbrev argV (c : Dev nD) : FVec Ideal S2048x2048 .f32 := m ((c : Thread nD τ).loc main_arg3)
abbrev argG (c : Dev nD) : FVec Ideal S2048x2048 .f32 := m ((c : Thread nD τ).loc main_arg4)

/-- The cotangents the call is given: those of the values and of the gates, interleaved by runs of columns. -/
theorem V6 (c : Dev nD) : (V m c main_v6 : FVec Ideal S2048x4096 .bf16)
    = truncf .bf16 (shapeCast S2048x4096 (concatenate S2048x8x2x256 2
        [⟨S2048x8x1x256, (broadcastInDim S2048x8x1x256 ![0, 1, 3] bcast_S2048x8x256_S2048x8x1x256_0_1_3 (shapeCast S2048x8x256 (argV m c) shapeCasts_S2048x2048_S2048x8x256) : FVec Ideal S2048x8x1x256 .f32)⟩,
         ⟨S2048x8x1x256, (broadcastInDim S2048x8x1x256 ![0, 1, 3] bcast_S2048x8x256_S2048x8x1x256_0_1_3 (shapeCast S2048x8x256 (argG m c) shapeCasts_S2048x2048_S2048x8x256) : FVec Ideal S2048x8x1x256 .f32)⟩]
        concatenates_S2048x8x1x256_S2048x8x1x256_S2048x8x2x256_d2 : FVec Ideal S2048x8x2x256 .f32) shapeCasts_S2048x8x2x256_S2048x4096) bitsLt_bf16_f32 := by
  unfold V hostOps0
  after_results
  rfl

theorem V6_apply (c : Dev nD) (s : Fin 2048) (C : Fin 4096) :
    (V m c main_v6 : FVec Ideal S2048x4096 .bf16) (ix2 s C) = pick (fun k => argV m c (ix2 s k)) (fun k => argG m c (ix2 s k)) C := by
  rw [V6]
  unfold pick
  by_cases h : C.val / 256 % 2 = 0
  · rw [if_pos h]
    pointwise
    split_ifs <;> first | (exfalso; omega) | exact congrArg (fun y => argV m c (ix2 s y)) (Fin.ext (by dsimp only <;> omega))
  · rw [if_neg h]
    pointwise
    split_ifs <;> first | (exfalso; omega) | exact congrArg (fun y => argG m c (ix2 s y)) (Fin.ext (by dsimp only <;> omega))

/-- The planes the call is given: the columns of the values' weights in the even ones, those of the gates' in the odd ones. -/
theorem V15 (c : Dev nD) : (V m c main_v15 : FVec Ideal S16x1024x256 .bf16)
    = truncf .bf16 (shapeCast S16x1024x256 (concatenate S8x2x1024x256 1
        [⟨S8x1x1024x256, (broadcastInDim S8x1x1024x256 ![0, 2, 3] bcast_S8x1024x256_S8x1x1024x256_0_2_3 (transpose S8x1024x256 [1, 0, 2] (shapeCast S1024x8x256 (argWv m c) shapeCasts_S1024x2048_S1024x8x256) transposes_S1024x8x256_S8x1024x256_1_0_2) : FVec Ideal S8x1x1024x256 .f32)⟩,
         ⟨S8x1x1024x256, (broadcastInDim S8x1x1024x256 ![0, 2, 3] bcast_S8x1024x256_S8x1x1024x256_0_2_3 (transpose S8x1024x256 [1, 0, 2] (shapeCast S1024x8x256 (argWg m c) shapeCasts_S1024x2048_S1024x8x256) transposes_S1024x8x256_S8x1024x256_1_0_2) : FVec Ideal S8x1x1024x256 .f32)⟩]
        concatenates_S8x1x1024x256_S8x1x1024x256_S8x2x1024x256_d1 : FVec Ideal S8x2x1024x256 .f32) shapeCasts_S8x2x1024x256_S16x1024x256) bitsLt_bf16_f32 := by
  unfold V hostOps0
  after_results
  rfl

theorem V15_apply (c : Dev nD) (p : Fin 16) (q : Fin 1024) (l : Fin 256) (C : Fin 4096) (hC : C.val = p.val * 256 + l.val) :
    (V m c main_v15 : FVec Ideal S16x1024x256 .bf16) (ix3 p q l) = pick (fun k => argWv m c (ix2 q k)) (fun k => argWg m c (ix2 q k)) C := by
  rw [V15]
  unfold pick
  by_cases h : C.val / 256 % 2 = 0
  · rw [if_pos h]
    pointwise
    split_ifs <;> first | (exfalso; omega) | exact congrArg (fun y => argWv m c (ix2 q y)) (Fin.ext (by dsimp only; omega))
  · rw [if_neg h]
    pointwise
    split_ifs <;> first | (exfalso; omega) | exact congrArg (fun y => argWg m c (ix2 q y)) (Fin.ext (by dsimp only; omega))

/-- A block whose rows and planes are those of the arguments is the corresponding block of the gradient. -/
theorem out_val (x0 : Vec Ideal S1024x4096 .bf16) (x1 : Vec Ideal S16x1024x256 .bf16) (wv wg : FVec Ideal S1024x2048 .f32) (dv dg : FVec Ideal S2048x2048 .f32)
    (r l : Fin 1024) (R : Fin 2048) (h0 : ∀ k : Fin 4096, x0 (ix2 r k) = pick (fun q => dv (ix2 R q)) (fun q => dg (ix2 R q)) k)
    (h1 : ∀ (s : Fin 16) (k : Fin 256), x1 (ix3 s l k) = pick (fun q => wv (ix2 l q)) (fun q => wg (ix2 l q)) ⟨s.val * 256 + k.val, by omega⟩) :
    out0_2 x0 x1 (ix2 r l) = val wv wg dv dg (ix2 R l) := by
  rw [out_eq]
  refine Eq.trans ?_ (sum_pick (fun q => dv (ix2 R q)) (fun q => dg (ix2 R q)) (fun q => wv (ix2 l q)) (fun q => wg (ix2 l q)))
  refine Eq.trans ?_ (sum_runs 16 256 fun k => pick (fun q => dv (ix2 R q)) (fun q => dg (ix2 R q)) k * pick (fun q => wv (ix2 l q)) (fun q => wg (ix2 l q)) k).symm
  exact Finset.sum_congr rfl fun s _ => Finset.sum_congr rfl fun k _ => congrArg₂ (fun a b : EReal => a * b) (h0 _) (h1 s k)

theorem flushed_eq (c : Dev nD) (t : Fin cfg0.N) :
    (dats m 0 c).flushed 2 t = ((cfg0.win 2).blk t).view.read (Elt Ideal) (val (argWv m c) (argWg m c) (argV m c) (argG m c)) := by
  rw [Value.flushed2]
  obtain ⟨h00, h01, h10, h11, h12, h21⟩ := idx_facts t
  funext j
  obtain ⟨r, l, rfl⟩ : ∃ (r l : Fin 1024), j = ix2 r l := ⟨j 0, j 1, eq_ix2 j⟩
  have hR : (win0_2.rect t).idx (ix2 r l) = ix2 ((win0_2.rect t).idx (ix2 r l) 0) l := funext fun a => Fin.ext <|
    match a with
    | ⟨0, _⟩ => rfl
    | ⟨1, _⟩ => by show win0_2.index t 1 * 1024 + 1 * l.val = l.val; rw [h21]; omega
  refine (out_val (iblk m c 0 t) (iblk m c 1 t) (argWv m c) (argWg m c) (argV m c) (argG m c) r l ((win0_2.rect t).idx (ix2 r l) 0) (fun k => ?_) fun s k => ?_).trans
    (congrArg (val (argWv m c) (argWg m c) (argV m c) (argG m c)) hR.symm)
  · show (V m c main_v6 : FVec Ideal S2048x4096 .bf16) _ = _
    have : (win0_0.blk t).view.emb (ix2 r k) = ix2 ((win0_2.rect t).idx (ix2 r l) 0) k := funext fun a => Fin.ext <|
      match a with
      | ⟨0, _⟩ => by show win0_0.index t 0 * 1024 + 1 * r.val = win0_2.index t 0 * 1024 + 1 * r.val; rw [h00]
      | ⟨1, _⟩ => by show win0_0.index t 1 * 4096 + 1 * k.val = k.val; rw [h01]; omega
    rw [this]
    exact V6_apply m c ((win0_2.rect t).idx (ix2 r l) 0) k
  · show (V m c main_v15 : FVec Ideal S16x1024x256 .bf16) _ = _
    have : (win0_1.blk t).view.emb (ix3 s l k) = ix3 s l k := funext fun a => Fin.ext <|
      match a with
      | ⟨0, _⟩ => by show win0_1.index t 0 * 16 + 1 * s.val = s.val; rw [h10]; omega
      | ⟨1, _⟩ => by show win0_1.index t 1 * 1024 + 1 * l.val = l.val; rw [h11]; omega
      | ⟨2, _⟩ => by show win0_1.index t 2 * 256 + 1 * k.val = k.val; rw [h12]; omega
    rw [this]
    exact V15_apply m c s l k ⟨s.val * 256 + k.val, by omega⟩ rfl

theorem final (c : Dev nD) : (dats m 0 c).arrAt 2 cfg0.N = val (argWv m c) (argWg m c) (argV m c) (argG m c) :=
  (dats m 0 c).arrAt_eq_of_cover 2 _ (fun t _ => flushed_eq m c t) fun i => by
    have h0 : (i 0 : Nat) < 2048 := (i 0).isLt
    have h1 : (i 1 : Nat) < 1024 := (i 1).isLt
    obtain ⟨t, ht, ha⟩ := idx_onto ⟨(i 0 : Nat) / 1024, by omega⟩
    obtain ⟨-, -, -, -, -, h21⟩ := idx_facts t
    refine ⟨t, ht, ?_⟩
    show i ∈ ((View.whole main_v16).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [ha]; dsimp only; omega
    | ⟨1, _⟩ => show win0_2.index t 1 * 1024 ≤ (i 1 : Nat) ∧ (i 1 : Nat) < win0_2.index t 1 * 1024 + 1024; rw [h21]; omega

theorem claim : Cert.algebraic_DgluIdeal_RefDgluIdeal (hDgluIdeal := Cert.DgluIdeal.Gen.facts) (hRefDgluIdeal := Cert.RefDgluIdeal.Gen.facts) := by
  intro m g m' g' _ hargs
  refine ⟨fun c => val (argWv m c) (argWg m c) (argV m c) (argG m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefDgluIdeal.Value.run (F := Ideal) m' g')
    obtain ⟨hv, hr⟩ := h c
    refine ⟨hv.trans ?_, hr⟩
    rw [(hargs c).2.1, (hargs c).2.2.1, (hargs c).2.2.2.1, (hargs c).2.2.2.2]
    funext j
    unfold val
    simp only [argWv, argWg, argV, argG]
    refine Eq.trans ?_ (add_comm _ _)
    pointwise

end Cert.Proof.Dglu

end
-- ==== Proof.Gpo.lean ====
module

public import proofs.«01_k».proof.Defs
public import proofs.«01_k».proof.Proof.Gen.Gpo.Frame
public import proofs.«01_k».proof.Proof.Gen.GpoIdeal.Value
public import proofs.«01_k».proof.Proof.Gen.RefGpoIdeal.Run
public import Idealize.ShloMosaic.Lib.Pipeline.Value
public import Idealize.ShloMosaic.Lib.Pointwise
public import proofs.«01_k».proof.Proof.Common

@[expose] public section

set_option maxRecDepth 16384

noncomputable section

namespace Cert.Proof.Gpo

open Idealize.ShloMosaic Idealize.SL.Sem Cert.GpoIdeal
open Cert.GpoIdeal.Gen Idealize.ShloMosaic.TcCoe
open Cert.Proof.Common
open Idealize.ShloMosaic.Pipeline (Dat Cfg Window)

/-- What the four stores hold, element by element: a column of the pooled branch against a column of the cotangents, 256 columns to a plane. -/
theorem pay2_apply (x0 x1 : Vec Ideal S2048x1024 .bf16) (q : Fin 1024) (l : Fin 256) :
    k0_pay2 x0 x1 (ix3 0 q l) = ∑ k : Fin 2048, x0 (ix2 k q) * x1 (ix2 k ⟨l.val, by omega⟩) := by
  pointwise [k0_pay2, k0_pay1]

theorem pay3_apply (x0 x1 : Vec Ideal S2048x1024 .bf16) (q : Fin 1024) (l : Fin 256) :
    k0_pay3 x0 x1 (ix3 0 q l) = ∑ k : Fin 2048, x0 (ix2 k q) * x1 (ix2 k ⟨256 + l.val, by omega⟩) := by
  pointwise [k0_pay3, k0_pay1]

theorem pay4_apply (x0 x1 : Vec Ideal S2048x1024 .bf16) (q : Fin 1024) (l : Fin 256) :
    k0_pay4 x0 x1 (ix3 0 q l) = ∑ k : Fin 2048, x0 (ix2 k q) * x1 (ix2 k ⟨512 + l.val, by omega⟩) := by
  pointwise [k0_pay4, k0_pay1]

theorem pay5_apply (x0 x1 : Vec Ideal S2048x1024 .bf16) (q : Fin 1024) (l : Fin 256) :
    k0_pay5 x0 x1 (ix3 0 q l) = ∑ k : Fin 2048, x0 (ix2 k q) * x1 (ix2 k ⟨768 + l.val, by omega⟩) := by
  pointwise [k0_pay5, k0_pay1]

/-- The block a point leaves. -/
def blockVal (x0 x1 : Vec Ideal S2048x1024 .bf16) : Vec Ideal S4x1024x256 .bf16 :=
  fun y => ∑ k : Fin 2048, x0 (ix2 k (y 1)) * x1 (ix2 k ⟨(y 0).val * 256 + (y 2).val, by
    have h0 : (y 0).val < 4 := (y 0).isLt
    have h2 : (y 2).val < 256 := (y 2).isLt
    show _ < 1024
    omega⟩)

/-- The store of plane `s` holds that plane of the block. -/
theorem piece_eq (s : Nat) (hs : s < 4) (h : ∀ a, (![s, 0, 0] : Fin 3 → Nat) a + S1x1024x256.size a ≤ S4x1024x256.size a)
    (x0 x1 : Vec Ideal S2048x1024 .bf16) (p : Vec Ideal S1x1024x256 .bf16)
    (hp : ∀ (q : Fin 1024) (l : Fin 256), p (ix3 0 q l) = ∑ k : Fin 2048, x0 (ix2 k q) * x1 (ix2 k ⟨s * 256 + l.val, by omega⟩)) (x : S1x1024x256.Idx) :
    p x = blockVal x0 x1 ((Rect.unit (s := S4x1024x256) ![s, 0, 0] S1x1024x256.size h).emb x) := by
  obtain ⟨z, q, l, rfl⟩ : ∃ (z : Fin 1) (q : Fin 1024) (l : Fin 256), x = ix3 z q l := ⟨x 0, x 1, x 2, eq_ix3 x⟩
  obtain rfl : z = 0 := Subsingleton.elim _ _
  rw [hp]
  refine Finset.sum_congr rfl fun k _ => congrArg₂ (fun a b : EReal => a * b) (congrArg (fun y => x0 (ix2 k y)) <| Fin.ext ?_)
    (congrArg (fun y => x1 (ix2 k y)) <| Fin.ext ?_)
  · show q.val = 0 + 1 * q.val; omega
  · show s * 256 + l.val = (s + 1 * 0) * 256 + (0 + 1 * l.val); omega

theorem out_eq (x0 x1 : Vec Ideal S2048x1024 .bf16) : out0_2 x0 x1 = blockVal x0 x1 := by
  unfold out0_2
  rw [View.ld_unit_zero (S := S2048x1024) z2, View.ld_unit_zero (S := S2048x1024) z2]
  funext y
  refine View.canon_apply_of_pieces (blockVal x0 x1) _ (fun p hp x => ?_) y (cover0_2 _ _ _ _ y)
  simp only [List.mem_cons, List.not_mem_nil, or_false] at hp
  rcases hp with rfl | rfl | rfl | rfl
  · exact piece_eq 3 (by omega) inb_S4x1024x256_S1x1024x256_3_0_0 x0 x1 (k0_pay5 x0 x1) (pay5_apply x0 x1) x
  · exact piece_eq 2 (by omega) inb_S4x1024x256_S1x1024x256_2_0_0 x0 x1 (k0_pay4 x0 x1) (pay4_apply x0 x1) x
  · exact piece_eq 1 (by omega) inb_S4x1024x256_S1x1024x256_1_0_0 x0 x1 (k0_pay3 x0 x1) (pay3_apply x0 x1) x
  · exact piece_eq 0 (by omega) inb_S4x1024x256_S1x1024x256_0_0_0 x0 x1 (k0_pay2 x0 x1) (fun q l => (pay2_apply x0 x1 q l).trans
      (by simp only [Nat.zero_mul, Nat.zero_add])) x

/-- Which blocks of the operands a point reads, by the block it writes. -/
theorem idx_facts : ∀ t : Fin cfg0.N,
    win0_0.index t 0 = 0 ∧ win0_0.index t 1 = 0 ∧ win0_1.index t 0 = 0 ∧ win0_1.index t 1 = win0_2.index t 0
    ∧ win0_2.index t 1 = 0 ∧ win0_2.index t 2 = 0 ∧ win0_2.index t 0 < 2 :=
  (by decide +kernel : ∀ t : Fin grid0.N,
    win0_0.index t 0 = 0 ∧ win0_0.index t 1 = 0 ∧ win0_1.index t 0 = 0 ∧ win0_1.index t 1 = win0_2.index t 0
    ∧ win0_2.index t 1 = 0 ∧ win0_2.index t 2 = 0 ∧ win0_2.index t 0 < 2)

/-- Every block of the output is some point's. -/
theorem idx_onto : ∀ a : Fin 2, ∃ t : Fin cfg0.N, win0_2.flush t = true ∧ win0_2.index t 0 = a.val :=
  (by decide +kernel : ∀ a : Fin 2, ∃ t : Fin grid0.N, win0_2.flush t = true ∧ win0_2.index t 0 = a.val)

/-- The gradient of the pooled branch's output weights, by planes of 256 columns. -/
def val (z : FVec Ideal S2048x1024 .f32) (dy : FVec Ideal S2048x2048 .bf16) : FVec Ideal S8x1024x256 .bf16 :=
  fun j => ∑ k : Fin 2048, z (ix2 k (j 1)) * dy (ix2 k ⟨(j 0).val * 256 + (j 2).val, by
    have h0 : (j 0).val < 8 := (j 0).isLt
    have h2 : (j 2).val < 256 := (j 2).isLt
    show _ < 2048
    omega⟩)

variable (m : (ℓ : Loc nD τ sig) → Buf (Elt Ideal) ℓ) (ρ : Dev nD → PrngReg)

/-- The arguments the gradient depends on, as launched. -/
abbrev argA (c : Dev nD) : FVec Ideal S2048x1024 .f32 := m ((c : Thread nD τ).loc main_arg0)
abbrev argD (c : Dev nD) : FVec Ideal S2048x2048 .bf16 := m ((c : Thread nD τ).loc main_arg2)

theorem V0 (c : Dev nD) : (V m c main_v0 : FVec Ideal S2048x1024 .bf16) = truncf .bf16 (argA m c) bitsLt_bf16_f32 := by
  unfold V hostOps0
  after_results

/-- A block read from these arguments is the corresponding block of the gradient. -/
theorem blockVal_val (x0 x1 : Vec Ideal S2048x1024 .bf16) (z : FVec Ideal S2048x1024 .f32) (dy : FVec Ideal S2048x2048 .bf16)
    (s : Fin 4) (q : Fin 1024) (l : Fin 256) (P : Fin 8)
    (h0 : ∀ k : Fin 2048, x0 (ix2 k q) = z (ix2 k q))
    (h1 : ∀ k : Fin 2048, x1 (ix2 k (⟨s.val * 256 + l.val, by omega⟩ : Fin 1024)) = dy (ix2 k ⟨P.val * 256 + l.val, by omega⟩)) :
    blockVal x0 x1 (ix3 s q l) = val z dy (ix3 P q l) :=
  Finset.sum_congr rfl fun k _ => congrArg₂ (fun a b : EReal => a * b) (h0 k) (h1 k)

theorem flushed_eq (c : Dev nD) (t : Fin cfg0.N) :
    (dats m 0 c).flushed 2 t = ((cfg0.win 2).blk t).view.read (Elt Ideal) (val (argA m c) (argD m c)) := by
  rw [Value.flushed2, out_eq]
  obtain ⟨h00, h01, h10, h11, h21, h22, hb⟩ := idx_facts t
  funext j
  obtain ⟨s, q, l, rfl⟩ : ∃ (s : Fin 4) (q : Fin 1024) (l : Fin 256), j = ix3 s q l := ⟨j 0, j 1, j 2, eq_ix3 j⟩
  have hP : (win0_2.rect t).idx (ix3 s q l) = ix3 (⟨win0_2.index t 0 * 4 + s.val, by omega⟩ : Fin 8) q l := funext fun a => Fin.ext <|
    match a with
    | ⟨0, _⟩ => by show win0_2.index t 0 * 4 + 1 * s.val = win0_2.index t 0 * 4 + s.val; omega
    | ⟨1, _⟩ => by show win0_2.index t 1 * 1024 + 1 * q.val = q.val; rw [h21]; omega
    | ⟨2, _⟩ => by show win0_2.index t 2 * 256 + 1 * l.val = l.val; rw [h22]; omega
  refine (blockVal_val (iblk m c 0 t) (iblk m c 1 t) (argA m c) (argD m c) s q l (⟨win0_2.index t 0 * 4 + s.val, by omega⟩ : Fin 8)
    (fun k => ?_) fun k => ?_).trans (congrArg (val (argA m c) (argD m c)) hP.symm)
  · show (V m c main_v0 : FVec Ideal S2048x1024 .bf16) _ = _
    rw [V0]
    exact congrArg (argA m c) <| funext fun a => Fin.ext <|
      match a with
      | ⟨0, _⟩ => by show win0_0.index t 0 * 2048 + 1 * k.val = k.val; rw [h00]; omega
      | ⟨1, _⟩ => by show win0_0.index t 1 * 1024 + 1 * q.val = q.val; rw [h01]; omega
  · show V m c main_arg2 _ = _
    rw [V_main_arg2]
    exact congrArg (argD m c) <| funext fun a => Fin.ext <|
      match a with
      | ⟨0, _⟩ => by show win0_1.index t 0 * 2048 + 1 * k.val = k.val; rw [h10]; omega
      | ⟨1, _⟩ => by show win0_1.index t 1 * 1024 + 1 * (s.val * 256 + l.val) = (win0_2.index t 0 * 4 + s.val) * 256 + l.val; rw [h11]; omega

theorem final (c : Dev nD) : (dats m 0 c).arrAt 2 cfg0.N = val (argA m c) (argD m c) :=
  (dats m 0 c).arrAt_eq_of_cover 2 _ (fun t _ => flushed_eq m c t) fun i => by
    have h0 : (i 0 : Nat) < 8 := (i 0).isLt
    have h1 : (i 1 : Nat) < 1024 := (i 1).isLt
    have h2 : (i 2 : Nat) < 256 := (i 2).isLt
    obtain ⟨t, ht, ha⟩ := idx_onto ⟨(i 0 : Nat) / 4, by omega⟩
    obtain ⟨-, -, -, -, h21, h22, -⟩ := idx_facts t
    refine ⟨t, ht, ?_⟩
    show i ∈ ((View.whole main_v1).slice (win0_2.rect t)).set
    rw [View.set_slice_whole, Rect.mem_set_unit]
    intro a
    match a with
    | ⟨0, _⟩ => show win0_2.index t 0 * 4 ≤ (i 0 : Nat) ∧ (i 0 : Nat) < win0_2.index t 0 * 4 + 4; rw [ha]; dsimp only; omega
    | ⟨1, _⟩ => show win0_2.index t 1 * 1024 ≤ (i 1 : Nat) ∧ (i 1 : Nat) < win0_2.index t 1 * 1024 + 1024; rw [h21]; omega
    | ⟨2, _⟩ => show win0_2.index t 2 * 256 ≤ (i 2 : Nat) ∧ (i 2 : Nat) < win0_2.index t 2 * 256 + 256; rw [h22]; omega

theorem claim : Cert.algebraic_GpoIdeal_RefGpoIdeal (hGpoIdeal := Cert.GpoIdeal.Gen.facts) (hRefGpoIdeal := Cert.RefGpoIdeal.Gen.facts) := by
  intro m g m' g' _ hargs
  refine ⟨fun c => val (argA m c) (argD m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefGpoIdeal.Value.run (F := Ideal) m' g')
    obtain ⟨hv, hr⟩ := h c
    refine ⟨hv.trans ?_, hr⟩
    rw [(hargs c).1, (hargs c).2.2]
    funext j
    simp only [argA, argD]
    unfold val
    pointwise
    ac_rfl

end Cert.Proof.Gpo

end
-- ==== Proof.Dpo.lean ====
module

public import proofs.«01_k».proof.Defs
public import proofs.«01_k».proof.Proof.Gen.Dpo.Frame
public import proofs.«01_k».proof.Proof.Gen.DpoIdeal.Value
public import proofs.«01_k».proof.Proof.Gen.RefDpoIdeal.Run
public import Idealize.ShloMosaic.Lib.Pipeline.Value
public import Idealize.ShloMosaic.Lib.Pointwise
public import proofs.«01_k».proof.Proof.Common

@[expose] public section

set_option maxRecDepth 16384

noncomputable section

namespace Cert.Proof.Dpo

open Idealize.ShloMosaic Idealize.SL.Sem Cert.DpoIdeal
open Cert.DpoIdeal.Gen Idealize.ShloMosaic.TcCoe
open Cert.Proof.Common
open Idealize.ShloMosaic.Pipeline (Dat Cfg Window)

/-- One plane of the eight a block of the weights holds. -/
def plane (x : Vec Ideal S8x1024x256 .bf16) (s : Nat) (h : ∀ a, (![s, 0, 0] : Fin 3 → Nat) a + S1x1024x256.size a ≤ S8x1024x256.size a) :
    Vec Ideal S1x1024x256 .bf16 := View.ld x (Rect.unit (s := S8x1024x256) ![s, 0, 0] S1x1024x256.size h)

theorem plane_apply (x : Vec Ideal S8x1024x256 .bf16) (s : Nat) (hs : s < 8) (h) (l : Fin 1024) (k : Fin 256) :
    plane x s h (ix3 0 l k) = x (ix3 ⟨s, hs⟩ l k) := by
  show x _ = x _
  exact congrArg x <| funext fun a => Fin.ext <|
    match a with
    | ⟨0, _⟩ => by show s + 1 * 0 = s; omega
    | ⟨1, _⟩ => by show 0 + 1 * l.val = l.val; omega
    | ⟨2, _⟩ => by show 0 + 1 * k.val = k.val; omega

theorem pay_apply (x0 : Vec Ideal S1024x2048 .bf16) (p0 p1 p2 p3 p4 p5 p6 p7 : Vec Ideal S1x1024x256 .bf16) (r l : Fin 1024) :
    k0_pay1 x0 (k0_pay2 x0 p0 p1 p2 p3 p4 p5) (k0_pay3 x0) p6 p7 (ix2 r l)
      = (∑ k : Fin 256, x0 (ix2 r ⟨k.val, by omega⟩) * p0 (ix3 0 l k))
        + (∑ k : Fin 256, x0 (ix2 r ⟨256 + k.val, by omega⟩) * p1 (ix3 0 l k))
        + (∑ k : Fin 256, x0 (ix2 r ⟨512 + k.val, by omega⟩) * p2 (ix3 0 l k))
        + (∑ k : Fin 256, x0 (ix2 r ⟨768 + k.val, by omega⟩) * p3 (ix3 0 l k))
        + (∑ k : Fin 256, x0 (ix2 r ⟨1024 + k.val, by omega⟩) * p4 (ix3 0 l k))
        + (∑ k : Fin 256, x0 (ix2 r ⟨1280 + k.val, by omega⟩) * p5 (ix3 0 l k))
        + (∑ k : Fin 256, x0 (ix2 r ⟨1536 + k.val, by omega⟩) * p6 (ix3 0 l k))
        + (∑ k : Fin 256, x0 (ix2 r ⟨1792 + k.val, by omega⟩) * p7 (ix3 0 l k)) := by
  pointwise [k0_pay1, k0_pay2, k0_pay3]

theorem out_eq (x0 : Vec Ideal S1024x2048 .bf16) (x1 : Vec Ideal S8x1024x256 .bf16) (r l : Fin 1024) :
    out0_2 x0 x1 (ix2 r l) = ∑ s : Fin 8, ∑ k : Fin 256, x0 (ix2 r ⟨s.val * 256 + k.val, by omega⟩) * x1 (ix3 s l k) := by
  have e : out0_2 x0 x1 = k0_pay1 x0 (k0_pay2 x0 (plane x1 0 inb_S8x1024x256_S1x1024x256_0_0_0) (plane x1 1 inb_S8x1024x256_S1x1024x256_1_0_0) (plane x1 2 inb_S8x1024x256_S1x1024x256_2_0_0) (plane x1 3 inb_S8x1024x256_S1x1024x256_3_0_0) (plane x1 4 inb_S8x1024x256_S1x1024x256_4_0_0) (plane x1 5 inb_S8x1024x256_S1x1024x256_5_0_0))
      (k0_pay3 x0) (plane x1 6 inb_S8x1024x256_S1x1024x256_6_0_0) (plane x1 7 inb_S8x1024x256_S1x1024x256_7_0_0) := by
    unfold out0_2
    rw [View.canon_unit_zero z2, View.ld_unit_zero (S := S1024x2048) z2]
    rfl
  rw [e, pay_apply, Fin.sum_univ_eight]
  simp only [plane_apply x1 0 (by omega), plane_apply x1 1 (by omega), plane_apply x1 2 (by omega), plane_apply x1 3 (by omega), plane_apply x1 4 (by omega), plane_apply x1 5 (by omega), plane_apply x1 6 (by omega), plane_apply x1 7 (by omega)]
  simp only [show (0 : Fin 8).val = 0 from rfl, show (1 : Fin 8).val = 1 from rfl, show (2 : Fin 8).val = 2 from rfl, show (3 : Fin 8).val = 3 from rfl, show (4 : Fin 8).val = 4 from rfl, show (5 : Fin 8).val = 5 from rfl, show (6 : Fin 8).val = 6 from rfl, show (7 : Fin 8).val = 7 from rfl, Nat.zero_mul, Nat.zero_add, Nat.one_mul, Nat.reduceMul]
  rfl

/-- Which blocks of the operands a point reads, by the block it writes. -/
theorem idx_facts : ∀ t : Fin cfg0.N,
    win0_0.index t 0 = win0_2.index t 0 ∧ win0_0.index t 1 = 0 ∧ win0_1.index t 0 = 0 ∧ win0_1.index t 1 = 0
    ∧ win0_1.index t 2 = 0 ∧ win0_2.index t 1 = 0 :=
  (by decide +kernel : ∀ t : Fin grid0.N,
    win0_0.index t 0 = win0_2.index t 0 ∧ win0_0.index t 1 = 0 ∧ win0_1.index t 0 = 0 ∧ win0_1.index t 1 = 0
    ∧ win0_1.index t 2 = 0 ∧ win0_2.index t 1 = 0)

/-- Every block of the output is some point's. -/
theorem idx_onto : ∀ a : Fin 2, ∃ t : Fin cfg0.N, win0_2.flush t = true ∧ win0_2.index t 0 = a.val :=
  (by decide +kernel : ∀ a : Fin 2, ∃ t : Fin grid0.N, win0_2.flush t = true ∧ win0_2.index t 0 = a.val)

/-- The gradient of the pooled branch, element by element. -/
def val (w : FVec Ideal S1024x2048 .f32) (dy : FVec Ideal S2048x2048 .bf16) : FVec Ideal S2048x1024 .f32 :=
  fun j => ∑ k : Fin 2048, dy (ix2 (j 0) k) * w (ix2 (j 1) k)

variable (m : (ℓ : Loc nD τ sig) → Buf (Elt Ideal) ℓ) (ρ : Dev nD → PrngReg)

/-- The arguments the gradient depends on, as launched. -/
abbrev argW (c : Dev nD) : FVec Ideal S1024x2048 .f32 := m ((c : Thread nD τ).loc main_arg1)
abbrev argD (c : Dev nD) : FVec Ideal S2048x2048 .bf16 := m ((c : Thread nD τ).loc main_arg2)

theorem V2 (c : Dev nD) : (V m c main_v2 : FVec Ideal S8x1024x256 .bf16)
    = truncf .bf16 (transpose S8x1024x256 [1, 0, 2] (shapeCast S1024x8x256 (argW m c) shapeCasts_S1024x2048_S1024x8x256) transposes_S1024x8x256_S8x1024x256_1_0_2) bitsLt_bf16_f32 := by
  unfold V hostOps0
  after_results
  rfl

theorem V2_apply (c : Dev nD) (p : Fin 8) (q : Fin 1024) (l : Fin 256) :
    (V m c main_v2 : FVec Ideal S8x1024x256 .bf16) (ix3 p q l) = argW m c (ix2 q ⟨p.val * 256 + l.val, by omega⟩) := by
  rw [V2]
  pointwise

/-- A block whose rows and planes are those of the arguments is the corresponding block of the gradient. -/
theorem out_val (x0 : Vec Ideal S1024x2048 .bf16) (x1 : Vec Ideal S8x1024x256 .bf16) (w : FVec Ideal S1024x2048 .f32) (dy : FVec Ideal S2048x2048 .bf16)
    (r l : Fin 1024) (R : Fin 2048) (h0 : ∀ k : Fin 2048, x0 (ix2 r k) = dy (ix2 R k))
    (h1 : ∀ (s : Fin 8) (k : Fin 256), x1 (ix3 s l k) = w (ix2 l ⟨s.val * 256 + k.val, by omega⟩)) :
    out0_2 x0 x1 (ix2 r l) = val w dy (ix2 R l) := by
  rw [out_eq]
  refine Eq.trans ?_ (sum_runs 8 256 fun k => dy (ix2 R k) * w (ix2 l k)).symm
  exact Finset.sum_congr rfl fun s _ => Finset.sum_congr rfl fun k _ => congrArg₂ (fun a b : EReal => a * b) (h0 _) (h1 s k)

theorem flushed_eq (c : Dev nD) (t : Fin cfg0.N) :
    (dats m 0 c).flushed 2 t = ((cfg0.win 2).blk t).view.read (Elt Ideal) (val (argW m c) (argD m c)) := by
  rw [Value.flushed2]
  obtain ⟨h00, h01, h10, h11, h12, h21⟩ := idx_facts t
  funext j
  obtain ⟨r, l, rfl⟩ : ∃ (r l : Fin 1024), j = ix2 r l := ⟨j 0, j 1, eq_ix2 j⟩
  have hR : (win0_2.rect t).idx (ix2 r l) = ix2 ((win0_2.rect t).idx (ix2 r l) 0) l := funext fun a => Fin.ext <|
    match a with
    | ⟨0, _⟩ => rfl
    | ⟨1, _⟩ => by show win0_2.index t 1 * 1024 + 1 * l.val = l.val; rw [h21]; omega
  refine (out_val (iblk m c 0 t) (iblk m c 1 t) (argW m c) (argD m c) r l ((win0_2.rect t).idx (ix2 r l) 0) (fun k => ?_) fun s k => ?_).trans
    (congrArg (val (argW m c) (argD m c)) hR.symm)
  · show V m c main_arg2 _ = _
    rw [V_main_arg2]
    exact congrArg (argD m c) <| funext fun a => Fin.ext <|
      match a with
      | ⟨0, _⟩ => by show win0_0.index t 0 * 1024 + 1 * r.val = win0_2.index t 0 * 1024 + 1 * r.val; rw [h00]
      | ⟨1, _⟩ => by show win0_0.index t 1 * 2048 + 1 * k.val = k.val; rw [h01]; omega
  · show (V m c main_v2 : FVec Ideal S8x1024x256 .bf16) _ = _
    have : (win0_1.blk t).view.emb (ix3 s l k) = ix3 s l k := funext fun a => Fin.ext <|
      match a with
      | ⟨0, _⟩ => by show win0_1.index t 0 * 8 + 1 * s.val = s.val; rw [h10]; omega
      | ⟨1, _⟩ => by show win0_1.index t 1 * 1024 + 1 * l.val = l.val; rw [h11]; omega
      | ⟨2, _⟩ => by show win0_1.index t 2 * 256 + 1 * k.val = k.val; rw [h12]; omega
    rw [this]
    exact V2_apply m c s l k

theorem final (c : Dev nD) : (dats m 0 c).arrAt 2 cfg0.N = val (argW m c) (argD m c) :=
  (dats m 0 c).arrAt_eq_of_cover 2 _ (fun t _ => flushed_eq m c t) fun i => by
    have h0 : (i 0 : Nat) < 2048 := (i 0).isLt
    have h1 : (i 1 : Nat) < 1024 := (i 1).isLt
    obtain ⟨t, ht, ha⟩ := idx_onto ⟨(i 0 : Nat) / 1024, by omega⟩
    obtain ⟨-, -, -, -, -, h21⟩ := idx_facts t
    refine ⟨t, ht, ?_⟩
    show i ∈ ((View.whole main_v3).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [ha]; dsimp only; omega
    | ⟨1, _⟩ => show win0_2.index t 1 * 1024 ≤ (i 1 : Nat) ∧ (i 1 : Nat) < win0_2.index t 1 * 1024 + 1024; rw [h21]; omega

theorem claim : Cert.algebraic_DpoIdeal_RefDpoIdeal (hDpoIdeal := Cert.DpoIdeal.Gen.facts) (hRefDpoIdeal := Cert.RefDpoIdeal.Gen.facts) := by
  intro m g m' g' _ hargs
  refine ⟨fun c => val (argW m c) (argD m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefDpoIdeal.Value.run (F := Ideal) m' g')
    obtain ⟨hv, hr⟩ := h c
    refine ⟨hv.trans ?_, hr⟩
    rw [(hargs c).2.1, (hargs c).2.2]
    funext j
    unfold val
    pointwise

end Cert.Proof.Dpo

end
-- ==== Proof.Dpm.lean ====
module

public import proofs.«01_k».proof.Defs
public import proofs.«01_k».proof.Proof.Gen.Dpm.Frame
public import proofs.«01_k».proof.Proof.Gen.DpmIdeal.Value
public import proofs.«01_k».proof.Proof.Gen.RefDpmIdeal.Run
public import Idealize.ShloMosaic.Lib.Pipeline.Value
public import Idealize.ShloMosaic.Lib.Pointwise
public import proofs.«01_k».proof.Proof.Common

@[expose] public section

set_option maxRecDepth 16384

noncomputable section

namespace Cert.Proof.Dpm

open Idealize.ShloMosaic Idealize.SL.Sem Cert.DpmIdeal
open Cert.DpmIdeal.Gen Idealize.ShloMosaic.TcCoe
open Cert.Proof.Common
open Idealize.ShloMosaic.Pipeline (Dat Cfg Window)

/-- What a point stores, element by element: a row of the cotangents of one window against a row of that window's weights. -/
theorem out_apply (x0 : Vec Ideal S1024x256 .bf16) (x1 : Vec Ideal S1x256x256 .bf16) (r : Fin 1024) (l : Fin 256) :
    out0_2 x0 x1 (ix2 r l) = ∑ k : Fin 256, x0 (ix2 r k) * x1 (ix3 0 l k) := by
  unfold out0_2
  rw [View.canon_unit_zero z2, View.ld_unit_zero (S := S1024x256) z2, View.ld_unit_zero (S := S1x256x256) z3]
  pointwise [k0_pay1]

/-- Which blocks of the operands a point reads, by the block it writes. -/
theorem idx_facts : ∀ t : Fin cfg0.N,
    win0_0.index t 0 = win0_2.index t 0 ∧ win0_0.index t 1 = win0_2.index t 1 ∧ win0_1.index t 0 = win0_2.index t 1
    ∧ win0_1.index t 1 = 0 ∧ win0_1.index t 2 = 0 ∧ win0_2.index t 1 < 4 :=
  (by decide +kernel : ∀ t : Fin grid0.N,
    win0_0.index t 0 = win0_2.index t 0 ∧ win0_0.index t 1 = win0_2.index t 1 ∧ win0_1.index t 0 = win0_2.index t 1
    ∧ win0_1.index t 1 = 0 ∧ win0_1.index t 2 = 0 ∧ win0_2.index t 1 < 4)

/-- Every block of the output is some point's. -/
theorem idx_onto : ∀ a : Fin 2, ∀ b : Fin 4, ∃ t : Fin cfg0.N, win0_2.flush t = true ∧ win0_2.index t 0 = a.val ∧ win0_2.index t 1 = b.val :=
  (by decide +kernel : ∀ a : Fin 2, ∀ b : Fin 4, ∃ t : Fin grid0.N, win0_2.flush t = true ∧ win0_2.index t 0 = a.val ∧ win0_2.index t 1 = b.val)

/-- One element of the gradient of the pooled windows: row `s`, window `g`, place `l` in it. -/
def val3 (w : FVec Ideal S4x256x256 .f32) (dy : FVec Ideal S2048x1024 .bf16) (s : Fin 2048) (g : Fin 4) (l : Fin 256) : EReal :=
  ∑ k : Fin 256, dy (ix2 s ⟨g.val * 256 + k.val, by omega⟩) * w (ix3 g l k)

/-- The gradient of the pooled windows. -/
def val (w : FVec Ideal S4x256x256 .f32) (dy : FVec Ideal S2048x1024 .bf16) : FVec Ideal S2048x1024 .f32 :=
  fun j => val3 w dy (j 0) ⟨(j 1).val / 256, by have : (j 1).val < 1024 := (j 1).isLt; omega⟩ ⟨(j 1).val % 256, by omega⟩

theorem val_apply (w : FVec Ideal S4x256x256 .f32) (dy : FVec Ideal S2048x1024 .bf16) (s : Fin 2048) (g : Fin 4) (l : Fin 256) (C : Fin 1024)
    (hC : C.val = g.val * 256 + l.val) : val w dy (ix2 s C) = val3 w dy s g l := by
  show val3 w dy s _ _ = _
  exact congrArg₂ (val3 w dy s) (Fin.ext (by show C.val / 256 = g.val; omega)) (Fin.ext (by show C.val % 256 = l.val; omega))

variable (m : (ℓ : Loc nD τ sig) → Buf (Elt Ideal) ℓ) (ρ : Dev nD → PrngReg)

/-- The arguments the gradient depends on, as launched. -/
abbrev argW (c : Dev nD) : FVec Ideal S4x256x256 .f32 := m ((c : Thread nD τ).loc main_arg1)
abbrev argD (c : Dev nD) : FVec Ideal S2048x1024 .bf16 := m ((c : Thread nD τ).loc main_arg2)

theorem V0 (c : Dev nD) : (V m c main_v0 : FVec Ideal S4x256x256 .bf16) = truncf .bf16 (argW m c) bitsLt_bf16_f32 := by
  unfold V hostOps0
  after_results

/-- A block read from these arguments is the corresponding block of the gradient. -/
theorem out_val (x0 : Vec Ideal S1024x256 .bf16) (x1 : Vec Ideal S1x256x256 .bf16) (w : FVec Ideal S4x256x256 .f32) (dy : FVec Ideal S2048x1024 .bf16)
    (r : Fin 1024) (l : Fin 256) (s : Fin 2048) (g : Fin 4) (h0 : ∀ k : Fin 256, x0 (ix2 r k) = dy (ix2 s ⟨g.val * 256 + k.val, by omega⟩))
    (h1 : ∀ k : Fin 256, x1 (ix3 0 l k) = w (ix3 g l k)) :
    out0_2 x0 x1 (ix2 r l) = val3 w dy s g l :=
  (out_apply x0 x1 r l).trans (Finset.sum_congr rfl fun k _ => congrArg₂ (fun a b : EReal => a * b) (h0 k) (h1 k))

theorem flushed_eq (c : Dev nD) (t : Fin cfg0.N) :
    (dats m 0 c).flushed 2 t = ((cfg0.win 2).blk t).view.read (Elt Ideal) (val (argW m c) (argD m c)) := by
  rw [Value.flushed2]
  obtain ⟨h00, h01, h10, h11, h12, hb⟩ := idx_facts t
  funext j
  obtain ⟨r, l, rfl⟩ : ∃ (r : Fin 1024) (l : Fin 256), j = ix2 r l := ⟨j 0, j 1, eq_ix2 j⟩
  have hj : (win0_2.rect t).idx (ix2 r l) = ix2 ((win0_2.rect t).idx (ix2 r l) 0) (⟨win0_2.index t 1 * 256 + l.val, by omega⟩ : Fin 1024) := funext fun a => Fin.ext <|
    match a with
    | ⟨0, _⟩ => rfl
    | ⟨1, _⟩ => by show win0_2.index t 1 * 256 + 1 * l.val = win0_2.index t 1 * 256 + l.val; omega
  refine (out_val (iblk m c 0 t) (iblk m c 1 t) (argW m c) (argD m c) r l ((win0_2.rect t).idx (ix2 r l) 0) ⟨win0_2.index t 1, hb⟩ (fun k => ?_) fun k => ?_).trans
    ((congrArg (val (argW m c) (argD m c)) hj).trans (val_apply (argW m c) (argD m c) ((win0_2.rect t).idx (ix2 r l) 0) ⟨win0_2.index t 1, hb⟩ l
      (⟨win0_2.index t 1 * 256 + l.val, by omega⟩ : Fin 1024) rfl)).symm
  · show V m c main_arg2 _ = _
    rw [V_main_arg2]
    exact congrArg (argD m c) <| funext fun a => Fin.ext <|
      match a with
      | ⟨0, _⟩ => by show win0_0.index t 0 * 1024 + 1 * r.val = win0_2.index t 0 * 1024 + 1 * r.val; rw [h00]
      | ⟨1, _⟩ => by show win0_0.index t 1 * 256 + 1 * k.val = win0_2.index t 1 * 256 + k.val; rw [h01]; omega
  · show (V m c main_v0 : FVec Ideal S4x256x256 .bf16) _ = _
    rw [V0]
    exact congrArg (argW m c) <| funext fun a => Fin.ext <|
      match a with
      | ⟨0, _⟩ => by show win0_1.index t 0 * 1 + 1 * 0 = win0_2.index t 1; rw [h10]; omega
      | ⟨1, _⟩ => by show win0_1.index t 1 * 256 + 1 * l.val = l.val; rw [h11]; omega
      | ⟨2, _⟩ => by show win0_1.index t 2 * 256 + 1 * k.val = k.val; rw [h12]; omega

theorem final (c : Dev nD) : (dats m 0 c).arrAt 2 cfg0.N = val (argW m c) (argD m c) :=
  (dats m 0 c).arrAt_eq_of_cover 2 _ (fun t _ => flushed_eq m c t) fun i => by
    have h0 : (i 0 : Nat) < 2048 := (i 0).isLt
    have h1 : (i 1 : Nat) < 1024 := (i 1).isLt
    obtain ⟨t, ht, ha, hb⟩ := idx_onto ⟨(i 0 : Nat) / 1024, by omega⟩ ⟨(i 1 : Nat) / 256, by omega⟩
    refine ⟨t, ht, ?_⟩
    show i ∈ ((View.whole main_v1).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [ha]; dsimp only; omega
    | ⟨1, _⟩ => show win0_2.index t 1 * 256 ≤ (i 1 : Nat) ∧ (i 1 : Nat) < win0_2.index t 1 * 256 + 256; rw [hb]; dsimp only; omega

theorem claim : Cert.algebraic_DpmIdeal_RefDpmIdeal (hDpmIdeal := Cert.DpmIdeal.Gen.facts) (hRefDpmIdeal := Cert.RefDpmIdeal.Gen.facts) := by
  intro m g m' g' _ hargs
  refine ⟨fun c => val (argW m c) (argD m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefDpmIdeal.Value.run (F := Ideal) m' g')
    obtain ⟨hv, hr⟩ := h c
    refine ⟨hv.trans ?_, hr⟩
    rw [(hargs c).2.1, (hargs c).2.2]
    funext j
    unfold val val3
    pointwise

end Cert.Proof.Dpm

end
-- ==== Proof.Gpool.lean ====
module

public import proofs.«01_k».proof.Defs
public import proofs.«01_k».proof.Proof.Gen.Gpool.Frame
public import proofs.«01_k».proof.Proof.Gen.GpoolIdeal.Value
public import proofs.«01_k».proof.Proof.Gen.RefGpoolIdeal.Run
public import Idealize.ShloMosaic.Lib.Pipeline.Value
public import Idealize.ShloMosaic.Lib.Pointwise
public import proofs.«01_k».proof.Proof.Common

@[expose] public section

set_option maxRecDepth 16384

noncomputable section

namespace Cert.Proof.Gpool

open Idealize.ShloMosaic Idealize.SL.Sem Cert.GpoolIdeal
open Cert.GpoolIdeal.Gen Idealize.ShloMosaic.TcCoe
open Cert.Proof.Common
open Idealize.ShloMosaic.Pipeline (Dat Cfg Window)

/-- What a point stores, element by element: a column of one window against a column of its cotangents. -/
theorem out_apply (x0 x1 : Vec Ideal S2048x256 .bf16) (q l : Fin 256) :
    out0_2 x0 x1 (ix3 0 q l) = ∑ k : Fin 2048, x0 (ix2 k q) * x1 (ix2 k l) := by
  unfold out0_2
  rw [View.canon_unit_zero z3, View.ld_unit_zero (S := S2048x256) z2, View.ld_unit_zero (S := S2048x256) z2]
  pointwise [k0_pay1]

/-- Which blocks of the operands a point reads, by the block it writes. -/
theorem idx_facts : ∀ t : Fin cfg0.N,
    win0_0.index t 0 = 0 ∧ win0_0.index t 1 = win0_2.index t 0 ∧ win0_1.index t 0 = 0 ∧ win0_1.index t 1 = win0_2.index t 0
    ∧ win0_2.index t 1 = 0 ∧ win0_2.index t 2 = 0 ∧ win0_2.index t 0 < 4 :=
  (by decide +kernel : ∀ t : Fin grid0.N,
    win0_0.index t 0 = 0 ∧ win0_0.index t 1 = win0_2.index t 0 ∧ win0_1.index t 0 = 0 ∧ win0_1.index t 1 = win0_2.index t 0
    ∧ win0_2.index t 1 = 0 ∧ win0_2.index t 2 = 0 ∧ win0_2.index t 0 < 4)

/-- Every block of the output is some point's. -/
theorem idx_onto : ∀ a : Fin 4, ∃ t : Fin cfg0.N, win0_2.flush t = true ∧ win0_2.index t 0 = a.val :=
  (by decide +kernel : ∀ a : Fin 4, ∃ t : Fin grid0.N, win0_2.flush t = true ∧ win0_2.index t 0 = a.val)

/-- The gradient of the windows' weights, element by element. -/
def val (p : FVec Ideal S2048x1024 .f32) (dy : FVec Ideal S2048x1024 .bf16) : FVec Ideal S4x256x256 .bf16 :=
  fun j => ∑ k : Fin 2048, p (ix2 k ⟨(j 0).val * 256 + (j 1).val, by
      have h0 : (j 0).val < 4 := (j 0).isLt
      have h1 : (j 1).val < 256 := (j 1).isLt
      show _ < 1024
      omega⟩)
    * dy (ix2 k ⟨(j 0).val * 256 + (j 2).val, by
      have h0 : (j 0).val < 4 := (j 0).isLt
      have h2 : (j 2).val < 256 := (j 2).isLt
      show _ < 1024
      omega⟩)

variable (m : (ℓ : Loc nD τ sig) → Buf (Elt Ideal) ℓ) (ρ : Dev nD → PrngReg)

/-- The arguments the gradient depends on, as launched. -/
abbrev argA (c : Dev nD) : FVec Ideal S2048x1024 .f32 := m ((c : Thread nD τ).loc main_arg0)
abbrev argD (c : Dev nD) : FVec Ideal S2048x1024 .bf16 := m ((c : Thread nD τ).loc main_arg2)

theorem V0 (c : Dev nD) : (V m c main_v0 : FVec Ideal S2048x1024 .bf16) = truncf .bf16 (argA m c) bitsLt_bf16_f32 := by
  unfold V hostOps0
  after_results

/-- A block read from these arguments is the corresponding block of the gradient. -/
theorem out_val (x0 x1 : Vec Ideal S2048x256 .bf16) (p : FVec Ideal S2048x1024 .f32) (dy : FVec Ideal S2048x1024 .bf16) (q l : Fin 256) (g : Fin 4)
    (h0 : ∀ k : Fin 2048, x0 (ix2 k q) = p (ix2 k ⟨g.val * 256 + q.val, by omega⟩))
    (h1 : ∀ k : Fin 2048, x1 (ix2 k l) = dy (ix2 k ⟨g.val * 256 + l.val, by omega⟩)) :
    out0_2 x0 x1 (ix3 0 q l) = val p dy (ix3 g q l) :=
  (out_apply x0 x1 q l).trans (Finset.sum_congr rfl fun k _ => congrArg₂ (fun a b : EReal => a * b) (h0 k) (h1 k))

theorem flushed_eq (c : Dev nD) (t : Fin cfg0.N) :
    (dats m 0 c).flushed 2 t = ((cfg0.win 2).blk t).view.read (Elt Ideal) (val (argA m c) (argD m c)) := by
  rw [Value.flushed2]
  obtain ⟨h00, h01, h10, h11, h21, h22, hb⟩ := idx_facts t
  funext j
  obtain ⟨s, q, l, rfl⟩ : ∃ (s : Fin 1) (q l : Fin 256), j = ix3 s q l := ⟨j 0, j 1, j 2, eq_ix3 j⟩
  obtain rfl : s = 0 := Subsingleton.elim _ _
  have hj : (win0_2.rect t).idx (ix3 0 q l) = ix3 (⟨win0_2.index t 0, hb⟩ : Fin 4) q l := funext fun a => Fin.ext <|
    match a with
    | ⟨0, _⟩ => by show win0_2.index t 0 * 1 + 1 * 0 = win0_2.index t 0; omega
    | ⟨1, _⟩ => by show win0_2.index t 1 * 256 + 1 * q.val = q.val; rw [h21]; omega
    | ⟨2, _⟩ => by show win0_2.index t 2 * 256 + 1 * l.val = l.val; rw [h22]; omega
  refine (out_val (iblk m c 0 t) (iblk m c 1 t) (argA m c) (argD m c) q l ⟨win0_2.index t 0, hb⟩ (fun k => ?_) fun k => ?_).trans
    (congrArg (val (argA m c) (argD m c)) hj.symm)
  · show (V m c main_v0 : FVec Ideal S2048x1024 .bf16) _ = _
    rw [V0]
    exact congrArg (argA m c) <| funext fun a => Fin.ext <|
      match a with
      | ⟨0, _⟩ => by show win0_0.index t 0 * 2048 + 1 * k.val = k.val; rw [h00]; omega
      | ⟨1, _⟩ => by show win0_0.index t 1 * 256 + 1 * q.val = win0_2.index t 0 * 256 + q.val; rw [h01]; omega
  · show V m c main_arg2 _ = _
    rw [V_main_arg2]
    exact congrArg (argD m c) <| funext fun a => Fin.ext <|
      match a with
      | ⟨0, _⟩ => by show win0_1.index t 0 * 2048 + 1 * k.val = k.val; rw [h10]; omega
      | ⟨1, _⟩ => by show win0_1.index t 1 * 256 + 1 * l.val = win0_2.index t 0 * 256 + l.val; rw [h11]; omega

theorem final (c : Dev nD) : (dats m 0 c).arrAt 2 cfg0.N = val (argA m c) (argD m c) :=
  (dats m 0 c).arrAt_eq_of_cover 2 _ (fun t _ => flushed_eq m c t) fun i => by
    have h0 : (i 0 : Nat) < 4 := (i 0).isLt
    have h1 : (i 1 : Nat) < 256 := (i 1).isLt
    have h2 : (i 2 : Nat) < 256 := (i 2).isLt
    obtain ⟨t, ht, ha⟩ := idx_onto ⟨(i 0 : Nat), h0⟩
    obtain ⟨-, -, -, -, h21, h22, -⟩ := idx_facts t
    refine ⟨t, ht, ?_⟩
    show i ∈ ((View.whole main_v1).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1; rw [ha]; dsimp only; omega
    | ⟨1, _⟩ => show win0_2.index t 1 * 256 ≤ (i 1 : Nat) ∧ (i 1 : Nat) < win0_2.index t 1 * 256 + 256; rw [h21]; omega
    | ⟨2, _⟩ => show win0_2.index t 2 * 256 ≤ (i 2 : Nat) ∧ (i 2 : Nat) < win0_2.index t 2 * 256 + 256; rw [h22]; omega

theorem claim : Cert.algebraic_GpoolIdeal_RefGpoolIdeal (hGpoolIdeal := Cert.GpoolIdeal.Gen.facts) (hRefGpoolIdeal := Cert.RefGpoolIdeal.Gen.facts) := by
  intro m g m' g' _ hargs
  refine ⟨fun c => val (argA m c) (argD m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefGpoolIdeal.Value.run (F := Ideal) m' g')
    obtain ⟨hv, hr⟩ := h c
    refine ⟨hv.trans ?_, hr⟩
    rw [(hargs c).1, (hargs c).2.2]
    funext j
    simp only [argA, argD]
    unfold val
    pointwise
    ac_rfl

end Cert.Proof.Gpool

end
-- ==== Proof.Proj.lean ====
module

public import proofs.«01_k».proof.Defs
public import proofs.«01_k».proof.Proof.Gen.Proj.Frame
public import proofs.«01_k».proof.Proof.Gen.ProjIdeal.Value
public import proofs.«01_k».proof.Proof.Gen.RefProjIdeal.Run
public import Idealize.ShloMosaic.Lib.Pipeline.Value
public import Idealize.ShloMosaic.Lib.Pointwise
public import proofs.«01_k».proof.Proof.Common

@[expose] public section

set_option maxRecDepth 16384

noncomputable section

namespace Cert.Proof.Proj

open Idealize.ShloMosaic Idealize.SL.Sem Cert.ProjIdeal
open Cert.ProjIdeal.Gen Idealize.ShloMosaic.TcCoe
open Cert.Proof.Common
open Idealize.ShloMosaic.Pipeline (Dat Cfg Window)

/-- What one store holds, element by element: a row against a column of one plane of the weights. -/
theorem pay_apply (x0 : Vec Ideal S1024x2048 .bf16) (w : Vec Ideal S1x2048x768 .bf16) (r : Fin 1024) (l : Fin 768) :
    k0_pay2 x0 w (ix2 r l) = ∑ k : Fin 2048, x0 (ix2 r k) * w (ix3 0 k l) := by
  pointwise [k0_pay2, k0_pay1]

/-- The block a point leaves, read through the planes of its weights: 768 columns to a plane. -/
def blockVal (x0 : Vec Ideal S1024x2048 .bf16) (x1 : Vec Ideal S2x2048x768 .bf16) : Vec Ideal S1024x1536 .f32 :=
  fun y => ∑ k : Fin 2048, x0 (ix2 (y 0) k)
    * x1 (ix3 ⟨(y 1).val / 768, by have : (y 1).val < 1536 := (y 1).isLt; show _ < 2; omega⟩ k ⟨(y 1).val % 768, by show _ < 768; omega⟩)

/-- The store of plane `s` holds the strip of columns it goes to. -/
theorem piece_eq (s : Nat) (hs : s < 2) (h : ∀ a, (![0, s * 768] : Fin 2 → Nat) a + S1024x768.size a ≤ S1024x1536.size a)
    (h' : ∀ a, (![s, 0, 0] : Fin 3 → Nat) a + S1x2048x768.size a ≤ S2x2048x768.size a)
    (x0 : Vec Ideal S1024x2048 .bf16) (x1 : Vec Ideal S2x2048x768 .bf16) (x : S1024x768.Idx) :
    k0_pay2 x0 (View.ld x1 (Rect.unit (s := S2x2048x768) ![s, 0, 0] S1x2048x768.size h')) x
      = blockVal x0 x1 ((Rect.unit (s := S1024x1536) ![0, s * 768] S1024x768.size h).emb x) := by
  obtain ⟨r, l, rfl⟩ : ∃ (r : Fin 1024) (l : Fin 768), x = ix2 r l := ⟨x 0, x 1, eq_ix2 x⟩
  rw [pay_apply]
  refine Finset.sum_congr rfl fun k _ => congrArg₂ (· * ·) (congrArg x0 <| funext fun a => Fin.ext ?_) (congrArg x1 <| funext fun a => Fin.ext ?_)
  · match a with
    | ⟨0, _⟩ => show r.val = 0 + 1 * r.val; omega
    | ⟨1, _⟩ => rfl
  · match a with
    | ⟨0, _⟩ => show s + 1 * 0 = (s * 768 + 1 * l.val) / 768; omega
    | ⟨1, _⟩ => show 0 + 1 * k.val = k.val; omega
    | ⟨2, _⟩ => show 0 + 1 * l.val = (s * 768 + 1 * l.val) % 768; omega

theorem out_eq (x0 : Vec Ideal S1024x2048 .bf16) (x1 : Vec Ideal S2x2048x768 .bf16) : out0_2 x0 x1 = blockVal x0 x1 := by
  unfold out0_2
  rw [View.ld_unit_zero (S := S1024x2048) z2]
  funext y
  refine View.canon_apply_of_pieces (blockVal x0 x1) _ (fun p hp x => ?_) y (cover0_2 _ _ y)
  simp only [List.mem_cons, List.not_mem_nil, or_false] at hp
  rcases hp with rfl | rfl
  · exact piece_eq 1 (by omega) inb_S1024x1536_S1024x768_0_768 _ x0 x1 x
  · exact piece_eq 0 (by omega) inb_S1024x1536_S1024x768_0_0 _ x0 x1 x

/-- Which blocks of the operands a point reads, by the block it writes. -/
theorem idx_facts : ∀ t : Fin cfg0.N,
    win0_0.index t 0 = win0_2.index t 0 ∧ win0_0.index t 1 = 0 ∧ win0_1.index t 0 = win0_2.index t 1
    ∧ win0_1.index t 1 = 0 ∧ win0_1.index t 2 = 0 ∧ win0_2.index t 1 < 4 :=
  (by decide +kernel : ∀ t : Fin grid0.N,
    win0_0.index t 0 = win0_2.index t 0 ∧ win0_0.index t 1 = 0 ∧ win0_1.index t 0 = win0_2.index t 1
    ∧ win0_1.index t 1 = 0 ∧ win0_1.index t 2 = 0 ∧ win0_2.index t 1 < 4)

/-- Every block of the output is some point's. -/
theorem idx_onto : ∀ a : Fin 2, ∀ b : Fin 4, ∃ t : Fin cfg0.N, win0_2.flush t = true ∧ win0_2.index t 0 = a.val ∧ win0_2.index t 1 = b.val :=
  (by decide +kernel : ∀ a : Fin 2, ∀ b : Fin 4, ∃ t : Fin grid0.N, win0_2.flush t = true ∧ win0_2.index t 0 = a.val ∧ win0_2.index t 1 = b.val)

/-- The rows times the input projection, element by element. -/
def val (a : FVec Ideal S2048x2048 .f32) (w : FVec Ideal S2048x6144 .f32) : FVec Ideal S2048x6144 .f32 :=
  fun j => ∑ k : Fin 2048, a (ix2 (j 0) k) * w (ix2 k (j 1))

/-- A block whose rows and planes are those of `a` and `w` is the corresponding block of the product. -/
theorem blockVal_val (x0 : Vec Ideal S1024x2048 .bf16) (x1 : Vec Ideal S2x2048x768 .bf16) (a : FVec Ideal S2048x2048 .f32) (w : FVec Ideal S2048x6144 .f32)
    (r : Fin 1024) (l : Fin 1536) (R : Fin 2048) (C : Fin 6144) (h0 : ∀ k : Fin 2048, x0 (ix2 r k) = a (ix2 R k))
    (h1 : ∀ k : Fin 2048, x1 (ix3 (⟨l.val / 768, by omega⟩ : Fin 2) k (⟨l.val % 768, by omega⟩ : Fin 768)) = w (ix2 k C)) :
    blockVal x0 x1 (ix2 r l) = val a w (ix2 R C) :=
  Finset.sum_congr rfl fun k _ => congrArg₂ (fun a b : EReal => a * b) (h0 k) (h1 k)

variable (m : (ℓ : Loc nD τ sig) → Buf (Elt Ideal) ℓ) (ρ : Dev nD → PrngReg)

/-- The two arguments as launched. -/
abbrev argA (c : Dev nD) : FVec Ideal S2048x2048 .f32 := m ((c : Thread nD τ).loc main_arg0)
abbrev argW (c : Dev nD) : FVec Ideal S2048x6144 .f32 := m ((c : Thread nD τ).loc main_arg1)

theorem V0 (c : Dev nD) : (V m c main_v0 : FVec Ideal S2048x2048 .bf16) = truncf .bf16 (argA m c) bitsLt_bf16_f32 := by
  unfold V hostOps0
  after_results

theorem V3 (c : Dev nD) : (V m c main_v3 : FVec Ideal S8x2048x768 .bf16)
    = truncf .bf16 (transpose S8x2048x768 [1, 0, 2] (shapeCast S2048x8x768 (argW m c) shapeCasts_S2048x6144_S2048x8x768) transposes_S2048x8x768_S8x2048x768_1_0_2) bitsLt_bf16_f32 := by
  unfold V hostOps0
  after_results
  rfl

theorem V3_apply (c : Dev nD) (p : Fin 8) (q : Fin 2048) (l : Fin 768) :
    (V m c main_v3 : FVec Ideal S8x2048x768 .bf16) (ix3 p q l) = argW m c (ix2 q ⟨p.val * 768 + l.val, by omega⟩) := by
  rw [V3]
  pointwise

theorem flushed_eq (c : Dev nD) (t : Fin cfg0.N) :
    (dats m 0 c).flushed 2 t = ((cfg0.win 2).blk t).view.read (Elt Ideal) (val (argA m c) (argW m c)) := by
  rw [Value.flushed2, out_eq]
  obtain ⟨h00, h01, h10, h11, h12, hb⟩ := idx_facts t
  funext j
  obtain ⟨r, l, rfl⟩ : ∃ (r : Fin 1024) (l : Fin 1536), j = ix2 r l := ⟨j 0, j 1, eq_ix2 j⟩
  refine blockVal_val _ _ (argA m c) (argW m c) r l ((win0_2.rect t).idx (ix2 r l) 0) ((win0_2.rect t).idx (ix2 r l) 1) (fun k => ?_) fun k => ?_
  · show (V m c main_v0 : FVec Ideal S2048x2048 .bf16) _ = _
    rw [V0]
    exact congrArg (argA m c) <| funext fun a => Fin.ext <|
      match a with
      | ⟨0, _⟩ => by show win0_0.index t 0 * 1024 + 1 * r.val = win0_2.index t 0 * 1024 + 1 * r.val; rw [h00]
      | ⟨1, _⟩ => by show win0_0.index t 1 * 2048 + 1 * k.val = k.val; rw [h01]; omega
  · show (V m c main_v3 : FVec Ideal S8x2048x768 .bf16) _ = _
    have : ((win0_1.blk t).view.emb (ix3 (⟨l.val / 768, by omega⟩ : Fin 2) k (⟨l.val % 768, by omega⟩ : Fin 768)))
        = ix3 (⟨win0_2.index t 1 * 2 + l.val / 768, by omega⟩ : Fin 8) k (⟨l.val % 768, by omega⟩ : Fin 768) := funext fun a => Fin.ext <|
      match a with
      | ⟨0, _⟩ => by show win0_1.index t 0 * 2 + 1 * (l.val / 768) = win0_2.index t 1 * 2 + l.val / 768; rw [h10]; omega
      | ⟨1, _⟩ => by show win0_1.index t 1 * 2048 + 1 * k.val = k.val; rw [h11]; omega
      | ⟨2, _⟩ => by show win0_1.index t 2 * 768 + 1 * (l.val % 768) = l.val % 768; rw [h12]; omega
    rw [this]
    have hC : (⟨(win0_2.index t 1 * 2 + l.val / 768) * 768 + l.val % 768, by omega⟩ : Fin 6144) = (win0_2.rect t).idx (ix2 r l) 1 := by
      apply Fin.ext
      show (win0_2.index t 1 * 2 + l.val / 768) * 768 + l.val % 768 = win0_2.index t 1 * 1536 + 1 * l.val
      omega
    exact (V3_apply m c (⟨win0_2.index t 1 * 2 + l.val / 768, by omega⟩ : Fin 8) k (⟨l.val % 768, by omega⟩ : Fin 768)).trans
      (congrArg (fun y => argW m c (ix2 k y)) hC)

theorem final (c : Dev nD) : (dats m 0 c).arrAt 2 cfg0.N = val (argA m c) (argW m c) :=
  (dats m 0 c).arrAt_eq_of_cover 2 _ (fun t _ => flushed_eq m c t) fun i => by
    have h0 : (i 0 : Nat) < 2048 := (i 0).isLt
    have h1 : (i 1 : Nat) < 6144 := (i 1).isLt
    obtain ⟨t, ht, ha, hb⟩ := idx_onto ⟨(i 0 : Nat) / 1024, by omega⟩ ⟨(i 1 : Nat) / 1536, by omega⟩
    refine ⟨t, ht, ?_⟩
    show i ∈ ((View.whole main_v4).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [ha]; dsimp only; omega
    | ⟨1, _⟩ => show win0_2.index t 1 * 1536 ≤ (i 1 : Nat) ∧ (i 1 : Nat) < win0_2.index t 1 * 1536 + 1536; rw [hb]; dsimp only; omega

theorem claim : Cert.algebraic_ProjIdeal_RefProjIdeal (hProjIdeal := Cert.ProjIdeal.Gen.facts) (hRefProjIdeal := Cert.RefProjIdeal.Gen.facts) := by
  intro m g m' g' _ hargs
  refine ⟨fun c => val (argA m c) (argW m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefProjIdeal.Value.run (F := Ideal) m' g')
    obtain ⟨hv, hr⟩ := h c
    refine ⟨hv.trans ?_, hr⟩
    rw [(hargs c).1, (hargs c).2]
    funext j
    unfold val
    pointwise

end Cert.Proof.Proj

end
-- ==== Proof.Glu.lean ====
module

public import proofs.«01_k».proof.Defs
public import proofs.«01_k».proof.Proof.Gen.Glu.Frame
public import proofs.«01_k».proof.Proof.Gen.GluIdeal.Value
public import proofs.«01_k».proof.Proof.Gen.RefGluIdeal.Run
public import Idealize.ShloMosaic.Lib.Pipeline.Value
public import Idealize.ShloMosaic.Lib.Pointwise
public import proofs.«01_k».proof.Proof.Common

@[expose] public section

set_option maxRecDepth 16384

noncomputable section

namespace Cert.Proof.Glu

open Idealize.ShloMosaic Idealize.SL.Sem Cert.GluIdeal
open Cert.GluIdeal.Gen Idealize.ShloMosaic.TcCoe
open Cert.Proof.Common
open Idealize.ShloMosaic.Pipeline (Dat Cfg Window)

/-- What one store holds, element by element: a row against a column of one plane of the weights. -/
theorem pay_apply (x0 : Vec Ideal S1024x1024 .bf16) (w : Vec Ideal S1x1024x256 .bf16) (r : Fin 1024) (l : Fin 256) :
    k0_pay2 x0 w (ix2 r l) = ∑ k : Fin 1024, x0 (ix2 r k) * w (ix3 0 k l) := by
  pointwise [k0_pay2, k0_pay1]

/-- The block a point leaves, read through the planes of its weights: 256 columns to a plane. -/
def blockVal (x0 : Vec Ideal S1024x1024 .bf16) (x1 : Vec Ideal S4x1024x256 .bf16) : Vec Ideal S1024x1024 .bf16 :=
  fun y => ∑ k : Fin 1024, x0 (ix2 (y 0) k)
    * x1 (ix3 ⟨(y 1).val / 256, by have : (y 1).val < 1024 := (y 1).isLt; show _ < 4; omega⟩ k ⟨(y 1).val % 256, by show _ < 256; omega⟩)

/-- The store of plane `s` holds the strip of columns it goes to. -/
theorem piece_eq (s : Nat) (hs : s < 4) (h : ∀ a, (![0, s * 256] : Fin 2 → Nat) a + S1024x256.size a ≤ S1024x1024.size a)
    (h' : ∀ a, (![s, 0, 0] : Fin 3 → Nat) a + S1x1024x256.size a ≤ S4x1024x256.size a)
    (x0 : Vec Ideal S1024x1024 .bf16) (x1 : Vec Ideal S4x1024x256 .bf16) (x : S1024x256.Idx) :
    k0_pay2 x0 (View.ld x1 (Rect.unit (s := S4x1024x256) ![s, 0, 0] S1x1024x256.size h')) x
      = blockVal x0 x1 ((Rect.unit (s := S1024x1024) ![0, s * 256] S1024x256.size h).emb x) := by
  obtain ⟨r, l, rfl⟩ : ∃ (r : Fin 1024) (l : Fin 256), x = ix2 r l := ⟨x 0, x 1, eq_ix2 x⟩
  rw [pay_apply]
  refine Finset.sum_congr rfl fun k _ => congrArg₂ (· * ·) (congrArg x0 <| funext fun a => Fin.ext ?_) (congrArg x1 <| funext fun a => Fin.ext ?_)
  · match a with
    | ⟨0, _⟩ => show r.val = 0 + 1 * r.val; omega
    | ⟨1, _⟩ => rfl
  · match a with
    | ⟨0, _⟩ => show s + 1 * 0 = (s * 256 + 1 * l.val) / 256; omega
    | ⟨1, _⟩ => show 0 + 1 * k.val = k.val; omega
    | ⟨2, _⟩ => show 0 + 1 * l.val = (s * 256 + 1 * l.val) % 256; omega

theorem out_eq (x0 : Vec Ideal S1024x1024 .bf16) (x1 : Vec Ideal S4x1024x256 .bf16) : out0_2 x0 x1 = blockVal x0 x1 := by
  unfold out0_2
  rw [View.ld_unit_zero (S := S1024x1024) z2]
  funext y
  refine View.canon_apply_of_pieces (blockVal x0 x1) _ (fun p hp x => ?_) y (cover0_2 _ _ _ _ y)
  simp only [List.mem_cons, List.not_mem_nil, or_false] at hp
  rcases hp with rfl | rfl | rfl | rfl
  · exact piece_eq 3 (by omega) inb_S1024x1024_S1024x256_0_768 _ x0 x1 x
  · exact piece_eq 2 (by omega) inb_S1024x1024_S1024x256_0_512 _ x0 x1 x
  · exact piece_eq 1 (by omega) inb_S1024x1024_S1024x256_0_256 _ x0 x1 x
  · exact piece_eq 0 (by omega) inb_S1024x1024_S1024x256_0_0 _ x0 x1 x

/-- Which blocks of the operands a point reads, by the block it writes. -/
theorem idx_facts : ∀ t : Fin cfg0.N,
    win0_0.index t 0 = win0_2.index t 0 ∧ win0_0.index t 1 = 0 ∧ win0_1.index t 0 = win0_2.index t 1
    ∧ win0_1.index t 1 = 0 ∧ win0_1.index t 2 = 0 ∧ win0_2.index t 1 < 4 :=
  (by decide +kernel : ∀ t : Fin grid0.N,
    win0_0.index t 0 = win0_2.index t 0 ∧ win0_0.index t 1 = 0 ∧ win0_1.index t 0 = win0_2.index t 1
    ∧ win0_1.index t 1 = 0 ∧ win0_1.index t 2 = 0 ∧ win0_2.index t 1 < 4)

/-- Every block of the output is some point's. -/
theorem idx_onto : ∀ a : Fin 2, ∀ b : Fin 4, ∃ t : Fin cfg0.N, win0_2.flush t = true ∧ win0_2.index t 0 = a.val ∧ win0_2.index t 1 = b.val :=
  (by decide +kernel : ∀ a : Fin 2, ∀ b : Fin 4, ∃ t : Fin grid0.N, win0_2.flush t = true ∧ win0_2.index t 0 = a.val ∧ win0_2.index t 1 = b.val)

/-- The rows times the weights of the values and of the gates, their results interleaved by runs of columns, element by element. -/
def val (a : FVec Ideal S2048x1024 .f32) (wv wg : FVec Ideal S1024x2048 .f32) : FVec Ideal S2048x4096 .bf16 :=
  fun j => ∑ k : Fin 1024, a (ix2 (j 0) k) * pick (fun q => wv (ix2 k q)) (fun q => wg (ix2 k q)) (j 1)

/-- A block whose rows and planes are those of `a` and of the two weights is the corresponding block of the product. -/
theorem blockVal_val (x0 : Vec Ideal S1024x1024 .bf16) (x1 : Vec Ideal S4x1024x256 .bf16) (a : FVec Ideal S2048x1024 .f32) (wv wg : FVec Ideal S1024x2048 .f32)
    (r l : Fin 1024) (R : Fin 2048) (C : Fin 4096) (h0 : ∀ k : Fin 1024, x0 (ix2 r k) = a (ix2 R k))
    (h1 : ∀ k : Fin 1024, x1 (ix3 (⟨l.val / 256, by omega⟩ : Fin 4) k (⟨l.val % 256, by omega⟩ : Fin 256)) = pick (fun q => wv (ix2 k q)) (fun q => wg (ix2 k q)) C) :
    blockVal x0 x1 (ix2 r l) = val a wv wg (ix2 R C) :=
  Finset.sum_congr rfl fun k _ => congrArg₂ (fun a b : EReal => a * b) (h0 k) (h1 k)

variable (m : (ℓ : Loc nD τ sig) → Buf (Elt Ideal) ℓ) (ρ : Dev nD → PrngReg)

/-- The three arguments as launched. -/
abbrev argA (c : Dev nD) : FVec Ideal S2048x1024 .f32 := m ((c : Thread nD τ).loc main_arg0)
abbrev argV (c : Dev nD) : FVec Ideal S1024x2048 .f32 := m ((c : Thread nD τ).loc main_arg1)
abbrev argG (c : Dev nD) : FVec Ideal S1024x2048 .f32 := m ((c : Thread nD τ).loc main_arg2)

theorem V0 (c : Dev nD) : (V m c main_v0 : FVec Ideal S2048x1024 .bf16) = truncf .bf16 (argA m c) bitsLt_bf16_f32 := by
  unfold V hostOps0
  after_results

/-- The planes the call is given: the columns of the values' weights in the even ones, those of the gates' in the odd ones. -/
theorem V9 (c : Dev nD) : (V m c main_v9 : FVec Ideal S16x1024x256 .bf16)
    = truncf .bf16 (shapeCast S16x1024x256 (concatenate S8x2x1024x256 1
        [⟨S8x1x1024x256, (broadcastInDim S8x1x1024x256 ![0, 2, 3] bcast_S8x1024x256_S8x1x1024x256_0_2_3 (transpose S8x1024x256 [1, 0, 2] (shapeCast S1024x8x256 (argV m c) shapeCasts_S1024x2048_S1024x8x256) transposes_S1024x8x256_S8x1024x256_1_0_2) : FVec Ideal S8x1x1024x256 .f32)⟩,
         ⟨S8x1x1024x256, (broadcastInDim S8x1x1024x256 ![0, 2, 3] bcast_S8x1024x256_S8x1x1024x256_0_2_3 (transpose S8x1024x256 [1, 0, 2] (shapeCast S1024x8x256 (argG m c) shapeCasts_S1024x2048_S1024x8x256) transposes_S1024x8x256_S8x1024x256_1_0_2) : FVec Ideal S8x1x1024x256 .f32)⟩]
        concatenates_S8x1x1024x256_S8x1x1024x256_S8x2x1024x256_d1 : FVec Ideal S8x2x1024x256 .f32) shapeCasts_S8x2x1024x256_S16x1024x256) bitsLt_bf16_f32 := by
  unfold V hostOps0
  after_results
  rfl

theorem V9_apply (c : Dev nD) (p : Fin 16) (q : Fin 1024) (l : Fin 256) (C : Fin 4096) (hC : C.val = p.val * 256 + l.val) :
    (V m c main_v9 : FVec Ideal S16x1024x256 .bf16) (ix3 p q l) = pick (fun k => argV m c (ix2 q k)) (fun k => argG m c (ix2 q k)) C := by
  rw [V9]
  unfold pick
  by_cases h : C.val / 256 % 2 = 0
  · rw [if_pos h]
    pointwise
    split_ifs <;> first | (exfalso; omega) | exact congrArg (fun y => argV m c (ix2 q y)) (Fin.ext (by dsimp only; omega))
  · rw [if_neg h]
    pointwise
    split_ifs <;> first | (exfalso; omega) | exact congrArg (fun y => argG m c (ix2 q y)) (Fin.ext (by dsimp only; omega))

theorem flushed_eq (c : Dev nD) (t : Fin cfg0.N) :
    (dats m 0 c).flushed 2 t = ((cfg0.win 2).blk t).view.read (Elt Ideal) (val (argA m c) (argV m c) (argG m c)) := by
  rw [Value.flushed2, out_eq]
  obtain ⟨h00, h01, h10, h11, h12, hb⟩ := idx_facts t
  funext j
  obtain ⟨r, l, rfl⟩ : ∃ (r l : Fin 1024), j = ix2 r l := ⟨j 0, j 1, eq_ix2 j⟩
  refine blockVal_val _ _ (argA m c) (argV m c) (argG m c) r l ((win0_2.rect t).idx (ix2 r l) 0) ((win0_2.rect t).idx (ix2 r l) 1) (fun k => ?_) fun k => ?_
  · show (V m c main_v0 : FVec Ideal S2048x1024 .bf16) _ = _
    rw [V0]
    exact congrArg (argA m c) <| funext fun a => Fin.ext <|
      match a with
      | ⟨0, _⟩ => by show win0_0.index t 0 * 1024 + 1 * r.val = win0_2.index t 0 * 1024 + 1 * r.val; rw [h00]
      | ⟨1, _⟩ => by show win0_0.index t 1 * 1024 + 1 * k.val = k.val; rw [h01]; omega
  · show (V m c main_v9 : FVec Ideal S16x1024x256 .bf16) _ = _
    have : ((win0_1.blk t).view.emb (ix3 (⟨l.val / 256, by omega⟩ : Fin 4) k (⟨l.val % 256, by omega⟩ : Fin 256)))
        = ix3 (⟨win0_2.index t 1 * 4 + l.val / 256, by omega⟩ : Fin 16) k (⟨l.val % 256, by omega⟩ : Fin 256) := funext fun a => Fin.ext <|
      match a with
      | ⟨0, _⟩ => by show win0_1.index t 0 * 4 + 1 * (l.val / 256) = win0_2.index t 1 * 4 + l.val / 256; rw [h10]; omega
      | ⟨1, _⟩ => by show win0_1.index t 1 * 1024 + 1 * k.val = k.val; rw [h11]; omega
      | ⟨2, _⟩ => by show win0_1.index t 2 * 256 + 1 * (l.val % 256) = l.val % 256; rw [h12]; omega
    rw [this]
    exact V9_apply m c (⟨win0_2.index t 1 * 4 + l.val / 256, by omega⟩ : Fin 16) k (⟨l.val % 256, by omega⟩ : Fin 256) ((win0_2.rect t).idx (ix2 r l) 1)
      (by show win0_2.index t 1 * 1024 + 1 * l.val = (win0_2.index t 1 * 4 + l.val / 256) * 256 + l.val % 256; omega)

theorem final (c : Dev nD) : (dats m 0 c).arrAt 2 cfg0.N = val (argA m c) (argV m c) (argG m c) :=
  (dats m 0 c).arrAt_eq_of_cover 2 _ (fun t _ => flushed_eq m c t) fun i => by
    have h0 : (i 0 : Nat) < 2048 := (i 0).isLt
    have h1 : (i 1 : Nat) < 4096 := (i 1).isLt
    obtain ⟨t, ht, ha, hb⟩ := idx_onto ⟨(i 0 : Nat) / 1024, by omega⟩ ⟨(i 1 : Nat) / 1024, by omega⟩
    refine ⟨t, ht, ?_⟩
    show i ∈ ((View.whole main_v10).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [ha]; dsimp only; omega
    | ⟨1, _⟩ => show win0_2.index t 1 * 1024 ≤ (i 1 : Nat) ∧ (i 1 : Nat) < win0_2.index t 1 * 1024 + 1024; rw [hb]; dsimp only; omega

theorem claim : Cert.algebraic_GluIdeal_RefGluIdeal (hGluIdeal := Cert.GluIdeal.Gen.facts) (hRefGluIdeal := Cert.RefGluIdeal.Gen.facts) := by
  intro m g m' g' _ hargs
  refine ⟨fun c => val (argA m c) (argV m c) (argG m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefGluIdeal.Value.run (F := Ideal) m' g')
    obtain ⟨hv, hr⟩ := h c
    refine ⟨hv.trans ?_, hr⟩
    rw [(hargs c).1, (hargs c).2.1, (hargs c).2.2]
    funext j
    unfold val pick
    by_cases h : (j 1 : Nat) / 256 % 2 = 0
    · simp only [if_pos h]
      pointwise
      split_ifs <;> first | (exfalso; omega) | rfl
    · simp only [if_neg h]
      pointwise
      split_ifs <;> first | (exfalso; omega) | rfl

end Cert.Proof.Glu

end
-- ==== Proof.Pmix.lean ====
module

public import proofs.«01_k».proof.Defs
public import proofs.«01_k».proof.Proof.Gen.Pmix.Frame
public import proofs.«01_k».proof.Proof.Gen.PmixIdeal.Value
public import proofs.«01_k».proof.Proof.Gen.RefPmixIdeal.Run
public import Idealize.ShloMosaic.Lib.Pipeline.Value
public import Idealize.ShloMosaic.Lib.Pointwise
public import proofs.«01_k».proof.Proof.Common

@[expose] public section

set_option maxRecDepth 16384

noncomputable section

namespace Cert.Proof.Pmix

open Idealize.ShloMosaic Idealize.SL.Sem Cert.PmixIdeal
open Cert.PmixIdeal.Gen Idealize.ShloMosaic.TcCoe
open Cert.Proof.Common
open Idealize.ShloMosaic.Pipeline (Dat Cfg Window)

/-- What a point stores, element by element: a row of one window against a column of that window's weights. -/
theorem out3_apply (x0 : Vec Ideal S1024x256 .bf16) (x1 : Vec Ideal S1x256x256 .bf16) (x2 : Vec Ideal S1x256 .f32) (r : Fin 1024) (l : Fin 256) :
    out0_3 x0 x1 x2 (ix2 r l) = ∑ k : Fin 256, x0 (ix2 r k) * x1 (ix3 0 k l) := by
  unfold out0_3
  rw [View.canon_unit_zero z2, View.ld_unit_zero (S := S1024x256) z2, View.ld_unit_zero (S := S1x256x256) z3]
  pointwise [k0_pay1]

/-- Its second result is the first times the scale of the column. -/
theorem out4_apply (x0 : Vec Ideal S1024x256 .bf16) (x1 : Vec Ideal S1x256x256 .bf16) (x2 : Vec Ideal S1x256 .f32) (r : Fin 1024) (l : Fin 256) :
    out0_4 x0 x1 x2 (ix2 r l) = (∑ k : Fin 256, x0 (ix2 r k) * x1 (ix3 0 k l)) * x2 (ix2 0 l) := by
  unfold out0_4
  rw [View.canon_unit_zero z2, View.ld_unit_zero (S := S1024x256) z2, View.ld_unit_zero (S := S1x256x256) z3, View.ld_unit_zero (S := S1x256) z2]
  pointwise [k0_pay2, k0_pay1]

/-- Which blocks of the operands a point reads, by the block it writes. -/
theorem idx_facts : ∀ t : Fin cfg0.N,
    win0_0.index t 0 = win0_3.index t 0 ∧ win0_0.index t 1 = win0_3.index t 1 ∧ win0_1.index t 0 = win0_3.index t 1
    ∧ win0_1.index t 1 = 0 ∧ win0_1.index t 2 = 0 ∧ win0_2.index t 0 = 0 ∧ win0_2.index t 1 = win0_3.index t 1
    ∧ win0_4.index t 0 = win0_3.index t 0 ∧ win0_4.index t 1 = win0_3.index t 1 ∧ win0_3.index t 0 < 2 ∧ win0_3.index t 1 < 4 :=
  (by decide +kernel : ∀ t : Fin grid0.N,
    win0_0.index t 0 = win0_3.index t 0 ∧ win0_0.index t 1 = win0_3.index t 1 ∧ win0_1.index t 0 = win0_3.index t 1
    ∧ win0_1.index t 1 = 0 ∧ win0_1.index t 2 = 0 ∧ win0_2.index t 0 = 0 ∧ win0_2.index t 1 = win0_3.index t 1
    ∧ win0_4.index t 0 = win0_3.index t 0 ∧ win0_4.index t 1 = win0_3.index t 1 ∧ win0_3.index t 0 < 2 ∧ win0_3.index t 1 < 4)

/-- Every block of either output is some point's. -/
theorem idx_onto : ∀ a : Fin 2, ∀ b : Fin 4, ∃ t : Fin cfg0.N, win0_3.flush t = true ∧ win0_4.flush t = true ∧ win0_3.index t 0 = a.val ∧ win0_3.index t 1 = b.val :=
  (by decide +kernel : ∀ a : Fin 2, ∀ b : Fin 4, ∃ t : Fin grid0.N, win0_3.flush t = true ∧ win0_4.flush t = true ∧ win0_3.index t 0 = a.val ∧ win0_3.index t 1 = b.val)

/-- One element of the mixed windows: row `s`, window `g`, place `l` in it. -/
def val3 (p : FVec Ideal S2048x1024 .f32) (w : FVec Ideal S4x256x256 .f32) (s : Fin 2048) (g : Fin 4) (l : Fin 256) : EReal :=
  ∑ k : Fin 256, p (ix2 s ⟨g.val * 256 + k.val, by omega⟩) * w (ix3 g k l)

/-- The mixed windows. -/
def val (p : FVec Ideal S2048x1024 .f32) (w : FVec Ideal S4x256x256 .f32) : FVec Ideal S2048x1024 .f32 :=
  fun j => val3 p w (j 0) ⟨(j 1).val / 256, by have : (j 1).val < 1024 := (j 1).isLt; omega⟩ ⟨(j 1).val % 256, by omega⟩

/-- The mixed windows, scaled by columns. -/
def scaled (p : FVec Ideal S2048x1024 .f32) (w : FVec Ideal S4x256x256 .f32) (sc : FVec Ideal S1x1024 .f32) : FVec Ideal S2048x1024 .bf16 :=
  fun j => val p w j * sc (ix2 0 (j 1))

theorem val_apply (p : FVec Ideal S2048x1024 .f32) (w : FVec Ideal S4x256x256 .f32) (s : Fin 2048) (g : Fin 4) (l : Fin 256) (C : Fin 1024)
    (hC : C.val = g.val * 256 + l.val) : val p w (ix2 s C) = val3 p w s g l := by
  show val3 p w s _ _ = _
  exact congrArg₂ (val3 p w s) (Fin.ext (by show C.val / 256 = g.val; omega)) (Fin.ext (by show C.val % 256 = l.val; omega))

variable (m : (ℓ : Loc nD τ sig) → Buf (Elt Ideal) ℓ) (ρ : Dev nD → PrngReg)

/-- The arguments as launched. -/
abbrev argA (c : Dev nD) : FVec Ideal S2048x1024 .f32 := m ((c : Thread nD τ).loc main_arg0)
abbrev argW (c : Dev nD) : FVec Ideal S4x256x256 .f32 := m ((c : Thread nD τ).loc main_arg1)
abbrev argS (c : Dev nD) : FVec Ideal S1x1024 .f32 := m ((c : Thread nD τ).loc main_arg2)

theorem V0 (c : Dev nD) : (V m c main_v0 : FVec Ideal S2048x1024 .bf16) = truncf .bf16 (argA m c) bitsLt_bf16_f32 := by
  unfold V hostOps0
  after_results

theorem V1 (c : Dev nD) : (V m c main_v1 : FVec Ideal S4x256x256 .bf16) = truncf .bf16 (argW m c) bitsLt_bf16_f32 := by
  unfold V hostOps0
  after_results

/-- What a point multiplies is the corresponding block of the mixed windows. -/
theorem sum_val (c : Dev nD) (t : Fin cfg0.N) (r : Fin 1024) (l : Fin 256) (s : Fin 2048) (C : Fin 1024)
    (hs : s.val = win0_3.index t 0 * 1024 + r.val) (hC : C.val = win0_3.index t 1 * 256 + l.val)
    (x0 : Vec Ideal S1024x256 .bf16) (x1 : Vec Ideal S1x256x256 .bf16) (e0 : x0 = iblk m c 0 t) (e1 : x1 = iblk m c 1 t) :
    ∑ k : Fin 256, x0 (ix2 r k) * x1 (ix3 0 k l) = val (argA m c) (argW m c) (ix2 s C) := by
  subst e0 e1
  obtain ⟨h00, h01, h10, h11, h12, -, -, -, -, -, hb⟩ := idx_facts t
  rw [val_apply (argA m c) (argW m c) s ⟨win0_3.index t 1, hb⟩ l C hC]
  refine Finset.sum_congr rfl fun k _ => congrArg₂ (fun a b : EReal => a * b) ?_ ?_
  · show (V m c main_v0 : FVec Ideal S2048x1024 .bf16) _ = _
    rw [V0]
    exact congrArg (argA m c) <| funext fun a => Fin.ext <|
      match a with
      | ⟨0, _⟩ => by show win0_0.index t 0 * 1024 + 1 * r.val = s.val; rw [h00]; omega
      | ⟨1, _⟩ => by show win0_0.index t 1 * 256 + 1 * k.val = win0_3.index t 1 * 256 + k.val; rw [h01]; omega
  · show (V m c main_v1 : FVec Ideal S4x256x256 .bf16) _ = _
    rw [V1]
    exact congrArg (argW m c) <| funext fun a => Fin.ext <|
      match a with
      | ⟨0, _⟩ => by show win0_1.index t 0 * 1 + 1 * 0 = win0_3.index t 1; rw [h10]; omega
      | ⟨1, _⟩ => by show win0_1.index t 1 * 256 + 1 * k.val = k.val; rw [h11]; omega
      | ⟨2, _⟩ => by show win0_1.index t 2 * 256 + 1 * l.val = l.val; rw [h12]; omega

theorem flushed3_eq (c : Dev nD) (t : Fin cfg0.N) :
    (dats m 0 c).flushed 3 t = ((cfg0.win 3).blk t).view.read (Elt Ideal) (val (argA m c) (argW m c)) := by
  rw [Value.flushed3]
  obtain ⟨-, -, -, -, -, -, -, -, -, ha, hb⟩ := idx_facts t
  funext j
  obtain ⟨r, l, rfl⟩ : ∃ (r : Fin 1024) (l : Fin 256), j = ix2 r l := ⟨j 0, j 1, eq_ix2 j⟩
  have hj : (win0_3.rect t).idx (ix2 r l) = ix2 (⟨win0_3.index t 0 * 1024 + r.val, by omega⟩ : Fin 2048) (⟨win0_3.index t 1 * 256 + l.val, by omega⟩ : Fin 1024) :=
    funext fun a => Fin.ext <|
      match a with
      | ⟨0, _⟩ => by show win0_3.index t 0 * 1024 + 1 * r.val = win0_3.index t 0 * 1024 + r.val; omega
      | ⟨1, _⟩ => by show win0_3.index t 1 * 256 + 1 * l.val = win0_3.index t 1 * 256 + l.val; omega
  exact ((out3_apply (iblk m c 0 t) (iblk m c 1 t) (iblk m c 2 t) r l).trans (sum_val m c t r l _ _ rfl rfl _ _ rfl rfl)).trans
    (congrArg (val (argA m c) (argW m c)) hj.symm)

theorem flushed4_eq (c : Dev nD) (t : Fin cfg0.N) :
    (dats m 0 c).flushed 4 t = ((cfg0.win 4).blk t).view.read (Elt Ideal) (scaled (argA m c) (argW m c) (argS m c)) := by
  rw [Value.flushed4]
  obtain ⟨-, -, -, -, -, h20, h21, h40, h41, ha, hb⟩ := idx_facts t
  funext j
  obtain ⟨r, l, rfl⟩ : ∃ (r : Fin 1024) (l : Fin 256), j = ix2 r l := ⟨j 0, j 1, eq_ix2 j⟩
  have hj : (win0_4.rect t).idx (ix2 r l) = ix2 (⟨win0_3.index t 0 * 1024 + r.val, by omega⟩ : Fin 2048) (⟨win0_3.index t 1 * 256 + l.val, by omega⟩ : Fin 1024) :=
    funext fun a => Fin.ext <|
      match a with
      | ⟨0, _⟩ => by show win0_4.index t 0 * 1024 + 1 * r.val = win0_3.index t 0 * 1024 + r.val; rw [h40]; omega
      | ⟨1, _⟩ => by show win0_4.index t 1 * 256 + 1 * l.val = win0_3.index t 1 * 256 + l.val; rw [h41]; omega
  refine (out4_apply (iblk m c 0 t) (iblk m c 1 t) (iblk m c 2 t) r l).trans (Eq.trans ?_ (congrArg (scaled (argA m c) (argW m c) (argS m c)) hj.symm))
  refine congrArg₂ (fun a b : EReal => a * b) (sum_val m c t r l _ _ rfl rfl _ _ rfl rfl) ?_
  show V m c main_arg2 _ = _
  rw [V_main_arg2]
  exact congrArg (argS m c) <| funext fun a => Fin.ext <|
    match a with
    | ⟨0, _⟩ => by show win0_2.index t 0 * 1 + 1 * 0 = 0; rw [h20]
    | ⟨1, _⟩ => by show win0_2.index t 1 * 256 + 1 * l.val = win0_3.index t 1 * 256 + l.val; rw [h21]; omega

theorem final3 (c : Dev nD) : (dats m 0 c).arrAt 3 cfg0.N = val (argA m c) (argW m c) :=
  (dats m 0 c).arrAt_eq_of_cover 3 _ (fun t _ => flushed3_eq m c t) fun i => by
    have h0 : (i 0 : Nat) < 2048 := (i 0).isLt
    have h1 : (i 1 : Nat) < 1024 := (i 1).isLt
    obtain ⟨t, ht, -, ha, hb⟩ := idx_onto ⟨(i 0 : Nat) / 1024, by omega⟩ ⟨(i 1 : Nat) / 256, by omega⟩
    refine ⟨t, ht, ?_⟩
    show i ∈ ((View.whole main_v2_0).slice (win0_3.rect t)).set
    rw [View.set_slice_whole, Rect.mem_set_unit]
    intro a
    match a with
    | ⟨0, _⟩ => show win0_3.index t 0 * 1024 ≤ (i 0 : Nat) ∧ (i 0 : Nat) < win0_3.index t 0 * 1024 + 1024; rw [ha]; dsimp only; omega
    | ⟨1, _⟩ => show win0_3.index t 1 * 256 ≤ (i 1 : Nat) ∧ (i 1 : Nat) < win0_3.index t 1 * 256 + 256; rw [hb]; dsimp only; omega

theorem final4 (c : Dev nD) : (dats m 0 c).arrAt 4 cfg0.N = scaled (argA m c) (argW m c) (argS m c) :=
  (dats m 0 c).arrAt_eq_of_cover 4 _ (fun t _ => flushed4_eq m c t) fun i => by
    have h0 : (i 0 : Nat) < 2048 := (i 0).isLt
    have h1 : (i 1 : Nat) < 1024 := (i 1).isLt
    obtain ⟨t, -, ht, ha, hb⟩ := idx_onto ⟨(i 0 : Nat) / 1024, by omega⟩ ⟨(i 1 : Nat) / 256, by omega⟩
    obtain ⟨-, -, -, -, -, -, -, h40, h41, -, -⟩ := idx_facts t
    refine ⟨t, ht, ?_⟩
    show i ∈ ((View.whole main_v2_1).slice (win0_4.rect t)).set
    rw [View.set_slice_whole, Rect.mem_set_unit]
    intro a
    match a with
    | ⟨0, _⟩ => show win0_4.index t 0 * 1024 ≤ (i 0 : Nat) ∧ (i 0 : Nat) < win0_4.index t 0 * 1024 + 1024; rw [h40, ha]; dsimp only; omega
    | ⟨1, _⟩ => show win0_4.index t 1 * 256 ≤ (i 1 : Nat) ∧ (i 1 : Nat) < win0_4.index t 1 * 256 + 256; rw [h41, hb]; dsimp only; omega

theorem claim : Cert.algebraic_PmixIdeal_RefPmixIdeal (hPmixIdeal := Cert.PmixIdeal.Gen.facts) (hRefPmixIdeal := Cert.RefPmixIdeal.Gen.facts) := by
  intro m g m' g' _ hargs
  refine ⟨fun c => val (argA m c) (argW m c), fun c => scaled (argA m c) (argW m c) (argS m c), ?_, ?_⟩
  · refine (θ_run defs _ _).mono (fun r h c => ?_) (Value.run_blocks (F := Ideal) m g)
    exact ⟨(h c).1.trans (final3 m c), (h c).2.1.trans (final4 m c), (h c).2.2⟩
  · refine (θ_run _ _ _).mono (fun r h c => ?_) (Cert.RefPmixIdeal.Value.run (F := Ideal) m' g')
    obtain ⟨hv, hs, hr⟩ := h c
    refine ⟨hv.trans ?_, hs.trans ?_, hr⟩
    · rw [(hargs c).1, (hargs c).2.1]
      funext j
      simp only [argA, argW]
      unfold val val3
      pointwise
      ac_rfl
    · rw [(hargs c).1, (hargs c).2.1, (hargs c).2.2]
      funext j
      simp only [argA, argW, argS]
      unfold scaled val val3
      pointwise
      ac_rfl

end Cert.Proof.Pmix

end
-- ==== Proof.Po.lean ====
module

public import proofs.«01_k».proof.Defs
public import proofs.«01_k».proof.Proof.Gen.Po.Frame
public import proofs.«01_k».proof.Proof.Gen.PoIdeal.Value
public import proofs.«01_k».proof.Proof.Gen.RefPoIdeal.Run
public import Idealize.ShloMosaic.Lib.Pipeline.Value
public import Idealize.ShloMosaic.Lib.Pointwise
public import proofs.«01_k».proof.Proof.Common

@[expose] public section

set_option maxRecDepth 16384

noncomputable section

namespace Cert.Proof.Po

open Idealize.ShloMosaic Idealize.SL.Sem Cert.PoIdeal
open Cert.PoIdeal.Gen Idealize.ShloMosaic.TcCoe
open Cert.Proof.Common
open Idealize.ShloMosaic.Pipeline (Dat Cfg Window)

/-- What one store holds, element by element: a row of the pooled branch against a column of one plane of the weights. -/
theorem pay_apply (x0 : Vec Ideal S1024x1024 .bf16) (w : Vec Ideal S1x1024x256 .bf16) (r : Fin 1024) (l : Fin 256) :
    k0_pay2 x0 w (ix2 r l) = ∑ k : Fin 1024, x0 (ix2 r k) * w (ix3 0 k l) := by
  pointwise [k0_pay2, k0_pay1]

/-- The block a point leaves, read through the planes of its weights: 256 columns to a plane. -/
def blockVal (x0 : Vec Ideal S1024x1024 .bf16) (x1 : Vec Ideal S4x1024x256 .bf16) : Vec Ideal S1024x1024 .bf16 :=
  fun y => ∑ k : Fin 1024, x0 (ix2 (y 0) k)
    * x1 (ix3 ⟨(y 1).val / 256, by have : (y 1).val < 1024 := (y 1).isLt; show _ < 4; omega⟩ k ⟨(y 1).val % 256, by show _ < 256; omega⟩)

/-- The store of plane `s` holds the strip of columns it goes to. -/
theorem piece_eq (s : Nat) (hs : s < 4) (h : ∀ a, (![0, s * 256] : Fin 2 → Nat) a + S1024x256.size a ≤ S1024x1024.size a)
    (h' : ∀ a, (![s, 0, 0] : Fin 3 → Nat) a + S1x1024x256.size a ≤ S4x1024x256.size a)
    (x0 : Vec Ideal S1024x1024 .bf16) (x1 : Vec Ideal S4x1024x256 .bf16) (x : S1024x256.Idx) :
    k0_pay2 x0 (View.ld x1 (Rect.unit (s := S4x1024x256) ![s, 0, 0] S1x1024x256.size h')) x
      = blockVal x0 x1 ((Rect.unit (s := S1024x1024) ![0, s * 256] S1024x256.size h).emb x) := by
  obtain ⟨r, l, rfl⟩ : ∃ (r : Fin 1024) (l : Fin 256), x = ix2 r l := ⟨x 0, x 1, eq_ix2 x⟩
  rw [pay_apply]
  refine Finset.sum_congr rfl fun k _ => congrArg₂ (· * ·) (congrArg x0 <| funext fun a => Fin.ext ?_) (congrArg x1 <| funext fun a => Fin.ext ?_)
  · match a with
    | ⟨0, _⟩ => show r.val = 0 + 1 * r.val; omega
    | ⟨1, _⟩ => rfl
  · match a with
    | ⟨0, _⟩ => show s + 1 * 0 = (s * 256 + 1 * l.val) / 256; omega
    | ⟨1, _⟩ => show 0 + 1 * k.val = k.val; omega
    | ⟨2, _⟩ => show 0 + 1 * l.val = (s * 256 + 1 * l.val) % 256; omega

theorem out_eq (x0 : Vec Ideal S1024x1024 .bf16) (x1 : Vec Ideal S4x1024x256 .bf16) : out0_2 x0 x1 = blockVal x0 x1 := by
  unfold out0_2
  rw [View.ld_unit_zero (S := S1024x1024) z2]
  funext y
  refine View.canon_apply_of_pieces (blockVal x0 x1) _ (fun p hp x => ?_) y (cover0_2 _ _ _ _ y)
  simp only [List.mem_cons, List.not_mem_nil, or_false] at hp
  rcases hp with rfl | rfl | rfl | rfl
  · exact piece_eq 3 (by omega) inb_S1024x1024_S1024x256_0_768 _ x0 x1 x
  · exact piece_eq 2 (by omega) inb_S1024x1024_S1024x256_0_512 _ x0 x1 x
  · exact piece_eq 1 (by omega) inb_S1024x1024_S1024x256_0_256 _ x0 x1 x
  · exact piece_eq 0 (by omega) inb_S1024x1024_S1024x256_0_0 _ x0 x1 x

/-- Which blocks of the operands a point reads, by the block it writes. -/
theorem idx_facts : ∀ t : Fin cfg0.N,
    win0_0.index t 0 = win0_2.index t 0 ∧ win0_0.index t 1 = 0 ∧ win0_1.index t 0 = win0_2.index t 1
    ∧ win0_1.index t 1 = 0 ∧ win0_1.index t 2 = 0 ∧ win0_2.index t 1 < 2 :=
  (by decide +kernel : ∀ t : Fin grid0.N,
    win0_0.index t 0 = win0_2.index t 0 ∧ win0_0.index t 1 = 0 ∧ win0_1.index t 0 = win0_2.index t 1
    ∧ win0_1.index t 1 = 0 ∧ win0_1.index t 2 = 0 ∧ win0_2.index t 1 < 2)

/-- Every block of the output is some point's. -/
theorem idx_onto : ∀ a : Fin 2, ∀ b : Fin 2, ∃ t : Fin cfg0.N, win0_2.flush t = true ∧ win0_2.index t 0 = a.val ∧ win0_2.index t 1 = b.val :=
  (by decide +kernel : ∀ a : Fin 2, ∀ b : Fin 2, ∃ t : Fin grid0.N, win0_2.flush t = true ∧ win0_2.index t 0 = a.val ∧ win0_2.index t 1 = b.val)

/-- The pooled branch times its output weights, element by element. -/
def val (a : FVec Ideal S2048x1024 .f32) (w : FVec Ideal S1024x2048 .f32) : FVec Ideal S2048x2048 .bf16 :=
  fun j => ∑ k : Fin 1024, a (ix2 (j 0) k) * w (ix2 k (j 1))

/-- A block whose rows and planes are those of `a` and `w` is the corresponding block of the product. -/
theorem blockVal_val (x0 : Vec Ideal S1024x1024 .bf16) (x1 : Vec Ideal S4x1024x256 .bf16) (a : FVec Ideal S2048x1024 .f32) (w : FVec Ideal S1024x2048 .f32)
    (r l : Fin 1024) (R : Fin 2048) (C : Fin 2048) (h0 : ∀ k : Fin 1024, x0 (ix2 r k) = a (ix2 R k))
    (h1 : ∀ k : Fin 1024, x1 (ix3 (⟨l.val / 256, by omega⟩ : Fin 4) k (⟨l.val % 256, by omega⟩ : Fin 256)) = w (ix2 k C)) :
    blockVal x0 x1 (ix2 r l) = val a w (ix2 R C) :=
  Finset.sum_congr rfl fun k _ => congrArg₂ (fun a b : EReal => a * b) (h0 k) (h1 k)

variable (m : (ℓ : Loc nD τ sig) → Buf (Elt Ideal) ℓ) (ρ : Dev nD → PrngReg)

/-- The two arguments as launched. -/
abbrev argA (c : Dev nD) : FVec Ideal S2048x1024 .f32 := m ((c : Thread nD τ).loc main_arg0)
abbrev argW (c : Dev nD) : FVec Ideal S1024x2048 .f32 := m ((c : Thread nD τ).loc main_arg1)

theorem V0 (c : Dev nD) : (V m c main_v0 : FVec Ideal S2048x1024 .bf16) = truncf .bf16 (argA m c) bitsLt_bf16_f32 := by
  unfold V hostOps0
  after_results

theorem V3 (c : Dev nD) : (V m c main_v3 : FVec Ideal S8x1024x256 .bf16)
    = truncf .bf16 (transpose S8x1024x256 [1, 0, 2] (shapeCast S1024x8x256 (argW m c) shapeCasts_S1024x2048_S1024x8x256) transposes_S1024x8x256_S8x1024x256_1_0_2) bitsLt_bf16_f32 := by
  unfold V hostOps0
  after_results
  rfl

theorem V3_apply (c : Dev nD) (p : Fin 8) (q : Fin 1024) (l : Fin 256) :
    (V m c main_v3 : FVec Ideal S8x1024x256 .bf16) (ix3 p q l) = argW m c (ix2 q ⟨p.val * 256 + l.val, by omega⟩) := by
  rw [V3]
  pointwise

theorem flushed_eq (c : Dev nD) (t : Fin cfg0.N) :
    (dats m 0 c).flushed 2 t = ((cfg0.win 2).blk t).view.read (Elt Ideal) (val (argA m c) (argW m c)) := by
  rw [Value.flushed2, out_eq]
  obtain ⟨h00, h01, h10, h11, h12, hb⟩ := idx_facts t
  funext j
  obtain ⟨r, l, rfl⟩ : ∃ (r l : Fin 1024), j = ix2 r l := ⟨j 0, j 1, eq_ix2 j⟩
  refine blockVal_val _ _ (argA m c) (argW m c) r l ((win0_2.rect t).idx (ix2 r l) 0) ((win0_2.rect t).idx (ix2 r l) 1) (fun k => ?_) fun k => ?_
  · show (V m c main_v0 : FVec Ideal S2048x1024 .bf16) _ = _
    rw [V0]
    exact congrArg (argA m c) <| funext fun a => Fin.ext <|
      match a with
      | ⟨0, _⟩ => by show win0_0.index t 0 * 1024 + 1 * r.val = win0_2.index t 0 * 1024 + 1 * r.val; rw [h00]
      | ⟨1, _⟩ => by show win0_0.index t 1 * 1024 + 1 * k.val = k.val; rw [h01]; omega
  · show (V m c main_v3 : FVec Ideal S8x1024x256 .bf16) _ = _
    have : ((win0_1.blk t).view.emb (ix3 (⟨l.val / 256, by omega⟩ : Fin 4) k (⟨l.val % 256, by omega⟩ : Fin 256)))
        = ix3 (⟨win0_2.index t 1 * 4 + l.val / 256, by omega⟩ : Fin 8) k (⟨l.val % 256, by omega⟩ : Fin 256) := funext fun a => Fin.ext <|
      match a with
      | ⟨0, _⟩ => by show win0_1.index t 0 * 4 + 1 * (l.val / 256) = win0_2.index t 1 * 4 + l.val / 256; rw [h10]; omega
      | ⟨1, _⟩ => by show win0_1.index t 1 * 1024 + 1 * k.val = k.val; rw [h11]; omega
      | ⟨2, _⟩ => by show win0_1.index t 2 * 256 + 1 * (l.val % 256) = l.val % 256; rw [h12]; omega
    rw [this]
    have hC : (⟨(win0_2.index t 1 * 4 + l.val / 256) * 256 + l.val % 256, by omega⟩ : Fin 2048) = (win0_2.rect t).idx (ix2 r l) 1 := by
      apply Fin.ext
      show (win0_2.index t 1 * 4 + l.val / 256) * 256 + l.val % 256 = win0_2.index t 1 * 1024 + 1 * l.val
      omega
    exact (V3_apply m c (⟨win0_2.index t 1 * 4 + l.val / 256, by omega⟩ : Fin 8) k (⟨l.val % 256, by omega⟩ : Fin 256)).trans
      (congrArg (fun y => argW m c (ix2 k y)) hC)

theorem final (c : Dev nD) : (dats m 0 c).arrAt 2 cfg0.N = val (argA m c) (argW m c) :=
  (dats m 0 c).arrAt_eq_of_cover 2 _ (fun t _ => flushed_eq m c t) fun i => by
    have h0 : (i 0 : Nat) < 2048 := (i 0).isLt
    have h1 : (i 1 : Nat) < 2048 := (i 1).isLt
    obtain ⟨t, ht, ha, hb⟩ := idx_onto ⟨(i 0 : Nat) / 1024, by omega⟩ ⟨(i 1 : Nat) / 1024, by omega⟩
    refine ⟨t, ht, ?_⟩
    show i ∈ ((View.whole main_v4).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [ha]; dsimp only; omega
    | ⟨1, _⟩ => show win0_2.index t 1 * 1024 ≤ (i 1 : Nat) ∧ (i 1 : Nat) < win0_2.index t 1 * 1024 + 1024; rw [hb]; dsimp only; omega

theorem claim : Cert.algebraic_PoIdeal_RefPoIdeal (hPoIdeal := Cert.PoIdeal.Gen.facts) (hRefPoIdeal := Cert.RefPoIdeal.Gen.facts) := by
  intro m g m' g' _ hargs
  refine ⟨fun c => val (argA m c) (argW m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefPoIdeal.Value.run (F := Ideal) m' g')
    obtain ⟨hv, hr⟩ := h c
    refine ⟨hv.trans ?_, hr⟩
    rw [(hargs c).1, (hargs c).2]
    funext j
    unfold val
    pointwise

end Cert.Proof.Po

end
-- ==== Proof.Mix.lean ====
module

public import proofs.«01_k».proof.Defs
public import proofs.«01_k».proof.Proof.Gen.Mix.Frame
public import proofs.«01_k».proof.Proof.Gen.MixIdeal.Value
public import proofs.«01_k».proof.Proof.Gen.RefMixIdeal.Run
public import Idealize.ShloMosaic.Lib.Pipeline.Value
public import Idealize.ShloMosaic.Lib.Pointwise
public import proofs.«01_k».proof.Proof.Common

@[expose] public section

set_option maxRecDepth 16384

noncomputable section

namespace Cert.Proof.Mix

open Idealize.ShloMosaic Idealize.SL.Sem Cert.MixIdeal
open Cert.MixIdeal.Gen Idealize.ShloMosaic.TcCoe
open Cert.Proof.Common
open Idealize.ShloMosaic.Pipeline (Dat Cfg Window)

/-- What a grid point stores, element by element: a row of the merged branches against a column of the weights. -/
theorem pay_apply (x0 : Vec Ideal S1024x2048 .bf16) (x1 : Vec Ideal S1x2048x1024 .bf16) (r l : Fin 1024) :
    k0_pay1 x0 x1 (ix2 r l) = ∑ k : Fin 2048, x0 (ix2 r k) * x1 (ix3 0 k l) := by
  pointwise [k0_pay1]

theorem out_eq (x0 : Vec Ideal S1024x2048 .bf16) (x1 : Vec Ideal S1x2048x1024 .bf16) : out0_2 x0 x1 = k0_pay1 x0 x1 := by
  unfold out0_2
  rw [View.canon_unit_zero z2, View.ld_unit_zero (S := S1024x2048) z2, View.ld_unit_zero (S := S1x2048x1024) z3]

/-- Which blocks of the operands a point reads, by the block it writes. -/
theorem idx_facts : ∀ t : Fin cfg0.N,
    win0_0.index t 0 = win0_2.index t 0 ∧ win0_0.index t 1 = 0 ∧ win0_1.index t 0 = 0
    ∧ win0_1.index t 1 = 0 ∧ win0_1.index t 2 = win0_2.index t 1 :=
  (by decide +kernel : ∀ t : Fin grid0.N,
    win0_0.index t 0 = win0_2.index t 0 ∧ win0_0.index t 1 = 0 ∧ win0_1.index t 0 = 0
    ∧ win0_1.index t 1 = 0 ∧ win0_1.index t 2 = win0_2.index t 1)

/-- Every block of the output is some point's. -/
theorem idx_onto : ∀ a : Fin 2, ∀ b : Fin 2, ∃ t : Fin cfg0.N, win0_2.flush t = true ∧ win0_2.index t 0 = a.val ∧ win0_2.index t 1 = b.val :=
  (by decide +kernel : ∀ a : Fin 2, ∀ b : Fin 2, ∃ t : Fin grid0.N, win0_2.flush t = true ∧ win0_2.index t 0 = a.val ∧ win0_2.index t 1 = b.val)

/-- The merged branches times the output weights, element by element. -/
def val (a w : FVec Ideal S2048x2048 .f32) : FVec Ideal S2048x2048 .f32 :=
  fun j => ∑ k : Fin 2048, a (ix2 (j 0) k) * w (ix2 k (j 1))

variable (m : (ℓ : Loc nD τ sig) → Buf (Elt Ideal) ℓ) (ρ : Dev nD → PrngReg)

/-- The two arguments as launched. -/
abbrev argA (c : Dev nD) : FVec Ideal S2048x2048 .f32 := m ((c : Thread nD τ).loc main_arg0)
abbrev argW (c : Dev nD) : FVec Ideal S2048x2048 .f32 := m ((c : Thread nD τ).loc main_arg1)

theorem V0 (c : Dev nD) : (V m c main_v0 : FVec Ideal S2048x2048 .bf16) = truncf .bf16 (argA m c) bitsLt_bf16_f32 := by
  unfold V hostOps0
  after_results

theorem V2 (c : Dev nD) : (V m c main_v2 : FVec Ideal S1x2048x2048 .bf16)
    = shapeCast S1x2048x2048 (truncf .bf16 (argW m c) bitsLt_bf16_f32 : FVec Ideal S2048x2048 .bf16) shapeCasts_S2048x2048_S1x2048x2048 := by
  unfold V hostOps0
  after_results
  rfl

theorem flushed_eq (c : Dev nD) (t : Fin cfg0.N) :
    (dats m 0 c).flushed 2 t = ((cfg0.win 2).blk t).view.read (Elt Ideal) (val (argA m c) (argW m c)) := by
  rw [Value.flushed2, out_eq]
  obtain ⟨h00, h01, h10, h11, h12⟩ := idx_facts t
  funext j
  obtain ⟨r, l, rfl⟩ : ∃ (r l : Fin 1024), j = ix2 r l := ⟨j 0, j 1, eq_ix2 j⟩
  refine (pay_apply _ _ r l).trans ?_
  have e0 : ∀ k, iblk m c 0 t (ix2 r k) = argA m c (ix2 ((win0_2.rect t).idx (ix2 r l) 0) k) := by
    intro k
    show (V m c main_v0 : FVec Ideal S2048x2048 .bf16) _ = _
    rw [V0]
    exact congrArg (argA m c) <| funext fun a => Fin.ext <|
      match a with
      | ⟨0, _⟩ => by show win0_0.index t 0 * 1024 + 1 * r.val = win0_2.index t 0 * 1024 + 1 * r.val; rw [h00]
      | ⟨1, _⟩ => by show win0_0.index t 1 * 2048 + 1 * k.val = k.val; rw [h01]; omega
  have e1 : ∀ k, iblk m c 1 t (ix3 0 k l) = argW m c (ix2 k ((win0_2.rect t).idx (ix2 r l) 1)) := by
    intro k
    show (V m c main_v2 : FVec Ideal S1x2048x2048 .bf16) _ = _
    rw [V2]
    have : ((win0_1.blk t).view.emb (ix3 0 k l)) = ix3 0 k ((win0_2.rect t).idx (ix2 r l) 1) := funext fun a => Fin.ext <|
      match a with
      | ⟨0, _⟩ => by show win0_1.index t 0 * 1 + 1 * 0 = 0; rw [h10]
      | ⟨1, _⟩ => by show win0_1.index t 1 * 2048 + 1 * k.val = k.val; rw [h11]; omega
      | ⟨2, _⟩ => by show win0_1.index t 2 * 1024 + 1 * l.val = win0_2.index t 1 * 1024 + 1 * l.val; rw [h12]
    rw [this]
    pointwise
  simp only [e0, e1]
  rfl

theorem final (c : Dev nD) : (dats m 0 c).arrAt 2 cfg0.N = val (argA m c) (argW m c) :=
  (dats m 0 c).arrAt_eq_of_cover 2 _ (fun t _ => flushed_eq m c t) fun i => by
    have h0 : (i 0 : Nat) < 2048 := (i 0).isLt
    have h1 : (i 1 : Nat) < 2048 := (i 1).isLt
    obtain ⟨t, ht, ha, hb⟩ := idx_onto ⟨(i 0 : Nat) / 1024, by omega⟩ ⟨(i 1 : Nat) / 1024, by omega⟩
    refine ⟨t, ht, ?_⟩
    show i ∈ ((View.whole main_v3).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [ha]; dsimp only; omega
    | ⟨1, _⟩ => show win0_2.index t 1 * 1024 ≤ (i 1 : Nat) ∧ (i 1 : Nat) < win0_2.index t 1 * 1024 + 1024; rw [hb]; dsimp only; omega

theorem claim : Cert.algebraic_MixIdeal_RefMixIdeal (hMixIdeal := Cert.MixIdeal.Gen.facts) (hRefMixIdeal := Cert.RefMixIdeal.Gen.facts) := by
  intro m g m' g' _ hargs
  refine ⟨fun c => val (argA m c) (argW m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefMixIdeal.Value.run (F := Ideal) m' g')
    obtain ⟨hv, hr⟩ := h c
    refine ⟨hv.trans ?_, hr⟩
    rw [(hargs c).1, (hargs c).2]
    funext j
    unfold val
    pointwise

end Cert.Proof.Mix

end
-- ==== Proof.Ff1.lean ====
module

public import proofs.«01_k».proof.Defs
public import proofs.«01_k».proof.Proof.Gen.Ff1.Frame
public import proofs.«01_k».proof.Proof.Gen.Ff1Ideal.Value
public import proofs.«01_k».proof.Proof.Gen.RefFf1Ideal.Run
public import Idealize.ShloMosaic.Lib.Pipeline.Value
public import Idealize.ShloMosaic.Lib.Pointwise
public import proofs.«01_k».proof.Proof.Common

@[expose] public section

set_option maxRecDepth 16384

noncomputable section

namespace Cert.Proof.Ff1

open Idealize.ShloMosaic Idealize.SL.Sem Cert.Ff1Ideal
open Cert.Ff1Ideal.Gen Idealize.ShloMosaic.TcCoe
open Cert.Proof.Common
open Idealize.ShloMosaic.Pipeline (Dat Cfg Window)

/-- What a grid point stores, element by element: a row against a column of the weights, cut off below at zero. -/
theorem pay_apply (x0 : Vec Ideal S1024x2048 .bf16) (x1 : Vec Ideal S1x2048x1024 .bf16) (r l : Fin 1024) :
    k0_pay1 x0 x1 (ix2 r l) = max (∑ k : Fin 2048, x0 (ix2 r k) * x1 (ix3 0 k l)) 0 := by
  pointwise [k0_pay1]

theorem out_eq (x0 : Vec Ideal S1024x2048 .bf16) (x1 : Vec Ideal S1x2048x1024 .bf16) : out0_2 x0 x1 = k0_pay1 x0 x1 := by
  unfold out0_2
  rw [View.canon_unit_zero z2, View.ld_unit_zero (S := S1024x2048) z2, View.ld_unit_zero (S := S1x2048x1024) z3]

/-- Which blocks of the operands a point reads, by the block it writes. -/
theorem idx_facts : ∀ t : Fin cfg0.N,
    win0_0.index t 0 = win0_2.index t 0 ∧ win0_0.index t 1 = 0 ∧ win0_1.index t 0 = win0_2.index t 1
    ∧ win0_1.index t 1 = 0 ∧ win0_1.index t 2 = 0 ∧ win0_2.index t 1 < 8 :=
  (by decide +kernel : ∀ t : Fin grid0.N,
    win0_0.index t 0 = win0_2.index t 0 ∧ win0_0.index t 1 = 0 ∧ win0_1.index t 0 = win0_2.index t 1
    ∧ win0_1.index t 1 = 0 ∧ win0_1.index t 2 = 0 ∧ win0_2.index t 1 < 8)

/-- Every block of the output is some point's. -/
theorem idx_onto : ∀ a : Fin 2, ∀ b : Fin 8, ∃ t : Fin cfg0.N, win0_2.flush t = true ∧ win0_2.index t 0 = a.val ∧ win0_2.index t 1 = b.val :=
  (by decide +kernel : ∀ a : Fin 2, ∀ b : Fin 8, ∃ t : Fin grid0.N, win0_2.flush t = true ∧ win0_2.index t 0 = a.val ∧ win0_2.index t 1 = b.val)

/-- The hidden layer of the feed-forward part, element by element. -/
def val (a : FVec Ideal S2048x2048 .f32) (w : FVec Ideal S2048x8192 .f32) : FVec Ideal S2048x8192 .bf16 :=
  fun j => max (∑ k : Fin 2048, a (ix2 (j 0) k) * w (ix2 k (j 1))) 0

variable (m : (ℓ : Loc nD τ sig) → Buf (Elt Ideal) ℓ) (ρ : Dev nD → PrngReg)

/-- The two arguments as launched. -/
abbrev argA (c : Dev nD) : FVec Ideal S2048x2048 .f32 := m ((c : Thread nD τ).loc main_arg0)
abbrev argW (c : Dev nD) : FVec Ideal S2048x8192 .f32 := m ((c : Thread nD τ).loc main_arg1)

theorem V0 (c : Dev nD) : (V m c main_v0 : FVec Ideal S2048x2048 .bf16) = truncf .bf16 (argA m c) bitsLt_bf16_f32 := by
  unfold V hostOps0
  after_results

theorem V3 (c : Dev nD) : (V m c main_v3 : FVec Ideal S8x2048x1024 .bf16)
    = truncf .bf16 (transpose S8x2048x1024 [1, 0, 2] (shapeCast S2048x8x1024 (argW m c) shapeCasts_S2048x8192_S2048x8x1024) transposes_S2048x8x1024_S8x2048x1024_1_0_2) bitsLt_bf16_f32 := by
  unfold V hostOps0
  after_results
  rfl

theorem V3_apply (c : Dev nD) (p : Fin 8) (q : Fin 2048) (l : Fin 1024) :
    (V m c main_v3 : FVec Ideal S8x2048x1024 .bf16) (ix3 p q l) = argW m c (ix2 q ⟨p.val * 1024 + l.val, by omega⟩) := by
  rw [V3]
  pointwise

theorem flushed_eq (c : Dev nD) (t : Fin cfg0.N) :
    (dats m 0 c).flushed 2 t = ((cfg0.win 2).blk t).view.read (Elt Ideal) (val (argA m c) (argW m c)) := by
  rw [Value.flushed2, out_eq]
  obtain ⟨h00, h01, h10, h11, h12, -⟩ := idx_facts t
  funext j
  obtain ⟨r, l, rfl⟩ : ∃ (r l : Fin 1024), j = ix2 r l := ⟨j 0, j 1, eq_ix2 j⟩
  refine (pay_apply _ _ r l).trans ?_
  have e0 : ∀ k, iblk m c 0 t (ix2 r k) = argA m c (ix2 ((win0_2.rect t).idx (ix2 r l) 0) k) := by
    intro k
    show (V m c main_v0 : FVec Ideal S2048x2048 .bf16) _ = _
    rw [V0]
    exact congrArg (argA m c) <| funext fun a => Fin.ext <|
      match a with
      | ⟨0, _⟩ => by show win0_0.index t 0 * 1024 + 1 * r.val = win0_2.index t 0 * 1024 + 1 * r.val; rw [h00]
      | ⟨1, _⟩ => by show win0_0.index t 1 * 2048 + 1 * k.val = k.val; rw [h01]; omega
  have e1 : ∀ k, iblk m c 1 t (ix3 0 k l) = argW m c (ix2 k ((win0_2.rect t).idx (ix2 r l) 1)) := by
    intro k
    show (V m c main_v3 : FVec Ideal S8x2048x1024 .bf16) _ = _
    have hb : win0_2.index t 1 < 8 := (idx_facts t).2.2.2.2.2
    have : ((win0_1.blk t).view.emb (ix3 0 k l)) = ix3 (⟨win0_2.index t 1, hb⟩ : Fin 8) k l := funext fun a => Fin.ext <|
      match a with
      | ⟨0, _⟩ => by show win0_1.index t 0 * 1 + 1 * 0 = win0_2.index t 1; rw [h10]; omega
      | ⟨1, _⟩ => by show win0_1.index t 1 * 2048 + 1 * k.val = k.val; rw [h11]; omega
      | ⟨2, _⟩ => by show win0_1.index t 2 * 1024 + 1 * l.val = l.val; rw [h12]; omega
    rw [this]
    refine (V3_apply m c _ _ _).trans (congrArg (argW m c) <| funext fun a => Fin.ext <|
      match a with
      | ⟨0, _⟩ => rfl
      | ⟨1, _⟩ => by show win0_2.index t 1 * 1024 + l.val = win0_2.index t 1 * 1024 + 1 * l.val; omega)
  simp only [e0, e1]
  rfl

theorem final (c : Dev nD) : (dats m 0 c).arrAt 2 cfg0.N = val (argA m c) (argW m c) :=
  (dats m 0 c).arrAt_eq_of_cover 2 _ (fun t _ => flushed_eq m c t) fun i => by
    have h0 : (i 0 : Nat) < 2048 := (i 0).isLt
    have h1 : (i 1 : Nat) < 8192 := (i 1).isLt
    obtain ⟨t, ht, ha, hb⟩ := idx_onto ⟨(i 0 : Nat) / 1024, by omega⟩ ⟨(i 1 : Nat) / 1024, by omega⟩
    refine ⟨t, ht, ?_⟩
    show i ∈ ((View.whole main_v4).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [ha]; dsimp only; omega
    | ⟨1, _⟩ => show win0_2.index t 1 * 1024 ≤ (i 1 : Nat) ∧ (i 1 : Nat) < win0_2.index t 1 * 1024 + 1024; rw [hb]; dsimp only; omega

theorem claim : Cert.algebraic_Ff1Ideal_RefFf1Ideal (hFf1Ideal := Cert.Ff1Ideal.Gen.facts) (hRefFf1Ideal := Cert.RefFf1Ideal.Gen.facts) := by
  intro m g m' g' _ hargs
  refine ⟨fun c => val (argA m c) (argW m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefFf1Ideal.Value.run (F := Ideal) m' g')
    obtain ⟨hv, hr⟩ := h c
    refine ⟨hv.trans ?_, hr⟩
    rw [(hargs c).1, (hargs c).2]
    funext j
    unfold val
    pointwise

end Cert.Proof.Ff1

end
-- ==== Proof.Ff2.lean ====
module

public import proofs.«01_k».proof.Defs
public import proofs.«01_k».proof.Proof.Gen.Ff2.Frame
public import proofs.«01_k».proof.Proof.Gen.Ff2Ideal.Value
public import proofs.«01_k».proof.Proof.Gen.RefFf2Ideal.Run
public import Idealize.ShloMosaic.Lib.Pipeline.Value
public import Idealize.ShloMosaic.Lib.Pointwise
public import proofs.«01_k».proof.Proof.Common

@[expose] public section

set_option maxRecDepth 16384

noncomputable section

namespace Cert.Proof.Ff2

open Idealize.ShloMosaic Idealize.SL.Sem Cert.Ff2Ideal
open Cert.Ff2Ideal.Gen Idealize.ShloMosaic.TcCoe
open Cert.Proof.Common
open Idealize.ShloMosaic.Pipeline (Dat Cfg Window)

/-- The partial product of one point: squared activations against weights, over a quarter of the contracted axis. -/
theorem part_apply (x0 : Vec Ideal S1024x2048 .bf16) (x1 : Vec Ideal S1x2048x1024 .bf16) (r l : Fin 1024) :
    k0_pay1 x0 x1 (ix2 r l) = ∑ k : Fin 2048, x0 (ix2 r k) * x0 (ix2 r k) * x1 (ix3 0 k l) := by
  pointwise [k0_pay1]

/-- The first point of a run leaves its partial product in the scratch. -/
theorem sout_A (c : Dev nD) (i : grid0.Coords) (a3 : Memref sig .tc .vmem S1024x2048 .bf16) (ha3 : a3.IsWhole) (a4 : Memref sig .tc .vmem S1x2048x1024 .bf16) (ha4 : a4.IsWhole)
    (a5 : Memref sig .tc .vmem S1024x1024 .f32) (ha5 : a5.IsWhole) (a6 : Memref sig .tc .vmem S1024x1024 .f32) (ha6 : a6.IsWhole)
    (hc0 : cond0_0 i) (hc1 : ¬cond0_1 i) (hc2 : ¬cond0_2 i) (x0 : Vec Ideal S1024x2048 .bf16) (x1 : Vec Ideal S1x2048x1024 .bf16) :
    sout0_A_0 c i a3 ha3 a4 ha4 a5 ha5 a6 ha6 hc0 hc1 hc2 x0 x1 = k0_pay1 x0 x1 := by
  unfold sout0_A_0
  rw [View.read_writes_eq_canon _ _ _ (scover0_A_0 c i a3 ha3 a4 ha4 a5 ha5 a6 ha6 hc0 hc1 hc2 x0 x1)]
  unfold kernelRun0_A
  dsimp only
  rw [View.canon_unit_zero z2]
  unfold k0_pay2
  simp only [View.readAt_eq_ld, ha3.read_unread, ha4.read_unread, View.ld_unit_zero (S := S1024x2048) z2, View.ld_unit_zero (S := S1x2048x1024) z3, shapeCast_self]

/-- The two in the middle add theirs to it. -/
theorem sout_B (c : Dev nD) (i : grid0.Coords) (a3 : Memref sig .tc .vmem S1024x2048 .bf16) (ha3 : a3.IsWhole) (a4 : Memref sig .tc .vmem S1x2048x1024 .bf16) (ha4 : a4.IsWhole)
    (a5 : Memref sig .tc .vmem S1024x1024 .f32) (ha5 : a5.IsWhole) (a6 : Memref sig .tc .vmem S1024x1024 .f32) (ha6 : a6.IsWhole)
    (hc0 : ¬cond0_0 i) (hc1 : cond0_1 i) (hc2 : ¬cond0_2 i) (x0 : Vec Ideal S1024x2048 .bf16) (x1 : Vec Ideal S1x2048x1024 .bf16) (xs : Vec Ideal S1024x1024 .f32) :
    sout0_B_0 c i a3 ha3 a4 ha4 a5 ha5 a6 ha6 hc0 hc1 hc2 x0 x1 xs = addf xs (k0_pay1 x0 x1) := by
  unfold sout0_B_0
  rw [View.read_writes_eq_canon _ _ _ (scover0_B_0 c i a3 ha3 a4 ha4 a5 ha5 a6 ha6 hc0 hc1 hc2 x0 x1 xs)]
  unfold kernelRun0_B
  dsimp only
  sl_unfold_words
  rw [View.canon_unit_zero z2]
  unfold k0_pay3
  simp only [View.readAt_eq_ld, ha3.read_unread, ha4.read_unread, ha6.read_unread, View.ld_unit_zero (S := S1024x2048) z2, View.ld_unit_zero (S := S1x2048x1024) z3,
    View.ld_unit_zero (S := S1024x1024) z2, shapeCast_self]

/-- The last adds its own and stores the sum. -/
theorem out_C (c : Dev nD) (i : grid0.Coords) (a3 : Memref sig .tc .vmem S1024x2048 .bf16) (ha3 : a3.IsWhole) (a4 : Memref sig .tc .vmem S1x2048x1024 .bf16) (ha4 : a4.IsWhole)
    (a5 : Memref sig .tc .vmem S1024x1024 .f32) (ha5 : a5.IsWhole) (a6 : Memref sig .tc .vmem S1024x1024 .f32) (ha6 : a6.IsWhole)
    (hc0 : ¬cond0_0 i) (hc1 : ¬cond0_1 i) (hc2 : cond0_2 i) (x0 : Vec Ideal S1024x2048 .bf16) (x1 : Vec Ideal S1x2048x1024 .bf16) (xs : Vec Ideal S1024x1024 .f32) :
    out0_C_2 c i a3 ha3 a4 ha4 a5 ha5 a6 ha6 hc0 hc1 hc2 x0 x1 xs = addf xs (k0_pay1 x0 x1) := by
  unfold out0_C_2
  rw [View.read_writes_eq_canon _ _ _ (cover0_C_2 c i a3 ha3 a4 ha4 a5 ha5 a6 ha6 hc0 hc1 hc2 x0 x1 xs)]
  unfold kernelRun0_C
  dsimp only
  sl_unfold_words
  rw [View.canon_unit_zero z2]
  unfold k0_pay4
  simp only [View.readAt_eq_ld, ha3.read_unread, ha4.read_unread, ha6.read_unread, View.ld_unit_zero (S := S1024x2048) z2, View.ld_unit_zero (S := S1x2048x1024) z3,
    View.ld_unit_zero (S := S1024x1024) z2, shapeCast_self]

/-- Which blocks a point reads, by the block of the output and the quarter of the contracted axis it is at. -/
theorem idx_facts : ∀ t : Fin cfg0.N,
    win0_0.index t 0 = win0_2.index t 0 ∧ win0_0.index t 1 = t.val % 4
    ∧ win0_1.index t 0 = 0 ∧ win0_1.index t 1 = t.val % 4 ∧ win0_1.index t 2 = win0_2.index t 1
    ∧ win0_2.index t 0 = t.val / 8 ∧ win0_2.index t 1 = t.val / 4 % 2 :=
  (by decide +kernel : ∀ t : Fin grid0.N,
    win0_0.index t 0 = win0_2.index t 0 ∧ win0_0.index t 1 = t.val % 4
    ∧ win0_1.index t 0 = 0 ∧ win0_1.index t 1 = t.val % 4 ∧ win0_1.index t 2 = win0_2.index t 1
    ∧ win0_2.index t 0 = t.val / 8 ∧ win0_2.index t 1 = t.val / 4 % 2)

theorem flush_iff : ∀ t : Fin cfg0.N, win0_2.flush t = true ↔ t.val % 4 = 3 :=
  (by decide +kernel : ∀ t : Fin grid0.N, win0_2.flush t = true ↔ t.val % 4 = 3)

/-- One product of the layer: the square of a rectified activation times a weight. -/
def term (a : FVec Ideal S2048x8192 .f32) (w : FVec Ideal S8192x2048 .f32) (R C : Fin 2048) (k : Fin 8192) : EReal :=
  max (a (ix2 R k)) 0 * max (a (ix2 R k)) 0 * w (ix2 k C)

/-- The layer's result, element by element. -/
def val (a : FVec Ideal S2048x8192 .f32) (w : FVec Ideal S8192x2048 .f32) : FVec Ideal S2048x2048 .f32 :=
  fun j => ∑ k : Fin 8192, term a w (j 0) (j 1) k

variable (m : (ℓ : Loc nD τ sig) → Buf (Elt Ideal) ℓ) (ρ : Dev nD → PrngReg)

/-- The arguments as launched. -/
abbrev argA (c : Dev nD) : FVec Ideal S2048x8192 .f32 := m ((c : Thread nD τ).loc main_arg0)
abbrev argW (c : Dev nD) : FVec Ideal S8192x2048 .f32 := m ((c : Thread nD τ).loc main_arg1)

theorem V2 (c : Dev nD) : (V m c main_v2 : FVec Ideal S2048x8192 .bf16)
    = truncf .bf16 (maximumf (argA m c) (broadcastInDim S2048x8192 ![] bcast_S_S2048x8192 (constant S_ .f32 0x00000000#32))) bitsLt_bf16_f32 := by
  unfold V hostOps0
  after_results

theorem V2_apply (c : Dev nD) (R : Fin 2048) (k : Fin 8192) : (V m c main_v2 : FVec Ideal S2048x8192 .bf16) (ix2 R k) = max (argA m c (ix2 R k)) 0 := by
  rw [V2]
  pointwise

theorem V4 (c : Dev nD) : (V m c main_v4 : FVec Ideal S1x8192x2048 .bf16)
    = shapeCast S1x8192x2048 (truncf .bf16 (argW m c) bitsLt_bf16_f32) shapeCasts_S8192x2048_S1x8192x2048 := by
  unfold V hostOps0
  after_results
  rfl

theorem V4_apply (c : Dev nD) (k : Fin 8192) (C : Fin 2048) : (V m c main_v4 : FVec Ideal S1x8192x2048 .bf16) (ix3 0 k C) = argW m c (ix2 k C) := by
  rw [V4]
  pointwise

/-- What a point adds: a quarter of the contracted axis of the block it is at. -/
theorem part_eq (c : Dev nD) (t : Fin cfg0.N) (R C : Fin 2048) (r l : Fin 1024) (q : Fin 4) (hq : t.val % 4 = q.val)
    (hR : R.val = win0_2.index t 0 * 1024 + r.val) (hC : C.val = win0_2.index t 1 * 1024 + l.val) :
    k0_pay1 (iblk m c 0 t) (iblk m c 1 t) (ix2 r l) = ∑ k : Fin 2048, term (argA m c) (argW m c) R C ⟨q.val * 2048 + k.val, by omega⟩ := by
  obtain ⟨h00, h01, h10, h11, h12, -, -⟩ := idx_facts t
  have hA : ∀ k : Fin 2048, iblk m c 0 t (ix2 r k) = max (argA m c (ix2 R ⟨q.val * 2048 + k.val, by omega⟩)) 0 := fun k => by
    show (V m c main_v2 : FVec Ideal S2048x8192 .bf16) _ = _
    have : (win0_0.blk t).view.emb (ix2 r k) = ix2 R (⟨q.val * 2048 + k.val, by omega⟩ : Fin 8192) := funext fun a => Fin.ext <|
      match a with
      | ⟨0, _⟩ => by show win0_0.index t 0 * 1024 + 1 * r.val = R.val; rw [h00]; omega
      | ⟨1, _⟩ => by show win0_0.index t 1 * 2048 + 1 * k.val = q.val * 2048 + k.val; rw [h01]; omega
    rw [this]
    exact V2_apply m c R ⟨q.val * 2048 + k.val, by omega⟩
  have hW : ∀ k : Fin 2048, iblk m c 1 t (ix3 0 k l) = argW m c (ix2 ⟨q.val * 2048 + k.val, by omega⟩ C) := fun k => by
    show (V m c main_v4 : FVec Ideal S1x8192x2048 .bf16) _ = _
    have : (win0_1.blk t).view.emb (ix3 0 k l) = ix3 (0 : Fin 1) (⟨q.val * 2048 + k.val, by omega⟩ : Fin 8192) C := funext fun a => Fin.ext <|
      match a with
      | ⟨0, _⟩ => by show win0_1.index t 0 * 1 + 1 * 0 = 0; rw [h10]
      | ⟨1, _⟩ => by show win0_1.index t 1 * 2048 + 1 * k.val = q.val * 2048 + k.val; rw [h11]; omega
      | ⟨2, _⟩ => by show win0_1.index t 2 * 1024 + 1 * l.val = C.val; rw [h12]; omega
    rw [this]
    exact V4_apply m c ⟨q.val * 2048 + k.val, by omega⟩ C
  refine (part_apply (iblk m c 0 t) (iblk m c 1 t) r l).trans (Finset.sum_congr rfl fun k _ => ?_)
  exact congrArg₂ (fun a b : EReal => a * a * b) (hA k) (hW k)

theorem flushed_eq (c : Dev nD) (t : Fin cfg0.N) (hf : (cfg0.win 2).flush t = true) :
    (dats m 0 c).flushed 2 t = ((cfg0.win 2).blk t).view.read (Elt Ideal) (val (argA m c) (argW m c)) := by
  have h3 : t.val % 4 = 3 := (flush_iff t).mp hf
  have hlt : ∀ d, t.val - d < cfg0.N := fun d => Nat.lt_of_le_of_lt (Nat.sub_le _ _) t.isLt
  let u : Fin 4 → Fin cfg0.N := fun d => ⟨t.val - d.val, hlt d.val⟩
  have hu1 : (u 1).val = t.val - 1 := rfl
  have hu2 : (u 2).val = t.val - 2 := rfl
  have hu3 : (u 3).val = t.val - 3 := rfl
  have e1 : outsAt0 m c (t.val - 1) (hlt 1) = outsAt0 m c (u 1).val (u 1).isLt := rfl
  have e2 : outsAt0 m c ((u 1).val - 1) (Nat.lt_of_le_of_lt (Nat.sub_le _ _) (u 1).isLt) = outsAt0 m c (u 2).val (u 2).isLt := rfl
  have e3 : outsAt0 m c ((u 2).val - 1) (Nat.lt_of_le_of_lt (Nat.sub_le _ _) (u 2).isLt) = outsAt0 m c (u 3).val (u 3).isLt := rfl
  rw [Value.flushed2_C m c t (by omega) (by omega) h3, out_C, e1, outsAt0_B m c (u 1) (by omega) (by omega) (by omega), sout_B, e2,
    outsAt0_B m c (u 2) (by omega) (by omega) (by omega), sout_B, e3, outsAt0_A m c (u 3) (by omega) (by omega) (by omega), sout_A]
  have ft := idx_facts t
  have f1 := idx_facts (u 1)
  have f2 := idx_facts (u 2)
  have f3 := idx_facts (u 3)
  funext j
  obtain ⟨r, l, rfl⟩ : ∃ (r l : Fin 1024), j = ix2 r l := ⟨j 0, j 1, eq_ix2 j⟩
  show k0_pay1 (iblk m c 0 (u 3)) (iblk m c 1 (u 3)) (ix2 r l) + k0_pay1 (iblk m c 0 (u 2)) (iblk m c 1 (u 2)) (ix2 r l)
      + k0_pay1 (iblk m c 0 (u 1)) (iblk m c 1 (u 1)) (ix2 r l) + k0_pay1 (iblk m c 0 t) (iblk m c 1 t) (ix2 r l)
    = val (argA m c) (argW m c) ((win0_2.rect t).idx (ix2 r l))
  have hR : (((win0_2.rect t).idx (ix2 r l) 0 : Fin 2048)).val = win0_2.index t 0 * 1024 + r.val := by
    show win0_2.index t 0 * 1024 + 1 * r.val = _; omega
  have hC : (((win0_2.rect t).idx (ix2 r l) 1 : Fin 2048)).val = win0_2.index t 1 * 1024 + l.val := by
    show win0_2.index t 1 * 1024 + 1 * l.val = _; omega
  rw [part_eq m c t _ _ r l 3 h3 hR hC,
    part_eq m c (u 1) ((win0_2.rect t).idx (ix2 r l) 0) ((win0_2.rect t).idx (ix2 r l) 1) r l 2 (by show _ = 2; omega) (by omega) (by omega),
    part_eq m c (u 2) ((win0_2.rect t).idx (ix2 r l) 0) ((win0_2.rect t).idx (ix2 r l) 1) r l 1 (by show _ = 1; omega) (by omega) (by omega),
    part_eq m c (u 3) ((win0_2.rect t).idx (ix2 r l) 0) ((win0_2.rect t).idx (ix2 r l) 1) r l 0 (by show _ = 0; omega) (by omega) (by omega)]
  have e := sum_runs 4 2048 fun k => term (argA m c) (argW m c) ((win0_2.rect t).idx (ix2 r l) 0) ((win0_2.rect t).idx (ix2 r l) 1) k
  refine Eq.trans ?_ e.symm
  rw [Fin.sum_univ_four]

theorem final (c : Dev nD) : (dats m 0 c).arrAt 2 cfg0.N = val (argA m c) (argW m c) :=
  (dats m 0 c).arrAt_eq_of_cover 2 _ (flushed_eq m c) fun i => by
    have h0 : (i 0 : Nat) < 2048 := (i 0).isLt
    have h1 : (i 1 : Nat) < 2048 := (i 1).isLt
    have hN : cfg0.N = 16 := N_0
    let t : Fin cfg0.N := ⟨(i 0 : Nat) / 1024 * 8 + (i 1 : Nat) / 1024 * 4 + 3, by omega⟩
    obtain ⟨-, -, -, -, -, ha, hb⟩ := idx_facts t
    have ht : t.val = (i 0 : Nat) / 1024 * 8 + (i 1 : Nat) / 1024 * 4 + 3 := rfl
    refine ⟨t, (flush_iff t).mpr (by omega), ?_⟩
    show i ∈ ((View.whole main_v5).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [ha]; omega
    | ⟨1, _⟩ => show win0_2.index t 1 * 1024 ≤ (i 1 : Nat) ∧ (i 1 : Nat) < win0_2.index t 1 * 1024 + 1024; rw [hb]; omega

theorem claim : Cert.algebraic_Ff2Ideal_RefFf2Ideal (hFf2Ideal := Cert.Ff2Ideal.Gen.facts) (hRefFf2Ideal := Cert.RefFf2Ideal.Gen.facts) := by
  intro m g m' g' _ hargs
  refine ⟨fun c => val (argA m c) (argW m c), ?_, ?_⟩
  · refine (θ_run defs _ _).mono (fun r h c => ?_) (Value.run_blocks (F := Ideal) m g)
    exact ⟨(h c).1.trans (final m c), (h c).2⟩
  · refine (θ_run _ _ _).mono (fun r h c => ?_) (Cert.RefFf2Ideal.Value.run (F := Ideal) m' g')
    obtain ⟨hv, hr⟩ := h c
    refine ⟨hv.trans ?_, hr⟩
    rw [(hargs c).1, (hargs c).2]
    funext j
    unfold val term
    pointwise

end Cert.Proof.Ff2

end
-- ==== Proof.Pscale.lean ====
module

public import proofs.«01_k».proof.Defs
public import proofs.«01_k».proof.Proof.Gen.Pscale.Frame
public import proofs.«01_k».proof.Proof.Gen.PscaleIdeal.Value
public import proofs.«01_k».proof.Proof.Gen.RefPscaleIdeal.Run
public import Idealize.ShloMosaic.Lib.Pipeline.Value
public import Idealize.ShloMosaic.Lib.Pointwise
public import proofs.«01_k».proof.Proof.Common

@[expose] public section

set_option maxRecDepth 16384

noncomputable section

namespace Cert.Proof.Pscale

open Idealize.ShloMosaic Idealize.SL.Sem Cert.PscaleIdeal
open Cert.PscaleIdeal.Gen Idealize.ShloMosaic.TcCoe
open Cert.Proof.Common
open Idealize.ShloMosaic.Pipeline (Dat Cfg Window)

/-- The gradient of the scaled array, element by element: a cotangent times the scale of its column. -/
theorem pay2_apply (x0 : Vec Ideal S256x1024 .f32) (x2 : Vec Ideal S1x1024 .f32) (r : Fin 256) (l : Fin 1024) :
    k0_pay2 x0 x2 (ix2 r l) = x0 (ix2 r l) * x2 (ix2 0 l) := by
  pointwise [k0_pay2]

/-- What one block of rows adds to the gradient of the scale. -/
theorem pay1_apply (x0 x1 : Vec Ideal S256x1024 .f32) (l : Fin 1024) :
    k0_pay1 x0 x1 (ix2 0 l) = ∑ k : Fin 256, x0 (ix2 k l) * x1 (ix2 k l) := by
  pointwise [k0_pay1]

theorem pay3_apply (x0 x1 : Vec Ideal S256x1024 .f32) (xo : Vec Ideal S1x1024 .f32) (l : Fin 1024) :
    k0_pay3 x0 x1 xo (ix2 0 l) = xo (ix2 0 l) + k0_pay1 x0 x1 (ix2 0 l) := by
  unfold k0_pay3
  simp only [shapeCast_self]
  rfl

/-- The first point stores its block of the scaled cotangent -/
theorem out_A3 (c : Dev nD) (i : grid0.Coords) (a1 : Memref sig .tc .vmem S256x1024 .f32) (h1 : a1.IsWhole) (a2 : Memref sig .tc .vmem S256x1024 .f32) (h2 : a2.IsWhole)
    (a3 : Memref sig .tc .vmem S1x1024 .f32) (h3 : a3.IsWhole) (a4 : Memref sig .tc .vmem S256x1024 .bf16) (h4 : a4.IsWhole)
    (a5 : Memref sig .tc .vmem S1x1024 .f32) (h5 : a5.IsWhole) (hc0 : cond0_0 i) (hc1 : ¬cond0_1 i)
    (x0 x1 : Vec Ideal S256x1024 .f32) (x2 : Vec Ideal S1x1024 .f32) :
    out0_A_3 c i a1 h1 a2 h2 a3 h3 a4 h4 a5 h5 hc0 hc1 x0 x1 x2 = k0_pay2 x0 x2 := by
  unfold out0_A_3
  rw [View.read_writes_eq_canon _ _ _ (cover0_A_3 c i a1 h1 a2 h2 a3 h3 a4 h4 a5 h5 hc0 hc1 x0 x1 x2)]
  unfold kernelRun0_A
  dsimp only
  sl_unfold_words
  rw [View.canon_unit_zero z2]
  simp only [View.readAt_eq_ld, h1.read_unread, h2.read_unread, h3.read_unread, h5.read_unread, View.ld_unit_zero (S := S256x1024) z2,
    View.ld_unit_zero (S := S1x1024) z2]

/-- and so do the others. -/
theorem out_B3 (c : Dev nD) (i : grid0.Coords) (a1 : Memref sig .tc .vmem S256x1024 .f32) (h1 : a1.IsWhole) (a2 : Memref sig .tc .vmem S256x1024 .f32) (h2 : a2.IsWhole)
    (a3 : Memref sig .tc .vmem S1x1024 .f32) (h3 : a3.IsWhole) (a4 : Memref sig .tc .vmem S256x1024 .bf16) (h4 : a4.IsWhole)
    (a5 : Memref sig .tc .vmem S1x1024 .f32) (h5 : a5.IsWhole) (hc0 : ¬cond0_0 i) (hc1 : cond0_1 i)
    (x0 x1 : Vec Ideal S256x1024 .f32) (x2 xo : Vec Ideal S1x1024 .f32) :
    out0_B_3 c i a1 h1 a2 h2 a3 h3 a4 h4 a5 h5 hc0 hc1 x0 x1 x2 xo = k0_pay2 x0 x2 := by
  unfold out0_B_3
  rw [View.read_writes_eq_canon _ _ _ (cover0_B_3 c i a1 h1 a2 h2 a3 h3 a4 h4 a5 h5 hc0 hc1 x0 x1 x2 xo)]
  unfold kernelRun0_B
  dsimp only
  sl_unfold_words
  rw [View.canon_unit_zero z2]
  simp only [View.readAt_eq_ld, h1.read_unread, h2.read_unread, h3.read_unread, h5.read_unread, View.ld_unit_zero (S := S256x1024) z2,
    View.ld_unit_zero (S := S1x1024) z2]

/-- The first point starts the gradient of the scale -/
theorem out_A4 (c : Dev nD) (i : grid0.Coords) (a1 : Memref sig .tc .vmem S256x1024 .f32) (h1 : a1.IsWhole) (a2 : Memref sig .tc .vmem S256x1024 .f32) (h2 : a2.IsWhole)
    (a3 : Memref sig .tc .vmem S1x1024 .f32) (h3 : a3.IsWhole) (a4 : Memref sig .tc .vmem S256x1024 .bf16) (h4 : a4.IsWhole)
    (a5 : Memref sig .tc .vmem S1x1024 .f32) (h5 : a5.IsWhole) (hc0 : cond0_0 i) (hc1 : ¬cond0_1 i)
    (x0 x1 : Vec Ideal S256x1024 .f32) (x2 : Vec Ideal S1x1024 .f32) :
    out0_A_4 c i a1 h1 a2 h2 a3 h3 a4 h4 a5 h5 hc0 hc1 x0 x1 x2 = k0_pay1 x0 x1 := by
  unfold out0_A_4
  rw [View.read_writes_eq_canon _ _ _ (cover0_A_4 c i a1 h1 a2 h2 a3 h3 a4 h4 a5 h5 hc0 hc1 x0 x1 x2)]
  unfold kernelRun0_A
  dsimp only
  sl_unfold_words
  rw [View.canon_unit_zero z2]
  simp only [View.readAt_eq_ld, h1.read_unread, h2.read_unread, h3.read_unread, h5.read_unread, View.ld_unit_zero (S := S256x1024) z2,
    View.ld_unit_zero (S := S1x1024) z2]

/-- and the others add to it. -/
theorem out_B4 (c : Dev nD) (i : grid0.Coords) (a1 : Memref sig .tc .vmem S256x1024 .f32) (h1 : a1.IsWhole) (a2 : Memref sig .tc .vmem S256x1024 .f32) (h2 : a2.IsWhole)
    (a3 : Memref sig .tc .vmem S1x1024 .f32) (h3 : a3.IsWhole) (a4 : Memref sig .tc .vmem S256x1024 .bf16) (h4 : a4.IsWhole)
    (a5 : Memref sig .tc .vmem S1x1024 .f32) (h5 : a5.IsWhole) (hc0 : ¬cond0_0 i) (hc1 : cond0_1 i)
    (x0 x1 : Vec Ideal S256x1024 .f32) (x2 xo : Vec Ideal S1x1024 .f32) :
    out0_B_4 c i a1 h1 a2 h2 a3 h3 a4 h4 a5 h5 hc0 hc1 x0 x1 x2 xo = k0_pay3 x0 x1 xo := by
  unfold out0_B_4
  rw [View.read_writes_eq_canon _ _ _ (cover0_B_4 c i a1 h1 a2 h2 a3 h3 a4 h4 a5 h5 hc0 hc1 x0 x1 x2 xo)]
  unfold kernelRun0_B
  dsimp only
  sl_unfold_words
  rw [View.canon_unit_zero z2]
  simp only [View.readAt_eq_ld, h1.read_unread, h2.read_unread, h3.read_unread, h5.read_unread, View.ld_unit_zero (S := S256x1024) z2,
    View.ld_unit_zero (S := S1x1024) z2]

/-- Which blocks a point reads and writes. -/
theorem idx_facts : ∀ t : Fin cfg0.N,
    win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0
    ∧ win0_4.index t 0 = 0 ∧ win0_4.index t 1 = 0 ∧ win0_3.flush t = true :=
  (by decide +kernel : ∀ t : Fin grid0.N,
    win0_0.index t 0 = t.val ∧ win0_0.index t 1 = 0 ∧ win0_1.index t 0 = t.val ∧ win0_1.index t 1 = 0
    ∧ win0_2.index t 0 = 0 ∧ win0_2.index t 1 = 0 ∧ win0_3.index t 0 = t.val ∧ win0_3.index t 1 = 0
    ∧ win0_4.index t 0 = 0 ∧ win0_4.index t 1 = 0 ∧ win0_3.flush t = true)

theorem flush4_iff : ∀ t : Fin cfg0.N, win0_4.flush t = true ↔ t.val = 7 :=
  (by decide +kernel : ∀ t : Fin grid0.N, win0_4.flush t = true ↔ t.val = 7)

/-- An index of the one row there is. -/
theorem row_eq (j : S1x1024.Idx) : j = ix2 (0 : Fin 1) (j 1 : Fin 1024) := funext fun a =>
  match a with
  | ⟨0, _⟩ => Subsingleton.elim (α := Fin 1) _ _
  | ⟨1, _⟩ => rfl

/-- The gradient of the scaled array. -/
def val3 (s : FVec Ideal S1x1024 .f32) (dy : FVec Ideal S2048x1024 .f32) : FVec Ideal S2048x1024 .bf16 :=
  fun j => dy j * s (ix2 0 (j 1))

/-- The gradient of the scale. -/
def val4 (y dy : FVec Ideal S2048x1024 .f32) : FVec Ideal S1x1024 .f32 :=
  fun j => ∑ k : Fin 2048, dy (ix2 k (j 1)) * y (ix2 k (j 1))

/-- A block of 256 rows of the gradient of the scale, nothing past the last of the eight. -/
def part (y dy : FVec Ideal S2048x1024 .f32) (l : Fin 1024) (s : ℕ) : EReal :=
  if h : s < 8 then ∑ k : Fin 256, dy (ix2 ⟨s * 256 + k.val, by omega⟩ l) * y (ix2 ⟨s * 256 + k.val, by omega⟩ l) else 0

theorem val4_parts (y dy : FVec Ideal S2048x1024 .f32) (l : Fin 1024) :
    ∑ s ∈ Finset.range 8, part y dy l s = val4 y dy (ix2 0 l) := by
  refine (Finset.sum_range _).trans ((sum_runs 8 256 fun k => dy (ix2 k l) * y (ix2 k l)).trans ?_).symm
  exact Finset.sum_congr rfl fun s _ => by rw [part, dif_pos s.isLt]

variable (m : (ℓ : Loc nD τ sig) → Buf (Elt Ideal) ℓ) (ρ : Dev nD → PrngReg)

/-- The arguments as launched. -/
abbrev argY (c : Dev nD) : FVec Ideal S2048x1024 .f32 := m ((c : Thread nD τ).loc main_arg0)
abbrev argS (c : Dev nD) : FVec Ideal S1x1024 .f32 := m ((c : Thread nD τ).loc main_arg1)
abbrev argDy (c : Dev nD) : FVec Ideal S2048x1024 .f32 := m ((c : Thread nD τ).loc main_arg2)

theorem dy_apply (c : Dev nD) (t : Fin cfg0.N) (r : Fin 256) (l : Fin 1024) (R : Fin 2048) (hR : R.val = t.val * 256 + r.val) :
    iblk m c 0 t (ix2 r l) = argDy m c (ix2 R l) := by
  obtain ⟨h0, h1, -⟩ := idx_facts t
  show V m c main_arg2 _ = _
  rw [V_main_arg2]
  exact congrArg (argDy m c) <| funext fun a => Fin.ext <|
    match a with
    | ⟨0, _⟩ => by show win0_0.index t 0 * 256 + 1 * r.val = R.val; rw [h0]; omega
    | ⟨1, _⟩ => by show win0_0.index t 1 * 1024 + 1 * l.val = l.val; rw [h1]; omega

theorem y_apply (c : Dev nD) (t : Fin cfg0.N) (r : Fin 256) (l : Fin 1024) (R : Fin 2048) (hR : R.val = t.val * 256 + r.val) :
    iblk m c 1 t (ix2 r l) = argY m c (ix2 R l) := by
  obtain ⟨-, -, h0, h1, -⟩ := idx_facts t
  show V m c main_arg0 _ = _
  rw [V_main_arg0]
  exact congrArg (argY m c) <| funext fun a => Fin.ext <|
    match a with
    | ⟨0, _⟩ => by show win0_1.index t 0 * 256 + 1 * r.val = R.val; rw [h0]; omega
    | ⟨1, _⟩ => by show win0_1.index t 1 * 1024 + 1 * l.val = l.val; rw [h1]; omega

theorem s_apply (c : Dev nD) (t : Fin cfg0.N) (l : Fin 1024) : iblk m c 2 t (ix2 0 l) = argS m c (ix2 0 l) := by
  obtain ⟨-, -, -, -, h0, h1, -⟩ := idx_facts t
  show V m c main_arg1 _ = _
  rw [V_main_arg1]
  exact congrArg (argS m c) <| funext fun a => Fin.ext <|
    match a with
    | ⟨0, _⟩ => by show win0_2.index t 0 * 1 + 1 * 0 = 0; rw [h0]
    | ⟨1, _⟩ => by show win0_2.index t 1 * 1024 + 1 * l.val = l.val; rw [h1]; omega

/-- What a point adds to the gradient of the scale. -/
theorem part_eq (c : Dev nD) (t : Fin cfg0.N) (l : Fin 1024) :
    k0_pay1 (iblk m c 0 t) (iblk m c 1 t) (ix2 0 l) = part (argY m c) (argDy m c) l t.val := by
  have ht : t.val < 8 := lt_of_lt_of_eq t.isLt N_0
  refine (pay1_apply (iblk m c 0 t) (iblk m c 1 t) l).trans (Eq.trans ?_ (dif_pos ht).symm)
  exact Finset.sum_congr rfl fun k _ => congrArg₂ (fun a b : EReal => a * b)
    (dy_apply m c t k l ⟨t.val * 256 + k.val, by omega⟩ rfl) (y_apply m c t k l ⟨t.val * 256 + k.val, by omega⟩ rfl)

theorem acc_first (c : Dev nD) (t : Fin cfg0.N) (h : t.val = 0) :
    (outsAt0 m c t.val t.isLt).2 = k0_pay1 (iblk m c 0 t) (iblk m c 1 t) := by
  rw [outsAt0_A m c t (by omega) (by omega), out_A4]

theorem acc_next (c : Dev nD) (t : Fin cfg0.N) (h : 0 < t.val) :
    (outsAt0 m c t.val t.isLt).2
      = k0_pay3 (iblk m c 0 t) (iblk m c 1 t) (outsAt0 m c (t.val - 1) (Nat.lt_of_le_of_lt (Nat.sub_le _ _) t.isLt)).2 := by
  have ht : t.val < 8 := lt_of_lt_of_eq t.isLt N_0
  rw [outsAt0_B m c t (by omega) h, out_B4]

/-- The gradient of the scale after each point: the blocks so far. -/
theorem acc_eq (c : Dev nD) (l : Fin 1024) : ∀ (n : ℕ) (t : Fin cfg0.N), t.val = n →
    (outsAt0 m c t.val t.isLt).2 (ix2 0 l) = ∑ s ∈ Finset.range (n + 1), part (argY m c) (argDy m c) l s
  | 0, t, h => by
    rw [acc_first m c t h, part_eq m c t l, h, Finset.sum_range_one]
  | n + 1, t, h => by
    have e := acc_eq c l n ⟨t.val - 1, Nat.lt_of_le_of_lt (Nat.sub_le _ _) t.isLt⟩ (by show t.val - 1 = n; omega)
    rw [acc_next m c t (by omega), Finset.sum_range_succ, ← e]
    refine (pay3_apply (iblk m c 0 t) (iblk m c 1 t) _ l).trans ?_
    rw [part_eq m c t l]
    exact congrArg (fun k => _ + part (argY m c) (argDy m c) l k) h

theorem flushed4_eq (c : Dev nD) (t : Fin cfg0.N) (hf : (cfg0.win 4).flush t = true) :
    (dats m 0 c).flushed 4 t = ((cfg0.win 4).blk t).view.read (Elt Ideal) (val4 (argY m c) (argDy m c)) := by
  have h7 : t.val = 7 := (flush4_iff t).mp hf
  obtain ⟨-, -, -, -, -, -, -, -, h0, h1, -⟩ := idx_facts t
  rw [Value.flushed4]
  funext j
  obtain ⟨l, rfl⟩ : ∃ l : Fin 1024, j = ix2 (0 : Fin 1) l := ⟨_, row_eq j⟩
  show (outsAt0 m c t.val t.isLt).2 (ix2 0 l) = val4 (argY m c) (argDy m c) ((win0_4.rect t).idx (ix2 0 l))
  have e : (win0_4.rect t).idx (ix2 (0 : Fin 1) l) = ix2 (0 : Fin 1) l := funext fun a => Fin.ext <|
    match a with
    | ⟨0, _⟩ => by show win0_4.index t 0 * 1 + 1 * 0 = 0; rw [h0]
    | ⟨1, _⟩ => by show win0_4.index t 1 * 1024 + 1 * l.val = l.val; rw [h1]; omega
  rw [e, acc_eq m c l 7 t h7]
  exact val4_parts _ _ l

theorem final4 (c : Dev nD) : (dats m 0 c).arrAt 4 cfg0.N = val4 (argY m c) (argDy m c) :=
  (dats m 0 c).arrAt_eq_of_cover 4 _ (flushed4_eq m c) fun i => by
    have h0 : (i 0 : Nat) < 1 := (i 0).isLt
    have h1 : (i 1 : Nat) < 1024 := (i 1).isLt
    have hN : cfg0.N = 8 := N_0
    let t : Fin cfg0.N := ⟨7, by omega⟩
    obtain ⟨-, -, -, -, -, -, -, -, ha, hb, -⟩ := idx_facts t
    refine ⟨t, (flush4_iff t).mpr rfl, ?_⟩
    show i ∈ ((View.whole main_v0_1).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1; rw [ha]; omega
    | ⟨1, _⟩ => show win0_4.index t 1 * 1024 ≤ (i 1 : Nat) ∧ (i 1 : Nat) < win0_4.index t 1 * 1024 + 1024; rw [hb]; omega

theorem flushed3_eq (c : Dev nD) (t : Fin cfg0.N) :
    (dats m 0 c).flushed 3 t = ((cfg0.win 3).blk t).view.read (Elt Ideal) (val3 (argS m c) (argDy m c)) := by
  have ht : t.val < 8 := lt_of_lt_of_eq t.isLt N_0
  obtain ⟨-, -, -, -, -, -, h0, h1, -⟩ := idx_facts t
  have e : (dats m 0 c).flushed 3 t = (cfg0.win 3).cut (grid0.coords t) (k0_pay2 (iblk m c 0 t) (iblk m c 2 t)) := by
    rcases Nat.eq_zero_or_pos t.val with h | h
    · rw [Value.flushed3_A m c t (by omega) (by omega), out_A3]
    · rw [Value.flushed3_B m c t (by omega) h, out_B3]
  rw [e]
  funext j
  obtain ⟨r, l, rfl⟩ : ∃ (r : Fin 256) (l : Fin 1024), j = ix2 r l := ⟨j 0, j 1, eq_ix2 j⟩
  refine (pay2_apply (iblk m c 0 t) (iblk m c 2 t) r l).trans ?_
  show _ = val3 (argS m c) (argDy m c) ((win0_3.rect t).idx (ix2 r l))
  have e : (win0_3.rect t).idx (ix2 r l) = ix2 (⟨t.val * 256 + r.val, by omega⟩ : Fin 2048) l := funext fun a => Fin.ext <|
    match a with
    | ⟨0, _⟩ => by show win0_3.index t 0 * 256 + 1 * r.val = t.val * 256 + r.val; rw [h0]; omega
    | ⟨1, _⟩ => by show win0_3.index t 1 * 1024 + 1 * l.val = l.val; rw [h1]; omega
  rw [e]
  exact congrArg₂ (fun a b : EReal => a * b) (dy_apply m c t r l ⟨t.val * 256 + r.val, by omega⟩ rfl) (s_apply m c t l)

theorem final3 (c : Dev nD) : (dats m 0 c).arrAt 3 cfg0.N = val3 (argS m c) (argDy m c) :=
  (dats m 0 c).arrAt_eq_of_cover 3 _ (fun t _ => flushed3_eq m c t) fun i => by
    have h0 : (i 0 : Nat) < 2048 := (i 0).isLt
    have h1 : (i 1 : Nat) < 1024 := (i 1).isLt
    have hN : cfg0.N = 8 := N_0
    let t : Fin cfg0.N := ⟨(i 0 : Nat) / 256, by omega⟩
    have ht : t.val = (i 0 : Nat) / 256 := rfl
    obtain ⟨-, -, -, -, -, -, ha, hb, -, -, hf⟩ := idx_facts t
    refine ⟨t, hf, ?_⟩
    show i ∈ ((View.whole main_v0_0).slice (win0_3.rect t)).set
    rw [View.set_slice_whole, Rect.mem_set_unit]
    intro a
    match a with
    | ⟨0, _⟩ => show win0_3.index t 0 * 256 ≤ (i 0 : Nat) ∧ (i 0 : Nat) < win0_3.index t 0 * 256 + 256; rw [ha]; omega
    | ⟨1, _⟩ => show win0_3.index t 1 * 1024 ≤ (i 1 : Nat) ∧ (i 1 : Nat) < win0_3.index t 1 * 1024 + 1024; rw [hb]; omega

theorem ref3 (s : FVec Ideal S1x1024 .f32) (dy : FVec Ideal S2048x1024 .f32) :
    truncf .bf16 (mulf dy (broadcastInDim S2048x1024 ![0, 1] Cert.RefPscaleIdeal.Gen.facts.toFacts₀.bcast_S1x1024_S2048x1024_0_1 s)) bitsLt_bf16_f32 = val3 s dy := by
  funext j
  unfold val3
  pointwise

theorem claim : Cert.algebraic_PscaleIdeal_RefPscaleIdeal (hPscaleIdeal := Cert.PscaleIdeal.Gen.facts) (hRefPscaleIdeal := Cert.RefPscaleIdeal.Gen.facts) := by
  intro m g m' g' _ hargs
  refine ⟨fun c => val3 (argS m c) (argDy m c), fun c => val4 (argY m c) (argDy m c), ?_, ?_⟩
  · refine (θ_run defs _ _).mono (fun r h c => ?_) (Value.run_blocks (F := Ideal) m g)
    exact ⟨(h c).1.trans (final3 m c), (h c).2.1.trans (final4 m c), (h c).2.2⟩
  · refine (θ_run _ _ _).mono (fun r h c => ?_) (Cert.RefPscaleIdeal.Value.run (F := Ideal) m' g')
    obtain ⟨hv, hw, hr⟩ := h c
    refine ⟨hv.trans ?_, hw.trans ?_, hr⟩
    · rw [(hargs c).2.1, (hargs c).2.2]
      exact ref3 _ _
    · rw [(hargs c).1, (hargs c).2.2]
      funext j
      obtain ⟨l, rfl⟩ : ∃ l : Fin 1024, j = ix2 (0 : Fin 1) l := ⟨_, row_eq j⟩
      unfold val4
      simp only [mul_comm (argDy m c _)]
      pointwise

end Cert.Proof.Pscale

end
-- ==== Proof.S5bLoop.lean ====
/- The loop of the recurrence's backward call. -/
module

public import proofs.«01_k».proof.Proof.Gen.S5bIdeal.Skeleton
public import proofs.«01_k».proof.Proof.Gen.S5bIdeal.Loops
public import proofs.«01_k».proof.Proof.Gen.S5bIdeal.Frame
public import Idealize.ShloMosaic.Lib.Claim

@[expose] public section

set_option maxRecDepth 16384

noncomputable section

namespace Cert.S5bIdeal.Hand

open Cert.S5bIdeal Cert.S5bIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One trip of the loop keeps what the loop holds, whatever it carries: the constants it multiplies by, and the two
    scratch arrays, their contents left unnamed. -/
@[sl_loop] noncomputable def loopInv_k0_t1 (c : Dev nD) (i : grid0.Coords) (arg1 : Memref sig .tc .vmem S2048x128 .f32) (harg1 : arg1.IsWhole) (arg2 : Memref sig .tc .vmem S2048x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x1x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S1x128 .f32) (harg10 : arg10.IsWhole) (arg11 : Memref sig .tc .vmem S18x8x512 .f32) (harg11 : arg11.IsWhole) (arg12 : Memref sig .tc .vmem S2048x128 .bf16) (harg12 : arg12.IsWhole) (arg13 : Memref sig .tc .vmem S16x512 .f32) (harg13 : arg13.IsWhole) (arg14 : Memref sig .tc .vmem S16x512 .f32) (harg14 : arg14.IsWhole) (arg15 : Memref sig .tc .vmem S16x512 .f32) (harg15 : arg15.IsWhole) (arg16 : Memref sig .tc .vmem S16x512 .f32) (harg16 : arg16.IsWhole) (arg17 : Memref sig .tc .vmem S2x1x512 .f32) (harg17 : arg17.IsWhole) (arg18 : Memref sig .tc .vmem S1x128 .f32) (harg18 : arg18.IsWhole) (arg19 : Memref sig .tc .vmem S1x2x512 .f32) (harg19 : arg19.IsWhole) (arg20 : Memref sig .tc .vmem S8x2048x128 .f32) (harg20 : arg20.IsWhole) (arg21 : Memref sig .tc .vmem S8x2048x128 .f32) (harg21 : arg21.IsWhole) (v173 : FVec F S2048x1024 .f32) (v206 : IVec S8x512 32) (g11 : Buf (Elt F) (arg11.view.loc (c : Thread nD τ))) (init : FVec F S8x512 .f32 × FVec F S8x512 .f32 × FVec F S8x512 .f32 × FVec F S8x512 .f32) :
    Cert.S5bIdeal.Gen.LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v173 v206 init where
  inv := fun _ _ => iprop((arg11.view.loc (c : Thread nD τ) ↦[arg11.view.set]{fullShare} g11)
    ∗ (∃ f, arg20.view.loc (c : Thread nD τ) ↦[arg20.view.set]{fullShare} f)
    ∗ (∃ f, arg21.view.loc (c : Thread nD τ) ↦[arg21.view.set]{fullShare} f))
  step := fun k acc => by
    unfold k0_t1_body
    iintro ⟨H11, ⟨%f20, H20⟩, ⟨%f21, H21⟩⟩
    sl_exec
    sl_step
    isplitl [H11]; · iexact H11
    isplitl [H20]; · iexists _; iexact H20
    iexists _; iexact H21

end Cert.S5bIdeal.Hand

end
-- ==== Proof.S5bA.lean ====
/- The body of the recurrence's backward call, part by part. -/
module

public import proofs.«01_k».proof.Proof.Gen.S5bIdeal.Skeleton
public import proofs.«01_k».proof.Proof.Gen.S5bIdeal.Loops
public import proofs.«01_k».proof.Proof.Gen.S5bIdeal.Frame
public import proofs.«01_k».proof.Proof.S5bLoop
public import proofs.«01_k».proof.Proof.Common
public import Idealize.ShloMosaic.Lib.Pipeline.Value
public import Idealize.ShloMosaic.Lib.Claim

@[expose] public section

set_option maxRecDepth 16384

noncomputable section

namespace Cert.S5bIdeal.Hand

open Cert.S5bIdeal Cert.S5bIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.Proof.Common
open Idealize.ShloMosaic.Pipeline (Dat Cfg Window BodyObligation cellOf)

variable {F : FTy → Type} [FloatOps F]

local notation "𝕄" => MT nD τ sig Unit (Elt F) ℕ (UR sig nD τ) ℕ

/-- A whole load reads the contents. -/
theorem rd2 {a b : ℕ} {e : EltTy} (M : Memref sig .tc .vmem ⟨2, ![a, b]⟩ e) (h : M.IsWhole)
    (x : Vec F ⟨2, ![a, b]⟩ e) {inb} :
    M.view.readAt (Elt F) (Rect.unit (s := ⟨2, ![a, b]⟩) ![0, 0] ![a, b] inb).toLoadRect (h.unread x) = x := by
  rw [View.readAt_eq_ld, h.read_unread]; exact View.ld_unit_zero z2 _ x

/-- A whole store leaves its payload. -/
theorem wr2 {a b : ℕ} {e : EltTy} (M : Memref sig .tc .vmem ⟨2, ![a, b]⟩ e) {inb}
    (f : M.view.ty.Contents (Elt F)) (w : Vec F ⟨2, ![a, b]⟩ e)
    (hc : View.Piece.tiledL [(⟨Rect.unit (s := ⟨2, ![a, b]⟩) ![0, 0] ![a, b] inb, w⟩ : View.Piece (Elt F) ⟨2, ![a, b]⟩ e)] ![a, b] = true) :
    M.view.read (Elt F) (M.view.writes (Elt F) f [⟨Rect.unit (s := ⟨2, ![a, b]⟩) ![0, 0] ![a, b] inb, w⟩]) = w := by
  rw [View.read_writes_eq_canon _ _ _ (View.cover_of_tiledL _ _ hc)]; exact View.canon_unit_zero z2 _ w

theorem three (v66 : IVec S128x1024 1) (v105 : FVec F S2048x1024 .bf16) {a a' b b' : Vec F S2048x128 .bf16} (h : a = a')
    (h' : b = b') : (⟨k0_pay131 v66 v105 a b, k0_pay132 v66 v105 a b, k0_pay133 v66 v105 a b⟩ :
      Σ' (v151 : FVec F S128x1024 .f32) (v152 : FVec F S16x1024 .f32), FVec F S16x1024 .f32)
      = ⟨k0_pay131 v66 v105 a' b', k0_pay132 v66 v105 a' b', k0_pay133 v66 v105 a' b'⟩ := by rw [h, h']

theorem gd_eq (v101 : Vec F S2048x128 .f32) {a a' b b' : Vec F S2048x128 .bf16} (h : a = a') (h' : b = b') :
    k0_pay129 v101 a b = k0_pay129 v101 a' b' := by rw [h, h']

theorem run16 (c : Dev nD) (i : grid0.Coords) (arg1 : Memref sig .tc .vmem S2048x128 .f32) (harg1 : arg1.IsWhole) (arg2 : Memref sig .tc .vmem S2048x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x1x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S1x128 .f32) (harg10 : arg10.IsWhole) (arg11 : Memref sig .tc .vmem S18x8x512 .f32) (harg11 : arg11.IsWhole) (arg12 : Memref sig .tc .vmem S2048x128 .bf16) (harg12 : arg12.IsWhole) (arg13 : Memref sig .tc .vmem S16x512 .f32) (harg13 : arg13.IsWhole) (arg14 : Memref sig .tc .vmem S16x512 .f32) (harg14 : arg14.IsWhole) (arg15 : Memref sig .tc .vmem S16x512 .f32) (harg15 : arg15.IsWhole) (arg16 : Memref sig .tc .vmem S16x512 .f32) (harg16 : arg16.IsWhole) (arg17 : Memref sig .tc .vmem S2x1x512 .f32) (harg17 : arg17.IsWhole) (arg18 : Memref sig .tc .vmem S1x128 .f32) (harg18 : arg18.IsWhole) (arg19 : Memref sig .tc .vmem S1x2x512 .f32) (harg19 : arg19.IsWhole) (arg20 : Memref sig .tc .vmem S8x2048x128 .f32) (harg20 : arg20.IsWhole) (arg21 : Memref sig .tc .vmem S8x2048x128 .f32) (harg21 : arg21.IsWhole) (K : (Σ' (v24 : IVec S128x1024 32) (v41 : IVec S128x1024 32) (c64_i32 : BitVec 32) (v43 : IVec S128x1024 32), BitVec 32) → sProp 𝕄) :
    K ⟨k0_pay108, k0_pay109, 64#32, k0_pay110, 0#32⟩
      ⊢ wp frame (wpE (defs₀ (F := F)) Variants.none c none) Set.univ (k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  rw [k0_part16_eq_skeleton]; unfold k0_part16_skel
  iintro H
  sl_step
  iexact H

set_option maxHeartbeats 4000000 in
theorem run17 (c : Dev nD) (i : grid0.Coords) (arg1 : Memref sig .tc .vmem S2048x128 .f32) (harg1 : arg1.IsWhole) (arg2 : Memref sig .tc .vmem S2048x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x1x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S1x128 .f32) (harg10 : arg10.IsWhole) (arg11 : Memref sig .tc .vmem S18x8x512 .f32) (harg11 : arg11.IsWhole) (arg12 : Memref sig .tc .vmem S2048x128 .bf16) (harg12 : arg12.IsWhole) (arg13 : Memref sig .tc .vmem S16x512 .f32) (harg13 : arg13.IsWhole) (arg14 : Memref sig .tc .vmem S16x512 .f32) (harg14 : arg14.IsWhole) (arg15 : Memref sig .tc .vmem S16x512 .f32) (harg15 : arg15.IsWhole) (arg16 : Memref sig .tc .vmem S16x512 .f32) (harg16 : arg16.IsWhole) (arg17 : Memref sig .tc .vmem S2x1x512 .f32) (harg17 : arg17.IsWhole) (arg18 : Memref sig .tc .vmem S1x128 .f32) (harg18 : arg18.IsWhole) (arg19 : Memref sig .tc .vmem S1x2x512 .f32) (harg19 : arg19.IsWhole) (arg20 : Memref sig .tc .vmem S8x2048x128 .f32) (harg20 : arg20.IsWhole) (arg21 : Memref sig .tc .vmem S8x2048x128 .f32) (harg21 : arg21.IsWhole)
    (v24 : IVec S128x1024 32) (v41 : IVec S128x1024 32) (c64_i32 : BitVec 32) (v43 : IVec S128x1024 32) (c0_i32_9 : BitVec 32) (x5 : Vec F S2x1x512 .f32) (x6 : Vec F S16x512 .f32) (x7 : Vec F S16x512 .f32) (K : (Σ' (v66 : IVec S128x1024 1) (v86 : FVec F S128x1024 .f32), FVec F S128x1024 .f32) → sProp 𝕄) :
    iprop((arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (∀ r, (⌜r.1 = k0_pay111 v24 v41 c64_i32 v43 c0_i32_9⌝ ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7)) -∗ K r))
      ⊢ wp frame (wpE (defs₀ (F := F)) Variants.none c none) Set.univ (k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v24 v41 c64_i32 v43 c0_i32_9) K := by
  rw [k0_part17_eq_skeleton]; unfold k0_part17_skel
  iintro ⟨H5, H6, H7, Hk⟩
  sl_exec
  sl_step
  iapply Hk
  isplitr; · ipureintro; rfl
  isplitl [H5]; · iexact H5
  isplitl [H6]; · iexact H6
  iexact H7

set_option maxHeartbeats 4000000 in
theorem run18 (c : Dev nD) (i : grid0.Coords) (arg1 : Memref sig .tc .vmem S2048x128 .f32) (harg1 : arg1.IsWhole) (arg2 : Memref sig .tc .vmem S2048x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x1x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S1x128 .f32) (harg10 : arg10.IsWhole) (arg11 : Memref sig .tc .vmem S18x8x512 .f32) (harg11 : arg11.IsWhole) (arg12 : Memref sig .tc .vmem S2048x128 .bf16) (harg12 : arg12.IsWhole) (arg13 : Memref sig .tc .vmem S16x512 .f32) (harg13 : arg13.IsWhole) (arg14 : Memref sig .tc .vmem S16x512 .f32) (harg14 : arg14.IsWhole) (arg15 : Memref sig .tc .vmem S16x512 .f32) (harg15 : arg15.IsWhole) (arg16 : Memref sig .tc .vmem S16x512 .f32) (harg16 : arg16.IsWhole) (arg17 : Memref sig .tc .vmem S2x1x512 .f32) (harg17 : arg17.IsWhole) (arg18 : Memref sig .tc .vmem S1x128 .f32) (harg18 : arg18.IsWhole) (arg19 : Memref sig .tc .vmem S1x2x512 .f32) (harg19 : arg19.IsWhole) (arg20 : Memref sig .tc .vmem S8x2048x128 .f32) (harg20 : arg20.IsWhole) (arg21 : Memref sig .tc .vmem S8x2048x128 .f32) (harg21 : arg21.IsWhole)
    (v66 : IVec S128x1024 1) (v86 : FVec F S128x1024 .f32) (v87 : FVec F S128x1024 .f32) (x8 : Vec F S16x512 .f32) (x9 : Vec F S16x512 .f32) (x1 : Vec F S2048x128 .f32) (x10 : Vec F S1x128 .f32) (x2 : Vec F S2048x1024 .bf16) (K : (Σ' (v89 : FVec F S128x1024 .bf16) (v100 : FVec F S128x1024 .bf16) (v101 : Vec F S2048x128 .f32) (v102 : FVec F S2048x128 .bf16) (v103 : Vec F S1x128 .f32) (v105 : FVec F S2048x1024 .bf16) (v106 : FVec F S2048x1024 .f32) (v119 : FVec F S2048x128 .f32), Vec F S1x2048x128 .f32) → sProp 𝕄) :
    iprop((arg8.view.loc (c : Thread nD τ) ↦[arg8.view.set]{fullShare} harg8.unread x8) ∗ (arg9.view.loc (c : Thread nD τ) ↦[arg9.view.set]{fullShare} harg9.unread x9) ∗ (arg1.view.loc (c : Thread nD τ) ↦[arg1.view.set]{fullShare} harg1.unread x1) ∗ (arg10.view.loc (c : Thread nD τ) ↦[arg10.view.set]{fullShare} harg10.unread x10) ∗ (arg2.view.loc (c : Thread nD τ) ↦[arg2.view.set]{fullShare} harg2.unread x2) ∗ (∃ f, arg20.view.loc (c : Thread nD τ) ↦[arg20.view.set]{fullShare} f) ∗ (∀ r, (⌜r.2.2.1 = x1 ∧ r.2.2.2.2.2.1 = k0_pay117 x2⌝ ∗ (arg8.view.loc (c : Thread nD τ) ↦[arg8.view.set]{fullShare} harg8.unread x8) ∗ (arg9.view.loc (c : Thread nD τ) ↦[arg9.view.set]{fullShare} harg9.unread x9) ∗ (arg1.view.loc (c : Thread nD τ) ↦[arg1.view.set]{fullShare} harg1.unread x1) ∗ (arg10.view.loc (c : Thread nD τ) ↦[arg10.view.set]{fullShare} harg10.unread x10) ∗ (arg2.view.loc (c : Thread nD τ) ↦[arg2.view.set]{fullShare} harg2.unread x2) ∗ (∃ f, arg20.view.loc (c : Thread nD τ) ↦[arg20.view.set]{fullShare} f)) -∗ K r))
      ⊢ wp frame (wpE (defs₀ (F := F)) Variants.none c none) Set.univ (k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v66 v86 v87) K := by
  rw [k0_part18_eq_skeleton]; unfold k0_part18_skel
  iintro ⟨H8, H9, H1, H10, H2, ⟨%f20, H20⟩, Hk⟩
  sl_exec
  sl_step
  iapply Hk
  isplitr; · ipureintro; exact ⟨rd2 arg1 harg1 x1, congrArg k0_pay117 (rd2 arg2 harg2 x2)⟩
  isplitl [H8]; · iexact H8
  isplitl [H9]; · iexact H9
  isplitl [H1]; · iexact H1
  isplitl [H10]; · iexact H10
  isplitl [H2]; · iexact H2
  iexists _; iexact H20

set_option maxHeartbeats 4000000 in
theorem run19 (c : Dev nD) (i : grid0.Coords) (arg1 : Memref sig .tc .vmem S2048x128 .f32) (harg1 : arg1.IsWhole) (arg2 : Memref sig .tc .vmem S2048x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x1x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S1x128 .f32) (harg10 : arg10.IsWhole) (arg11 : Memref sig .tc .vmem S18x8x512 .f32) (harg11 : arg11.IsWhole) (arg12 : Memref sig .tc .vmem S2048x128 .bf16) (harg12 : arg12.IsWhole) (arg13 : Memref sig .tc .vmem S16x512 .f32) (harg13 : arg13.IsWhole) (arg14 : Memref sig .tc .vmem S16x512 .f32) (harg14 : arg14.IsWhole) (arg15 : Memref sig .tc .vmem S16x512 .f32) (harg15 : arg15.IsWhole) (arg16 : Memref sig .tc .vmem S16x512 .f32) (harg16 : arg16.IsWhole) (arg17 : Memref sig .tc .vmem S2x1x512 .f32) (harg17 : arg17.IsWhole) (arg18 : Memref sig .tc .vmem S1x128 .f32) (harg18 : arg18.IsWhole) (arg19 : Memref sig .tc .vmem S1x2x512 .f32) (harg19 : arg19.IsWhole) (arg20 : Memref sig .tc .vmem S8x2048x128 .f32) (harg20 : arg20.IsWhole) (arg21 : Memref sig .tc .vmem S8x2048x128 .f32) (harg21 : arg21.IsWhole)
    (v66 : IVec S128x1024 1) (v101 : Vec F S2048x128 .f32) (v105 : FVec F S2048x1024 .bf16) (v106 : FVec F S2048x1024 .f32) (v119 : FVec F S2048x128 .f32) (v120 : Vec F S1x2048x128 .f32) (x3 : Vec F S2048x128 .bf16) (x4 : Vec F S2048x128 .bf16) (K : (Σ' (v143 : FVec F S2048x128 .f32) (v148 : FVec F S2048x128 .bf16) (v151 : FVec F S128x1024 .f32) (v152 : FVec F S16x1024 .f32), FVec F S16x1024 .f32) → sProp 𝕄) :
    iprop((arg3.view.loc (c : Thread nD τ) ↦[arg3.view.set]{fullShare} harg3.unread x3) ∗ (arg4.view.loc (c : Thread nD τ) ↦[arg4.view.set]{fullShare} harg4.unread x4) ∗ (∃ f, arg20.view.loc (c : Thread nD τ) ↦[arg20.view.set]{fullShare} f) ∗ (∃ f, arg18.view.loc (c : Thread nD τ) ↦[arg18.view.set]{fullShare} f) ∗ (∀ r, (⌜r.2.2 = ⟨k0_pay131 v66 v105 x3 x4, k0_pay132 v66 v105 x3 x4, k0_pay133 v66 v105 x3 x4⟩⌝ ∗ (arg3.view.loc (c : Thread nD τ) ↦[arg3.view.set]{fullShare} harg3.unread x3) ∗ (arg4.view.loc (c : Thread nD τ) ↦[arg4.view.set]{fullShare} harg4.unread x4) ∗ (∃ f, arg20.view.loc (c : Thread nD τ) ↦[arg20.view.set]{fullShare} f) ∗ owns (c : Thread nD τ) arg18 fullShare (k0_pay129 v101 x3 x4)) -∗ K r))
      ⊢ wp frame (wpE (defs₀ (F := F)) Variants.none c none) Set.univ (k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v66 v101 v105 v106 v119 v120) K := by
  rw [k0_part19_eq_skeleton]; unfold k0_part19_skel
  iintro ⟨H3, H4, ⟨%f20, H20⟩, ⟨%f18, H18⟩, Hk⟩
  sl_exec
  sl_step
  have e3 := rd2 (F := F) arg3 harg3 x3 (inb := inb_S2048x128_S2048x128_0_0)
  have e4 := rd2 (F := F) arg4 harg4 x4 (inb := inb_S2048x128_S2048x128_0_0)
  iapply Hk
  isplitr; · ipureintro; exact three v66 v105 e3 e4
  isplitl [H3]; · iexact H3
  isplitl [H4]; · iexact H4
  isplitl [H20]; · iexists _; iexact H20
  unfold owns; iexists _; isplitr; swap; iexact H18; ipureintro; exact (wr2 arg18 _ _ (by sl_kernel_rfl)).trans (gd_eq v101 e3 e4)

end Cert.S5bIdeal.Hand

end
-- ==== Proof.S5bB.lean ====
/- The body of the recurrence's backward call, part by part: the later parts. -/
module

public import proofs.«01_k».proof.Proof.Gen.S5bIdeal.Skeleton
public import proofs.«01_k».proof.Proof.Gen.S5bIdeal.Loops
public import proofs.«01_k».proof.Proof.Gen.S5bIdeal.Frame
public import proofs.«01_k».proof.Proof.S5bA
public import proofs.«01_k».proof.Proof.Common
public import Idealize.ShloMosaic.Lib.Pipeline.Value
public import Idealize.ShloMosaic.Lib.Claim

@[expose] public section

set_option maxRecDepth 16384

noncomputable section

namespace Cert.S5bIdeal.Hand

open Cert.S5bIdeal Cert.S5bIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.Proof.Common
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run20 (c : Dev nD) (i : grid0.Coords) (arg1 : Memref sig .tc .vmem S2048x128 .f32) (harg1 : arg1.IsWhole) (arg2 : Memref sig .tc .vmem S2048x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x1x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S1x128 .f32) (harg10 : arg10.IsWhole) (arg11 : Memref sig .tc .vmem S18x8x512 .f32) (harg11 : arg11.IsWhole) (arg12 : Memref sig .tc .vmem S2048x128 .bf16) (harg12 : arg12.IsWhole) (arg13 : Memref sig .tc .vmem S16x512 .f32) (harg13 : arg13.IsWhole) (arg14 : Memref sig .tc .vmem S16x512 .f32) (harg14 : arg14.IsWhole) (arg15 : Memref sig .tc .vmem S16x512 .f32) (harg15 : arg15.IsWhole) (arg16 : Memref sig .tc .vmem S16x512 .f32) (harg16 : arg16.IsWhole) (arg17 : Memref sig .tc .vmem S2x1x512 .f32) (harg17 : arg17.IsWhole) (arg18 : Memref sig .tc .vmem S1x128 .f32) (harg18 : arg18.IsWhole) (arg19 : Memref sig .tc .vmem S1x2x512 .f32) (harg19 : arg19.IsWhole) (arg20 : Memref sig .tc .vmem S8x2048x128 .f32) (harg20 : arg20.IsWhole) (arg21 : Memref sig .tc .vmem S8x2048x128 .f32) (harg21 : arg21.IsWhole)
    (v100 : FVec F S128x1024 .bf16) (v148 : FVec F S2048x128 .bf16) (v151 : FVec F S128x1024 .f32) (v152 : FVec F S16x1024 .f32) (v153 : FVec F S16x1024 .f32)  (K : (FVec F S2048x1024 .f32) → sProp 𝕄) :
    iprop((∃ f, arg15.view.loc (c : Thread nD τ) ↦[arg15.view.set]{fullShare} f) ∗ (∃ f, arg16.view.loc (c : Thread nD τ) ↦[arg16.view.set]{fullShare} f) ∗ (∃ f, arg21.view.loc (c : Thread nD τ) ↦[arg21.view.set]{fullShare} f) ∗ (∀ r, (owns (c : Thread nD τ) arg15 fullShare (k0_pay135 v151 v152 v153) ∗ (∃ f, arg16.view.loc (c : Thread nD τ) ↦[arg16.view.set]{fullShare} f) ∗ (∃ f, arg21.view.loc (c : Thread nD τ) ↦[arg21.view.set]{fullShare} f)) -∗ K r))
      ⊢ wp frame (wpE (defs₀ (F := F)) Variants.none c none) Set.univ (k0_part20 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v100 v148 v151 v152 v153) K := by
  rw [k0_part20_eq_skeleton]; unfold k0_part20_skel
  iintro ⟨⟨%f15, H15⟩, ⟨%f16, H16⟩, ⟨%f21, H21⟩, Hk⟩
  sl_exec
  sl_step
  iapply Hk
  isplitl [H15]; · unfold owns; iexists _; isplitr; swap; iexact H15; ipureintro; exact wr2 arg15 _ _ (by sl_kernel_rfl)
  isplitl [H16]; · iexists _; iexact H16
  iexists _; iexact H21

set_option maxHeartbeats 4000000 in
theorem run22 (c : Dev nD) (i : grid0.Coords) (arg1 : Memref sig .tc .vmem S2048x128 .f32) (harg1 : arg1.IsWhole) (arg2 : Memref sig .tc .vmem S2048x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x1x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S1x128 .f32) (harg10 : arg10.IsWhole) (arg11 : Memref sig .tc .vmem S18x8x512 .f32) (harg11 : arg11.IsWhole) (arg12 : Memref sig .tc .vmem S2048x128 .bf16) (harg12 : arg12.IsWhole) (arg13 : Memref sig .tc .vmem S16x512 .f32) (harg13 : arg13.IsWhole) (arg14 : Memref sig .tc .vmem S16x512 .f32) (harg14 : arg14.IsWhole) (arg15 : Memref sig .tc .vmem S16x512 .f32) (harg15 : arg15.IsWhole) (arg16 : Memref sig .tc .vmem S16x512 .f32) (harg16 : arg16.IsWhole) (arg17 : Memref sig .tc .vmem S2x1x512 .f32) (harg17 : arg17.IsWhole) (arg18 : Memref sig .tc .vmem S1x128 .f32) (harg18 : arg18.IsWhole) (arg19 : Memref sig .tc .vmem S1x2x512 .f32) (harg19 : arg19.IsWhole) (arg20 : Memref sig .tc .vmem S8x2048x128 .f32) (harg20 : arg20.IsWhole) (arg21 : Memref sig .tc .vmem S8x2048x128 .f32) (harg21 : arg21.IsWhole)
    (v66 : IVec S128x1024 1) (v89 : FVec F S128x1024 .bf16) (v102 : FVec F S2048x128 .bf16) (v103 : Vec F S1x128 .f32) (v143 : FVec F S2048x128 .f32) (v219 : FVec F S1x1x512 .f32)  (K : (Σ' (v246 : FVec F S128x1024 .f32) (v247 : FVec F S16x1024 .f32), FVec F S16x1024 .f32) → sProp 𝕄) :
    iprop((∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f) ∗ (∃ f, arg12.view.loc (c : Thread nD τ) ↦[arg12.view.set]{fullShare} f) ∗ (∀ r, ((∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f) ∗ (∃ f, arg12.view.loc (c : Thread nD τ) ↦[arg12.view.set]{fullShare} f)) -∗ K r))
      ⊢ wp frame (wpE (defs₀ (F := F)) Variants.none c none) Set.univ (k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v66 v89 v102 v103 v143 v219) K := by
  rw [k0_part22_eq_skeleton]; unfold k0_part22_skel
  iintro ⟨⟨%f19, H19⟩, ⟨%f20, H20⟩, ⟨%f21, H21⟩, ⟨%f12, H12⟩, Hk⟩
  sl_exec
  sl_step
  iapply Hk
  isplitl [H19]; · iexists _; iexact H19
  isplitl [H20]; · iexists _; iexact H20
  isplitl [H21]; · iexists _; iexact H21
  iexists _; iexact H12

set_option maxHeartbeats 4000000 in
theorem run23 (c : Dev nD) (i : grid0.Coords) (arg1 : Memref sig .tc .vmem S2048x128 .f32) (harg1 : arg1.IsWhole) (arg2 : Memref sig .tc .vmem S2048x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x1x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S1x128 .f32) (harg10 : arg10.IsWhole) (arg11 : Memref sig .tc .vmem S18x8x512 .f32) (harg11 : arg11.IsWhole) (arg12 : Memref sig .tc .vmem S2048x128 .bf16) (harg12 : arg12.IsWhole) (arg13 : Memref sig .tc .vmem S16x512 .f32) (harg13 : arg13.IsWhole) (arg14 : Memref sig .tc .vmem S16x512 .f32) (harg14 : arg14.IsWhole) (arg15 : Memref sig .tc .vmem S16x512 .f32) (harg15 : arg15.IsWhole) (arg16 : Memref sig .tc .vmem S16x512 .f32) (harg16 : arg16.IsWhole) (arg17 : Memref sig .tc .vmem S2x1x512 .f32) (harg17 : arg17.IsWhole) (arg18 : Memref sig .tc .vmem S1x128 .f32) (harg18 : arg18.IsWhole) (arg19 : Memref sig .tc .vmem S1x2x512 .f32) (harg19 : arg19.IsWhole) (arg20 : Memref sig .tc .vmem S8x2048x128 .f32) (harg20 : arg20.IsWhole) (arg21 : Memref sig .tc .vmem S8x2048x128 .f32) (harg21 : arg21.IsWhole)
    (v246 : FVec F S128x1024 .f32) (v247 : FVec F S16x1024 .f32) (v248 : FVec F S16x1024 .f32) (x5 : Vec F S2x1x512 .f32) (x6 : Vec F S16x512 .f32) (x7 : Vec F S16x512 .f32) (K : (Σ' (v262 : FVec F S16x512 .f32) (v263 : FVec F S16x512 .f32) (v269 : FVec F S16x512 .f32) (v271 : FVec F S16x512 .f32), FVec F S1x512 .f32) → sProp 𝕄) :
    iprop((arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (∃ f, arg13.view.loc (c : Thread nD τ) ↦[arg13.view.set]{fullShare} f) ∗ (∃ f, arg14.view.loc (c : Thread nD τ) ↦[arg14.view.set]{fullShare} f) ∗ (∀ r, ((arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (∃ f, arg13.view.loc (c : Thread nD τ) ↦[arg13.view.set]{fullShare} f) ∗ (∃ f, arg14.view.loc (c : Thread nD τ) ↦[arg14.view.set]{fullShare} f)) -∗ K r))
      ⊢ wp frame (wpE (defs₀ (F := F)) Variants.none c none) Set.univ (k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v246 v247 v248) K := by
  rw [k0_part23_eq_skeleton]; unfold k0_part23_skel
  iintro ⟨H5, H6, H7, ⟨%f13, H13⟩, ⟨%f14, H14⟩, Hk⟩
  sl_exec
  sl_step
  iapply Hk
  isplitl [H5]; · iexact H5
  isplitl [H6]; · iexact H6
  isplitl [H7]; · iexact H7
  isplitl [H13]; · iexists _; iexact H13
  iexists _; iexact H14

end Cert.S5bIdeal.Hand

end
-- ==== Proof.S5bC.lean ====
/- The body of the recurrence's backward call, part by part: the loop. -/
module

public import proofs.«01_k».proof.Proof.Gen.S5bIdeal.Skeleton
public import proofs.«01_k».proof.Proof.Gen.S5bIdeal.Loops
public import proofs.«01_k».proof.Proof.Gen.S5bIdeal.Frame
public import proofs.«01_k».proof.Proof.S5bLoop
public import proofs.«01_k».proof.Proof.Common
public import Idealize.ShloMosaic.Lib.Pipeline.Value
public import Idealize.ShloMosaic.Lib.Claim

@[expose] public section

set_option maxRecDepth 16384

noncomputable section

namespace Cert.S5bIdeal.Hand

open Cert.S5bIdeal Cert.S5bIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.Proof.Common
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem run21 (c : Dev nD) (i : grid0.Coords) (arg1 : Memref sig .tc .vmem S2048x128 .f32) (harg1 : arg1.IsWhole) (arg2 : Memref sig .tc .vmem S2048x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x1x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S1x128 .f32) (harg10 : arg10.IsWhole) (arg11 : Memref sig .tc .vmem S18x8x512 .f32) (harg11 : arg11.IsWhole) (arg12 : Memref sig .tc .vmem S2048x128 .bf16) (harg12 : arg12.IsWhole) (arg13 : Memref sig .tc .vmem S16x512 .f32) (harg13 : arg13.IsWhole) (arg14 : Memref sig .tc .vmem S16x512 .f32) (harg14 : arg14.IsWhole) (arg15 : Memref sig .tc .vmem S16x512 .f32) (harg15 : arg15.IsWhole) (arg16 : Memref sig .tc .vmem S16x512 .f32) (harg16 : arg16.IsWhole) (arg17 : Memref sig .tc .vmem S2x1x512 .f32) (harg17 : arg17.IsWhole) (arg18 : Memref sig .tc .vmem S1x128 .f32) (harg18 : arg18.IsWhole) (arg19 : Memref sig .tc .vmem S1x2x512 .f32) (harg19 : arg19.IsWhole) (arg20 : Memref sig .tc .vmem S8x2048x128 .f32) (harg20 : arg20.IsWhole) (arg21 : Memref sig .tc .vmem S8x2048x128 .f32) (harg21 : arg21.IsWhole)
    (v173 : FVec F S2048x1024 .f32) (x11 : Vec F S18x8x512 .f32) (K : (FVec F S1x1x512 .f32) → sProp 𝕄) :
    iprop((arg11.view.loc (c : Thread nD τ) ↦[arg11.view.set]{fullShare} harg11.unread x11) ∗ (∃ f, arg20.view.loc (c : Thread nD τ) ↦[arg20.view.set]{fullShare} f) ∗ (∃ f, arg21.view.loc (c : Thread nD τ) ↦[arg21.view.set]{fullShare} f) ∗ (∃ f, arg19.view.loc (c : Thread nD τ) ↦[arg19.view.set]{fullShare} f) ∗ (∀ r, ((arg11.view.loc (c : Thread nD τ) ↦[arg11.view.set]{fullShare} harg11.unread x11) ∗ (∃ f, arg20.view.loc (c : Thread nD τ) ↦[arg20.view.set]{fullShare} f) ∗ (∃ f, arg21.view.loc (c : Thread nD τ) ↦[arg21.view.set]{fullShare} f) ∗ (∃ f, arg19.view.loc (c : Thread nD τ) ↦[arg19.view.set]{fullShare} f)) -∗ K r))
      ⊢ wp frame (wpE (defs₀ (F := F)) Variants.none c none) Set.univ (k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v173) K := by
  rw [k0_part21_eq_skeleton]; unfold k0_part21_skel
  iintro ⟨H11, ⟨%f20, H20⟩, ⟨%f21, H21⟩, ⟨%f19, H19⟩, Hk⟩
  sl_exec
  sl_step
  iapply Hk
  isplitl [H11]; · iexact H11
  isplitl [H20]; · iexists _; iexact H20
  isplitl [H21]; · iexists _; iexact H21
  iexists _; iexact H19

end Cert.S5bIdeal.Hand

end
-- ==== Proof.S5bRun.lean ====
/- The body of the recurrence's backward call, whole. -/
module

public import proofs.«01_k».proof.Proof.Gen.S5bIdeal.Skeleton
public import proofs.«01_k».proof.Proof.Gen.S5bIdeal.Loops
public import proofs.«01_k».proof.Proof.Gen.S5bIdeal.Frame
public import proofs.«01_k».proof.Proof.S5bB
public import proofs.«01_k».proof.Proof.S5bC
public import proofs.«01_k».proof.Proof.Common
public import Idealize.ShloMosaic.Lib.Pipeline.Value
public import Idealize.ShloMosaic.Lib.Claim

@[expose] public section

set_option maxRecDepth 16384

noncomputable section

namespace Cert.S5bIdeal.Hand

open Cert.S5bIdeal Cert.S5bIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.Proof.Common
open Idealize.ShloMosaic.Pipeline (Dat Cfg Window BodyObligation cellOf)

variable {F : FTy → Type} [FloatOps F]

local notation "𝕄" => MT nD τ sig Unit (Elt F) ℕ (UR sig nD τ) ℕ

/-- The block the body leaves of the gradient of `c_re`. -/
abbrev gcrOf (x2 : Vec F S2048x1024 .bf16) (x3 : Vec F S2048x128 .bf16) (x4 : Vec F S2048x128 .bf16) : Vec F S16x512 .f32 :=
  k0_pay135 (k0_pay131 (k0_pay111 k0_pay108 k0_pay109 64#32 k0_pay110 0#32) (k0_pay117 x2) x3 x4) (k0_pay132 (k0_pay111 k0_pay108 k0_pay109 64#32 k0_pay110 0#32) (k0_pay117 x2) x3 x4) (k0_pay133 (k0_pay111 k0_pay108 k0_pay109 64#32 k0_pay110 0#32) (k0_pay117 x2) x3 x4)

/-- The block the body leaves of the gradient of `d`. -/
abbrev gdOf (x1 : Vec F S2048x128 .f32) (x3 : Vec F S2048x128 .bf16) (x4 : Vec F S2048x128 .bf16) : Vec F S1x128 .f32 := k0_pay129 x1 x3 x4

theorem three_inj {A B C : Type} {a a' : A} {b b' : B} {d d' : C}
    (h : (⟨a, b, d⟩ : Σ' (_ : A) (_ : B), C) = ⟨a', b', d'⟩) : a = a' ∧ b = b' ∧ d = d' := by
  cases h; exact ⟨rfl, rfl, rfl⟩

set_option maxHeartbeats 8000000 in
/-- The body on whole staging memrefs runs to the end: its inputs are as they were, the blocks of the gradients of `c_re`
    and `d` hold what is said, the other outputs and the scratch hold something. -/
theorem run_raw (c : Dev nD) (i : grid0.Coords) (arg1 : Memref sig .tc .vmem S2048x128 .f32) (harg1 : arg1.IsWhole) (arg2 : Memref sig .tc .vmem S2048x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x1x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S1x128 .f32) (harg10 : arg10.IsWhole) (arg11 : Memref sig .tc .vmem S18x8x512 .f32) (harg11 : arg11.IsWhole) (arg12 : Memref sig .tc .vmem S2048x128 .bf16) (harg12 : arg12.IsWhole) (arg13 : Memref sig .tc .vmem S16x512 .f32) (harg13 : arg13.IsWhole) (arg14 : Memref sig .tc .vmem S16x512 .f32) (harg14 : arg14.IsWhole) (arg15 : Memref sig .tc .vmem S16x512 .f32) (harg15 : arg15.IsWhole) (arg16 : Memref sig .tc .vmem S16x512 .f32) (harg16 : arg16.IsWhole) (arg17 : Memref sig .tc .vmem S2x1x512 .f32) (harg17 : arg17.IsWhole) (arg18 : Memref sig .tc .vmem S1x128 .f32) (harg18 : arg18.IsWhole) (arg19 : Memref sig .tc .vmem S1x2x512 .f32) (harg19 : arg19.IsWhole) (arg20 : Memref sig .tc .vmem S8x2048x128 .f32) (harg20 : arg20.IsWhole) (arg21 : Memref sig .tc .vmem S8x2048x128 .f32) (harg21 : arg21.IsWhole)
    (x1 : Vec F S2048x128 .f32) (x2 : Vec F S2048x1024 .bf16) (x3 : Vec F S2048x128 .bf16) (x4 : Vec F S2048x128 .bf16) (x5 : Vec F S2x1x512 .f32) (x6 : Vec F S16x512 .f32) (x7 : Vec F S16x512 .f32) (x8 : Vec F S16x512 .f32) (x9 : Vec F S16x512 .f32) (x10 : Vec F S1x128 .f32) (x11 : Vec F S18x8x512 .f32) (K : PUnit → sProp 𝕄) :
    iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f) ∗ (iprop((arg1.view.loc (c : Thread nD τ) ↦[arg1.view.set]{fullShare} harg1.unread x1) ∗ (arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4) ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7) ∗ (arg8.view.loc (c : Thread nD τ) ↦[arg8.view.set]{fullShare} harg8.unread x8) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ owns (c : Thread nD τ) arg15 fullShare (gcrOf x2 x3 x4) ∗ (∃ f, arg16.view.loc (c : Thread nD τ) ↦[arg16.view.set]{fullShare} f) ∗ (∃ f, arg17.view.loc (c : Thread nD τ) ↦[arg17.view.set]{fullShare} f) ∗ owns (c : Thread nD τ) arg18 fullShare (gdOf x1 x3 x4) ∗ (∃ f, arg19.view.loc (c : Thread nD τ) ↦[arg19.view.set]{fullShare} f) ∗ (∃ f, arg20.view.loc (c : Thread nD τ) ↦[arg20.view.set]{fullShare} f) ∗ (∃ f, arg21.view.loc (c : Thread nD τ) ↦[arg21.view.set]{fullShare} f)) -∗ K ⟨⟩))
      ⊢ wp frame (wpE (defs₀ (F := F)) Variants.none c none) Set.univ (cc0_s5_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  rw [cc0_s5_bwd_eq_skeleton]; unfold cc0_s5_bwd_skel
  iintro ⟨H1, H2, H3, H4, H5, H6, H7, H8, H9, H10, H11, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, Hk⟩
  rw [wp_bind]
  iapply (run16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _)
  dsimp only
  rw [wp_bind]
  iapply (run17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ x5 x6 x7 _)
  isplitl [H5]; · iexact H5
  isplitl [H6]; · iexact H6
  isplitl [H7]; · iexact H7
  iintro %r ⟨%hr, H5, H6, H7⟩
  obtain ⟨v66, v86, v87⟩ := r
  dsimp only at hr ⊢
  subst hr
  rw [wp_bind]
  iapply (run18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ x8 x9 x1 x10 x2 _)
  isplitl [H8]; · iexact H8
  isplitl [H9]; · iexact H9
  isplitl [H1]; · iexact H1
  isplitl [H10]; · iexact H10
  isplitl [H2]; · iexact H2
  isplitl [H20]; · iexists _; iexact H20
  iintro %r ⟨%hr, H8, H9, H1, H10, H2, ⟨%f20, H20⟩⟩
  obtain ⟨v89, v100, v101, v102, v103, v105, v106, v119, v120⟩ := r
  dsimp only at hr ⊢
  obtain ⟨h1, h2⟩ := hr
  subst v101 v105
  rw [wp_bind]
  iapply (run19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ x3 x4 _)
  isplitl [H3]; · iexact H3
  isplitl [H4]; · iexact H4
  isplitl [H20]; · iexists _; iexact H20
  isplitl [H18]; · iexists _; iexact H18
  iintro %r ⟨%hr, H3, H4, ⟨%f20, H20⟩, H18⟩
  obtain ⟨v143, v148, v151, v152, v153⟩ := r
  dsimp only at hr ⊢
  obtain ⟨rfl, rfl, rfl⟩ := three_inj hr
  rw [wp_bind]
  iapply (run20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _  _)
  isplitl [H15]; · iexists _; iexact H15
  isplitl [H16]; · iexists _; iexact H16
  isplitl [H21]; · iexists _; iexact H21
  iintro %r ⟨H15, ⟨%f16, H16⟩, ⟨%f21, H21⟩⟩
  rw [wp_bind]
  iapply (run21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ x11 _)
  isplitl [H11]; · iexact H11
  isplitl [H20]; · iexists _; iexact H20
  isplitl [H21]; · iexists _; iexact H21
  isplitl [H19]; · iexists _; iexact H19
  iintro %r ⟨H11, ⟨%f20, H20⟩, ⟨%f21, H21⟩, ⟨%f19, H19⟩⟩
  rw [wp_bind]
  iapply (run22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _  _)
  isplitl [H19]; · iexists _; iexact H19
  isplitl [H20]; · iexists _; iexact H20
  isplitl [H21]; · iexists _; iexact H21
  isplitl [H12]; · iexists _; iexact H12
  iintro %r ⟨⟨%f19, H19⟩, ⟨%f20, H20⟩, ⟨%f21, H21⟩, ⟨%f12, H12⟩⟩
  obtain ⟨v246, v247, v248⟩ := r
  dsimp only
  rw [wp_bind]
  iapply (run23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ x5 x6 x7 _)
  isplitl [H5]; · iexact H5
  isplitl [H6]; · iexact H6
  isplitl [H7]; · iexact H7
  isplitl [H13]; · iexists _; iexact H13
  isplitl [H14]; · iexists _; iexact H14
  iintro %r ⟨H5, H6, H7, ⟨%f13, H13⟩, ⟨%f14, H14⟩⟩
  obtain ⟨v262, v263, v269, v271, v288⟩ := r
  dsimp only
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexact H15
  isplitl [H16]; · iexists _; iexact H16
  isplitl [H17]; · iexists _; iexact H17
  isplitl [H18]; · iexact H18
  isplitl [H19]; · iexists _; iexact H19
  isplitl [H20]; · iexists _; iexact H20
  iexists _; iexact H21

/-- What is owned at contents is a points-to at the buffer that reads back as them. -/
theorem of_owns (c : Dev nD) {s : Shape} {e : EltTy} (M : Memref sig .tc .vmem s e) (h : M.IsWhole) (x : Vec F s e) :
    (owns (c : Thread nD τ) M fullShare x : sProp 𝕄) ⊢ (M.view.loc (c : Thread nD τ) ↦[M.view.set]{fullShare} h.unread x) := by
  unfold owns
  iintro ⟨%f, %hf, H⟩
  obtain rfl := h.eq_unread hf
  iexact H

theorem to_owns (c : Dev nD) {s : Shape} {e : EltTy} (M : Memref sig .tc .vmem s e) (h : M.IsWhole) (x : Vec F s e) :
    (M.view.loc (c : Thread nD τ) ↦[M.view.set]{fullShare} h.unread x) ⊢ (owns (c : Thread nD τ) M fullShare x : sProp 𝕄) := by
  unfold owns
  iintro H
  iexists _
  isplitr
  swap
  · iexact H
  ipureintro
  exact h.read_unread x

theorem of_some (c : Dev nD) {s : Shape} {e : EltTy} (M : Memref sig .tc .vmem s e) :
    (iprop(∃ d, owns (c : Thread nD τ) M fullShare d) : sProp 𝕄) ⊢ iprop(∃ f, M.view.loc (c : Thread nD τ) ↦[M.view.set]{fullShare} f) := by
  unfold owns
  iintro ⟨%d, %f, -, H⟩
  iexists _
  iexact H

theorem to_some (c : Dev nD) {s : Shape} {e : EltTy} (M : Memref sig .tc .vmem s e) :
    (iprop(∃ f, M.view.loc (c : Thread nD τ) ↦[M.view.set]{fullShare} f) : sProp 𝕄) ⊢ iprop(∃ d, owns (c : Thread nD τ) M fullShare d) := by
  unfold owns
  iintro ⟨%f, H⟩
  iexists _
  iexists _
  isplitr
  swap
  · iexact H
  ipureintro
  rfl

set_option maxHeartbeats 8000000 in
/-- The same, of what is owned. -/
theorem run_body (c : Dev nD) (i : grid0.Coords) (arg1 : Memref sig .tc .vmem S2048x128 .f32) (harg1 : arg1.IsWhole) (arg2 : Memref sig .tc .vmem S2048x1024 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S2x1x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S16x512 .f32) (harg9 : arg9.IsWhole) (arg10 : Memref sig .tc .vmem S1x128 .f32) (harg10 : arg10.IsWhole) (arg11 : Memref sig .tc .vmem S18x8x512 .f32) (harg11 : arg11.IsWhole) (arg12 : Memref sig .tc .vmem S2048x128 .bf16) (harg12 : arg12.IsWhole) (arg13 : Memref sig .tc .vmem S16x512 .f32) (harg13 : arg13.IsWhole) (arg14 : Memref sig .tc .vmem S16x512 .f32) (harg14 : arg14.IsWhole) (arg15 : Memref sig .tc .vmem S16x512 .f32) (harg15 : arg15.IsWhole) (arg16 : Memref sig .tc .vmem S16x512 .f32) (harg16 : arg16.IsWhole) (arg17 : Memref sig .tc .vmem S2x1x512 .f32) (harg17 : arg17.IsWhole) (arg18 : Memref sig .tc .vmem S1x128 .f32) (harg18 : arg18.IsWhole) (arg19 : Memref sig .tc .vmem S1x2x512 .f32) (harg19 : arg19.IsWhole) (arg20 : Memref sig .tc .vmem S8x2048x128 .f32) (harg20 : arg20.IsWhole) (arg21 : Memref sig .tc .vmem S8x2048x128 .f32) (harg21 : arg21.IsWhole)
    (x1 : Vec F S2048x128 .f32) (x2 : Vec F S2048x1024 .bf16) (x3 : Vec F S2048x128 .bf16) (x4 : Vec F S2048x128 .bf16) (x5 : Vec F S2x1x512 .f32) (x6 : Vec F S16x512 .f32) (x7 : Vec F S16x512 .f32) (x8 : Vec F S16x512 .f32) (x9 : Vec F S16x512 .f32) (x10 : Vec F S1x128 .f32) (x11 : Vec F S18x8x512 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare (gcrOf x2 x3 x4) ∗ (∃ d, owns (c : Thread nD τ) arg16 fullShare d) ∗ (∃ d, owns (c : Thread nD τ) arg17 fullShare d) ∗ owns (c : Thread nD τ) arg18 fullShare (gdOf x1 x3 x4) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) Set.univ (cc0_s5_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  iintro ⟨H1, H2, H3, H4, H5, H6, H7, H8, H9, H10, H11, H12, H13, H14, H15, H16, H17, H18, H19, H20, H21, Hk⟩
  iapply (run_raw c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x1 x2 x3 x4 x5 x6 x7 x8 x9 x10 x11 K)
  isplitl [H1]; · iapply (of_owns c arg1 harg1 x1) $$ H1
  isplitl [H2]; · iapply (of_owns c arg2 harg2 x2) $$ H2
  isplitl [H3]; · iapply (of_owns c arg3 harg3 x3) $$ H3
  isplitl [H4]; · iapply (of_owns c arg4 harg4 x4) $$ H4
  isplitl [H5]; · iapply (of_owns c arg5 harg5 x5) $$ H5
  isplitl [H6]; · iapply (of_owns c arg6 harg6 x6) $$ H6
  isplitl [H7]; · iapply (of_owns c arg7 harg7 x7) $$ H7
  isplitl [H8]; · iapply (of_owns c arg8 harg8 x8) $$ H8
  isplitl [H9]; · iapply (of_owns c arg9 harg9 x9) $$ H9
  isplitl [H10]; · iapply (of_owns c arg10 harg10 x10) $$ H10
  isplitl [H11]; · iapply (of_owns c arg11 harg11 x11) $$ H11
  isplitl [H12]; · iapply (of_some c arg12) $$ H12
  isplitl [H13]; · iapply (of_some c arg13) $$ H13
  isplitl [H14]; · iapply (of_some c arg14) $$ H14
  isplitl [H15]; · iapply (of_some c arg15) $$ H15
  isplitl [H16]; · iapply (of_some c arg16) $$ H16
  isplitl [H17]; · iapply (of_some c arg17) $$ H17
  isplitl [H18]; · iapply (of_some c arg18) $$ H18
  isplitl [H19]; · iapply (of_some c arg19) $$ H19
  isplitl [H20]; · iapply (of_some c arg20) $$ H20
  isplitl [H21]; · iapply (of_some c arg21) $$ H21
  iintro ⟨H1, H2, H3, H4, H5, H6, H7, H8, H9, H10, H11, H12, H13, H14, H15, H16, H17, H18, H19, H20, H21⟩
  iapply Hk
  isplitl [H1]; · iapply (to_owns c arg1 harg1 x1) $$ H1
  isplitl [H2]; · iapply (to_owns c arg2 harg2 x2) $$ H2
  isplitl [H3]; · iapply (to_owns c arg3 harg3 x3) $$ H3
  isplitl [H4]; · iapply (to_owns c arg4 harg4 x4) $$ H4
  isplitl [H5]; · iapply (to_owns c arg5 harg5 x5) $$ H5
  isplitl [H6]; · iapply (to_owns c arg6 harg6 x6) $$ H6
  isplitl [H7]; · iapply (to_owns c arg7 harg7 x7) $$ H7
  isplitl [H8]; · iapply (to_owns c arg8 harg8 x8) $$ H8
  isplitl [H9]; · iapply (to_owns c arg9 harg9 x9) $$ H9
  isplitl [H10]; · iapply (to_owns c arg10 harg10 x10) $$ H10
  isplitl [H11]; · iapply (to_owns c arg11 harg11 x11) $$ H11
  isplitl [H12]; · iapply (to_some c arg12) $$ H12
  isplitl [H13]; · iapply (to_some c arg13) $$ H13
  isplitl [H14]; · iapply (to_some c arg14) $$ H14
  isplitl [H15]; · iexact H15
  isplitl [H16]; · iapply (to_some c arg16) $$ H16
  isplitl [H17]; · iapply (to_some c arg17) $$ H17
  isplitl [H18]; · iexact H18
  isplitl [H19]; · iapply (to_some c arg19) $$ H19
  isplitl [H20]; · iapply (to_some c arg20) $$ H20
  iapply (to_some c arg21) $$ H21

end Cert.S5bIdeal.Hand

end
-- ==== Proof.S5bFrame.lean ====
/- The frame of the recurrence's backward call. -/
module

public import proofs.«01_k».proof.Proof.Gen.S5bIdeal.Skeleton
public import proofs.«01_k».proof.Proof.Gen.S5bIdeal.Loops
public import proofs.«01_k».proof.Proof.Gen.S5bIdeal.Frame
public import proofs.«01_k».proof.Proof.S5bRun
public import proofs.«01_k».proof.Proof.Common
public import Idealize.ShloMosaic.Lib.Pipeline.Value
public import Idealize.ShloMosaic.Lib.Claim

@[expose] public section

set_option maxRecDepth 16384

noncomputable section

namespace Cert.S5bIdeal.Hand

open Cert.S5bIdeal Cert.S5bIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline Cert.Proof.Common
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents are not named: the outputs other than the gradients of `c_re` and `d`. -/
def fgt : Fin cfg0.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => false
  | ⟨15, _⟩ => true
  | ⟨16, _⟩ => true
  | ⟨17, _⟩ => false
  | ⟨18, _⟩ => true
  | ⟨n + 19, h⟩ => absurd h (show ¬ n + 19 < 19 by omega)

/-- The proof data: each input's buffer at its block, the two named outputs at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Dat.unnamed (cfg := cfg0) 11 t
    | ⟨12, _⟩ => Dat.unnamed (cfg := cfg0) 12 t
    | ⟨13, _⟩ => Dat.unnamed (cfg := cfg0) 13 t
    | ⟨14, _⟩ => gcrOf (iblk m c 1 t) (iblk m c 2 t) (iblk m c 3 t)
    | ⟨15, _⟩ => Dat.unnamed (cfg := cfg0) 15 t
    | ⟨16, _⟩ => Dat.unnamed (cfg := cfg0) 16 t
    | ⟨17, _⟩ => gdOf (iblk m c 0 t) (iblk m c 2 t) (iblk m c 3 t)
    | ⟨18, _⟩ => Dat.unnamed (cfg := cfg0) 18 t
    | ⟨n + 19, h⟩ => absurd h (show ¬ n + 19 < 19 by omega)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_14 (c : Dev nD) (t : Fin cfg0.N) : (dats m 0 c).after 14 t = gcrOf (iblk m c 1 t) (iblk m c 2 t) (iblk m c 3 t) := by dsimp only [dats]
theorem after_17 (c : Dev nD) (t : Fin cfg0.N) : (dats m 0 c).after 17 t = gdOf (iblk m c 0 t) (iblk m c 2 t) (iblk m c 3 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d

theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ X, owns (c : Thread nD τ) (win0_11.stage (cfg0.slots t 11)) fullShare X) ∗ (∃ X, owns (c : Thread nD τ) (win0_12.stage (cfg0.slots t 12)) fullShare X) ∗ (∃ X, owns (c : Thread nD τ) (win0_13.stage (cfg0.slots t 13)) fullShare X) ∗ (∃ d, owns (c : Thread nD τ) (win0_14.stage (cfg0.slots t 14)) fullShare ((dats m 0 c).before 14 t d)) ∗ (∃ X, owns (c : Thread nD τ) (win0_15.stage (cfg0.slots t 15)) fullShare X) ∗ (∃ X, owns (c : Thread nD τ) (win0_16.stage (cfg0.slots t 16)) fullShare X) ∗ (∃ d, owns (c : Thread nD τ) (win0_17.stage (cfg0.slots t 17)) fullShare ((dats m 0 c).before 17 t d)) ∗ (∃ X, owns (c : Thread nD τ) (win0_18.stage (cfg0.slots t 18)) fullShare X))

def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ (∃ X, owns (c : Thread nD τ) (win0_11.stage (cfg0.slots t 11)) fullShare X) ∗ (∃ X, owns (c : Thread nD τ) (win0_12.stage (cfg0.slots t 12)) fullShare X) ∗ (∃ X, owns (c : Thread nD τ) (win0_13.stage (cfg0.slots t 13)) fullShare X) ∗ owns (c : Thread nD τ) (win0_14.stage (cfg0.slots t 14)) fullShare ((dats m 0 c).after 14 t) ∗ (∃ X, owns (c : Thread nD τ) (win0_15.stage (cfg0.slots t 15)) fullShare X) ∗ (∃ X, owns (c : Thread nD τ) (win0_16.stage (cfg0.slots t 16)) fullShare X) ∗ owns (c : Thread nD τ) (win0_17.stage (cfg0.slots t 17)) fullShare ((dats m 0 c).after 17 t) ∗ (∃ X, owns (c : Thread nD τ) (win0_18.stage (cfg0.slots t 18)) fullShare X))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, after_0, after_1, after_2, after_3, after_4, after_5, after_6, after_7, after_8, after_9, after_10, after_14, after_17]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  iintro ⟨⟨⟨HS20, HS21⟩, Hg⟩, Ho, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩, ⟨%d10, H11⟩, ⟨%d11, H12⟩, ⟨%d12, H13⟩, ⟨%d13, H14⟩, ⟨%d14, H15⟩, ⟨%d15, H16⟩, ⟨%d16, H17⟩, ⟨%d17, H18⟩, ⟨%d18, H19⟩⟩
  iapply (run_body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS20]; · iexact HS20
  isplitl [HS21]; · iexact HS21
  iintro ⟨H1, H2, H3, H4, H5, H6, H7, H8, H9, H10, H11, H12, H13, H14, H15, H16, H17, H18, H19, HS20, HS21⟩
  isplitl [HS20 HS21 Hg]
  · isplitl [HS20 HS21]
    · isplitl [HS20]
      · iexact HS20
      iexact HS21
    iexact Hg
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

theorem defs₀_row (t : Fin cfg0.N) :
    defs₀ (F := F) .tc cfg0.body (cfg0.bodyArgs t (cfg0.slots t)) = bodyAt0 t := by
  unfold defs₀; rw [Defs.onTc_tc]

set_option maxHeartbeats 3200000 in
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option maxHeartbeats 3200000 in
set_option backward.isDefEq.respectTransparency.types false in
/-- The run: every array a final state holds is one the proof data allows, and every counter is zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl) (hQ' := fun _ h => h)

set_option maxHeartbeats 3200000 in
/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨fun c => ⟨(h.1.arr_in c 0 rfl).trans ((A_eq m c 0).trans (V_main_arg0 m c)),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    (h.1.arr_in c 10 rfl).trans ((A_eq m c 10).trans (V_main_arg3 m c)),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c),
    (h.1.arr_in c 9 rfl).trans ((A_eq m c 9).trans (V_main_arg10 m c)),
    (h.1.arr_in c 2 rfl).trans ((A_eq m c 2).trans (V_main_arg11 m c)),
    (h.1.arr_in c 3 rfl).trans ((A_eq m c 3).trans (V_main_arg12 m c))⟩, h.2⟩) (run_main m ρ)

end Cert.S5bIdeal.Hand

end
-- ==== Proof.S5bVal.lean ====
/- The values of the recurrence's backward call: the gradients of `c_re` and of `d`. -/
module

public import proofs.«01_k».proof.Proof.Gen.S5bIdeal.Skeleton
public import proofs.«01_k».proof.Proof.Gen.RefS5bIdeal.Run
public import proofs.«01_k».proof.Proof.Common
public import Idealize.ShloMosaic.Lib.Pointwise

@[expose] public section

set_option maxRecDepth 16384

noncomputable section

namespace Cert.Proof.S5bVal

open Idealize.ShloMosaic Idealize.SL.Sem Cert.S5bIdeal
open Cert.S5bIdeal.Gen Idealize.ShloMosaic.TcCoe
open Cert.Proof.Common

/-- The group of sixteen a row lies in. -/
theorem row_group : ∀ r : Fin 128, (k0_pay108 (ix2 r (0 : Fin 1024)) : BitVec 32) = BitVec.ofNat 32 (r.val / 16) := by
  decide +kernel

/-- A row of group `g` is kept in the columns of the group `g` of sixty-four, among the first 512. -/
theorem col_group : ∀ (g : Fin 8) (l : Fin 512),
    (k0_pay111 (fun _ => BitVec.ofNat 32 g.val) k0_pay109 64#32 k0_pay110 0#32 (ix2 (0 : Fin 128) (⟨l.val, by omega⟩ : Fin 1024)) : BitVec 1)
      = if g.val = l.val / 64 then 1#1 else 0#1 := by
  decide +kernel

abbrev mask : IVec S128x1024 1 := k0_pay111 k0_pay108 k0_pay109 64#32 k0_pay110 0#32

theorem mask_apply (g : Fin 8) (a : Fin 16) (l : Fin 512) :
    mask (ix2 (⟨g.val * 16 + a.val, by omega⟩ : Fin 128) (⟨l.val, by omega⟩ : Fin 1024)) = if g.val = l.val / 64 then 1#1 else 0#1 := by
  rw [← col_group g l]
  have h := row_group ⟨g.val * 16 + a.val, by omega⟩
  rw [show (⟨g.val * 16 + a.val, by omega⟩ : Fin 128).val / 16 = g.val by dsimp only; omega] at h
  rw [← h]
  rfl

/-- The gradient's rows folded: the sixteen rows of the eight groups added up. -/
theorem fold_apply (v : FVec Ideal S128x1024 .f32) (a : Fin 16) (l : Fin 512) :
    k0_pay135 v (extractStridedSlice S16x1024 ![0, 0] v slices_S128x1024_o0_0_S16x1024) (extractStridedSlice S16x1024 ![16, 0] v slices_S128x1024_o16_0_S16x1024) (ix2 a l)
      = ((((((v (ix2 ⟨a.val, by omega⟩ ⟨l.val, by omega⟩) + v (ix2 ⟨16 + a.val, by omega⟩ ⟨l.val, by omega⟩)) + v (ix2 ⟨32 + a.val, by omega⟩ ⟨l.val, by omega⟩))
        + v (ix2 ⟨48 + a.val, by omega⟩ ⟨l.val, by omega⟩)) + v (ix2 ⟨64 + a.val, by omega⟩ ⟨l.val, by omega⟩)) + v (ix2 ⟨80 + a.val, by omega⟩ ⟨l.val, by omega⟩))
        + v (ix2 ⟨96 + a.val, by omega⟩ ⟨l.val, by omega⟩)) + v (ix2 ⟨112 + a.val, by omega⟩ ⟨l.val, by omega⟩) := by
  pointwise [k0_pay135, k0_pay134]

theorem prod_apply (w : IVec S128x1024 1) (y : FVec Ideal S2048x1024 .bf16) (x3 x4 : Vec Ideal S2048x128 .bf16) (r : Fin 128) (l : Fin 1024) :
    k0_pay131 w y x3 x4 (ix2 r l)
      = if w (ix2 r l) = 1#1 then ∑ k : Fin 2048, (x3 (ix2 k r) * x4 (ix2 k r)) * y (ix2 k l) else 0 := by
  pointwise [k0_pay131, k0_pay130, k0_pay128]
  unfold Scalar.select
  split_ifs <;> simp_all

theorem fold_sum (v : FVec Ideal S128x1024 .f32) (a : Fin 16) (l : Fin 512) :
    k0_pay135 v (extractStridedSlice S16x1024 ![0, 0] v slices_S128x1024_o0_0_S16x1024) (extractStridedSlice S16x1024 ![16, 0] v slices_S128x1024_o16_0_S16x1024) (ix2 a l)
      = ∑ g : Fin 8, (v (ix2 ⟨g.val * 16 + a.val, by omega⟩ ⟨l.val, by omega⟩) : EReal) := by
  rw [fold_apply, Fin.sum_univ_eight]
  repeat' apply congrArg₂ (fun a b : EReal => a + b)
  all_goals exact congrArg (fun z => v (ix2 z _)) (Fin.ext (by first | rfl | exact (Nat.zero_add _).symm))

theorem pay117_eq (x : Vec Ideal S2048x1024 .bf16) : k0_pay117 x = x := by
  unfold k0_pay117; exact shapeCast_self _ _

theorem gcr_apply (x2 : Vec Ideal S2048x1024 .bf16) (x3 x4 : Vec Ideal S2048x128 .bf16) (a : Fin 16) (l : Fin 512) :
    k0_pay135 (k0_pay131 mask (k0_pay117 x2) x3 x4) (k0_pay132 mask (k0_pay117 x2) x3 x4) (k0_pay133 mask (k0_pay117 x2) x3 x4) (ix2 a l)
      = ∑ k : Fin 2048, (x3 (ix2 k ⟨l.val / 64 * 16 + a.val, by omega⟩) * x4 (ix2 k ⟨l.val / 64 * 16 + a.val, by omega⟩)) * x2 (ix2 k ⟨l.val, by omega⟩) := by
  refine (fold_sum (k0_pay131 mask (k0_pay117 x2) x3 x4) a l).trans ?_
  refine (Finset.sum_eq_single (⟨l.val / 64, by omega⟩ : Fin 8) (fun g _ hg => ?_) (fun h => absurd (Finset.mem_univ _) h)).trans ?_
  · rw [prod_apply, mask_apply, if_neg (fun h => hg (Fin.ext h)), if_neg (by decide)]
  · rw [prod_apply, mask_apply, if_pos rfl, if_pos rfl, pay117_eq]

theorem gd_apply (x1 : Vec Ideal S2048x128 .f32) (x3 x4 : Vec Ideal S2048x128 .bf16) (l : Fin 128) :
    k0_pay129 x1 x3 x4 (ix2 0 l) = ∑ k : Fin 2048, (x3 (ix2 k l) * x4 (ix2 k l)) * x1 (ix2 k l) := by
  pointwise [k0_pay129, k0_pay128]

/-- The gradient of `c_re`, its groups side by side. -/
def valC (xs : FVec Ideal S2048x64x64 .f32) (dz zp : FVec Ideal S2048x1024 .bf16) : FVec Ideal S16x4096 .f32 :=
  fun j => ∑ s : Fin 2048, (dz (ix2 s ⟨(j 1).val / 64 * 16 + (j 0).val, by have := (j 1).isLt; have := (j 0).isLt; change _ < 4096 at *; change _ < 16 at *; omega⟩)
    * zp (ix2 s ⟨(j 1).val / 64 * 16 + (j 0).val, by have := (j 1).isLt; have := (j 0).isLt; change _ < 4096 at *; change _ < 16 at *; omega⟩))
    * xs (ix3 s ⟨(j 1).val / 64, by have := (j 1).isLt; change _ < 4096 at this; omega⟩ ⟨(j 1).val % 64, by omega⟩)

/-- The gradient of `d`. -/
def valD (p : FVec Ideal S2048x6144 .f32) (dz zp : FVec Ideal S2048x1024 .bf16) : FVec Ideal S1x1024 .f32 :=
  fun j => ∑ s : Fin 2048, (dz (ix2 s (j 1)) * zp (ix2 s (j 1))) * p (ix2 s ⟨(j 1).val, by have := (j 1).isLt; change _ < 1024 at this; omega⟩)

theorem ref_run (m : (ℓ : Loc RefS5bIdeal.nD RefS5bIdeal.τ RefS5bIdeal.sig) → Buf (Elt Ideal) ℓ) (ρ : Dev RefS5bIdeal.nD → PrngReg) :
    θ_run RefS5bIdeal.defs (onTc (τ := RefS5bIdeal.τ) (RefS5bIdeal.main (F := Ideal))) ⟨m, fun _ => 0, ρ⟩ fun r => ∀ c : Dev RefS5bIdeal.nD,
      r.2.mem ((c.tc : Thread RefS5bIdeal.nD RefS5bIdeal.τ).loc RefS5bIdeal.main_v25)
        = valC (m ((c.tc : Thread RefS5bIdeal.nD RefS5bIdeal.τ).loc RefS5bIdeal.main_arg1)) (m ((c.tc : Thread RefS5bIdeal.nD RefS5bIdeal.τ).loc RefS5bIdeal.main_arg11)) (m ((c.tc : Thread RefS5bIdeal.nD RefS5bIdeal.τ).loc RefS5bIdeal.main_arg12))
      ∧ r.2.mem ((c.tc : Thread RefS5bIdeal.nD RefS5bIdeal.τ).loc RefS5bIdeal.main_v21)
        = valD (m ((c.tc : Thread RefS5bIdeal.nD RefS5bIdeal.τ).loc RefS5bIdeal.main_arg0)) (m ((c.tc : Thread RefS5bIdeal.nD RefS5bIdeal.τ).loc RefS5bIdeal.main_arg11)) (m ((c.tc : Thread RefS5bIdeal.nD RefS5bIdeal.τ).loc RefS5bIdeal.main_arg12))
      ∧ r.2.mem ((c.tc : Thread RefS5bIdeal.nD RefS5bIdeal.τ).loc RefS5bIdeal.main_arg0) = m ((c.tc : Thread RefS5bIdeal.nD RefS5bIdeal.τ).loc RefS5bIdeal.main_arg0)
      ∧ r.2.mem ((c.tc : Thread RefS5bIdeal.nD RefS5bIdeal.τ).loc RefS5bIdeal.main_arg1) = m ((c.tc : Thread RefS5bIdeal.nD RefS5bIdeal.τ).loc RefS5bIdeal.main_arg1)
      ∧ r.2.mem ((c.tc : Thread RefS5bIdeal.nD RefS5bIdeal.τ).loc RefS5bIdeal.main_arg2) = m ((c.tc : Thread RefS5bIdeal.nD RefS5bIdeal.τ).loc RefS5bIdeal.main_arg2)
      ∧ r.2.mem ((c.tc : Thread RefS5bIdeal.nD RefS5bIdeal.τ).loc RefS5bIdeal.main_arg3) = m ((c.tc : Thread RefS5bIdeal.nD RefS5bIdeal.τ).loc RefS5bIdeal.main_arg3)
      ∧ r.2.mem ((c.tc : Thread RefS5bIdeal.nD RefS5bIdeal.τ).loc RefS5bIdeal.main_arg4) = m ((c.tc : Thread RefS5bIdeal.nD RefS5bIdeal.τ).loc RefS5bIdeal.main_arg4)
      ∧ r.2.mem ((c.tc : Thread RefS5bIdeal.nD RefS5bIdeal.τ).loc RefS5bIdeal.main_arg5) = m ((c.tc : Thread RefS5bIdeal.nD RefS5bIdeal.τ).loc RefS5bIdeal.main_arg5)
      ∧ r.2.mem ((c.tc : Thread RefS5bIdeal.nD RefS5bIdeal.τ).loc RefS5bIdeal.main_arg6) = m ((c.tc : Thread RefS5bIdeal.nD RefS5bIdeal.τ).loc RefS5bIdeal.main_arg6)
      ∧ r.2.mem ((c.tc : Thread RefS5bIdeal.nD RefS5bIdeal.τ).loc RefS5bIdeal.main_arg7) = m ((c.tc : Thread RefS5bIdeal.nD RefS5bIdeal.τ).loc RefS5bIdeal.main_arg7)
      ∧ r.2.mem ((c.tc : Thread RefS5bIdeal.nD RefS5bIdeal.τ).loc RefS5bIdeal.main_arg8) = m ((c.tc : Thread RefS5bIdeal.nD RefS5bIdeal.τ).loc RefS5bIdeal.main_arg8)
      ∧ r.2.mem ((c.tc : Thread RefS5bIdeal.nD RefS5bIdeal.τ).loc RefS5bIdeal.main_arg9) = m ((c.tc : Thread RefS5bIdeal.nD RefS5bIdeal.τ).loc RefS5bIdeal.main_arg9)
      ∧ r.2.mem ((c.tc : Thread RefS5bIdeal.nD RefS5bIdeal.τ).loc RefS5bIdeal.main_arg10) = m ((c.tc : Thread RefS5bIdeal.nD RefS5bIdeal.τ).loc RefS5bIdeal.main_arg10)
      ∧ r.2.mem ((c.tc : Thread RefS5bIdeal.nD RefS5bIdeal.τ).loc RefS5bIdeal.main_arg11) = m ((c.tc : Thread RefS5bIdeal.nD RefS5bIdeal.τ).loc RefS5bIdeal.main_arg11)
      ∧ r.2.mem ((c.tc : Thread RefS5bIdeal.nD RefS5bIdeal.τ).loc RefS5bIdeal.main_arg12) = m ((c.tc : Thread RefS5bIdeal.nD RefS5bIdeal.τ).loc RefS5bIdeal.main_arg12) := by
  refine (θ_run _ _ _).mono (fun r h c => ?_) (Cert.RefS5bIdeal.Value.run (F := Ideal) m ρ)
  obtain ⟨h1, h2, hr⟩ := h c
  refine ⟨h1.trans ?_, h2.trans ?_, hr⟩
  · clear h1 h2 hr h
    funext j
    obtain ⟨a, l, rfl⟩ : ∃ (a : Fin 16) (l : Fin 4096), j = ix2 a l := ⟨j 0, j 1, eq_ix2 j⟩
    unfold valC
    pointwise
  · clear h1 h2 hr h
    funext j
    obtain ⟨a, l, rfl⟩ : ∃ (a : Fin 1) (l : Fin 1024), j = ix2 a l := ⟨j 0, j 1, eq_ix2 j⟩
    unfold valD
    pointwise
    simp only [Finset.sum_const, Finset.card_univ, Fintype.card_fin, one_smul, Finset.univ_unique, Finset.card_singleton]

end Cert.Proof.S5bVal

end
-- ==== Proof.S5b.lean ====
/- The recurrence's backward call: the gradients of `c_re` and of `d`. -/
module

public import proofs.«01_k».proof.Defs
public import proofs.«01_k».proof.Proof.Gen.S5bIdeal.Frame
public import proofs.«01_k».proof.Proof.S5bFrame
public import proofs.«01_k».proof.Proof.S5bVal
public import Idealize.ShloMosaic.Lib.Pipeline.Value
public import Idealize.ShloMosaic.Lib.Pointwise
public import proofs.«01_k».proof.Proof.Common

@[expose] public section

set_option maxRecDepth 16384

noncomputable section

namespace Cert.Proof.S5b

open Idealize.ShloMosaic Idealize.SL.Sem Cert.S5bIdeal
open Cert.S5bIdeal.Gen Cert.S5bIdeal.Hand Idealize.ShloMosaic.TcCoe
open Cert.Proof.Common Cert.Proof.S5bVal
open Idealize.ShloMosaic.Pipeline (Dat Cfg Window)

/-- Point `t` reads and writes the `t`-th run of columns. -/
theorem idx_facts : ∀ t : Fin cfg0.N,
    win0_0.index t 0 = 0 ∧ win0_0.index t 1 = t.val ∧ win0_1.index t 0 = 0 ∧ win0_1.index t 1 = t.val
    ∧ win0_2.index t 0 = 0 ∧ win0_2.index t 1 = t.val ∧ win0_3.index t 0 = 0 ∧ win0_3.index t 1 = t.val
    ∧ win0_14.index t 0 = 0 ∧ win0_14.index t 1 = t.val ∧ win0_17.index t 0 = 0 ∧ win0_17.index t 1 = t.val :=
  (by decide +kernel : ∀ t : Fin grid0.N,
    win0_0.index t 0 = 0 ∧ win0_0.index t 1 = t.val ∧ win0_1.index t 0 = 0 ∧ win0_1.index t 1 = t.val
    ∧ win0_2.index t 0 = 0 ∧ win0_2.index t 1 = t.val ∧ win0_3.index t 0 = 0 ∧ win0_3.index t 1 = t.val
    ∧ win0_14.index t 0 = 0 ∧ win0_14.index t 1 = t.val ∧ win0_17.index t 0 = 0 ∧ win0_17.index t 1 = t.val)

/-- Every run of columns is some point's, and is written back. -/
theorem idx_onto : ∀ a : Fin 8, ∃ t : Fin cfg0.N, win0_14.flush t = true ∧ win0_17.flush t = true ∧ t.val = a.val :=
  (by decide +kernel : ∀ a : Fin 8, ∃ t : Fin grid0.N, win0_14.flush t = true ∧ win0_17.flush t = true ∧ t.val = a.val)

theorem t_lt (t : Fin cfg0.N) : t.val < 8 := lt_of_lt_of_eq t.isLt N_0

variable (m : (ℓ : Loc nD τ sig) → Buf (Elt Ideal) ℓ) (ρ : Dev nD → PrngReg)

/-- The arguments the two gradients depend on, as launched. -/
abbrev argP (c : Dev nD) : FVec Ideal S2048x6144 .f32 := m ((c : Thread nD τ).loc main_arg0)
abbrev argXr (c : Dev nD) : FVec Ideal S2048x64x64 .f32 := m ((c : Thread nD τ).loc main_arg1)
abbrev argXi (c : Dev nD) : FVec Ideal S2048x64x64 .f32 := m ((c : Thread nD τ).loc main_arg2)
abbrev argDz (c : Dev nD) : FVec Ideal S2048x1024 .bf16 := m ((c : Thread nD τ).loc main_arg11)
abbrev argZp (c : Dev nD) : FVec Ideal S2048x1024 .bf16 := m ((c : Thread nD τ).loc main_arg12)

/-- The states the call is given: real and imaginary parts, interleaved by runs of columns. -/
theorem V18 (c : Dev nD) : (V m c main_v18 : FVec Ideal S2048x8192 .bf16)
    = truncf .bf16 (shapeCast S2048x8192 (concatenate S2048x8x2x512 2
        [⟨S2048x8x1x512, (broadcastInDim S2048x8x1x512 ![0, 1, 3] bcast_S2048x8x512_S2048x8x1x512_0_1_3 (shapeCast S2048x8x512 (argXr m c) shapeCasts_S2048x64x64_S2048x8x512) : FVec Ideal S2048x8x1x512 .f32)⟩,
         ⟨S2048x8x1x512, (broadcastInDim S2048x8x1x512 ![0, 1, 3] bcast_S2048x8x512_S2048x8x1x512_0_1_3 (shapeCast S2048x8x512 (argXi m c) shapeCasts_S2048x64x64_S2048x8x512) : FVec Ideal S2048x8x1x512 .f32)⟩]
        concatenates_S2048x8x1x512_S2048x8x1x512_S2048x8x2x512_d2 : FVec Ideal S2048x8x2x512 .f32) shapeCasts_S2048x8x2x512_S2048x8192) bitsLt_bf16_f32 := by
  unfold V hostOps0
  after_results
  rfl

/-- The first half of a block of the states is the real parts of its eight groups. -/
theorem V18_apply (c : Dev nD) (s : Fin 2048) (b : Nat) (hb : b < 8) (l : Fin 512) (C : Fin 8192) (hC : C.val = b * 1024 + l.val) :
    (V m c main_v18 : FVec Ideal S2048x8192 .bf16) (ix2 s C)
      = argXr m c (ix3 s ⟨(b * 512 + l.val) / 64, by omega⟩ ⟨(b * 512 + l.val) % 64, by omega⟩) := by
  rw [V18]
  pointwise
  split_ifs <;> first
    | (exfalso; omega)
    | exact congrArg₂ (fun y z => argXr m c (ix3 s y z)) (Fin.ext (by dsimp only; omega)) (Fin.ext (by dsimp only; omega))

theorem V0 (c : Dev nD) : (V m c main_arg0 : FVec Ideal S2048x6144 .f32) = argP m c := V_main_arg0 m c
theorem V11 (c : Dev nD) : (V m c main_arg11 : FVec Ideal S2048x1024 .bf16) = argDz m c := V_main_arg11 m c
theorem V12 (c : Dev nD) : (V m c main_arg12 : FVec Ideal S2048x1024 .bf16) = argZp m c := V_main_arg12 m c

theorem blk0 (c : Dev nD) (t : Fin cfg0.N) (k : Fin 2048) (l : Fin 128) :
    iblk m c 0 t (ix2 k l) = argP m c (ix2 k ⟨t.val * 128 + l.val, by have := t_lt t; omega⟩) := by
  obtain ⟨h00, h01, -⟩ := idx_facts t
  show (V m c main_arg0 : FVec Ideal S2048x6144 .f32) _ = _
  rw [V0]
  exact congrArg (argP m c) <| funext fun a => Fin.ext <|
    match a with
    | ⟨0, _⟩ => by show win0_0.index t 0 * 2048 + 1 * k.val = k.val; rw [h00]; omega
    | ⟨1, _⟩ => by show win0_0.index t 1 * 128 + 1 * l.val = t.val * 128 + l.val; rw [h01]; omega

theorem blk1 (c : Dev nD) (t : Fin cfg0.N) (k : Fin 2048) (l : Fin 512) :
    iblk m c 1 t (ix2 k ⟨l.val, by omega⟩)
      = argXr m c (ix3 k ⟨(t.val * 512 + l.val) / 64, by have := t_lt t; omega⟩ ⟨(t.val * 512 + l.val) % 64, by omega⟩) := by
  obtain ⟨-, -, h10, h11, -⟩ := idx_facts t
  show (V m c main_v18 : FVec Ideal S2048x8192 .bf16) _ = _
  have : (win0_1.blk t).view.emb (ix2 k ⟨l.val, by omega⟩) = ix2 k ⟨t.val * 1024 + l.val, by have := t_lt t; omega⟩ := funext fun a => Fin.ext <|
    match a with
    | ⟨0, _⟩ => by show win0_1.index t 0 * 2048 + 1 * k.val = k.val; rw [h10]; omega
    | ⟨1, _⟩ => by show win0_1.index t 1 * 1024 + 1 * l.val = t.val * 1024 + l.val; rw [h11]; omega
  rw [this]
  exact V18_apply m c k t.val (t_lt t) l _ rfl

theorem blk2 (c : Dev nD) (t : Fin cfg0.N) (k : Fin 2048) (l : Fin 128) :
    iblk m c 2 t (ix2 k l) = argDz m c (ix2 k ⟨t.val * 128 + l.val, by have := t_lt t; omega⟩) := by
  obtain ⟨-, -, -, -, h20, h21, -⟩ := idx_facts t
  show (V m c main_arg11 : FVec Ideal S2048x1024 .bf16) _ = _
  rw [V11]
  exact congrArg (argDz m c) <| funext fun a => Fin.ext <|
    match a with
    | ⟨0, _⟩ => by show win0_2.index t 0 * 2048 + 1 * k.val = k.val; rw [h20]; omega
    | ⟨1, _⟩ => by show win0_2.index t 1 * 128 + 1 * l.val = t.val * 128 + l.val; rw [h21]; omega

theorem blk3 (c : Dev nD) (t : Fin cfg0.N) (k : Fin 2048) (l : Fin 128) :
    iblk m c 3 t (ix2 k l) = argZp m c (ix2 k ⟨t.val * 128 + l.val, by have := t_lt t; omega⟩) := by
  obtain ⟨-, -, -, -, -, -, h30, h31, -⟩ := idx_facts t
  show (V m c main_arg12 : FVec Ideal S2048x1024 .bf16) _ = _
  rw [V12]
  exact congrArg (argZp m c) <| funext fun a => Fin.ext <|
    match a with
    | ⟨0, _⟩ => by show win0_3.index t 0 * 2048 + 1 * k.val = k.val; rw [h30]; omega
    | ⟨1, _⟩ => by show win0_3.index t 1 * 128 + 1 * l.val = t.val * 128 + l.val; rw [h31]; omega

theorem flushed14 (c : Dev nD) (t : Fin cfg0.N) :
    (dats m 0 c).flushed 14 t = (cfg0.win 14).cut (grid0.coords t) (gcrOf (iblk m c 1 t) (iblk m c 2 t) (iblk m c 3 t)) := by
  show (cfg0.win 14).cut (grid0.coords t) ((dats m 0 c).after 14 t) = _
  rw [after_14]

theorem flushed17 (c : Dev nD) (t : Fin cfg0.N) :
    (dats m 0 c).flushed 17 t = (cfg0.win 17).cut (grid0.coords t) (gdOf (iblk m c 0 t) (iblk m c 2 t) (iblk m c 3 t)) := by
  show (cfg0.win 17).cut (grid0.coords t) ((dats m 0 c).after 17 t) = _
  rw [after_17]

theorem flushed14_eq (c : Dev nD) (t : Fin cfg0.N) :
    (dats m 0 c).flushed 14 t = ((cfg0.win 14).blk t).view.read (Elt Ideal) (valC (argXr m c) (argDz m c) (argZp m c)) := by
  rw [flushed14]
  have ht := t_lt t
  obtain ⟨-, -, -, -, -, -, -, -, h0, h1, -⟩ := idx_facts t
  funext j
  obtain ⟨a, l, rfl⟩ : ∃ (a : Fin 16) (l : Fin 512), j = ix2 a l := ⟨j 0, j 1, eq_ix2 j⟩
  have hR : (win0_14.rect t).idx (ix2 a l) = ix2 a ⟨t.val * 512 + l.val, by omega⟩ := funext fun x => Fin.ext <|
    match x with
    | ⟨0, _⟩ => by show win0_14.index t 0 * 16 + 1 * a.val = a.val; rw [h0]; omega
    | ⟨1, _⟩ => by show win0_14.index t 1 * 512 + 1 * l.val = t.val * 512 + l.val; rw [h1]; omega
  refine (gcr_apply (iblk m c 1 t) (iblk m c 2 t) (iblk m c 3 t) a l).trans (Eq.trans ?_ (congrArg (valC (argXr m c) (argDz m c) (argZp m c)) hR.symm))
  unfold valC
  refine Finset.sum_congr rfl fun k _ => ?_
  rw [blk1, blk2, blk3]
  have e : (⟨t.val * 128 + (l.val / 64 * 16 + a.val), by omega⟩ : Fin 1024) = ⟨(t.val * 512 + l.val) / 64 * 16 + a.val, by omega⟩ := Fin.ext (by dsimp only; omega)
  exact congrArg₂ (fun x y : EReal => x * y) (congrArg₂ (fun x y : EReal => x * y) (congrArg (fun z => argDz m c (ix2 k z)) e)
    (congrArg (fun z => argZp m c (ix2 k z)) e)) rfl

theorem flushed17_eq (c : Dev nD) (t : Fin cfg0.N) :
    (dats m 0 c).flushed 17 t = ((cfg0.win 17).blk t).view.read (Elt Ideal) (valD (argP m c) (argDz m c) (argZp m c)) := by
  rw [flushed17]
  have ht := t_lt t
  obtain ⟨-, -, -, -, -, -, -, -, -, -, h0, h1⟩ := idx_facts t
  funext j
  obtain ⟨a, l, rfl⟩ : ∃ (a : Fin 1) (l : Fin 128), j = ix2 a l := ⟨j 0, j 1, eq_ix2 j⟩
  obtain rfl : a = 0 := Subsingleton.elim _ _
  have hR : (win0_17.rect t).idx (ix2 0 l) = ix2 0 ⟨t.val * 128 + l.val, by omega⟩ := funext fun x => Fin.ext <|
    match x with
    | ⟨0, _⟩ => by show win0_17.index t 0 * 1 + 1 * 0 = 0; rw [h0]
    | ⟨1, _⟩ => by show win0_17.index t 1 * 128 + 1 * l.val = t.val * 128 + l.val; rw [h1]; omega
  refine (gd_apply (iblk m c 0 t) (iblk m c 2 t) (iblk m c 3 t) l).trans (Eq.trans ?_ (congrArg (valD (argP m c) (argDz m c) (argZp m c)) hR.symm))
  unfold valD
  refine Finset.sum_congr rfl fun k _ => ?_
  rw [blk0, blk2, blk3]
  rfl

theorem final14 (c : Dev nD) : (dats m 0 c).arrAt 14 cfg0.N = valC (argXr m c) (argDz m c) (argZp m c) :=
  (dats m 0 c).arrAt_eq_of_cover 14 _ (fun t _ => flushed14_eq m c t) fun i => by
    have h0 : (i 0 : Nat) < 16 := (i 0).isLt
    have h1 : (i 1 : Nat) < 4096 := (i 1).isLt
    obtain ⟨t, ht, -, ha⟩ := idx_onto ⟨(i 1 : Nat) / 512, by omega⟩
    obtain ⟨-, -, -, -, -, -, -, -, e0, e1, -⟩ := idx_facts t
    refine ⟨t, ht, ?_⟩
    show i ∈ ((View.whole main_v19_3).slice (win0_14.rect t)).set
    rw [View.set_slice_whole, Rect.mem_set_unit]
    intro a
    match a with
    | ⟨0, _⟩ => show win0_14.index t 0 * 16 ≤ (i 0 : Nat) ∧ (i 0 : Nat) < win0_14.index t 0 * 16 + 16; rw [e0]; omega
    | ⟨1, _⟩ => show win0_14.index t 1 * 512 ≤ (i 1 : Nat) ∧ (i 1 : Nat) < win0_14.index t 1 * 512 + 512; rw [e1, ha]; dsimp only; omega

theorem final17 (c : Dev nD) : (dats m 0 c).arrAt 17 cfg0.N = valD (argP m c) (argDz m c) (argZp m c) :=
  (dats m 0 c).arrAt_eq_of_cover 17 _ (fun t _ => flushed17_eq m c t) fun i => by
    have h0 : (i 0 : Nat) < 1 := (i 0).isLt
    have h1 : (i 1 : Nat) < 1024 := (i 1).isLt
    obtain ⟨t, -, ht, ha⟩ := idx_onto ⟨(i 1 : Nat) / 128, by omega⟩
    obtain ⟨-, -, -, -, -, -, -, -, -, -, e0, e1⟩ := idx_facts t
    refine ⟨t, ht, ?_⟩
    show i ∈ ((View.whole main_v19_6).slice (win0_17.rect t)).set
    rw [View.set_slice_whole, Rect.mem_set_unit]
    intro a
    match a with
    | ⟨0, _⟩ => show win0_17.index t 0 * 1 ≤ (i 0 : Nat) ∧ (i 0 : Nat) < win0_17.index t 0 * 1 + 1; rw [e0]; omega
    | ⟨1, _⟩ => show win0_17.index t 1 * 128 ≤ (i 1 : Nat) ∧ (i 1 : Nat) < win0_17.index t 1 * 128 + 128; rw [e1, ha]; dsimp only; omega

theorem frame_ideal : Cert.quiescent_S5bIdeal (hS5bIdeal := Cert.S5bIdeal.Gen.facts) := fun m ρ _ =>
  Cert.S5bIdeal.Hand.frame (F := Ideal) m ρ

theorem claim : Cert.algebraic_S5bIdeal_RefS5bIdeal (hS5bIdeal := Cert.S5bIdeal.Gen.facts) (hRefS5bIdeal := Cert.RefS5bIdeal.Gen.facts) := by
  intro m g m' g' _ hargs
  refine ⟨fun c => valC (argXr m c) (argDz m c) (argZp m c), fun c => valD (argP m c) (argDz m c) (argZp m c), ?_, ?_⟩
  · refine (θ_run defs _ _).mono (fun r h c => ?_) (θ_run_and (run_main (F := Ideal) m g) (Cert.S5bIdeal.Hand.frame (F := Ideal) m g))
    refine ⟨Eq.trans ?_ (final14 m c), Eq.trans ?_ (final17 m c), h.2.1 c⟩
    · exact ((dats m 0 c).toRForget_arrAt_iff (fgt := fgt) (w := 14) rfl cfg0.N _).mp ((h.1.1 c).1 14)
    · exact ((dats m 0 c).toRForget_arrAt_iff (fgt := fgt) (w := 17) rfl cfg0.N _).mp ((h.1.1 c).1 17)
  · refine (θ_run _ _ _).mono (fun r h c => ?_) (ref_run m' g')
    obtain ⟨h1, h2, hr⟩ := h c
    obtain ⟨a0, a1, -, -, -, -, -, -, -, -, -, a11, a12⟩ := hargs c
    refine ⟨h1.trans ?_, h2.trans ?_, hr⟩
    · rw [a1, a11, a12]
    · rw [a0, a11, a12]

end Cert.Proof.S5b

end
-- ==== Proof.lean ====
/- The claims, put together. Each call has a module of its own under Proof/. -/
module

public import proofs.«01_k».proof.Defs
public import proofs.«01_k».proof.Proof.Gen.Dff2
public import proofs.«01_k».proof.Proof.Gen.Dff2.Skeleton
public import proofs.«01_k».proof.Proof.Gen.Dff2.Launch
public import proofs.«01_k».proof.Proof.Gen.Dff2.Points
public import proofs.«01_k».proof.Proof.Gen.Dff2.Frame
public import proofs.«01_k».proof.Proof.Gen.Dff2Ideal
public import proofs.«01_k».proof.Proof.Gen.Dff2Ideal.Skeleton
public import proofs.«01_k».proof.Proof.Gen.Dff2Ideal.Launch
public import proofs.«01_k».proof.Proof.Gen.Dff2Ideal.Points
public import proofs.«01_k».proof.Proof.Gen.Dff2Ideal.Frame
public import proofs.«01_k».proof.Proof.Gen.RefDff2Ideal
public import proofs.«01_k».proof.Proof.Gen.Gff2
public import proofs.«01_k».proof.Proof.Gen.Gff2.Skeleton
public import proofs.«01_k».proof.Proof.Gen.Gff2.Launch
public import proofs.«01_k».proof.Proof.Gen.Gff2.Points
public import proofs.«01_k».proof.Proof.Gen.Gff2.Frame
public import proofs.«01_k».proof.Proof.Gen.Gff2Ideal
public import proofs.«01_k».proof.Proof.Gen.Gff2Ideal.Skeleton
public import proofs.«01_k».proof.Proof.Gen.Gff2Ideal.Launch
public import proofs.«01_k».proof.Proof.Gen.Gff2Ideal.Points
public import proofs.«01_k».proof.Proof.Gen.Gff2Ideal.Frame
public import proofs.«01_k».proof.Proof.Gen.RefGff2Ideal
public import proofs.«01_k».proof.Proof.Gen.Gff1
public import proofs.«01_k».proof.Proof.Gen.Gff1.Skeleton
public import proofs.«01_k».proof.Proof.Gen.Gff1.Launch
public import proofs.«01_k».proof.Proof.Gen.Gff1.Points
public import proofs.«01_k».proof.Proof.Gen.Gff1.Frame
public import proofs.«01_k».proof.Proof.Gen.Gff1Ideal
public import proofs.«01_k».proof.Proof.Gen.Gff1Ideal.Skeleton
public import proofs.«01_k».proof.Proof.Gen.Gff1Ideal.Launch
public import proofs.«01_k».proof.Proof.Gen.Gff1Ideal.Points
public import proofs.«01_k».proof.Proof.Gen.Gff1Ideal.Frame
public import proofs.«01_k».proof.Proof.Gen.RefGff1Ideal
public import proofs.«01_k».proof.Proof.Gen.Dff1
public import proofs.«01_k».proof.Proof.Gen.Dff1.Skeleton
public import proofs.«01_k».proof.Proof.Gen.Dff1.Launch
public import proofs.«01_k».proof.Proof.Gen.Dff1.Points
public import proofs.«01_k».proof.Proof.Gen.Dff1.Frame
public import proofs.«01_k».proof.Proof.Gen.Dff1Ideal
public import proofs.«01_k».proof.Proof.Gen.Dff1Ideal.Skeleton
public import proofs.«01_k».proof.Proof.Gen.Dff1Ideal.Launch
public import proofs.«01_k».proof.Proof.Gen.Dff1Ideal.Points
public import proofs.«01_k».proof.Proof.Gen.Dff1Ideal.Frame
public import proofs.«01_k».proof.Proof.Gen.RefDff1Ideal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.RefMergeIdeal
public import proofs.«01_k».proof.Proof.Gen.Dff2Ideal.Value
public import proofs.«01_k».proof.Proof.Gen.RefDff2Ideal.Run
public import proofs.«01_k».proof.Proof.Gen.Gff2Ideal.Value
public import proofs.«01_k».proof.Proof.Gen.RefGff2Ideal.Run
public import proofs.«01_k».proof.Proof.Gen.Gff1Ideal.Value
public import proofs.«01_k».proof.Proof.Gen.RefGff1Ideal.Run
public import proofs.«01_k».proof.Proof.Gen.Dff1Ideal.Value
public import proofs.«01_k».proof.Proof.Gen.RefDff1Ideal.Run
public import proofs.«01_k».proof.Proof.Gen.MergeIdeal.Value
public import proofs.«01_k».proof.Proof.Gen.RefMergeIdeal.Run
public import proofs.«01_k».proof.Proof.Gen.Gin
public import proofs.«01_k».proof.Proof.Gen.Gin.Skeleton
public import proofs.«01_k».proof.Proof.Gen.Gin.Launch
public import proofs.«01_k».proof.Proof.Gen.Gin.Points
public import proofs.«01_k».proof.Proof.Gen.Gin.Frame
public import proofs.«01_k».proof.Proof.Gen.GinIdeal
public import proofs.«01_k».proof.Proof.Gen.GinIdeal.Skeleton
public import proofs.«01_k».proof.Proof.Gen.GinIdeal.Launch
public import proofs.«01_k».proof.Proof.Gen.GinIdeal.Points
public import proofs.«01_k».proof.Proof.Gen.GinIdeal.Frame
public import proofs.«01_k».proof.Proof.Gen.GinIdeal.Value
public import proofs.«01_k».proof.Proof.Gen.RefGinIdeal
public import proofs.«01_k».proof.Proof.Gen.RefGinIdeal.Run
public import proofs.«01_k».proof.Proof.Gen.Dproj
public import proofs.«01_k».proof.Proof.Gen.Dproj.Skeleton
public import proofs.«01_k».proof.Proof.Gen.Dproj.Launch
public import proofs.«01_k».proof.Proof.Gen.Dproj.Points
public import proofs.«01_k».proof.Proof.Gen.Dproj.Frame
public import proofs.«01_k».proof.Proof.Gen.DprojIdeal
public import proofs.«01_k».proof.Proof.Gen.DprojIdeal.Skeleton
public import proofs.«01_k».proof.Proof.Gen.DprojIdeal.Launch
public import proofs.«01_k».proof.Proof.Gen.DprojIdeal.Points
public import proofs.«01_k».proof.Proof.Gen.DprojIdeal.Frame
public import proofs.«01_k».proof.Proof.Gen.DprojIdeal.Value
public import proofs.«01_k».proof.Proof.Gen.RefDprojIdeal
public import proofs.«01_k».proof.Proof.Gen.RefDprojIdeal.Run
public import proofs.«01_k».proof.Proof.Gen.Gout
public import proofs.«01_k».proof.Proof.Gen.Gout.Skeleton
public import proofs.«01_k».proof.Proof.Gen.Gout.Launch
public import proofs.«01_k».proof.Proof.Gen.Gout.Points
public import proofs.«01_k».proof.Proof.Gen.Gout.Frame
public import proofs.«01_k».proof.Proof.Gen.GoutIdeal
public import proofs.«01_k».proof.Proof.Gen.GoutIdeal.Skeleton
public import proofs.«01_k».proof.Proof.Gen.GoutIdeal.Launch
public import proofs.«01_k».proof.Proof.Gen.GoutIdeal.Points
public import proofs.«01_k».proof.Proof.Gen.GoutIdeal.Frame
public import proofs.«01_k».proof.Proof.Gen.GoutIdeal.Value
public import proofs.«01_k».proof.Proof.Gen.RefGoutIdeal
public import proofs.«01_k».proof.Proof.Gen.RefGoutIdeal.Run
public import proofs.«01_k».proof.Proof.Gen.Dmix
public import proofs.«01_k».proof.Proof.Gen.Dmix.Skeleton
public import proofs.«01_k».proof.Proof.Gen.Dmix.Launch
public import proofs.«01_k».proof.Proof.Gen.Dmix.Points
public import proofs.«01_k».proof.Proof.Gen.Dmix.Frame
public import proofs.«01_k».proof.Proof.Gen.DmixIdeal
public import proofs.«01_k».proof.Proof.Gen.DmixIdeal.Skeleton
public import proofs.«01_k».proof.Proof.Gen.DmixIdeal.Launch
public import proofs.«01_k».proof.Proof.Gen.DmixIdeal.Points
public import proofs.«01_k».proof.Proof.Gen.DmixIdeal.Frame
public import proofs.«01_k».proof.Proof.Gen.DmixIdeal.Value
public import proofs.«01_k».proof.Proof.Gen.RefDmixIdeal
public import proofs.«01_k».proof.Proof.Gen.RefDmixIdeal.Run
public import proofs.«01_k».proof.Proof.Gen.Gglu
public import proofs.«01_k».proof.Proof.Gen.Gglu.Skeleton
public import proofs.«01_k».proof.Proof.Gen.Gglu.Launch
public import proofs.«01_k».proof.Proof.Gen.Gglu.Points
public import proofs.«01_k».proof.Proof.Gen.Gglu.Frame
public import proofs.«01_k».proof.Proof.Gen.GgluIdeal
public import proofs.«01_k».proof.Proof.Gen.GgluIdeal.Skeleton
public import proofs.«01_k».proof.Proof.Gen.GgluIdeal.Launch
public import proofs.«01_k».proof.Proof.Gen.GgluIdeal.Points
public import proofs.«01_k».proof.Proof.Gen.GgluIdeal.Frame
public import proofs.«01_k».proof.Proof.Gen.GgluIdeal.Value
public import proofs.«01_k».proof.Proof.Gen.RefGgluIdeal
public import proofs.«01_k».proof.Proof.Gen.RefGgluIdeal.Run
public import proofs.«01_k».proof.Proof.Gen.Dglu
public import proofs.«01_k».proof.Proof.Gen.Dglu.Skeleton
public import proofs.«01_k».proof.Proof.Gen.Dglu.Launch
public import proofs.«01_k».proof.Proof.Gen.Dglu.Points
public import proofs.«01_k».proof.Proof.Gen.Dglu.Frame
public import proofs.«01_k».proof.Proof.Gen.DgluIdeal
public import proofs.«01_k».proof.Proof.Gen.DgluIdeal.Skeleton
public import proofs.«01_k».proof.Proof.Gen.DgluIdeal.Launch
public import proofs.«01_k».proof.Proof.Gen.DgluIdeal.Points
public import proofs.«01_k».proof.Proof.Gen.DgluIdeal.Frame
public import proofs.«01_k».proof.Proof.Gen.DgluIdeal.Value
public import proofs.«01_k».proof.Proof.Gen.RefDgluIdeal
public import proofs.«01_k».proof.Proof.Gen.RefDgluIdeal.Run
public import proofs.«01_k».proof.Proof.Gen.Gpo
public import proofs.«01_k».proof.Proof.Gen.Gpo.Skeleton
public import proofs.«01_k».proof.Proof.Gen.Gpo.Launch
public import proofs.«01_k».proof.Proof.Gen.Gpo.Points
public import proofs.«01_k».proof.Proof.Gen.Gpo.Frame
public import proofs.«01_k».proof.Proof.Gen.GpoIdeal
public import proofs.«01_k».proof.Proof.Gen.GpoIdeal.Skeleton
public import proofs.«01_k».proof.Proof.Gen.GpoIdeal.Launch
public import proofs.«01_k».proof.Proof.Gen.GpoIdeal.Points
public import proofs.«01_k».proof.Proof.Gen.GpoIdeal.Frame
public import proofs.«01_k».proof.Proof.Gen.GpoIdeal.Value
public import proofs.«01_k».proof.Proof.Gen.RefGpoIdeal
public import proofs.«01_k».proof.Proof.Gen.RefGpoIdeal.Run
public import proofs.«01_k».proof.Proof.Gen.Dpo
public import proofs.«01_k».proof.Proof.Gen.Dpo.Skeleton
public import proofs.«01_k».proof.Proof.Gen.Dpo.Launch
public import proofs.«01_k».proof.Proof.Gen.Dpo.Points
public import proofs.«01_k».proof.Proof.Gen.Dpo.Frame
public import proofs.«01_k».proof.Proof.Gen.DpoIdeal
public import proofs.«01_k».proof.Proof.Gen.DpoIdeal.Skeleton
public import proofs.«01_k».proof.Proof.Gen.DpoIdeal.Launch
public import proofs.«01_k».proof.Proof.Gen.DpoIdeal.Points
public import proofs.«01_k».proof.Proof.Gen.DpoIdeal.Frame
public import proofs.«01_k».proof.Proof.Gen.DpoIdeal.Value
public import proofs.«01_k».proof.Proof.Gen.RefDpoIdeal
public import proofs.«01_k».proof.Proof.Gen.RefDpoIdeal.Run
public import proofs.«01_k».proof.Proof.Gen.Dpm
public import proofs.«01_k».proof.Proof.Gen.Dpm.Skeleton
public import proofs.«01_k».proof.Proof.Gen.Dpm.Launch
public import proofs.«01_k».proof.Proof.Gen.Dpm.Points
public import proofs.«01_k».proof.Proof.Gen.Dpm.Frame
public import proofs.«01_k».proof.Proof.Gen.DpmIdeal
public import proofs.«01_k».proof.Proof.Gen.DpmIdeal.Skeleton
public import proofs.«01_k».proof.Proof.Gen.DpmIdeal.Launch
public import proofs.«01_k».proof.Proof.Gen.DpmIdeal.Points
public import proofs.«01_k».proof.Proof.Gen.DpmIdeal.Frame
public import proofs.«01_k».proof.Proof.Gen.DpmIdeal.Value
public import proofs.«01_k».proof.Proof.Gen.RefDpmIdeal
public import proofs.«01_k».proof.Proof.Gen.RefDpmIdeal.Run
public import proofs.«01_k».proof.Proof.Gen.Gpool
public import proofs.«01_k».proof.Proof.Gen.Gpool.Skeleton
public import proofs.«01_k».proof.Proof.Gen.Gpool.Launch
public import proofs.«01_k».proof.Proof.Gen.Gpool.Points
public import proofs.«01_k».proof.Proof.Gen.Gpool.Frame
public import proofs.«01_k».proof.Proof.Gen.GpoolIdeal
public import proofs.«01_k».proof.Proof.Gen.GpoolIdeal.Skeleton
public import proofs.«01_k».proof.Proof.Gen.GpoolIdeal.Launch
public import proofs.«01_k».proof.Proof.Gen.GpoolIdeal.Points
public import proofs.«01_k».proof.Proof.Gen.GpoolIdeal.Frame
public import proofs.«01_k».proof.Proof.Gen.GpoolIdeal.Value
public import proofs.«01_k».proof.Proof.Gen.RefGpoolIdeal
public import proofs.«01_k».proof.Proof.Gen.RefGpoolIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.RefProjIdeal
public import proofs.«01_k».proof.Proof.Gen.RefProjIdeal.Run
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluIdeal.Value
public import proofs.«01_k».proof.Proof.Gen.RefGluIdeal
public import proofs.«01_k».proof.Proof.Gen.RefGluIdeal.Run
public import proofs.«01_k».proof.Proof.Gen.Pmix
public import proofs.«01_k».proof.Proof.Gen.Pmix.Skeleton
public import proofs.«01_k».proof.Proof.Gen.Pmix.Launch
public import proofs.«01_k».proof.Proof.Gen.Pmix.Points
public import proofs.«01_k».proof.Proof.Gen.Pmix.Frame
public import proofs.«01_k».proof.Proof.Gen.PmixIdeal
public import proofs.«01_k».proof.Proof.Gen.PmixIdeal.Skeleton
public import proofs.«01_k».proof.Proof.Gen.PmixIdeal.Launch
public import proofs.«01_k».proof.Proof.Gen.PmixIdeal.Points
public import proofs.«01_k».proof.Proof.Gen.PmixIdeal.Frame
public import proofs.«01_k».proof.Proof.Gen.PmixIdeal.Value
public import proofs.«01_k».proof.Proof.Gen.RefPmixIdeal
public import proofs.«01_k».proof.Proof.Gen.RefPmixIdeal.Run
public import proofs.«01_k».proof.Proof.Gen.Po
public import proofs.«01_k».proof.Proof.Gen.Po.Skeleton
public import proofs.«01_k».proof.Proof.Gen.Po.Launch
public import proofs.«01_k».proof.Proof.Gen.Po.Points
public import proofs.«01_k».proof.Proof.Gen.Po.Frame
public import proofs.«01_k».proof.Proof.Gen.PoIdeal
public import proofs.«01_k».proof.Proof.Gen.PoIdeal.Skeleton
public import proofs.«01_k».proof.Proof.Gen.PoIdeal.Launch
public import proofs.«01_k».proof.Proof.Gen.PoIdeal.Points
public import proofs.«01_k».proof.Proof.Gen.PoIdeal.Frame
public import proofs.«01_k».proof.Proof.Gen.PoIdeal.Value
public import proofs.«01_k».proof.Proof.Gen.RefPoIdeal
public import proofs.«01_k».proof.Proof.Gen.RefPoIdeal.Run
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.RefMixIdeal
public import proofs.«01_k».proof.Proof.Gen.RefMixIdeal.Run
public import proofs.«01_k».proof.Proof.Gen.Ff1
public import proofs.«01_k».proof.Proof.Gen.Ff1.Skeleton
public import proofs.«01_k».proof.Proof.Gen.Ff1.Launch
public import proofs.«01_k».proof.Proof.Gen.Ff1.Points
public import proofs.«01_k».proof.Proof.Gen.Ff1.Frame
public import proofs.«01_k».proof.Proof.Gen.Ff1Ideal
public import proofs.«01_k».proof.Proof.Gen.Ff1Ideal.Skeleton
public import proofs.«01_k».proof.Proof.Gen.Ff1Ideal.Launch
public import proofs.«01_k».proof.Proof.Gen.Ff1Ideal.Points
public import proofs.«01_k».proof.Proof.Gen.Ff1Ideal.Frame
public import proofs.«01_k».proof.Proof.Gen.Ff1Ideal.Value
public import proofs.«01_k».proof.Proof.Gen.RefFf1Ideal
public import proofs.«01_k».proof.Proof.Gen.RefFf1Ideal.Run
public import proofs.«01_k».proof.Proof.Gen.Ff2
public import proofs.«01_k».proof.Proof.Gen.Ff2.Skeleton
public import proofs.«01_k».proof.Proof.Gen.Ff2.Launch
public import proofs.«01_k».proof.Proof.Gen.Ff2.Points
public import proofs.«01_k».proof.Proof.Gen.Ff2.Frame
public import proofs.«01_k».proof.Proof.Gen.Ff2Ideal
public import proofs.«01_k».proof.Proof.Gen.Ff2Ideal.Skeleton
public import proofs.«01_k».proof.Proof.Gen.Ff2Ideal.Launch
public import proofs.«01_k».proof.Proof.Gen.Ff2Ideal.Points
public import proofs.«01_k».proof.Proof.Gen.Ff2Ideal.Frame
public import proofs.«01_k».proof.Proof.Gen.Ff2Ideal.Value
public import proofs.«01_k».proof.Proof.Gen.RefFf2Ideal
public import proofs.«01_k».proof.Proof.Gen.RefFf2Ideal.Run
public import proofs.«01_k».proof.Proof.Dff2
public import proofs.«01_k».proof.Proof.Gff2
public import proofs.«01_k».proof.Proof.Gff1
public import proofs.«01_k».proof.Proof.Dff1
public import proofs.«01_k».proof.Proof.Merge
public import proofs.«01_k».proof.Proof.Gin
public import proofs.«01_k».proof.Proof.Dproj
public import proofs.«01_k».proof.Proof.Gout
public import proofs.«01_k».proof.Proof.Dmix
public import proofs.«01_k».proof.Proof.Gglu
public import proofs.«01_k».proof.Proof.Dglu
public import proofs.«01_k».proof.Proof.Gpo
public import proofs.«01_k».proof.Proof.Dpo
public import proofs.«01_k».proof.Proof.Dpm
public import proofs.«01_k».proof.Proof.Gpool
public import proofs.«01_k».proof.Proof.Proj
public import proofs.«01_k».proof.Proof.Glu
public import proofs.«01_k».proof.Proof.Pmix
public import proofs.«01_k».proof.Proof.Po
public import proofs.«01_k».proof.Proof.Mix
public import proofs.«01_k».proof.Proof.Ff1
public import proofs.«01_k».proof.Proof.Ff2
public import proofs.«01_k».proof.Proof.Gen.Pscale
public import proofs.«01_k».proof.Proof.Gen.Pscale.Skeleton
public import proofs.«01_k».proof.Proof.Gen.Pscale.Launch
public import proofs.«01_k».proof.Proof.Gen.Pscale.Points
public import proofs.«01_k».proof.Proof.Gen.Pscale.Frame
public import proofs.«01_k».proof.Proof.Gen.PscaleIdeal
public import proofs.«01_k».proof.Proof.Gen.PscaleIdeal.Skeleton
public import proofs.«01_k».proof.Proof.Gen.PscaleIdeal.Launch
public import proofs.«01_k».proof.Proof.Gen.PscaleIdeal.Points
public import proofs.«01_k».proof.Proof.Gen.PscaleIdeal.Frame
public import proofs.«01_k».proof.Proof.Gen.PscaleIdeal.Value
public import proofs.«01_k».proof.Proof.Gen.RefPscaleIdeal
public import proofs.«01_k».proof.Proof.Gen.RefPscaleIdeal.Run
public import proofs.«01_k».proof.Proof.Gen.S5bIdeal
public import proofs.«01_k».proof.Proof.Gen.S5bIdeal.Skeleton
public import proofs.«01_k».proof.Proof.Gen.S5bIdeal.Loops
public import proofs.«01_k».proof.Proof.Gen.S5bIdeal.Launch
public import proofs.«01_k».proof.Proof.Gen.S5bIdeal.Points
public import proofs.«01_k».proof.Proof.Gen.S5bIdeal.Frame
public import proofs.«01_k».proof.Proof.Gen.RefS5bIdeal
public import proofs.«01_k».proof.Proof.Gen.RefS5bIdeal.Run
public import proofs.«01_k».proof.Proof.Pscale
public import proofs.«01_k».proof.Proof.S5b
public import Idealize.ShloMosaic.Adequacy
public import Idealize.ShloMosaic.Init

@[expose] public section

noncomputable section

namespace Cert.Proof

open Idealize.ShloMosaic Idealize.SL.Sem Cert.Dff2

/-- The reference of Dff2 runs to its end, keeps its arguments, and declares no semaphore. -/
theorem frame_RefDff2 : Cert.quiescent_RefDff2Ideal (hRefDff2Ideal := Cert.RefDff2Ideal.Gen.facts) := fun m g _ =>
  (θ_run Cert.RefDff2Ideal.defs _ _).mono (fun r h => ⟨fun c => (h c).2, sem_eq_zero_of_no_sems (by decide) r.2⟩)
    (Cert.RefDff2Ideal.Value.run (F := Ideal) m g)

/-- The reference of Gff2 runs to its end, keeps its arguments, and declares no semaphore. -/
theorem frame_RefGff2 : Cert.quiescent_RefGff2Ideal (hRefGff2Ideal := Cert.RefGff2Ideal.Gen.facts) := fun m g _ =>
  (θ_run Cert.RefGff2Ideal.defs _ _).mono (fun r h => ⟨fun c => (h c).2, sem_eq_zero_of_no_sems (by decide) r.2⟩)
    (Cert.RefGff2Ideal.Value.run (F := Ideal) m g)

/-- The reference of Gff1 runs to its end, keeps its arguments, and declares no semaphore. -/
theorem frame_RefGff1 : Cert.quiescent_RefGff1Ideal (hRefGff1Ideal := Cert.RefGff1Ideal.Gen.facts) := fun m g _ =>
  (θ_run Cert.RefGff1Ideal.defs _ _).mono (fun r h => ⟨fun c => (h c).2, sem_eq_zero_of_no_sems (by decide) r.2⟩)
    (Cert.RefGff1Ideal.Value.run (F := Ideal) m g)

/-- The reference of Dff1 runs to its end, keeps its arguments, and declares no semaphore. -/
theorem frame_RefDff1 : Cert.quiescent_RefDff1Ideal (hRefDff1Ideal := Cert.RefDff1Ideal.Gen.facts) := fun m g _ =>
  (θ_run Cert.RefDff1Ideal.defs _ _).mono (fun r h => ⟨fun c => (h c).2, sem_eq_zero_of_no_sems (by decide) r.2⟩)
    (Cert.RefDff1Ideal.Value.run (F := Ideal) m g)

/-- The reference of Merge runs to its end, keeps its arguments, and declares no semaphore. -/
theorem frame_RefMerge : Cert.quiescent_RefMergeIdeal (hRefMergeIdeal := Cert.RefMergeIdeal.Gen.facts) := fun m g _ =>
  (θ_run Cert.RefMergeIdeal.defs _ _).mono (fun r h => ⟨fun c => (h c).2.2.2.2, sem_eq_zero_of_no_sems (by decide) r.2⟩)
    (Cert.RefMergeIdeal.Value.run (F := Ideal) m g)

/-- The reference of Gin runs to its end, keeps its arguments, and declares no semaphore. -/
theorem frame_RefGin : Cert.quiescent_RefGinIdeal (hRefGinIdeal := Cert.RefGinIdeal.Gen.facts) := fun m g _ =>
  (θ_run Cert.RefGinIdeal.defs _ _).mono (fun r h => ⟨fun c => (h c).2, sem_eq_zero_of_no_sems (by decide) r.2⟩)
    (Cert.RefGinIdeal.Value.run (F := Ideal) m g)

/-- The reference of Dproj runs to its end, keeps its arguments, and declares no semaphore. -/
theorem frame_RefDproj : Cert.quiescent_RefDprojIdeal (hRefDprojIdeal := Cert.RefDprojIdeal.Gen.facts) := fun m g _ =>
  (θ_run Cert.RefDprojIdeal.defs _ _).mono (fun r h => ⟨fun c => (h c).2, sem_eq_zero_of_no_sems (by decide) r.2⟩)
    (Cert.RefDprojIdeal.Value.run (F := Ideal) m g)

/-- The reference of Gout runs to its end, keeps its arguments, and declares no semaphore. -/
theorem frame_RefGout : Cert.quiescent_RefGoutIdeal (hRefGoutIdeal := Cert.RefGoutIdeal.Gen.facts) := fun m g _ =>
  (θ_run Cert.RefGoutIdeal.defs _ _).mono (fun r h => ⟨fun c => (h c).2, sem_eq_zero_of_no_sems (by decide) r.2⟩)
    (Cert.RefGoutIdeal.Value.run (F := Ideal) m g)

/-- The reference of Dmix runs to its end, keeps its arguments, and declares no semaphore. -/
theorem frame_RefDmix : Cert.quiescent_RefDmixIdeal (hRefDmixIdeal := Cert.RefDmixIdeal.Gen.facts) := fun m g _ =>
  (θ_run Cert.RefDmixIdeal.defs _ _).mono (fun r h => ⟨fun c => (h c).2, sem_eq_zero_of_no_sems (by decide) r.2⟩)
    (Cert.RefDmixIdeal.Value.run (F := Ideal) m g)

/-- The reference of Gglu runs to its end, keeps its arguments, and declares no semaphore. -/
theorem frame_RefGglu : Cert.quiescent_RefGgluIdeal (hRefGgluIdeal := Cert.RefGgluIdeal.Gen.facts) := fun m g _ =>
  (θ_run Cert.RefGgluIdeal.defs _ _).mono (fun r h => ⟨fun c => (h c).2, sem_eq_zero_of_no_sems (by decide) r.2⟩)
    (Cert.RefGgluIdeal.Value.run (F := Ideal) m g)

/-- The reference of Dglu runs to its end, keeps its arguments, and declares no semaphore. -/
theorem frame_RefDglu : Cert.quiescent_RefDgluIdeal (hRefDgluIdeal := Cert.RefDgluIdeal.Gen.facts) := fun m g _ =>
  (θ_run Cert.RefDgluIdeal.defs _ _).mono (fun r h => ⟨fun c => (h c).2, sem_eq_zero_of_no_sems (by decide) r.2⟩)
    (Cert.RefDgluIdeal.Value.run (F := Ideal) m g)

/-- The reference of Gpo runs to its end, keeps its arguments, and declares no semaphore. -/
theorem frame_RefGpo : Cert.quiescent_RefGpoIdeal (hRefGpoIdeal := Cert.RefGpoIdeal.Gen.facts) := fun m g _ =>
  (θ_run Cert.RefGpoIdeal.defs _ _).mono (fun r h => ⟨fun c => (h c).2, sem_eq_zero_of_no_sems (by decide) r.2⟩)
    (Cert.RefGpoIdeal.Value.run (F := Ideal) m g)

/-- The reference of Dpo runs to its end, keeps its arguments, and declares no semaphore. -/
theorem frame_RefDpo : Cert.quiescent_RefDpoIdeal (hRefDpoIdeal := Cert.RefDpoIdeal.Gen.facts) := fun m g _ =>
  (θ_run Cert.RefDpoIdeal.defs _ _).mono (fun r h => ⟨fun c => (h c).2, sem_eq_zero_of_no_sems (by decide) r.2⟩)
    (Cert.RefDpoIdeal.Value.run (F := Ideal) m g)

/-- The reference of Dpm runs to its end, keeps its arguments, and declares no semaphore. -/
theorem frame_RefDpm : Cert.quiescent_RefDpmIdeal (hRefDpmIdeal := Cert.RefDpmIdeal.Gen.facts) := fun m g _ =>
  (θ_run Cert.RefDpmIdeal.defs _ _).mono (fun r h => ⟨fun c => (h c).2, sem_eq_zero_of_no_sems (by decide) r.2⟩)
    (Cert.RefDpmIdeal.Value.run (F := Ideal) m g)

/-- The reference of Gpool runs to its end, keeps its arguments, and declares no semaphore. -/
theorem frame_RefGpool : Cert.quiescent_RefGpoolIdeal (hRefGpoolIdeal := Cert.RefGpoolIdeal.Gen.facts) := fun m g _ =>
  (θ_run Cert.RefGpoolIdeal.defs _ _).mono (fun r h => ⟨fun c => (h c).2, sem_eq_zero_of_no_sems (by decide) r.2⟩)
    (Cert.RefGpoolIdeal.Value.run (F := Ideal) m g)

/-- The reference of Proj runs to its end, keeps its arguments, and declares no semaphore. -/
theorem frame_RefProj : Cert.quiescent_RefProjIdeal (hRefProjIdeal := Cert.RefProjIdeal.Gen.facts) := fun m g _ =>
  (θ_run Cert.RefProjIdeal.defs _ _).mono (fun r h => ⟨fun c => (h c).2, sem_eq_zero_of_no_sems (by decide) r.2⟩)
    (Cert.RefProjIdeal.Value.run (F := Ideal) m g)

/-- The reference of Glu runs to its end, keeps its arguments, and declares no semaphore. -/
theorem frame_RefGlu : Cert.quiescent_RefGluIdeal (hRefGluIdeal := Cert.RefGluIdeal.Gen.facts) := fun m g _ =>
  (θ_run Cert.RefGluIdeal.defs _ _).mono (fun r h => ⟨fun c => (h c).2, sem_eq_zero_of_no_sems (by decide) r.2⟩)
    (Cert.RefGluIdeal.Value.run (F := Ideal) m g)

/-- The reference of Pmix runs to its end, keeps its arguments, and declares no semaphore. -/
theorem frame_RefPmix : Cert.quiescent_RefPmixIdeal (hRefPmixIdeal := Cert.RefPmixIdeal.Gen.facts) := fun m g _ =>
  (θ_run Cert.RefPmixIdeal.defs _ _).mono (fun r h => ⟨fun c => (h c).2.2, sem_eq_zero_of_no_sems (by decide) r.2⟩)
    (Cert.RefPmixIdeal.Value.run (F := Ideal) m g)

/-- The reference of Po runs to its end, keeps its arguments, and declares no semaphore. -/
theorem frame_RefPo : Cert.quiescent_RefPoIdeal (hRefPoIdeal := Cert.RefPoIdeal.Gen.facts) := fun m g _ =>
  (θ_run Cert.RefPoIdeal.defs _ _).mono (fun r h => ⟨fun c => (h c).2, sem_eq_zero_of_no_sems (by decide) r.2⟩)
    (Cert.RefPoIdeal.Value.run (F := Ideal) m g)

/-- The reference of Mix runs to its end, keeps its arguments, and declares no semaphore. -/
theorem frame_RefMix : Cert.quiescent_RefMixIdeal (hRefMixIdeal := Cert.RefMixIdeal.Gen.facts) := fun m g _ =>
  (θ_run Cert.RefMixIdeal.defs _ _).mono (fun r h => ⟨fun c => (h c).2, sem_eq_zero_of_no_sems (by decide) r.2⟩)
    (Cert.RefMixIdeal.Value.run (F := Ideal) m g)

/-- The reference of Ff1 runs to its end, keeps its arguments, and declares no semaphore. -/
theorem frame_RefFf1 : Cert.quiescent_RefFf1Ideal (hRefFf1Ideal := Cert.RefFf1Ideal.Gen.facts) := fun m g _ =>
  (θ_run Cert.RefFf1Ideal.defs _ _).mono (fun r h => ⟨fun c => (h c).2, sem_eq_zero_of_no_sems (by decide) r.2⟩)
    (Cert.RefFf1Ideal.Value.run (F := Ideal) m g)

/-- The reference of Ff2 runs to its end, keeps its arguments, and declares no semaphore. -/
theorem frame_RefFf2 : Cert.quiescent_RefFf2Ideal (hRefFf2Ideal := Cert.RefFf2Ideal.Gen.facts) := fun m g _ =>
  (θ_run Cert.RefFf2Ideal.defs _ _).mono (fun r h => ⟨fun c => (h c).2, sem_eq_zero_of_no_sems (by decide) r.2⟩)
    (Cert.RefFf2Ideal.Value.run (F := Ideal) m g)

/-- The reference of Pscale runs to its end, keeps its arguments, and declares no semaphore. -/
theorem frame_RefPscale : Cert.quiescent_RefPscaleIdeal (hRefPscaleIdeal := Cert.RefPscaleIdeal.Gen.facts) := fun m g _ =>
  (θ_run Cert.RefPscaleIdeal.defs _ _).mono (fun r h => ⟨fun c => (h c).2.2, sem_eq_zero_of_no_sems (by decide) r.2⟩)
    (Cert.RefPscaleIdeal.Value.run (F := Ideal) m g)

/-- The reference of S5b runs to its end, keeps its arguments, and declares no semaphore. -/
theorem frame_RefS5b : Cert.quiescent_RefS5bIdeal (hRefS5bIdeal := Cert.RefS5bIdeal.Gen.facts) := fun m g _ =>
  (θ_run Cert.RefS5bIdeal.defs _ _).mono (fun r h => ⟨fun c => (h c).2.2, sem_eq_zero_of_no_sems (by decide) r.2⟩)
    (Cert.RefS5bIdeal.Value.run (F := Ideal) m g)

theorem claim : Cert.Claim :=
  ⟨Cert.Dff2.Gen.facts, Cert.Dff2Ideal.Gen.facts, Cert.RefDff2Ideal.Gen.facts,
   Cert.Gff2.Gen.facts, Cert.Gff2Ideal.Gen.facts, Cert.RefGff2Ideal.Gen.facts,
   Cert.Gff1.Gen.facts, Cert.Gff1Ideal.Gen.facts, Cert.RefGff1Ideal.Gen.facts,
   Cert.Dff1.Gen.facts, Cert.Dff1Ideal.Gen.facts, Cert.RefDff1Ideal.Gen.facts,
   Cert.Merge.Gen.facts, Cert.MergeIdeal.Gen.facts, Cert.RefMergeIdeal.Gen.facts,
   Cert.Gin.Gen.facts, Cert.GinIdeal.Gen.facts, Cert.RefGinIdeal.Gen.facts,
   Cert.Dproj.Gen.facts, Cert.DprojIdeal.Gen.facts, Cert.RefDprojIdeal.Gen.facts,
   Cert.Gout.Gen.facts, Cert.GoutIdeal.Gen.facts, Cert.RefGoutIdeal.Gen.facts,
   Cert.Dmix.Gen.facts, Cert.DmixIdeal.Gen.facts, Cert.RefDmixIdeal.Gen.facts,
   Cert.Gglu.Gen.facts, Cert.GgluIdeal.Gen.facts, Cert.RefGgluIdeal.Gen.facts,
   Cert.Dglu.Gen.facts, Cert.DgluIdeal.Gen.facts, Cert.RefDgluIdeal.Gen.facts,
   Cert.Gpo.Gen.facts, Cert.GpoIdeal.Gen.facts, Cert.RefGpoIdeal.Gen.facts,
   Cert.Dpo.Gen.facts, Cert.DpoIdeal.Gen.facts, Cert.RefDpoIdeal.Gen.facts,
   Cert.Dpm.Gen.facts, Cert.DpmIdeal.Gen.facts, Cert.RefDpmIdeal.Gen.facts,
   Cert.Gpool.Gen.facts, Cert.GpoolIdeal.Gen.facts, Cert.RefGpoolIdeal.Gen.facts,
   Cert.Proj.Gen.facts, Cert.ProjIdeal.Gen.facts, Cert.RefProjIdeal.Gen.facts,
   Cert.Glu.Gen.facts, Cert.GluIdeal.Gen.facts, Cert.RefGluIdeal.Gen.facts,
   Cert.Pmix.Gen.facts, Cert.PmixIdeal.Gen.facts, Cert.RefPmixIdeal.Gen.facts,
   Cert.Po.Gen.facts, Cert.PoIdeal.Gen.facts, Cert.RefPoIdeal.Gen.facts,
   Cert.Mix.Gen.facts, Cert.MixIdeal.Gen.facts, Cert.RefMixIdeal.Gen.facts,
   Cert.Ff1.Gen.facts, Cert.Ff1Ideal.Gen.facts, Cert.RefFf1Ideal.Gen.facts,
   Cert.Ff2.Gen.facts, Cert.Ff2Ideal.Gen.facts, Cert.RefFf2Ideal.Gen.facts,
   Cert.Pscale.Gen.facts, Cert.PscaleIdeal.Gen.facts, Cert.RefPscaleIdeal.Gen.facts,
   Cert.S5bIdeal.Gen.facts, Cert.RefS5bIdeal.Gen.facts,
   fun m g _ => Cert.Dff2.Gen.frame m g, fun m g _ => Cert.Dff2Ideal.Gen.frame m g, frame_RefDff2,
   fun m g _ => Cert.Gff2.Gen.frame m g, fun m g _ => Cert.Gff2Ideal.Gen.frame m g, frame_RefGff2,
   fun m g _ => Cert.Gff1.Gen.frame m g, fun m g _ => Cert.Gff1Ideal.Gen.frame m g, frame_RefGff1,
   fun m g _ => Cert.Dff1.Gen.frame m g, fun m g _ => Cert.Dff1Ideal.Gen.frame m g, frame_RefDff1,
   fun m g _ => Cert.Merge.Gen.frame m g, fun m g _ => Cert.MergeIdeal.Gen.frame m g, frame_RefMerge,
   fun m g _ => Cert.Gin.Gen.frame m g, fun m g _ => Cert.GinIdeal.Gen.frame m g, frame_RefGin,
   fun m g _ => Cert.Dproj.Gen.frame m g, fun m g _ => Cert.DprojIdeal.Gen.frame m g, frame_RefDproj,
   fun m g _ => Cert.Gout.Gen.frame m g, fun m g _ => Cert.GoutIdeal.Gen.frame m g, frame_RefGout,
   fun m g _ => Cert.Dmix.Gen.frame m g, fun m g _ => Cert.DmixIdeal.Gen.frame m g, frame_RefDmix,
   fun m g _ => Cert.Gglu.Gen.frame m g, fun m g _ => Cert.GgluIdeal.Gen.frame m g, frame_RefGglu,
   fun m g _ => Cert.Dglu.Gen.frame m g, fun m g _ => Cert.DgluIdeal.Gen.frame m g, frame_RefDglu,
   fun m g _ => Cert.Gpo.Gen.frame m g, fun m g _ => Cert.GpoIdeal.Gen.frame m g, frame_RefGpo,
   fun m g _ => Cert.Dpo.Gen.frame m g, fun m g _ => Cert.DpoIdeal.Gen.frame m g, frame_RefDpo,
   fun m g _ => Cert.Dpm.Gen.frame m g, fun m g _ => Cert.DpmIdeal.Gen.frame m g, frame_RefDpm,
   fun m g _ => Cert.Gpool.Gen.frame m g, fun m g _ => Cert.GpoolIdeal.Gen.frame m g, frame_RefGpool,
   fun m g _ => Cert.Proj.Gen.frame m g, fun m g _ => Cert.ProjIdeal.Gen.frame m g, frame_RefProj,
   fun m g _ => Cert.Glu.Gen.frame m g, fun m g _ => Cert.GluIdeal.Gen.frame m g, frame_RefGlu,
   fun m g _ => Cert.Pmix.Gen.frame m g, fun m g _ => Cert.PmixIdeal.Gen.frame m g, frame_RefPmix,
   fun m g _ => Cert.Po.Gen.frame m g, fun m g _ => Cert.PoIdeal.Gen.frame m g, frame_RefPo,
   fun m g _ => Cert.Mix.Gen.frame m g, fun m g _ => Cert.MixIdeal.Gen.frame m g, frame_RefMix,
   fun m g _ => Cert.Ff1.Gen.frame m g, fun m g _ => Cert.Ff1Ideal.Gen.frame m g, frame_RefFf1,
   fun m g _ => Cert.Ff2.Gen.frame m g, fun m g _ => Cert.Ff2Ideal.Gen.frame m g, frame_RefFf2,
   fun m g _ => Cert.Pscale.Gen.frame m g, fun m g _ => Cert.PscaleIdeal.Gen.frame m g, frame_RefPscale,
   S5b.frame_ideal, frame_RefS5b,
   trivial, Dff2.claim,
   trivial, Gff2.claim,
   trivial, Gff1.claim,
   trivial, Dff1.claim,
   trivial, Merge.claim,
   trivial, Gin.claim,
   trivial, Dproj.claim,
   trivial, Gout.claim,
   trivial, Dmix.claim,
   trivial, Gglu.claim,
   trivial, Dglu.claim,
   trivial, Gpo.claim,
   trivial, Dpo.claim,
   trivial, Dpm.claim,
   trivial, Gpool.claim,
   trivial, Proj.claim,
   trivial, Glu.claim,
   trivial, Pmix.claim,
   trivial, Po.claim,
   trivial, Mix.claim,
   trivial, Ff1.claim,
   trivial, Ff2.claim,
   trivial, Pscale.claim,
   S5b.claim⟩

end Cert.Proof

end
